-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9)) (m ((c.tc : Thread Cert.Kernel6Ideal.nD Cert.Kernel6Ideal.τ).loc Cert.Kernel6Ideal.main_arg10)) (m ((c.tc : Thread Cert.Kernel6Ideal.nD Cert.Kernel6Ideal.τ).loc Cert.Kernel6Ideal.main_arg11)) (m ((c.tc : Thread Cert.Kernel6Ideal.nD Cert.Kernel6Ideal.τ).loc Cert.Kernel6Ideal.main_arg12)) (m ((c.tc : Thread Cert.Kernel6Ideal.nD Cert.Kernel6Ideal.τ).loc Cert.Kernel6Ideal.main_arg13))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9)) (m ((c.tc : Thread Cert.Reference6Ideal.nD Cert.Reference6Ideal.τ).loc Cert.Reference6Ideal.main_arg10)) (m ((c.tc : Thread Cert.Reference6Ideal.nD Cert.Reference6Ideal.τ).loc Cert.Reference6Ideal.main_arg11)) (m ((c.tc : Thread Cert.Reference6Ideal.nD Cert.Reference6Ideal.τ).loc Cert.Reference6Ideal.main_arg12)) (m ((c.tc : Thread Cert.Reference6Ideal.nD Cert.Reference6Ideal.τ).loc Cert.Reference6Ideal.main_arg13))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)) (v5 : (c : Dev Cert.KernelIdeal.nD) → Buf (Elt Ideal) ((c.tc : Thread Cert.KernelIdeal.nD Cert.KernelIdeal.τ).loc Cert.KernelIdeal.main_v24_5)) (v6 : (c : Dev Cert.KernelIdeal.nD) → Buf (Elt Ideal) ((c.tc : Thread Cert.KernelIdeal.nD Cert.KernelIdeal.τ).loc Cert.KernelIdeal.main_v24_6)) (v7 : (c : Dev Cert.KernelIdeal.nD) → Buf (Elt Ideal) ((c.tc : Thread Cert.KernelIdeal.nD Cert.KernelIdeal.τ).loc Cert.KernelIdeal.main_v24_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_v24_5) = v5 c
          ∧ r.2.mem ((c.tc : Thread Cert.KernelIdeal.nD Cert.KernelIdeal.τ).loc Cert.KernelIdeal.main_v24_6) = v6 c
          ∧ r.2.mem ((c.tc : Thread Cert.KernelIdeal.nD Cert.KernelIdeal.τ).loc Cert.KernelIdeal.main_v24_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_v96) = v5 c
          ∧ r.2.mem ((c.tc : Thread Cert.ReferenceIdeal.nD Cert.ReferenceIdeal.τ).loc Cert.ReferenceIdeal.main_v74) = v6 c
          ∧ r.2.mem ((c.tc : Thread Cert.ReferenceIdeal.nD Cert.ReferenceIdeal.τ).loc Cert.ReferenceIdeal.main_v48) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_v6) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_v47) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_v16) = v3 c
          ∧ r.2.mem ((c.tc : Thread Cert.Reference3Ideal.nD Cert.Reference3Ideal.τ).loc Cert.Reference3Ideal.main_v49) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v16) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v53_0)) (v1 : (c : Dev Cert.Kernel5Ideal.nD) → Buf (Elt Ideal) ((c.tc : Thread Cert.Kernel5Ideal.nD Cert.Kernel5Ideal.τ).loc Cert.Kernel5Ideal.main_v53_1)) (v2 : (c : Dev Cert.Kernel5Ideal.nD) → Buf (Elt Ideal) ((c.tc : Thread Cert.Kernel5Ideal.nD Cert.Kernel5Ideal.τ).loc Cert.Kernel5Ideal.main_v53_2)) (v3 : (c : Dev Cert.Kernel5Ideal.nD) → Buf (Elt Ideal) ((c.tc : Thread Cert.Kernel5Ideal.nD Cert.Kernel5Ideal.τ).loc Cert.Kernel5Ideal.main_v53_3)) (v4 : (c : Dev Cert.Kernel5Ideal.nD) → Buf (Elt Ideal) ((c.tc : Thread Cert.Kernel5Ideal.nD Cert.Kernel5Ideal.τ).loc Cert.Kernel5Ideal.main_v53_4)) (v5 : (c : Dev Cert.Kernel5Ideal.nD) → Buf (Elt Ideal) ((c.tc : Thread Cert.Kernel5Ideal.nD Cert.Kernel5Ideal.τ).loc Cert.Kernel5Ideal.main_v53_5)) (v6 : (c : Dev Cert.Kernel5Ideal.nD) → Buf (Elt Ideal) ((c.tc : Thread Cert.Kernel5Ideal.nD Cert.Kernel5Ideal.τ).loc Cert.Kernel5Ideal.main_v53_6)) (v7 : (c : Dev Cert.Kernel5Ideal.nD) → Buf (Elt Ideal) ((c.tc : Thread Cert.Kernel5Ideal.nD Cert.Kernel5Ideal.τ).loc Cert.Kernel5Ideal.main_v53_7)) (v8 : (c : Dev Cert.Kernel5Ideal.nD) → Buf (Elt Ideal) ((c.tc : Thread Cert.Kernel5Ideal.nD Cert.Kernel5Ideal.τ).loc Cert.Kernel5Ideal.main_v53_8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v53_0) = v0 c
          ∧ r.2.mem ((c.tc : Thread Cert.Kernel5Ideal.nD Cert.Kernel5Ideal.τ).loc Cert.Kernel5Ideal.main_v53_1) = v1 c
          ∧ r.2.mem ((c.tc : Thread Cert.Kernel5Ideal.nD Cert.Kernel5Ideal.τ).loc Cert.Kernel5Ideal.main_v53_2) = v2 c
          ∧ r.2.mem ((c.tc : Thread Cert.Kernel5Ideal.nD Cert.Kernel5Ideal.τ).loc Cert.Kernel5Ideal.main_v53_3) = v3 c
          ∧ r.2.mem ((c.tc : Thread Cert.Kernel5Ideal.nD Cert.Kernel5Ideal.τ).loc Cert.Kernel5Ideal.main_v53_4) = v4 c
          ∧ r.2.mem ((c.tc : Thread Cert.Kernel5Ideal.nD Cert.Kernel5Ideal.τ).loc Cert.Kernel5Ideal.main_v53_5) = v5 c
          ∧ r.2.mem ((c.tc : Thread Cert.Kernel5Ideal.nD Cert.Kernel5Ideal.τ).loc Cert.Kernel5Ideal.main_v53_6) = v6 c
          ∧ r.2.mem ((c.tc : Thread Cert.Kernel5Ideal.nD Cert.Kernel5Ideal.τ).loc Cert.Kernel5Ideal.main_v53_7) = v7 c
          ∧ r.2.mem ((c.tc : Thread Cert.Kernel5Ideal.nD Cert.Kernel5Ideal.τ).loc Cert.Kernel5Ideal.main_v53_8) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v91) = v0 c
          ∧ r.2.mem ((c.tc : Thread Cert.Reference5Ideal.nD Cert.Reference5Ideal.τ).loc Cert.Reference5Ideal.main_v162) = v1 c
          ∧ r.2.mem ((c.tc : Thread Cert.Reference5Ideal.nD Cert.Reference5Ideal.τ).loc Cert.Reference5Ideal.main_v163) = v2 c
          ∧ r.2.mem ((c.tc : Thread Cert.Reference5Ideal.nD Cert.Reference5Ideal.τ).loc Cert.Reference5Ideal.main_v115) = v3 c
          ∧ r.2.mem ((c.tc : Thread Cert.Reference5Ideal.nD Cert.Reference5Ideal.τ).loc Cert.Reference5Ideal.main_v105) = v4 c
          ∧ r.2.mem ((c.tc : Thread Cert.Reference5Ideal.nD Cert.Reference5Ideal.τ).loc Cert.Reference5Ideal.main_v149) = v5 c
          ∧ r.2.mem ((c.tc : Thread Cert.Reference5Ideal.nD Cert.Reference5Ideal.τ).loc Cert.Reference5Ideal.main_v155) = v6 c
          ∧ r.2.mem ((c.tc : Thread Cert.Reference5Ideal.nD Cert.Reference5Ideal.τ).loc Cert.Reference5Ideal.main_v161) = v7 c
          ∧ r.2.mem ((c.tc : Thread Cert.Reference5Ideal.nD Cert.Reference5Ideal.τ).loc Cert.Reference5Ideal.main_v73) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v30) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v6) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)) (v5 : (c : Dev Cert.Kernel8Ideal.nD) → Buf (Elt Ideal) ((c.tc : Thread Cert.Kernel8Ideal.nD Cert.Kernel8Ideal.τ).loc Cert.Kernel8Ideal.main_v2_5)) (v6 : (c : Dev Cert.Kernel8Ideal.nD) → Buf (Elt Ideal) ((c.tc : Thread Cert.Kernel8Ideal.nD Cert.Kernel8Ideal.τ).loc Cert.Kernel8Ideal.main_v2_6)) (v7 : (c : Dev Cert.Kernel8Ideal.nD) → Buf (Elt Ideal) ((c.tc : Thread Cert.Kernel8Ideal.nD Cert.Kernel8Ideal.τ).loc Cert.Kernel8Ideal.main_v2_7)) (v8 : (c : Dev Cert.Kernel8Ideal.nD) → Buf (Elt Ideal) ((c.tc : Thread Cert.Kernel8Ideal.nD Cert.Kernel8Ideal.τ).loc Cert.Kernel8Ideal.main_v2_8)) (v9 : (c : Dev Cert.Kernel8Ideal.nD) → Buf (Elt Ideal) ((c.tc : Thread Cert.Kernel8Ideal.nD Cert.Kernel8Ideal.τ).loc Cert.Kernel8Ideal.main_v2_9)) (v10 : (c : Dev Cert.Kernel8Ideal.nD) → Buf (Elt Ideal) ((c.tc : Thread Cert.Kernel8Ideal.nD Cert.Kernel8Ideal.τ).loc Cert.Kernel8Ideal.main_v2_10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_v2_5) = v5 c
          ∧ r.2.mem ((c.tc : Thread Cert.Kernel8Ideal.nD Cert.Kernel8Ideal.τ).loc Cert.Kernel8Ideal.main_v2_6) = v6 c
          ∧ r.2.mem ((c.tc : Thread Cert.Kernel8Ideal.nD Cert.Kernel8Ideal.τ).loc Cert.Kernel8Ideal.main_v2_7) = v7 c
          ∧ r.2.mem ((c.tc : Thread Cert.Kernel8Ideal.nD Cert.Kernel8Ideal.τ).loc Cert.Kernel8Ideal.main_v2_8) = v8 c
          ∧ r.2.mem ((c.tc : Thread Cert.Kernel8Ideal.nD Cert.Kernel8Ideal.τ).loc Cert.Kernel8Ideal.main_v2_9) = v9 c
          ∧ r.2.mem ((c.tc : Thread Cert.Kernel8Ideal.nD Cert.Kernel8Ideal.τ).loc Cert.Kernel8Ideal.main_v2_10) = v10 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_v29) = v1 c
          ∧ r.2.mem ((c.tc : Thread Cert.Reference8Ideal.nD Cert.Reference8Ideal.τ).loc Cert.Reference8Ideal.main_v30) = v2 c
          ∧ r.2.mem ((c.tc : Thread Cert.Reference8Ideal.nD Cert.Reference8Ideal.τ).loc Cert.Reference8Ideal.main_v25) = v3 c
          ∧ r.2.mem ((c.tc : Thread Cert.Reference8Ideal.nD Cert.Reference8Ideal.τ).loc Cert.Reference8Ideal.main_v27) = v4 c
          ∧ r.2.mem ((c.tc : Thread Cert.Reference8Ideal.nD Cert.Reference8Ideal.τ).loc Cert.Reference8Ideal.main_v31) = v5 c
          ∧ r.2.mem ((c.tc : Thread Cert.Reference8Ideal.nD Cert.Reference8Ideal.τ).loc Cert.Reference8Ideal.main_v17) = v6 c
          ∧ r.2.mem ((c.tc : Thread Cert.Reference8Ideal.nD Cert.Reference8Ideal.τ).loc Cert.Reference8Ideal.main_v18) = v7 c
          ∧ r.2.mem ((c.tc : Thread Cert.Reference8Ideal.nD Cert.Reference8Ideal.τ).loc Cert.Reference8Ideal.main_v32) = v8 c
          ∧ r.2.mem ((c.tc : Thread Cert.Reference8Ideal.nD Cert.Reference8Ideal.τ).loc Cert.Reference8Ideal.main_v20) = v9 c
          ∧ r.2.mem ((c.tc : Thread Cert.Reference8Ideal.nD Cert.Reference8Ideal.τ).loc Cert.Reference8Ideal.main_v21) = v10 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v50) = v0 c
          ∧ r.2.mem ((c.tc : Thread Cert.Reference9Ideal.nD Cert.Reference9Ideal.τ).loc Cert.Reference9Ideal.main_v51) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v18) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_v36) = v1 c
          ∧ r.2.mem ((c.tc : Thread Cert.Reference11Ideal.nD Cert.Reference11Ideal.τ).loc Cert.Reference11Ideal.main_v17) = v2 c
          ∧ r.2.mem ((c.tc : Thread Cert.Reference11Ideal.nD Cert.Reference11Ideal.τ).loc Cert.Reference11Ideal.main_v23) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_v34) = v1 c
          ∧ r.2.mem ((c.tc : Thread Cert.Reference12Ideal.nD Cert.Reference12Ideal.τ).loc Cert.Reference12Ideal.main_v15) = v2 c
          ∧ r.2.mem ((c.tc : Thread Cert.Reference12Ideal.nD Cert.Reference12Ideal.τ).loc Cert.Reference12Ideal.main_v21) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_v5) = v2 c
          ∧ r.2.mem ((c.tc : Thread Cert.Reference13Ideal.nD Cert.Reference13Ideal.τ).loc Cert.Reference13Ideal.main_v11) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_v36) = v1 c
          ∧ r.2.mem ((c.tc : Thread Cert.Reference14Ideal.nD Cert.Reference14Ideal.τ).loc Cert.Reference14Ideal.main_v17) = v2 c
          ∧ r.2.mem ((c.tc : Thread Cert.Reference14Ideal.nD Cert.Reference14Ideal.τ).loc Cert.Reference14Ideal.main_v23) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite.lean ====
abbrev S8192x1024 : Shape := ⟨2, ![8192, 1024]⟩
abbrev S1x1024 : Shape := ⟨2, ![1, 1024]⟩
abbrev S1024x2752 : Shape := ⟨2, ![1024, 2752]⟩
abbrev S2752x1024 : Shape := ⟨2, ![2752, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2752 : S_.BroadcastsInDim S1024x2752 (![] : Fin 0 → Fin S1024x2752.rank)
  reducesTo_S1024x2752_S_d0_1 : S1024x2752.ReducesTo [0, 1] S_
  bcast_S_S2752x1024 : S_.BroadcastsInDim S2752x1024 (![] : Fin 0 → Fin S2752x1024.rank)
  reducesTo_S2752x1024_S_d0_1 : S2752x1024.ReducesTo [0, 1] S_

variable [Facts]

def fn_part2 {F : FTy → Type} [FloatOps F] (main_v29 : IVec S_ 1) (main_v32 : IVec S1x1024 1) (main_c_12 : IVec S_ 1) : IVec S_ 1 :=
  let main_v33 : IVec S_ 1 := (fun x v => Host.reduce IntOp.andi x v reducesTo_S1x1024_S_d0_1 h_S_) main_v32 main_c_12
  let main_v34 : IVec S_ 1 := andi main_v29 main_v33
  main_v34

def fn_part1 {F : FTy → Type} [FloatOps F] (main_arg4 : FVec F S1024x2752 .f32) (main_arg5 : FVec F S2752x1024 .f32) (main_arg6 : FVec F S1x1024 .f32) (main_v14 : IVec S_ 1) (main_v15 : FVec F S1024x2752 .f32) (main_cst_5 : FVec F S_ .f32) : IVec S_ 1 :=
  let main_v16 : FVec F S1024x2752 .f32 := broadcastInDim S1024x2752 ![] bcast_S_S1024x2752 main_cst_5
  let main_v17 : IVec S1024x2752 1 := cmpf .olt main_v15 main_v16
  let main_c_6 : IVec S_ 1 := constantI S_ 1 1#1
  let main_v18 : IVec S_ 1 := (fun x v => Host.reduce IntOp.andi x v reducesTo_S1024x2752_S_d0_1 h_S_) main_v17 main_c_6
  let main_v19 : IVec S_ 1 := andi main_v14 main_v18
  let main_v20 : FVec F S1024x2752 .f32 := Host.absf main_arg4
  let main_cst_7 : FVec F S_ .f32 := constant S_ .f32 0x7F800000#32
  let main_v21 : FVec F S1024x2752 .f32 := broadcastInDim S1024x2752 ![] bcast_S_S1024x2752 main_cst_7
  let main_v22 : IVec S1024x2752 1 := cmpf .olt main_v20 main_v21
  let main_c_8 : IVec S_ 1 := constantI S_ 1 1#1
  let main_v23 : IVec S_ 1 := (fun x v => Host.reduce IntOp.andi x v reducesTo_S1024x2752_S_d0_1 h_S_) main_v22 main_c_8
  let main_v24 : IVec S_ 1 := andi main_v19 main_v23
  let main_v25 : FVec F S2752x1024 .f32 := Host.absf main_arg5
  let main_cst_9 : FVec F S_ .f32 := constant S_ .f32 0x7F800000#32
  let main_v26 : FVec F S2752x1024 .f32 := broadcastInDim S2752x1024 ![] bcast_S_S2752x1024 main_cst_9
  let main_v27 : IVec S2752x1024 1 := cmpf .olt main_v25 main_v26
  let main_c_10 : IVec S_ 1 := constantI S_ 1 1#1
  let main_v28 : IVec S_ 1 := (fun x v => Host.reduce IntOp.andi x v reducesTo_S2752x1024_S_d0_1 h_S_) main_v27 main_c_10
  let main_v29 : IVec S_ 1 := andi main_v24 main_v28
  let main_v30 : FVec F S1x1024 .f32 := Host.absf main_arg6
  let main_cst_11 : FVec F S_ .f32 := constant S_ .f32 0x7F800000#32
  let main_v31 : FVec F S1x1024 .f32 := broadcastInDim S1x1024 ![] bcast_S_S1x1024 main_cst_11
  let main_v32 : IVec S1x1024 1 := cmpf .olt main_v30 main_v31
  let main_c_12 : IVec S_ 1 := constantI S_ 1 1#1
  fn_part2 (F := F) main_v29 main_v32 main_c_12

def fn {F : FTy → Type} [FloatOps F] (main_arg0 : FVec F S8192x1024 .f32) (main_arg1 : FVec F S8192x1024 .f32) (main_arg2 : FVec F S1x1024 .f32) (main_arg3 : FVec F S1024x2752 .f32) (main_arg4 : FVec F S1024x2752 .f32) (main_arg5 : FVec F S2752x1024 .f32) (main_arg6 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x1024 .f32 := Host.absf main_arg1
  let main_cst_1 : FVec F S_ .f32 := constant S_ .f32 0x7F800000#32
  let main_v6 : FVec F S8192x1024 .f32 := broadcastInDim S8192x1024 ![] bcast_S_S8192x1024 main_cst_1
  let main_v7 : IVec S8192x1024 1 := cmpf .olt main_v5 main_v6
  let main_c_2 : IVec S_ 1 := constantI S_ 1 1#1
  let main_v8 : IVec S_ 1 := (fun x v => Host.reduce IntOp.andi x v reducesTo_S8192x1024_S_d0_1 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1024x2752 .f32 := Host.absf main_arg3
  let main_cst_5 : FVec F S_ .f32 := constant S_ .f32 0x7F800000#32
  fn_part1 (F := F) main_arg4 main_arg5 main_arg6 main_v14 main_v15 main_cst_5
-- ==== Pre_finite5.lean ====
abbrev S8192x1024 : Shape := ⟨2, ![8192, 1024]⟩
abbrev S8192x256 : Shape := ⟨2, ![8192, 256]⟩
abbrev S8192x4 : Shape := ⟨2, ![8192, 4]⟩
abbrev S1024x1024 : Shape := ⟨2, ![1024, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S8192x4 : S_.BroadcastsInDim S8192x4 (![] : Fin 0 → Fin S8192x4.rank)
  reducesTo_S8192x4_S_d0_1 : S8192x4.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S8192x4 .f32) (main_arg8 : FVec F S1024x1024 .f32) (main_arg9 : FVec F S1x1024 .f32) (main_v29 : IVec S_ 1) (main_v32 : IVec S8192x4 1) (main_c_12 : IVec S_ 1) : IVec S_ 1 :=
  let main_v33 : IVec S_ 1 := (fun x v => Host.reduce IntOp.andi x v reducesTo_S8192x4_S_d0_1 h_S_) main_v32 main_c_12
  let main_v34 : IVec S_ 1 := andi main_v29 main_v33
  let main_v35 : FVec F S8192x4 .f32 := Host.absf main_arg7
  let main_cst_13 : FVec F S_ .f32 := constant S_ .f32 0x7F800000#32
  let main_v36 : FVec F S8192x4 .f32 := broadcastInDim S8192x4 ![] bcast_S_S8192x4 main_cst_13
  let main_v37 : IVec S8192x4 1 := cmpf .olt main_v35 main_v36
  let main_c_14 : IVec S_ 1 := constantI S_ 1 1#1
  let main_v38 : IVec S_ 1 := (fun x v => Host.reduce IntOp.andi x v reducesTo_S8192x4_S_d0_1 h_S_) main_v37 main_c_14
  let main_v39 : IVec S_ 1 := andi main_v34 main_v38
  let main_v40 : FVec F S1024x1024 .f32 := Host.absf main_arg8
  let main_cst_15 : FVec F S_ .f32 := constant S_ .f32 0x7F800000#32
  let main_v41 : FVec F S1024x1024 .f32 := broadcastInDim S1024x1024 ![] bcast_S_S1024x1024 main_cst_15
  let main_v42 : IVec S1024x1024 1 := cmpf .olt main_v40 main_v41
  let main_c_16 : IVec S_ 1 := constantI S_ 1 1#1
  let main_v43 : IVec S_ 1 := (fun x v => Host.reduce IntOp.andi x v reducesTo_S1024x1024_S_d0_1 h_S_) main_v42 main_c_16
  let main_v44 : IVec S_ 1 := andi main_v39 main_v43
  let main_v45 : FVec F S1x1024 .f32 := Host.absf main_arg9
  let main_cst_17 : FVec F S_ .f32 := constant S_ .f32 0x7F800000#32
  let main_v46 : FVec F S1x1024 .f32 := broadcastInDim S1x1024 ![] bcast_S_S1x1024 main_cst_17
  let main_v47 : IVec S1x1024 1 := cmpf .olt main_v45 main_v46
  let main_c_18 : IVec S_ 1 := constantI S_ 1 1#1
  let main_v48 : IVec S_ 1 := (fun x v => Host.reduce IntOp.andi x v reducesTo_S1x1024_S_d0_1 h_S_) main_v47 main_c_18
  let main_v49 : IVec S_ 1 := andi main_v44 main_v48
  main_v49

def fn_part1 {F : FTy → Type} [FloatOps F] (main_arg4 : FVec F S8192x256 .f32) (main_arg5 : FVec F S8192x4 .f32) (main_arg6 : FVec F S8192x4 .f32) (main_arg7 : FVec F S8192x4 .f32) (main_arg8 : FVec F S1024x1024 .f32) (main_arg9 : FVec F S1x1024 .f32) (main_v14 : IVec S_ 1) (main_v15 : FVec F S8192x256 .f32) (main_cst_5 : FVec F S_ .f32) : IVec S_ 1 :=
  let main_v16 : FVec F S8192x256 .f32 := broadcastInDim S8192x256 ![] bcast_S_S8192x256 main_cst_5
  let main_v17 : IVec S8192x256 1 := cmpf .olt main_v15 main_v16
  let main_c_6 : IVec S_ 1 := constantI S_ 1 1#1
  let main_v18 : IVec S_ 1 := (fun x v => Host.reduce IntOp.andi x v reducesTo_S8192x256_S_d0_1 h_S_) main_v17 main_c_6
  let main_v19 : IVec S_ 1 := andi main_v14 main_v18
  let main_v20 : FVec F S8192x256 .f32 := Host.absf main_arg4
  let main_cst_7 : FVec F S_ .f32 := constant S_ .f32 0x7F800000#32
  let main_v21 : FVec F S8192x256 .f32 := broadcastInDim S8192x256 ![] bcast_S_S8192x256 main_cst_7
  let main_v22 : IVec S8192x256 1 := cmpf .olt main_v20 main_v21
  let main_c_8 : IVec S_ 1 := constantI S_ 1 1#1
  let main_v23 : IVec S_ 1 := (fun x v => Host.reduce IntOp.andi x v reducesTo_S8192x256_S_d0_1 h_S_) main_v22 main_c_8
  let main_v24 : IVec S_ 1 := andi main_v19 main_v23
  let main_v25 : FVec F S8192x4 .f32 := Host.absf main_arg5
  let main_cst_9 : FVec F S_ .f32 := constant S_ .f32 0x7F800000#32
  let main_v26 : FVec F S8192x4 .f32 := broadcastInDim S8192x4 ![] bcast_S_S8192x4 main_cst_9
  let main_v27 : IVec S8192x4 1 := cmpf .olt main_v25 main_v26
  let main_c_10 : IVec S_ 1 := constantI S_ 1 1#1
  let main_v28 : IVec S_ 1 := (fun x v => Host.reduce IntOp.andi x v reducesTo_S8192x4_S_d0_1 h_S_) main_v27 main_c_10
  let main_v29 : IVec S_ 1 := andi main_v24 main_v28
  let main_v30 : FVec F S8192x4 .f32 := Host.absf main_arg6
  let main_cst_11 : FVec F S_ .f32 := constant S_ .f32 0x7F800000#32
  let main_v31 : FVec F S8192x4 .f32 := broadcastInDim S8192x4 ![] bcast_S_S8192x4 main_cst_11
  let main_v32 : IVec S8192x4 1 := cmpf .olt main_v30 main_v31
  let main_c_12 : IVec S_ 1 := constantI S_ 1 1#1
  fn_part2 (F := F) main_arg7 main_arg8 main_arg9 main_v29 main_v32 main_c_12

def fn {F : FTy → Type} [FloatOps F] (main_arg0 : FVec F S8192x1024 .f32) (main_arg1 : FVec F S8192x256 .f32) (main_arg2 : FVec F S8192x256 .f32) (main_arg3 : FVec F S8192x256 .f32) (main_arg4 : FVec F S8192x256 .f32) (main_arg5 : FVec F S8192x4 .f32) (main_arg6 : FVec F S8192x4 .f32) (main_arg7 : FVec F S8192x4 .f32) (main_arg8 : FVec F S1024x1024 .f32) (main_arg9 : FVec F S1x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S8192x256 .f32 := Host.absf main_arg1
  let main_cst_1 : FVec F S_ .f32 := constant S_ .f32 0x7F800000#32
  let main_v6 : FVec F S8192x256 .f32 := broadcastInDim S8192x256 ![] bcast_S_S8192x256 main_cst_1
  let main_v7 : IVec S8192x256 1 := cmpf .olt main_v5 main_v6
  let main_c_2 : IVec S_ 1 := constantI S_ 1 1#1
  let main_v8 : IVec S_ 1 := (fun x v => Host.reduce IntOp.andi x v reducesTo_S8192x256_S_d0_1 h_S_) main_v7 main_c_2
  let main_v9 : IVec S_ 1 := andi main_v4 main_v8
  let main_v10 : FVec F S8192x256 .f32 := Host.absf main_arg2
  let main_cst_3 : FVec F S_ .f32 := constant S_ .f32 0x7F800000#32
  let main_v11 : FVec F S8192x256 .f32 := broadcastInDim S8192x256 ![] bcast_S_S8192x256 main_cst_3
  let main_v12 : IVec S8192x256 1 := cmpf .olt main_v10 main_v11
  let main_c_4 : IVec S_ 1 := constantI S_ 1 1#1
  let main_v13 : IVec S_ 1 := (fun x v => Host.reduce IntOp.andi x v reducesTo_S8192x256_S_d0_1 h_S_) main_v12 main_c_4
  let main_v14 : IVec S_ 1 := andi main_v9 main_v13
  let main_v15 : FVec F S8192x256 .f32 := Host.absf main_arg3
  let main_cst_5 : FVec F S_ .f32 := constant S_ .f32 0x7F800000#32
  fn_part1 (F := F) main_arg4 main_arg5 main_arg6 main_arg7 main_arg8 main_arg9 main_v14 main_v15 main_cst_5
-- ==== Pre_finite6.lean ====
abbrev S8192x256 : Shape := ⟨2, ![8192, 256]⟩
abbrev S8192x1024 : Shape := ⟨2, ![8192, 1024]⟩
abbrev S1x1024 : Shape := ⟨2, ![1, 1024]⟩
abbrev S1024x2560 : Shape := ⟨2, ![1024, 2560]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2560 : S_.BroadcastsInDim S1024x2560 (![] : Fin 0 → Fin S1024x2560.rank)
  reducesTo_S1024x2560_S_d0_1 : S1024x2560.ReducesTo [0, 1] S_

variable [Facts]

def fn_part4 {F : FTy → Type} [FloatOps F] (main_v64 : IVec S_ 1) (main_v67 : IVec S1024x2560 1) : IVec S_ 1 :=
  let main_c_26 : IVec S_ 1 := constantI S_ 1 1#1
  let main_v68 : IVec S_ 1 := (fun x v => Host.reduce IntOp.andi x v reducesTo_S1024x2560_S_d0_1 h_S_) main_v67 main_c_26
  let main_v69 : IVec S_ 1 := andi main_v64 main_v68
  main_v69

def fn_part3 {F : FTy → Type} [FloatOps F] (main_arg11 : FVec F S8192x1024 .f32) (main_arg12 : FVec F S1x1024 .f32) (main_arg13 : FVec F S1024x2560 .f32) (main_v49 : IVec S_ 1) (main_v50 : FVec F S8192x1024 .f32) : IVec S_ 1 :=
  let main_cst_19 : FVec F S_ .f32 := constant S_ .f32 0x7F800000#32
  let main_v51 : FVec F S8192x1024 .f32 := broadcastInDim S8192x1024 ![] bcast_S_S8192x1024 main_cst_19
  let main_v52 : IVec S8192x1024 1 := cmpf .olt main_v50 main_v51
  let main_c_20 : IVec S_ 1 := constantI S_ 1 1#1
  let main_v53 : IVec S_ 1 := (fun x v => Host.reduce IntOp.andi x v reducesTo_S8192x1024_S_d0_1 h_S_) main_v52 main_c_20
  let main_v54 : IVec S_ 1 := andi main_v49 main_v53
  let main_v55 : FVec F S8192x1024 .f32 := Host.absf main_arg11
  let main_cst_21 : FVec F S_ .f32 := constant S_ .f32 0x7F800000#32
  let main_v56 : FVec F S8192x1024 .f32 := broadcastInDim S8192x1024 ![] bcast_S_S8192x1024 main_cst_21
  let main_v57 : IVec S8192x1024 1 := cmpf .olt main_v55 main_v56
  let main_c_22 : IVec S_ 1 := constantI S_ 1 1#1
  let main_v58 : IVec S_ 1 := (fun x v => Host.reduce IntOp.andi x v reducesTo_S8192x1024_S_d0_1 h_S_) main_v57 main_c_22
  let main_v59 : IVec S_ 1 := andi main_v54 main_v58
  let main_v60 : FVec F S1x1024 .f32 := Host.absf main_arg12
  let main_cst_23 : FVec F S_ .f32 := constant S_ .f32 0x7F800000#32
  let main_v61 : FVec F S1x1024 .f32 := broadcastInDim S1x1024 ![] bcast_S_S1x1024 main_cst_23
  let main_v62 : IVec S1x1024 1 := cmpf .olt main_v60 main_v61
  let main_c_24 : IVec S_ 1 := constantI S_ 1 1#1
  let main_v63 : IVec S_ 1 := (fun x v => Host.reduce IntOp.andi x v reducesTo_S1x1024_S_d0_1 h_S_) main_v62 main_c_24
  let main_v64 : IVec S_ 1 := andi main_v59 main_v63
  let main_v65 : FVec F S1024x2560 .f32 := Host.absf main_arg13
  let main_cst_25 : FVec F S_ .f32 := constant S_ .f32 0x7F800000#32
  let main_v66 : FVec F S1024x2560 .f32 := broadcastInDim S1024x2560 ![] bcast_S_S1024x2560 main_cst_25
  let main_v67 : IVec S1024x2560 1 := cmpf .olt main_v65 main_v66
  fn_part4 (F := F) main_v64 main_v67

def fn_part2 {F : FTy → Type} [FloatOps F] (main_arg7 : FVec F S8192x256 .bf16) (main_arg8 : FVec F S8192x256 .bf16) (main_arg9 : FVec F S8192x256 .bf16) (main_arg10 : FVec F S8192x1024 .f32) (main_arg11 : FVec F S8192x1024 .f32) (main_arg12 : FVec F S1x1024 .f32) (main_arg13 : FVec F S1024x2560 .f32) (main_v29 : IVec S_ 1) (main_v32 : IVec S8192x256 1) (main_c_12 : IVec S_ 1) : IVec S_ 1 :=
  let main_v33 : IVec S_ 1 := (fun x v => Host.reduce IntOp.andi x v reducesTo_S8192x256_S_d0_1 h_S_) main_v32 main_c_12
  let main_v34 : IVec S_ 1 := andi main_v29 main_v33
  let main_v35 : FVec F S8192x256 .bf16 := Host.absf main_arg7
  let main_cst_13 : FVec F S_ .bf16 := constant S_ .bf16 0x7F80#16
  let main_v36 : FVec F S8192x256 .bf16 := broadcastInDim S8192x256 ![] bcast_S_S8192x256 main_cst_13
  let main_v37 : IVec S8192x256 1 := cmpf .olt main_v35 main_v36
  let main_c_14 : IVec S_ 1 := constantI S_ 1 1#1
  let main_v38 : IVec S_ 1 := (fun x v => Host.reduce IntOp.andi x v reducesTo_S8192x256_S_d0_1 h_S_) main_v37 main_c_14
  let main_v39 : IVec S_ 1 := andi main_v34 main_v38
  let main_v40 : FVec F S8192x256 .bf16 := Host.absf main_arg8
  let main_cst_15 : FVec F S_ .bf16 := constant S_ .bf16 0x7F80#16
  let main_v41 : FVec F S8192x256 .bf16 := broadcastInDim S8192x256 ![] bcast_S_S8192x256 main_cst_15
  let main_v42 : IVec S8192x256 1 := cmpf .olt main_v40 main_v41
  let main_c_16 : IVec S_ 1 := constantI S_ 1 1#1
  let main_v43 : IVec S_ 1 := (fun x v => Host.reduce IntOp.andi x v reducesTo_S8192x256_S_d0_1 h_S_) main_v42 main_c_16
  let main_v44 : IVec S_ 1 := andi main_v39 main_v43
  let main_v45 : FVec F S8192x256 .bf16 := Host.absf main_arg9
  let main_cst_17 : FVec F S_ .bf16 := constant S_ .bf16 0x7F80#16
  let main_v46 : FVec F S8192x256 .bf16 := broadcastInDim S8192x256 ![] bcast_S_S8192x256 main_cst_17
  let main_v47 : IVec S8192x256 1 := cmpf .olt main_v45 main_v46
  let main_c_18 : IVec S_ 1 := constantI S_ 1 1#1
  let main_v48 : IVec S_ 1 := (fun x v => Host.reduce IntOp.andi x v reducesTo_S8192x256_S_d0_1 h_S_) main_v47 main_c_18
  let main_v49 : IVec S_ 1 := andi main_v44 main_v48
  let main_v50 : FVec F S8192x1024 .f32 := Host.absf main_arg10
  fn_part3 (F := F) main_arg11 main_arg12 main_arg13 main_v49 main_v50

def fn_part1 {F : FTy → Type} [FloatOps F] (main_arg4 : FVec F S8192x256 .bf16) (main_arg5 : FVec F S8192x256 .bf16) (main_arg6 : FVec F S8192x256 .bf16) (main_arg7 : FVec F S8192x256 .bf16) (main_arg8 : FVec F S8192x256 .bf16) (main_arg9 : FVec F S8192x256 .bf16) (main_arg10 : FVec F S8192x1024 .f32) (main_arg11 : FVec F S8192x1024 .f32) (main_arg12 : FVec F S1x1024 .f32) (main_arg13 : FVec F S1024x2560 .f32) (main_v14 : IVec S_ 1) (main_v15 : FVec F S8192x256 .bf16) (main_cst_5 : FVec F S_ .bf16) : IVec S_ 1 :=
  let main_v16 : FVec F S8192x256 .bf16 := broadcastInDim S8192x256 ![] bcast_S_S8192x256 main_cst_5
  let main_v17 : IVec S8192x256 1 := cmpf .olt main_v15 main_v16
  let main_c_6 : IVec S_ 1 := constantI S_ 1 1#1
  let main_v18 : IVec S_ 1 := (fun x v => Host.reduce IntOp.andi x v reducesTo_S8192x256_S_d0_1 h_S_) main_v17 main_c_6
  let main_v19 : IVec S_ 1 := andi main_v14 main_v18
  let main_v20 : FVec F S8192x256 .bf16 := Host.absf main_arg4
  let main_cst_7 : FVec F S_ .bf16 := constant S_ .bf16 0x7F80#16
  let main_v21 : FVec F S8192x256 .bf16 := broadcastInDim S8192x256 ![] bcast_S_S8192x256 main_cst_7
  let main_v22 : IVec S8192x256 1 := cmpf .olt main_v20 main_v21
  let main_c_8 : IVec S_ 1 := constantI S_ 1 1#1
  let main_v23 : IVec S_ 1 := (fun x v => Host.reduce IntOp.andi x v reducesTo_S8192x256_S_d0_1 h_S_) main_v22 main_c_8
  let main_v24 : IVec S_ 1 := andi main_v19 main_v23
  let main_v25 : FVec F S8192x256 .bf16 := Host.absf main_arg5
  let main_cst_9 : FVec F S_ .bf16 := constant S_ .bf16 0x7F80#16
  let main_v26 : FVec F S8192x256 .bf16 := broadcastInDim S8192x256 ![] bcast_S_S8192x256 main_cst_9
  let main_v27 : IVec S8192x256 1 := cmpf .olt main_v25 main_v26
  let main_c_10 : IVec S_ 1 := constantI S_ 1 1#1
  let main_v28 : IVec S_ 1 := (fun x v => Host.reduce IntOp.andi x v reducesTo_S8192x256_S_d0_1 h_S_) main_v27 main_c_10
  let main_v29 : IVec S_ 1 := andi main_v24 main_v28
  let main_v30 : FVec F S8192x256 .bf16 := Host.absf main_arg6
  let main_cst_11 : FVec F S_ .bf16 := constant S_ .bf16 0x7F80#16
  let main_v31 : FVec F S8192x256 .bf16 := broadcastInDim S8192x256 ![] bcast_S_S8192x256 main_cst_11
  let main_v32 : IVec S8192x256 1 := cmpf .olt main_v30 main_v31
  let main_c_12 : IVec S_ 1 := constantI S_ 1 1#1
  fn_part2 (F := F) main_arg7 main_arg8 main_arg9 main_arg10 main_arg11 main_arg12 main_arg13 main_v29 main_v32 main_c_12

def fn {F : FTy → Type} [FloatOps F] (main_arg0 : FVec F S8192x256 .bf16) (main_arg1 : FVec F S8192x256 .bf16) (main_arg2 : FVec F S8192x256 .bf16) (main_arg3 : FVec F S8192x256 .bf16) (main_arg4 : FVec F S8192x256 .bf16) (main_arg5 : FVec F S8192x256 .bf16) (main_arg6 : FVec F S8192x256 .bf16) (main_arg7 : FVec F S8192x256 .bf16) (main_arg8 : FVec F S8192x256 .bf16) (main_arg9 : FVec F S8192x256 .bf16) (main_arg10 : FVec F S8192x1024 .f32) (main_arg11 : FVec F S8192x1024 .f32) (main_arg12 : FVec F S1x1024 .f32) (main_arg13 : FVec F S1024x2560 .f32) : IVec S_ 1 :=
  let main_v0 : FVec F S8192x256 .bf16 := Host.absf main_arg0
  let main_cst : FVec F S_ .bf16 := constant S_ .bf16 0x7F80#16
  let main_v1 : FVec F S8192x256 .bf16 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_c_0 : IVec S_ 1 := constantI S_ 1 1#1
  let main_v4 : IVec S_ 1 := andi main_c_0 main_v3
  let main_v5 : FVec F S8192x256 .bf16 := Host.absf main_arg1
  let main_cst_1 : FVec F S_ .bf16 := constant S_ .bf16 0x7F80#16
  let main_v6 : FVec F S8192x256 .bf16 := broadcastInDim S8192x256 ![] bcast_S_S8192x256 main_cst_1
  let main_v7 : IVec S8192x256 1 := cmpf .olt main_v5 main_v6
  let main_c_2 : IVec S_ 1 := constantI S_ 1 1#1
  let main_v8 : IVec S_ 1 := (fun x v => Host.reduce IntOp.andi x v reducesTo_S8192x256_S_d0_1 h_S_) main_v7 main_c_2
  let main_v9 : IVec S_ 1 := andi main_v4 main_v8
  let main_v10 : FVec F S8192x256 .bf16 := Host.absf main_arg2
  let main_cst_3 : FVec F S_ .bf16 := constant S_ .bf16 0x7F80#16
  let main_v11 : FVec F S8192x256 .bf16 := broadcastInDim S8192x256 ![] bcast_S_S8192x256 main_cst_3
  let main_v12 : IVec S8192x256 1 := cmpf .olt main_v10 main_v11
  let main_c_4 : IVec S_ 1 := constantI S_ 1 1#1
  let main_v13 : IVec S_ 1 := (fun x v => Host.reduce IntOp.andi x v reducesTo_S8192x256_S_d0_1 h_S_) main_v12 main_c_4
  let main_v14 : IVec S_ 1 := andi main_v9 main_v13
  let main_v15 : FVec F S8192x256 .bf16 := Host.absf main_arg3
  let main_cst_5 : FVec F S_ .bf16 := constant S_ .bf16 0x7F80#16
  fn_part1 (F := F) main_arg4 main_arg5 main_arg6 main_arg7 main_arg8 main_arg9 main_arg10 main_arg11 main_arg12 main_arg13 main_v14 main_v15 main_cst_5
-- ==== Kernel.lean ====
abbrev S8192x1024 : Shape := ⟨2, ![8192, 1024]⟩
abbrev S1x1024 : Shape := ⟨2, ![1, 1024]⟩
abbrev S1024x2752 : Shape := ⟨2, ![1024, 2752]⟩
abbrev S2752x1024 : Shape := ⟨2, ![2752, 1024]⟩
abbrev S_ : Shape := ⟨0, ![]⟩
abbrev S8192 : Shape := ⟨1, ![8192]⟩
abbrev S8192x1 : Shape := ⟨2, ![8192, 1]⟩
abbrev S8192x2752 : Shape := ⟨2, ![8192, 2752]⟩
abbrev S256x1024 : Shape := ⟨2, ![256, 1024]⟩
abbrev S256x2752 : Shape := ⟨2, ![256, 2752]⟩
abbrev S256 : Shape := ⟨1, ![256]⟩
abbrev S256x1 : Shape := ⟨2, ![256, 1]⟩
abbrev S1024 : Shape := ⟨1, ![1024]⟩

abbrev nBuf : Space → Nat
  | .hbm => 50
  | .vmem => 29
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2752, .f32⟩
  | .hbm, ⟨4, _⟩ => ⟨S1024x2752, .f32⟩
  | .hbm, ⟨5, _⟩ => ⟨S2752x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2752, .f32⟩
  | .hbm, ⟨23, _⟩ => ⟨S8192x2752, .f32⟩
  | .hbm, ⟨24, _⟩ => ⟨S8192x2752, .f32⟩
  | .hbm, ⟨25, _⟩ => ⟨S8192x2752, .f32⟩
  | .hbm, ⟨26, _⟩ => ⟨S_, .f32⟩
  | .hbm, ⟨27, _⟩ => ⟨S8192x2752, .f32⟩
  | .hbm, ⟨28, _⟩ => ⟨S8192x2752, .f32⟩
  | .hbm, ⟨29, _⟩ => ⟨S_, .f32⟩
  | .hbm, ⟨30, _⟩ => ⟨S8192x2752, .f32⟩
  | .hbm, ⟨31, _⟩ => ⟨S8192x2752, .f32⟩
  | .hbm, ⟨32, _⟩ => ⟨S8192x2752, .f32⟩
  | .hbm, ⟨33, _⟩ => ⟨S8192x2752, .f32⟩
  | .hbm, ⟨34, _⟩ => ⟨S8192x1024, .f32⟩
  | .hbm, ⟨35, _⟩ => ⟨S8192x2752, .bf16⟩
  | .hbm, ⟨36, _⟩ => ⟨S8192x2752, .bf16⟩
  | .hbm, ⟨37, _⟩ => ⟨S2752x1024, .f32⟩
  | .hbm, ⟨38, _⟩ => ⟨S2752x1024, .bf16⟩
  | .hbm, ⟨39, _⟩ => ⟨S2752x1024, .f32⟩
  | .hbm, ⟨40, _⟩ => ⟨S2752x1024, .bf16⟩
  | .hbm, ⟨41, _⟩ => ⟨S2752x1024, .bf16⟩
  | .hbm, ⟨42, _⟩ => ⟨S8192x1024, .f32⟩
  | .hbm, ⟨43, _⟩ => ⟨S8192x2752, .bf16⟩
  | .hbm, ⟨44, _⟩ => ⟨S8192x2752, .bf16⟩
  | .hbm, ⟨45, _⟩ => ⟨S8192x2752, .bf16⟩
  | .hbm, ⟨46, _⟩ => ⟨S8192x1024, .bf16⟩
  | .hbm, ⟨47, _⟩ => ⟨S8192x1024, .bf16⟩
  | .hbm, ⟨48, _⟩ => ⟨S1x1024, .f32⟩
  | .hbm, ⟨49, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2752, .bf16⟩
  | .local _ .vmem, ⟨7, _⟩ => ⟨S256x2752, .bf16⟩
  | .local _ .vmem, ⟨8, _⟩ => ⟨S256x2752, .bf16⟩
  | .local _ .vmem, ⟨9, _⟩ => ⟨S256x2752, .bf16⟩
  | .local _ .vmem, ⟨10, _⟩ => ⟨S1x1024, .f32⟩
  | .local _ .vmem, ⟨11, _⟩ => ⟨S1x1024, .f32⟩
  | .local _ .vmem, ⟨12, _⟩ => ⟨S2752x1024, .bf16⟩
  | .local _ .vmem, ⟨13, _⟩ => ⟨S2752x1024, .bf16⟩
  | .local _ .vmem, ⟨14, _⟩ => ⟨S2752x1024, .bf16⟩
  | .local _ .vmem, ⟨15, _⟩ => ⟨S256x1024, .f32⟩
  | .local _ .vmem, ⟨16, _⟩ => ⟨S256x1024, .f32⟩
  | .local _ .vmem, ⟨17, _⟩ => ⟨S256x2752, .bf16⟩
  | .local _ .vmem, ⟨18, _⟩ => ⟨S256x2752, .bf16⟩
  | .local _ .vmem, ⟨19, _⟩ => ⟨S256x2752, .bf16⟩
  | .local _ .vmem, ⟨20, _⟩ => ⟨S256x2752, .bf16⟩
  | .local _ .vmem, ⟨21, _⟩ => ⟨S256x2752, .bf16⟩
  | .local _ .vmem, ⟨22, _⟩ => ⟨S256x2752, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S1x1024, .f32⟩
  | .local _ .vmem, ⟨28, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24_0 : Ref sig .tc := ⟨.hbm, 42, rfl⟩
abbrev main_v24_1 : Ref sig .tc := ⟨.hbm, 43, rfl⟩
abbrev main_v24_2 : Ref sig .tc := ⟨.hbm, 44, rfl⟩
abbrev main_v24_3 : Ref sig .tc := ⟨.hbm, 45, rfl⟩
abbrev main_v24_4 : Ref sig .tc := ⟨.hbm, 46, rfl⟩
abbrev main_v24_5 : Ref sig .tc := ⟨.hbm, 47, rfl⟩
abbrev main_v24_6 : Ref sig .tc := ⟨.hbm, 48, rfl⟩
abbrev main_v24_7 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2752 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2752x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2752x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2752x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2752 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2752 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2752 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S8192x1024 : Shape := ⟨2, ![8192, 1024]⟩
abbrev S1x1024 : Shape := ⟨2, ![1, 1024]⟩
abbrev S1024x2752 : Shape := ⟨2, ![1024, 2752]⟩
abbrev S2752x1024 : Shape := ⟨2, ![2752, 1024]⟩
abbrev S_ : Shape := ⟨0, ![]⟩
abbrev S8192x2752 : Shape := ⟨2, ![8192, 2752]⟩
abbrev S8192 : Shape := ⟨1, ![8192]⟩
abbrev S8192x1 : Shape := ⟨2, ![8192, 1]⟩
abbrev S1024 : Shape := ⟨1, ![1024]⟩

abbrev nBuf : Space → Nat
  | .hbm => 139
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x2752, .f32⟩
  | 4 => ⟨S1024x2752, .f32⟩
  | 5 => ⟨S2752x1024, .f32⟩
  | 6 => ⟨S1x1024, .f32⟩
  | 7 => ⟨S_, .f32⟩
  | 8 => ⟨S8192x2752, .f32⟩
  | 9 => ⟨S_, .f32⟩
  | 10 => ⟨S8192x1024, .f32⟩
  | 11 => ⟨S8192x1024, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x1024, .f32⟩
  | 27 => ⟨S8192x1024, .f32⟩
  | 28 => ⟨S8192x1024, .f32⟩
  | 29 => ⟨S8192x1024, .f32⟩
  | 30 => ⟨S8192x2752, .f32⟩
  | 31 => ⟨S8192x2752, .f32⟩
  | 32 => ⟨S8192x2752, .f32⟩
  | 33 => ⟨S8192x2752, .f32⟩
  | 34 => ⟨S8192x2752, .f32⟩
  | 35 => ⟨S8192x2752, .f32⟩
  | 36 => ⟨S_, .f32⟩
  | 37 => ⟨S8192x2752, .f32⟩
  | 38 => ⟨S8192x2752, .f32⟩
  | 39 => ⟨S_, .f32⟩
  | 40 => ⟨S8192x2752, .f32⟩
  | 41 => ⟨S8192x2752, .f32⟩
  | 42 => ⟨S_, .f32⟩
  | 43 => ⟨S8192x2752, .f32⟩
  | 44 => ⟨S8192x2752, .f32⟩
  | 45 => ⟨S8192x2752, .f32⟩
  | 46 => ⟨S8192x2752, .f32⟩
  | 47 => ⟨S8192x2752, .f32⟩
  | 48 => ⟨S8192x1024, .f32⟩
  | 49 => ⟨S8192x1024, .f32⟩
  | 50 => ⟨S8192x1024, .f32⟩
  | 51 => ⟨S_, .f32⟩
  | 52 => ⟨S8192, .f32⟩
  | 53 => ⟨S8192x1, .f32⟩
  | 54 => ⟨S_, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1024, .f32⟩
  | 66 => ⟨S8192x1024, .f32⟩
  | 67 => ⟨S8192x1024, .f32⟩
  | 68 => ⟨S8192x1024, .f32⟩
  | 69 => ⟨S_, .f32⟩
  | 70 => ⟨S8192x1024, .f32⟩
  | 71 => ⟨S8192x1024, .f32⟩
  | 72 => ⟨S8192x1024, .f32⟩
  | 73 => ⟨S8192x1024, .f32⟩
  | 74 => ⟨S_, .f32⟩
  | 75 => ⟨S8192x1024, .f32⟩
  | 76 => ⟨S8192x1024, .f32⟩
  | 77 => ⟨S8192x1024, .f32⟩
  | 78 => ⟨S_, .f32⟩
  | 79 => ⟨S1024, .f32⟩
  | 80 => ⟨S1x1024, .f32⟩
  | 81 => ⟨S8192x1024, .f32⟩
  | 82 => ⟨S8192x1024, .f32⟩
  | 83 => ⟨S8192x1024, .f32⟩
  | 84 => ⟨S_, .f32⟩
  | 85 => ⟨S8192, .f32⟩
  | 86 => ⟨S8192x1, .f32⟩
  | 87 => ⟨S8192x1024, .f32⟩
  | 88 => ⟨S8192x1024, .f32⟩
  | 89 => ⟨S8192x1, .f32⟩
  | 90 => ⟨S_, .f32⟩
  | 91 => ⟨S8192x1, .f32⟩
  | 92 => ⟨S8192x1, .f32⟩
  | 93 => ⟨S_, .f32⟩
  | 94 => ⟨S8192, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x2752, .f32⟩
  | 101 => ⟨S8192x2752, .f32⟩
  | 102 => ⟨S8192x2752, .f32⟩
  | 103 => ⟨S8192x2752, .f32⟩
  | 104 => ⟨S8192x2752, .f32⟩
  | 105 => ⟨S8192x2752, .f32⟩
  | 106 => ⟨S8192x2752, .f32⟩
  | 107 => ⟨S8192x1024, .f32⟩
  | 108 => ⟨S8192x1024, .f32⟩
  | 109 => ⟨S8192x1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S8192x1024, .f32⟩
  | 116 => ⟨S8192x1024, .f32⟩
  | 117 => ⟨S_, .f32⟩
  | 118 => ⟨S8192, .f32⟩
  | 119 => ⟨S8192x1, .f32⟩
  | 120 => ⟨S8192x1024, .f32⟩
  | 121 => ⟨S8192x1024, .f32⟩
  | 122 => ⟨S8192x1024, .f32⟩
  | 123 => ⟨S8192x1, .f32⟩
  | 124 => ⟨S_, .f32⟩
  | 125 => ⟨S8192x1, .f32⟩
  | 126 => ⟨S8192x1, .f32⟩
  | 127 => ⟨S_, .f32⟩
  | _ => ⟨S8192x1024, .f32⟩

abbrev hbmTy0_1 (i : Nat) : BufTy := match i % 128 with
  | 0 => ⟨S8192, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x2752, .bf16⟩
  | 7 => ⟨S8192x2752, .bf16⟩
  | 8 => ⟨S8192x2752, .bf16⟩
  | 9 => ⟨S8192x1024, .bf16⟩
  | 10 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v21_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v21_1 : Ref sig .tc := ⟨.hbm, 45, rfl⟩
abbrev main_v21_0 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_v26 : Ref sig .tc := ⟨.hbm, 52, rfl⟩
abbrev main_v27 : Ref sig .tc := ⟨.hbm, 53, rfl⟩
abbrev main_cst_6 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call1_v0 : Ref sig .tc := ⟨.hbm, 103, rfl⟩
abbrev main_call1_v1 : Ref sig .tc := ⟨.hbm, 104, rfl⟩
abbrev main_call1_v2 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_15 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_cst_18 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩

abbrev nD : Nat := 1
abbrev τ : Topo := Topo.v7x

variable {F : FTy → Type} [FloatOps F]
-- ==== Kernel2.lean ====
abbrev S8192x2752 : Shape := ⟨2, ![8192, 2752]⟩
abbrev S8192x1024 : Shape := ⟨2, ![8192, 1024]⟩
abbrev S2752x1024 : Shape := ⟨2, ![2752, 1024]⟩
abbrev S8192x256 : Shape := ⟨2, ![8192, 256]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2752, .bf16⟩
  | .hbm, ⟨1, _⟩ => ⟨S8192x1024, .bf16⟩
  | .hbm, ⟨2, _⟩ => ⟨S2752x1024, .f32⟩
  | .hbm, ⟨3, _⟩ => ⟨S2752x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S8192x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8192x2752 : Shape := ⟨2, ![8192, 2752]⟩
abbrev S8192x1024 : Shape := ⟨2, ![8192, 1024]⟩
abbrev S_ : Shape := ⟨0, ![]⟩
abbrev S2752x1024 : Shape := ⟨2, ![2752, 1024]⟩
abbrev S1024x2752 : Shape := ⟨2, ![1024, 2752]⟩

abbrev nBuf : Space → Nat
  | .hbm => 10
  | .vmem => 0
  | .smem => 0
  | _ => 0

abbrev bufTy : (tb : Table) → Fin (tcTables nBuf tb) → BufTy
  | .hbm, ⟨0, _⟩ => ⟨S8192x2752, .bf16⟩
  | .hbm, ⟨1, _⟩ => ⟨S8192x1024, .bf16⟩
  | .hbm, ⟨2, _⟩ => ⟨S_, .f32⟩
  | .hbm, ⟨3, _⟩ => ⟨S2752x1024, .f32⟩
  | .hbm, ⟨4, _⟩ => ⟨S8192x2752, .f32⟩
  | .hbm, ⟨5, _⟩ => ⟨S8192x1024, .f32⟩
  | .hbm, ⟨6, _⟩ => ⟨S8192x1024, .f32⟩
  | .hbm, ⟨7, _⟩ => ⟨S1024x2752, .f32⟩
  | .hbm, ⟨8, _⟩ => ⟨S2752x1024, .f32⟩
  | .hbm, ⟨9, _⟩ => ⟨S2752x1024, .bf16⟩
  | _, _ => ⟨S8192x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x2752 : Shape := ⟨2, ![1024, 2752]⟩
abbrev S2752x1024 : Shape := ⟨2, ![2752, 1024]⟩
abbrev S8192x2752 : Shape := ⟨2, ![8192, 2752]⟩
abbrev S8x128 : Shape := ⟨2, ![8, 128]⟩
abbrev S512x1024 : Shape := ⟨2, ![512, 1024]⟩
abbrev S512x2752 : Shape := ⟨2, ![512, 2752]⟩
abbrev S256x1024 : Shape := ⟨2, ![256, 1024]⟩
abbrev S256 : Shape := ⟨1, ![256]⟩
abbrev S256x1 : Shape := ⟨2, ![256, 1]⟩
abbrev S256x2752 : Shape := ⟨2, ![256, 2752]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 17
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S1x1024, .f32⟩
  | .hbm, ⟨6, _⟩ => ⟨S8192x1024, .f32⟩
  | .hbm, ⟨7, _⟩ => ⟨S2752x1024, .f32⟩
  | .hbm, ⟨8, _⟩ => ⟨S2752x1024, .bf16⟩
  | .hbm, ⟨9, _⟩ => ⟨S2752x1024, .f32⟩
  | .hbm, ⟨10, _⟩ => ⟨S2752x1024, .bf16⟩
  | .hbm, ⟨11, _⟩ => ⟨S2752x1024, .bf16⟩
  | .hbm, ⟨12, _⟩ => ⟨S8192x1024, .f32⟩
  | .hbm, ⟨13, _⟩ => ⟨S8192x2752, .bf16⟩
  | .hbm, ⟨14, _⟩ => ⟨S8192x2752, .bf16⟩
  | .hbm, ⟨15, _⟩ => ⟨S8192x1024, .f32⟩
  | .hbm, ⟨16, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2752x1024, .bf16⟩
  | .local _ .vmem, ⟨4, _⟩ => ⟨S2752x1024, .bf16⟩
  | .local _ .vmem, ⟨5, _⟩ => ⟨S2752x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x2752, .bf16⟩
  | .local _ .vmem, ⟨12, _⟩ => ⟨S512x2752, .bf16⟩
  | .local _ .vmem, ⟨13, _⟩ => ⟨S512x2752, .bf16⟩
  | .local _ .vmem, ⟨14, _⟩ => ⟨S512x2752, .bf16⟩
  | .local _ .vmem, ⟨15, _⟩ => ⟨S512x1024, .f32⟩
  | .local _ .vmem, ⟨16, _⟩ => ⟨S512x1024, .f32⟩
  | .local _ .vmem, ⟨17, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2752x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2752x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2752x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2752 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2752 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S8192x1024 : Shape := ⟨2, ![8192, 1024]⟩
abbrev S1x1024 : Shape := ⟨2, ![1, 1024]⟩
abbrev S1024x2752 : Shape := ⟨2, ![1024, 2752]⟩
abbrev S2752x1024 : Shape := ⟨2, ![2752, 1024]⟩
abbrev S_ : Shape := ⟨0, ![]⟩
abbrev S8192 : Shape := ⟨1, ![8192]⟩
abbrev S8192x1 : Shape := ⟨2, ![8192, 1]⟩
abbrev S8192x2752 : Shape := ⟨2, ![8192, 2752]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2752, .f32⟩
  | .hbm, ⟨23, _⟩ => ⟨S8192x2752, .f32⟩
  | .hbm, ⟨24, _⟩ => ⟨S8192x2752, .f32⟩
  | .hbm, ⟨25, _⟩ => ⟨S8192x2752, .f32⟩
  | .hbm, ⟨26, _⟩ => ⟨S_, .f32⟩
  | .hbm, ⟨27, _⟩ => ⟨S8192x2752, .f32⟩
  | .hbm, ⟨28, _⟩ => ⟨S8192x2752, .f32⟩
  | .hbm, ⟨29, _⟩ => ⟨S_, .f32⟩
  | .hbm, ⟨30, _⟩ => ⟨S8192x2752, .f32⟩
  | .hbm, ⟨31, _⟩ => ⟨S8192x2752, .f32⟩
  | .hbm, ⟨32, _⟩ => ⟨S8192x2752, .f32⟩
  | .hbm, ⟨33, _⟩ => ⟨S8192x2752, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192, .f32⟩
  | .hbm, ⟨63, _⟩ => ⟨S8192, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192x1024, .f32⟩
  | .hbm, ⟨76, _⟩ => ⟨S8192x1024, .f32⟩
  | .hbm, ⟨77, _⟩ => ⟨S8192x2752, .bf16⟩
  | .hbm, ⟨78, _⟩ => ⟨S8192x2752, .bf16⟩
  | .hbm, ⟨79, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_cst_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_cst_11 : Ref sig .tc := ⟨.hbm, 68, rfl⟩
abbrev main_cst_12 : Ref sig .tc := ⟨.hbm, 69, rfl⟩
abbrev main_v41 : Ref sig .tc := ⟨.hbm, 70, rfl⟩
abbrev main_v42 : Ref sig .tc := ⟨.hbm, 71, rfl⟩
abbrev main_cst_13 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩

abbrev nD : Nat := 1
abbrev τ : Topo := Topo.v7x

variable {F : FTy → Type} [FloatOps F]
-- ==== Kernel4.lean ====
abbrev S8192x1024 : Shape := ⟨2, ![8192, 1024]⟩
abbrev S1x1024 : Shape := ⟨2, ![1, 1024]⟩
abbrev S1024x2752 : Shape := ⟨2, ![1024, 2752]⟩
abbrev S2752x1024 : Shape := ⟨2, ![2752, 1024]⟩
abbrev S8192x2752 : Shape := ⟨2, ![8192, 2752]⟩
abbrev S512x1024 : Shape := ⟨2, ![512, 1024]⟩
abbrev S512x2752 : Shape := ⟨2, ![512, 2752]⟩
abbrev S256x1024 : Shape := ⟨2, ![256, 1024]⟩
abbrev S256 : Shape := ⟨1, ![256]⟩
abbrev S256x1 : Shape := ⟨2, ![256, 1]⟩
abbrev S256x2752 : Shape := ⟨2, ![256, 2752]⟩

abbrev nBuf : Space → Nat
  | .hbm => 15
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S1x1024, .f32⟩
  | .hbm, ⟨6, _⟩ => ⟨S2752x1024, .f32⟩
  | .hbm, ⟨7, _⟩ => ⟨S2752x1024, .bf16⟩
  | .hbm, ⟨8, _⟩ => ⟨S2752x1024, .f32⟩
  | .hbm, ⟨9, _⟩ => ⟨S2752x1024, .bf16⟩
  | .hbm, ⟨10, _⟩ => ⟨S2752x1024, .bf16⟩
  | .hbm, ⟨11, _⟩ => ⟨S8192x1024, .f32⟩
  | .hbm, ⟨12, _⟩ => ⟨S8192x2752, .bf16⟩
  | .hbm, ⟨13, _⟩ => ⟨S8192x2752, .bf16⟩
  | .hbm, ⟨14, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2752x1024, .bf16⟩
  | .local _ .vmem, ⟨4, _⟩ => ⟨S2752x1024, .bf16⟩
  | .local _ .vmem, ⟨5, _⟩ => ⟨S2752x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2752, .bf16⟩
  | .local _ .vmem, ⟨10, _⟩ => ⟨S512x2752, .bf16⟩
  | .local _ .vmem, ⟨11, _⟩ => ⟨S512x2752, .bf16⟩
  | .local _ .vmem, ⟨12, _⟩ => ⟨S512x2752, .bf16⟩
  | .local _ .vmem, ⟨13, _⟩ => ⟨S512x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2752x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2752x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2752x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2752 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2752 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8192x1024 : Shape := ⟨2, ![8192, 1024]⟩
abbrev S1x1024 : Shape := ⟨2, ![1, 1024]⟩
abbrev S1024x2752 : Shape := ⟨2, ![1024, 2752]⟩
abbrev S2752x1024 : Shape := ⟨2, ![2752, 1024]⟩
abbrev S_ : Shape := ⟨0, ![]⟩
abbrev S8192 : Shape := ⟨1, ![8192]⟩
abbrev S8192x1 : Shape := ⟨2, ![8192, 1]⟩
abbrev S8192x2752 : Shape := ⟨2, ![8192, 2752]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S1x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x2752, .f32⟩
  | .hbm, ⟨22, _⟩ => ⟨S8192x2752, .f32⟩
  | .hbm, ⟨23, _⟩ => ⟨S8192x2752, .f32⟩
  | .hbm, ⟨24, _⟩ => ⟨S8192x2752, .f32⟩
  | .hbm, ⟨25, _⟩ => ⟨S_, .f32⟩
  | .hbm, ⟨26, _⟩ => ⟨S8192x2752, .f32⟩
  | .hbm, ⟨27, _⟩ => ⟨S8192x2752, .f32⟩
  | .hbm, ⟨28, _⟩ => ⟨S_, .f32⟩
  | .hbm, ⟨29, _⟩ => ⟨S8192x2752, .f32⟩
  | .hbm, ⟨30, _⟩ => ⟨S8192x2752, .f32⟩
  | .hbm, ⟨31, _⟩ => ⟨S8192x2752, .f32⟩
  | .hbm, ⟨32, _⟩ => ⟨S8192x2752, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x2752, .bf16⟩
  | .hbm, ⟨54, _⟩ => ⟨S8192x2752, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Kernel5.lean ====
abbrev S8192x1024 : Shape := ⟨2, ![8192, 1024]⟩
abbrev S8192x256 : Shape := ⟨2, ![8192, 256]⟩
abbrev S8192x4 : Shape := ⟨2, ![8192, 4]⟩
abbrev S1024x1024 : Shape := ⟨2, ![1024, 1024]⟩
abbrev S1x1024 : Shape := ⟨2, ![1, 1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x8192x4 : Shape := ⟨3, ![1, 8192, 4]⟩
abbrev S3x8192x4 : Shape := ⟨3, ![3, 8192, 4]⟩
abbrev S8192x4x64 : Shape := ⟨3, ![8192, 4, 64]⟩
abbrev S8192x4x1 : Shape := ⟨3, ![8192, 4, 1]⟩
abbrev S8192x12x64 : Shape := ⟨3, ![8192, 12, 64]⟩
abbrev S8192x768 : Shape := ⟨2, ![8192, 768]⟩
abbrev S1024x256 : Shape := ⟨2, ![1024, 256]⟩
abbrev S1024 : Shape := ⟨1, ![1024]⟩
abbrev S1024x1 : Shape := ⟨2, ![1024, 1]⟩

abbrev nBuf : Space → Nat
  | .hbm => 76
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x256, .f32⟩
  | .hbm, ⟨5, _⟩ => ⟨S8192x4, .f32⟩
  | .hbm, ⟨6, _⟩ => ⟨S8192x4, .f32⟩
  | .hbm, ⟨7, _⟩ => ⟨S8192x4, .f32⟩
  | .hbm, ⟨8, _⟩ => ⟨S1024x1024, .f32⟩
  | .hbm, ⟨9, _⟩ => ⟨S1x1024, .f32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S256x1, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i1⟩
  | .hbm, ⟨19, _⟩ => ⟨S256x256, .bf16⟩
  | .hbm, ⟨20, _⟩ => ⟨S1x8192x4, .f32⟩
  | .hbm, ⟨21, _⟩ => ⟨S1x8192x4, .f32⟩
  | .hbm, ⟨22, _⟩ => ⟨S1x8192x4, .f32⟩
  | .hbm, ⟨23, _⟩ => ⟨S3x8192x4, .f32⟩
  | .hbm, ⟨24, _⟩ => ⟨S_, .f32⟩
  | .hbm, ⟨25, _⟩ => ⟨S8192x4, .f32⟩
  | .hbm, ⟨26, _⟩ => ⟨S_, .f32⟩
  | .hbm, ⟨27, _⟩ => ⟨S8192x4, .f32⟩
  | .hbm, ⟨28, _⟩ => ⟨S8192x4, .f32⟩
  | .hbm, ⟨29, _⟩ => ⟨S1x8192x4, .f32⟩
  | .hbm, ⟨30, _⟩ => ⟨S3x8192x4, .f32⟩
  | .hbm, ⟨31, _⟩ => ⟨S3x8192x4, .f32⟩
  | .hbm, ⟨32, _⟩ => ⟨S3x8192x4, .f32⟩
  | .hbm, ⟨33, _⟩ => ⟨S_, .f32⟩
  | .hbm, ⟨34, _⟩ => ⟨S8192x4, .f32⟩
  | .hbm, ⟨35, _⟩ => ⟨S1x8192x4, .f32⟩
  | .hbm, ⟨36, _⟩ => ⟨S3x8192x4, .f32⟩
  | .hbm, ⟨37, _⟩ => ⟨S3x8192x4, .f32⟩
  | .hbm, ⟨38, _⟩ => ⟨S8192x4x64, .f32⟩
  | .hbm, ⟨39, _⟩ => ⟨S1x8192x4, .f32⟩
  | .hbm, ⟨40, _⟩ => ⟨S8192x4, .f32⟩
  | .hbm, ⟨41, _⟩ => ⟨S8192x4x1, .f32⟩
  | .hbm, ⟨42, _⟩ => ⟨S8192x4x64, .f32⟩
  | .hbm, ⟨43, _⟩ => ⟨S8192x4x64, .f32⟩
  | .hbm, ⟨44, _⟩ => ⟨S8192x4x64, .f32⟩
  | .hbm, ⟨45, _⟩ => ⟨S1x8192x4, .f32⟩
  | .hbm, ⟨46, _⟩ => ⟨S8192x4, .f32⟩
  | .hbm, ⟨47, _⟩ => ⟨S8192x4x1, .f32⟩
  | .hbm, ⟨48, _⟩ => ⟨S8192x4x64, .f32⟩
  | .hbm, ⟨49, _⟩ => ⟨S8192x4x64, .f32⟩
  | .hbm, ⟨50, _⟩ => ⟨S8192x4x64, .f32⟩
  | .hbm, ⟨51, _⟩ => ⟨S1x8192x4, .f32⟩
  | .hbm, ⟨52, _⟩ => ⟨S8192x4, .f32⟩
  | .hbm, ⟨53, _⟩ => ⟨S8192x4x1, .f32⟩
  | .hbm, ⟨54, _⟩ => ⟨S8192x4x64, .f32⟩
  | .hbm, ⟨55, _⟩ => ⟨S8192x4x64, .f32⟩
  | .hbm, ⟨56, _⟩ => ⟨S8192x12x64, .f32⟩
  | .hbm, ⟨57, _⟩ => ⟨S8192x768, .f32⟩
  | .hbm, ⟨58, _⟩ => ⟨S8192x1024, .f32⟩
  | .hbm, ⟨59, _⟩ => ⟨S8192x1024, .bf16⟩
  | .hbm, ⟨60, _⟩ => ⟨S8192x4x64, .f32⟩
  | .hbm, ⟨61, _⟩ => ⟨S8192x256, .f32⟩
  | .hbm, ⟨62, _⟩ => ⟨S8192x4x64, .f32⟩
  | .hbm, ⟨63, _⟩ => ⟨S8192x256, .f32⟩
  | .hbm, ⟨64, _⟩ => ⟨S8192x4x64, .f32⟩
  | .hbm, ⟨65, _⟩ => ⟨S8192x256, .f32⟩
  | .hbm, ⟨66, _⟩ => ⟨S1024x1024, .bf16⟩
  | .hbm, ⟨67, _⟩ => ⟨S8192x256, .f32⟩
  | .hbm, ⟨68, _⟩ => ⟨S8192x1024, .bf16⟩
  | .hbm, ⟨69, _⟩ => ⟨S8192x256, .bf16⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S1024x1024, .bf16⟩
  | .local _ .vmem, ⟨17, _⟩ => ⟨S1x1024, .f32⟩
  | .local _ .vmem, ⟨18, _⟩ => ⟨S256x256, .bf16⟩
  | .local _ .vmem, ⟨19, _⟩ => ⟨S1024x256, .f32⟩
  | .local _ .vmem, ⟨20, _⟩ => ⟨S1024x256, .f32⟩
  | .local _ .vmem, ⟨21, _⟩ => ⟨S1024x1024, .bf16⟩
  | .local _ .vmem, ⟨22, _⟩ => ⟨S1024x1024, .bf16⟩
  | .local _ .vmem, ⟨23, _⟩ => ⟨S1024x256, .bf16⟩
  | .local _ .vmem, ⟨24, _⟩ => ⟨S1024x256, .bf16⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | .local _ .vmem, ⟨34, _⟩ => ⟨S1024x256, .f32⟩
  | .local _ .vmem, ⟨35, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53_0 : Ref sig .tc := ⟨.hbm, 67, rfl⟩
abbrev main_v53_1 : Ref sig .tc := ⟨.hbm, 68, rfl⟩
abbrev main_v53_2 : Ref sig .tc := ⟨.hbm, 69, rfl⟩
abbrev main_v53_3 : Ref sig .tc := ⟨.hbm, 70, rfl⟩
abbrev main_v53_4 : Ref sig .tc := ⟨.hbm, 71, rfl⟩
abbrev main_v53_5 : Ref sig .tc := ⟨.hbm, 72, rfl⟩
abbrev main_v53_6 : Ref sig .tc := ⟨.hbm, 73, rfl⟩
abbrev main_v53_7 : Ref sig .tc := ⟨.hbm, 74, rfl⟩
abbrev main_v53_8 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference5Ideal.lean ====
abbrev S8192x1024 : Shape := ⟨2, ![8192, 1024]⟩
abbrev S8192x256 : Shape := ⟨2, ![8192, 256]⟩
abbrev S8192x4 : Shape := ⟨2, ![8192, 4]⟩
abbrev S1024x1024 : Shape := ⟨2, ![1024, 1024]⟩
abbrev S1x1024 : Shape := ⟨2, ![1, 1024]⟩
abbrev S_ : Shape := ⟨0, ![]⟩
abbrev S1x8192x4 : Shape := ⟨3, ![1, 8192, 4]⟩
abbrev S3x8192x4 : Shape := ⟨3, ![3, 8192, 4]⟩
abbrev S8192x4x64 : Shape := ⟨3, ![8192, 4, 64]⟩
abbrev S8192x4x1 : Shape := ⟨3, ![8192, 4, 1]⟩
abbrev S8192x12x64 : Shape := ⟨3, ![8192, 12, 64]⟩
abbrev S8192x768 : Shape := ⟨2, ![8192, 768]⟩
abbrev S8192 : Shape := ⟨1, ![8192]⟩
abbrev S8192x1 : Shape := ⟨2, ![8192, 1]⟩
abbrev S1024 : Shape := ⟨1, ![1024]⟩

abbrev nBuf : Space → Nat
  | .hbm => 207
  | .vmem => 0
  | .smem => 0
  | _ => 0

abbrev hbmTy0_0 (i : Nat) : BufTy := match i % 128 with
  | 0 => ⟨S8192x1024, .f32⟩
  | 1 => ⟨S8192x256, .f32⟩
  | 2 => ⟨S8192x256, .f32⟩
  | 3 => ⟨S8192x256, .f32⟩
  | 4 => ⟨S8192x256, .f32⟩
  | 5 => ⟨S8192x4, .f32⟩
  | 6 => ⟨S8192x4, .f32⟩
  | 7 => ⟨S8192x4, .f32⟩
  | 8 => ⟨S1024x1024, .f32⟩
  | 9 => ⟨S1x1024, .f32⟩
  | 10 => ⟨S_, .f32⟩
  | 11 => ⟨S8192x1024, .f32⟩
  | 12 => ⟨S1x8192x4, .f32⟩
  | 13 => ⟨S1x8192x4, .f32⟩
  | 14 => ⟨S1x8192x4, .f32⟩
  | 15 => ⟨S3x8192x4, .f32⟩
  | 16 => ⟨S_, .f32⟩
  | 17 => ⟨S8192x4, .f32⟩
  | 18 => ⟨S1x8192x4, .f32⟩
  | 19 => ⟨S3x8192x4, .f32⟩
  | 20 => ⟨S3x8192x4, .i1⟩
  | 21 => ⟨S3x8192x4, .f32⟩
  | 22 => ⟨S_, .f32⟩
  | 23 => ⟨S8192x4, .f32⟩
  | 24 => ⟨S_, .f32⟩
  | 25 => ⟨S8192x4, .f32⟩
  | 26 => ⟨S8192x4, .f32⟩
  | 27 => ⟨S_, .f32⟩
  | 28 => ⟨S8192x4, .f32⟩
  | 29 => ⟨S8192x4, .i1⟩
  | 30 => ⟨S_, .f32⟩
  | 31 => ⟨S8192x4, .f32⟩
  | 32 => ⟨S8192x4, .i1⟩
  | 33 => ⟨S_, .f32⟩
  | 34 => ⟨S8192x4, .f32⟩
  | 35 => ⟨S_, .f32⟩
  | 36 => ⟨S8192x4, .f32⟩
  | 37 => ⟨S_, .f32⟩
  | 38 => ⟨S8192x4, .f32⟩
  | 39 => ⟨S8192x4, .f32⟩
  | 40 => ⟨S8192x4, .f32⟩
  | 41 => ⟨S1x8192x4, .f32⟩
  | 42 => ⟨S3x8192x4, .f32⟩
  | 43 => ⟨S3x8192x4, .f32⟩
  | 44 => ⟨S3x8192x4, .f32⟩
  | 45 => ⟨S_, .f32⟩
  | 46 => ⟨S8192x4, .f32⟩
  | 47 => ⟨S1x8192x4, .f32⟩
  | 48 => ⟨S3x8192x4, .f32⟩
  | 49 => ⟨S3x8192x4, .f32⟩
  | 50 => ⟨S1x8192x4, .f32⟩
  | 51 => ⟨S_, .f32⟩
  | 52 => ⟨S1x8192x4, .f32⟩
  | 53 => ⟨S1x8192x4, .f32⟩
  | 54 => ⟨S8192x4x64, .f32⟩
  | 55 => ⟨S1x8192x4, .f32⟩
  | 56 => ⟨S8192x4, .f32⟩
  | 57 => ⟨S8192x4x1, .f32⟩
  | 58 => ⟨S8192x4x64, .f32⟩
  | 59 => ⟨S8192x4x64, .f32⟩
  | 60 => ⟨S8192x4x64, .f32⟩
  | 61 => ⟨S1x8192x4, .f32⟩
  | 62 => ⟨S8192x4, .f32⟩
  | 63 => ⟨S8192x4x1, .f32⟩
  | 64 => ⟨S8192x4x64, .f32⟩
  | 65 => ⟨S8192x4x64, .f32⟩
  | 66 => ⟨S8192x4x64, .f32⟩
  | 67 => ⟨S1x8192x4, .f32⟩
  | 68 => ⟨S8192x4, .f32⟩
  | 69 => ⟨S8192x4x1, .f32⟩
  | 70 => ⟨S8192x4x64, .f32⟩
  | 71 => ⟨S8192x4x64, .f32⟩
  | 72 => ⟨S8192x12x64, .f32⟩
  | 73 => ⟨S8192x768, .f32⟩
  | 74 => ⟨S8192x1024, .f32⟩
  | 75 => ⟨S8192x1024, .f32⟩
  | 76 => ⟨S8192x1024, .f32⟩
  | 77 => ⟨S8192x1024, .f32⟩
  | 78 => ⟨S_, .f32⟩
  | 79 => ⟨S8192, .f32⟩
  | 80 => ⟨S8192x1, .f32⟩
  | 81 => ⟨S_, .f32⟩
  | 82 => ⟨S8192x1, .f32⟩
  | 83 => ⟨S8192x1, .f32⟩
  | 84 => ⟨S_, .f32⟩
  | 85 => ⟨S8192x1, .f32⟩
  | 86 => ⟨S8192x1, .f32⟩
  | 87 => ⟨S8192x1, .f32⟩
  | 88 => ⟨S8192x1, .f32⟩
  | 89 => ⟨S_, .f32⟩
  | 90 => ⟨S8192x1, .f32⟩
  | 91 => ⟨S8192x1, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S8192x1024, .f32⟩
  | 120 => ⟨S8192x256, .f32⟩
  | 121 => ⟨S8192x768, .f32⟩
  | 122 => ⟨S8192x12x64, .f32⟩
  | 123 => ⟨S8192x4x64, .f32⟩
  | 124 => ⟨S8192x4x64, .f32⟩
  | 125 => ⟨S8192x4x64, .f32⟩
  | 126 => ⟨S8192x4x64, .f32⟩
  | 127 => ⟨S_, .f32⟩
  | _ => ⟨S8192x1024, .f32⟩

abbrev hbmTy0_1 (i : Nat) : BufTy := match i % 128 with
  | 0 => ⟨S8192x4, .f32⟩
  | 1 => ⟨S8192x4x1, .f32⟩
  | 2 => ⟨S8192x4x64, .f32⟩
  | 3 => ⟨S8192x4x64, .f32⟩
  | 4 => ⟨S_, .f32⟩
  | 5 => ⟨S8192x4, .f32⟩
  | 6 => ⟨S1x8192x4, .f32⟩
  | 7 => ⟨S_, .f32⟩
  | 8 => ⟨S3x8192x4, .f32⟩
  | 9 => ⟨S8192x256, .f32⟩
  | 10 => ⟨S8192x4x64, .f32⟩
  | 11 => ⟨S_, .f32⟩
  | 12 => ⟨S8192x4, .f32⟩
  | 13 => ⟨S8192x4x1, .f32⟩
  | 14 => ⟨S8192x4x64, .f32⟩
  | 15 => ⟨S8192x4x64, .f32⟩
  | 16 => ⟨S_, .f32⟩
  | 17 => ⟨S8192x4, .f32⟩
  | 18 => ⟨S1x8192x4, .f32⟩
  | 19 => ⟨S_, .f32⟩
  | 20 => ⟨S3x8192x4, .f32⟩
  | 21 => ⟨S3x8192x4, .f32⟩
  | 22 => ⟨S8192x256, .f32⟩
  | 23 => ⟨S8192x4x64, .f32⟩
  | 24 => ⟨S_, .f32⟩
  | 25 => ⟨S8192x4, .f32⟩
  | 26 => ⟨S8192x4x1, .f32⟩
  | 27 => ⟨S8192x4x64, .f32⟩
  | 28 => ⟨S8192x4x64, .f32⟩
  | 29 => ⟨S_, .f32⟩
  | 30 => ⟨S8192x4, .f32⟩
  | 31 => ⟨S1x8192x4, .f32⟩
  | 32 => ⟨S_, .f32⟩
  | 33 => ⟨S3x8192x4, .f32⟩
  | 34 => ⟨S3x8192x4, .f32⟩
  | 35 => ⟨S8192x256, .f32⟩
  | 36 => ⟨S3x8192x4, .f32⟩
  | 37 => ⟨S3x8192x4, .f32⟩
  | 38 => ⟨S3x8192x4, .f32⟩
  | 39 => ⟨S_, .f32⟩
  | 40 => ⟨S8192x4, .f32⟩
  | 41 => ⟨S1x8192x4, .f32⟩
  | 42 => ⟨S1x8192x4, .f32⟩
  | 43 => ⟨S3x8192x4, .f32⟩
  | 44 => ⟨S3x8192x4, .f32⟩
  | 45 => ⟨S_, .f32⟩
  | 46 => ⟨S8192x4, .f32⟩
  | 47 => ⟨S3x8192x4, .f32⟩
  | 48 => ⟨S3x8192x4, .f32⟩
  | 49 => ⟨S3x8192x4, .f32⟩
  | 50 => ⟨S1x8192x4, .f32⟩
  | 51 => ⟨S8192x4, .f32⟩
  | 52 => ⟨S1x8192x4, .f32⟩
  | 53 => ⟨S8192x4, .f32⟩
  | 54 => ⟨S1x8192x4, .f32⟩
  | 55 => ⟨S8192x4, .f32⟩
  | 56 => ⟨S8192x256, .f32⟩
  | 57 => ⟨S8192x4x64, .f32⟩
  | 58 => ⟨S_, .f32⟩
  | 59 => ⟨S8192x4, .f32⟩
  | 60 => ⟨S8192x4, .f32⟩
  | 61 => ⟨S8192x4x64, .f32⟩
  | 62 => ⟨S8192x256, .f32⟩
  | 63 => ⟨S8192x256, .f32⟩
  | 64 => ⟨S8192x4x64, .f32⟩
  | 65 => ⟨S_, .f32⟩
  | 66 => ⟨S8192x4, .f32⟩
  | 67 => ⟨S8192x4, .f32⟩
  | 68 => ⟨S8192x4x64, .f32⟩
  | 69 => ⟨S8192x256, .f32⟩
  | 70 => ⟨S8192x256, .f32⟩
  | 71 => ⟨S8192x4x64, .f32⟩
  | 72 => ⟨S_, .f32⟩
  | 73 => ⟨S8192x4, .f32⟩
  | 74 => ⟨S8192x4, .f32⟩
  | 75 => ⟨S8192x4x64, .f32⟩
  | 76 => ⟨S8192x256, .f32⟩
  | 77 => ⟨S8192x1024, .bf16⟩
  | 78 => ⟨S8192x256, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_cst_6 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_8 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_15 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_16 : Ref sig .tc := ⟨.hbm, 109, rfl⟩
abbrev main_v82 : Ref sig .tc := ⟨.hbm, 110, rfl⟩
abbrev main_v83 : Ref sig .tc := ⟨.hbm, 111, rfl⟩
abbrev main_cst_17 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_18 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_19 : Ref sig .tc := ⟨.hbm, 132, rfl⟩
abbrev main_v102 : Ref sig .tc := ⟨.hbm, 133, rfl⟩
abbrev main_v103 : Ref sig .tc := ⟨.hbm, 134, rfl⟩
abbrev main_cst_20 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_cst_21 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_22 : Ref sig .tc := ⟨.hbm, 144, rfl⟩
abbrev main_v111 : Ref sig .tc := ⟨.hbm, 145, rfl⟩
abbrev main_v112 : Ref sig .tc := ⟨.hbm, 146, rfl⟩
abbrev main_cst_23 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_24 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_cst_25 : Ref sig .tc := ⟨.hbm, 157, rfl⟩
abbrev main_v121 : Ref sig .tc := ⟨.hbm, 158, rfl⟩
abbrev main_v122 : Ref sig .tc := ⟨.hbm, 159, rfl⟩
abbrev main_cst_26 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_cst_27 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_28 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_29 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_30 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_cst_31 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩

abbrev nD : Nat := 1
abbrev τ : Topo := Topo.v7x

variable {F : FTy → Type} [FloatOps F]
-- ==== Kernel6.lean ====
abbrev S8192x256 : Shape := ⟨2, ![8192, 256]⟩
abbrev S8192x1024 : Shape := ⟨2, ![8192, 1024]⟩
abbrev S1x1024 : Shape := ⟨2, ![1, 1024]⟩
abbrev S1024x2560 : Shape := ⟨2, ![1024, 2560]⟩
abbrev S2560x1024 : Shape := ⟨2, ![2560, 1024]⟩
abbrev S512x256 : Shape := ⟨2, ![512, 256]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1024 : Shape := ⟨1, ![1024]⟩

abbrev nBuf : Space → Nat
  | .hbm => 18
  | .vmem => 29
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8192x256, .bf16⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S1024x2560, .f32⟩
  | .hbm, ⟨14, _⟩ => ⟨S2560x1024, .f32⟩
  | .hbm, ⟨15, _⟩ => ⟨S2560x1024, .bf16⟩
  | .hbm, ⟨16, _⟩ => ⟨S8192x1024, .f32⟩
  | .hbm, ⟨17, _⟩ => ⟨S1x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S2560x1024, .bf16⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2560x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference6Ideal.lean ====
abbrev S8192x256 : Shape := ⟨2, ![8192, 256]⟩
abbrev S8192x1024 : Shape := ⟨2, ![8192, 1024]⟩
abbrev S1x1024 : Shape := ⟨2, ![1, 1024]⟩
abbrev S1024x2560 : Shape := ⟨2, ![1024, 2560]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8192x256, .bf16⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S1024x2560, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x2560, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x2560, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S8192x256 : Shape := ⟨2, ![8192, 256]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .hbm, ⟨3, _⟩ => ⟨S1024x1024, .bf16⟩
  | .local _ .vmem, ⟨0, _⟩ => ⟨S8192x256, .bf16⟩
  | .local _ .vmem, ⟨1, _⟩ => ⟨S8192x256, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .bf16⟩
  | .local _ .vmem, ⟨6, _⟩ => ⟨S256x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x1024 : Shape := ⟨2, ![8192, 1024]⟩
abbrev S1x1024 : Shape := ⟨2, ![1, 1024]⟩
abbrev S1024x2560 : Shape := ⟨2, ![1024, 2560]⟩
abbrev S2560x1024 : Shape := ⟨2, ![2560, 1024]⟩
abbrev S8192x256 : Shape := ⟨2, ![8192, 256]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 16
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S2560x1024, .f32⟩
  | .hbm, ⟨4, _⟩ => ⟨S2560x1024, .bf16⟩
  | .hbm, ⟨5, _⟩ => ⟨S8192x1024, .bf16⟩
  | .hbm, ⟨6, _⟩ => ⟨S8192x256, .f32⟩
  | .hbm, ⟨7, _⟩ => ⟨S8192x256, .bf16⟩
  | .hbm, ⟨8, _⟩ => ⟨S8192x256, .f32⟩
  | .hbm, ⟨9, _⟩ => ⟨S8192x256, .f32⟩
  | .hbm, ⟨10, _⟩ => ⟨S8192x256, .bf16⟩
  | .hbm, ⟨11, _⟩ => ⟨S8192x256, .f32⟩
  | .hbm, ⟨12, _⟩ => ⟨S8192x256, .f32⟩
  | .hbm, ⟨13, _⟩ => ⟨S8192x256, .bf16⟩
  | .hbm, ⟨14, _⟩ => ⟨S8192x256, .f32⟩
  | .hbm, ⟨15, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S1024x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .bf16⟩
  | .local _ .vmem, ⟨21, _⟩ => ⟨S1024x256, .bf16⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev main_v2_9 : Ref sig .tc := ⟨.hbm, 14, rfl⟩
abbrev main_v2_10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference8Ideal.lean ====
abbrev S8192x1024 : Shape := ⟨2, ![8192, 1024]⟩
abbrev S1x1024 : Shape := ⟨2, ![1, 1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x256 : Shape := ⟨2, ![8192, 256]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2560, .f32⟩
  | .hbm, ⟨19, _⟩ => ⟨S8192x256, .f32⟩
  | .hbm, ⟨20, _⟩ => ⟨S8192x256, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192x256, .f32⟩
  | .hbm, ⟨36, _⟩ => ⟨S8192x256, .f32⟩
  | .hbm, ⟨37, _⟩ => ⟨S8192x1024, .bf16⟩
  | .hbm, ⟨38, _⟩ => ⟨S8192x256, .f32⟩
  | .hbm, ⟨39, _⟩ => ⟨S8192x256, .bf16⟩
  | .hbm, ⟨40, _⟩ => ⟨S8192x256, .bf16⟩
  | .hbm, ⟨41, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel9.lean ====
abbrev S8192x256 : Shape := ⟨2, ![8192, 256]⟩
abbrev S8192x4 : Shape := ⟨2, ![8192, 4]⟩
abbrev S8192x1024 : Shape := ⟨2, ![8192, 1024]⟩
abbrev S1024x1024 : Shape := ⟨2, ![1024, 1024]⟩
abbrev S1x1024 : Shape := ⟨2, ![1, 1024]⟩
abbrev S8192x4x64 : Shape := ⟨3, ![8192, 4, 64]⟩
abbrev S1024x256 : Shape := ⟨2, ![1024, 256]⟩
abbrev S1024 : Shape := ⟨1, ![1024]⟩
abbrev S1024x1 : Shape := ⟨2, ![1024, 1]⟩

abbrev nBuf : Space → Nat
  | .hbm => 19
  | .vmem => 22
  | .smem => 0
  | _ => 0

abbrev bufTy : (tb : Table) → Fin (tcTables nBuf tb) → BufTy
  | .hbm, ⟨0, _⟩ => ⟨S8192x256, .bf16⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4, .f32⟩
  | .hbm, ⟨5, _⟩ => ⟨S8192x4, .f32⟩
  | .hbm, ⟨6, _⟩ => ⟨S8192x4, .f32⟩
  | .hbm, ⟨7, _⟩ => ⟨S8192x1024, .f32⟩
  | .hbm, ⟨8, _⟩ => ⟨S1024x1024, .f32⟩
  | .hbm, ⟨9, _⟩ => ⟨S1x1024, .f32⟩
  | .hbm, ⟨10, _⟩ => ⟨S8192x4x64, .f32⟩
  | .hbm, ⟨11, _⟩ => ⟨S8192x256, .f32⟩
  | .hbm, ⟨12, _⟩ => ⟨S8192x4x64, .f32⟩
  | .hbm, ⟨13, _⟩ => ⟨S8192x256, .f32⟩
  | .hbm, ⟨14, _⟩ => ⟨S8192x4x64, .f32⟩
  | .hbm, ⟨15, _⟩ => ⟨S8192x256, .f32⟩
  | .hbm, ⟨16, _⟩ => ⟨S1024x1024, .bf16⟩
  | .hbm, ⟨17, _⟩ => ⟨S8192x1024, .f32⟩
  | .hbm, ⟨18, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .bf16⟩
  | .local _ .vmem, ⟨21, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S8192x256 : Shape := ⟨2, ![8192, 256]⟩
abbrev S8192x4 : Shape := ⟨2, ![8192, 4]⟩
abbrev S8192x1024 : Shape := ⟨2, ![8192, 1024]⟩
abbrev S1024x1024 : Shape := ⟨2, ![1024, 1024]⟩
abbrev S1x1024 : Shape := ⟨2, ![1, 1024]⟩
abbrev S1x8192x4 : Shape := ⟨3, ![1, 8192, 4]⟩
abbrev S3x8192x4 : Shape := ⟨3, ![3, 8192, 4]⟩
abbrev S_ : Shape := ⟨0, ![]⟩
abbrev S8192x4x64 : Shape := ⟨3, ![8192, 4, 64]⟩
abbrev S8192x4x1 : Shape := ⟨3, ![8192, 4, 1]⟩
abbrev S8192x12x64 : Shape := ⟨3, ![8192, 12, 64]⟩
abbrev S8192x768 : Shape := ⟨2, ![8192, 768]⟩
abbrev S8192 : Shape := ⟨1, ![8192]⟩
abbrev S8192x1 : Shape := ⟨2, ![8192, 1]⟩

abbrev nBuf : Space → Nat
  | .hbm => 68
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S8192x4, .f32⟩
  | .hbm, ⟨5, _⟩ => ⟨S8192x4, .f32⟩
  | .hbm, ⟨6, _⟩ => ⟨S8192x4, .f32⟩
  | .hbm, ⟨7, _⟩ => ⟨S8192x1024, .f32⟩
  | .hbm, ⟨8, _⟩ => ⟨S1024x1024, .f32⟩
  | .hbm, ⟨9, _⟩ => ⟨S1x1024, .f32⟩
  | .hbm, ⟨10, _⟩ => ⟨S1x8192x4, .f32⟩
  | .hbm, ⟨11, _⟩ => ⟨S1x8192x4, .f32⟩
  | .hbm, ⟨12, _⟩ => ⟨S1x8192x4, .f32⟩
  | .hbm, ⟨13, _⟩ => ⟨S3x8192x4, .f32⟩
  | .hbm, ⟨14, _⟩ => ⟨S_, .f32⟩
  | .hbm, ⟨15, _⟩ => ⟨S8192x4, .f32⟩
  | .hbm, ⟨16, _⟩ => ⟨S_, .f32⟩
  | .hbm, ⟨17, _⟩ => ⟨S8192x4, .f32⟩
  | .hbm, ⟨18, _⟩ => ⟨S8192x4, .f32⟩
  | .hbm, ⟨19, _⟩ => ⟨S1x8192x4, .f32⟩
  | .hbm, ⟨20, _⟩ => ⟨S3x8192x4, .f32⟩
  | .hbm, ⟨21, _⟩ => ⟨S3x8192x4, .f32⟩
  | .hbm, ⟨22, _⟩ => ⟨S3x8192x4, .f32⟩
  | .hbm, ⟨23, _⟩ => ⟨S_, .f32⟩
  | .hbm, ⟨24, _⟩ => ⟨S8192x4, .f32⟩
  | .hbm, ⟨25, _⟩ => ⟨S1x8192x4, .f32⟩
  | .hbm, ⟨26, _⟩ => ⟨S3x8192x4, .f32⟩
  | .hbm, ⟨27, _⟩ => ⟨S3x8192x4, .f32⟩
  | .hbm, ⟨28, _⟩ => ⟨S8192x4x64, .f32⟩
  | .hbm, ⟨29, _⟩ => ⟨S1x8192x4, .f32⟩
  | .hbm, ⟨30, _⟩ => ⟨S8192x4, .f32⟩
  | .hbm, ⟨31, _⟩ => ⟨S8192x4x1, .f32⟩
  | .hbm, ⟨32, _⟩ => ⟨S8192x4x64, .f32⟩
  | .hbm, ⟨33, _⟩ => ⟨S8192x4x64, .f32⟩
  | .hbm, ⟨34, _⟩ => ⟨S8192x4x64, .f32⟩
  | .hbm, ⟨35, _⟩ => ⟨S1x8192x4, .f32⟩
  | .hbm, ⟨36, _⟩ => ⟨S8192x4, .f32⟩
  | .hbm, ⟨37, _⟩ => ⟨S8192x4x1, .f32⟩
  | .hbm, ⟨38, _⟩ => ⟨S8192x4x64, .f32⟩
  | .hbm, ⟨39, _⟩ => ⟨S8192x4x64, .f32⟩
  | .hbm, ⟨40, _⟩ => ⟨S8192x4x64, .f32⟩
  | .hbm, ⟨41, _⟩ => ⟨S1x8192x4, .f32⟩
  | .hbm, ⟨42, _⟩ => ⟨S8192x4, .f32⟩
  | .hbm, ⟨43, _⟩ => ⟨S8192x4x1, .f32⟩
  | .hbm, ⟨44, _⟩ => ⟨S8192x4x64, .f32⟩
  | .hbm, ⟨45, _⟩ => ⟨S8192x4x64, .f32⟩
  | .hbm, ⟨46, _⟩ => ⟨S8192x12x64, .f32⟩
  | .hbm, ⟨47, _⟩ => ⟨S8192x768, .f32⟩
  | .hbm, ⟨48, _⟩ => ⟨S8192x256, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_2 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel10.lean ====
abbrev S8192x256 : Shape := ⟨2, ![8192, 256]⟩
abbrev S8192x1024 : Shape := ⟨2, ![8192, 1024]⟩
abbrev S2560x1024 : Shape := ⟨2, ![2560, 1024]⟩
abbrev S2x8192x256 : Shape := ⟨3, ![2, 8192, 256]⟩
abbrev S2 : Shape := ⟨1, ![2]⟩
abbrev S1 : Shape := ⟨1, ![1]⟩
abbrev S_ : Shape := ⟨0, ![]⟩
abbrev S1x8192x256 : Shape := ⟨3, ![1, 8192, 256]⟩
abbrev S256x1024 : Shape := ⟨2, ![256, 1024]⟩

abbrev nBuf : Space → Nat
  | .hbm => 13
  | .vmem => 4
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8192x256, .bf16⟩
  | .hbm, ⟨10, _⟩ => ⟨S8192x1024, .bf16⟩
  | .hbm, ⟨11, _⟩ => ⟨S2560x1024, .f32⟩
  | .hbm, ⟨12, _⟩ => ⟨S2560x1024, .bf16⟩
  | .local _ .vmem, ⟨0, _⟩ => ⟨S8192x1024, .bf16⟩
  | .local _ .vmem, ⟨1, _⟩ => ⟨S2560x1024, .f32⟩
  | .local _ .vmem, ⟨2, _⟩ => ⟨S2560x1024, .bf16⟩
  | .local _ .vmem, ⟨3, _⟩ => ⟨S2x8192x256, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2560x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference10Ideal.lean ====
abbrev S8192x256 : Shape := ⟨2, ![8192, 256]⟩
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8192x256, .bf16⟩
  | .hbm, ⟨10, _⟩ => ⟨S8192x1024, .bf16⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x256, .f32⟩
  | .hbm, ⟨20, _⟩ => ⟨S8192x256, .f32⟩
  | .hbm, ⟨21, _⟩ => ⟨S8192x2560, .f32⟩
  | .hbm, ⟨22, _⟩ => ⟨S_, .f32⟩
  | .hbm, ⟨23, _⟩ => ⟨S1024x2560, .f32⟩
  | .hbm, ⟨24, _⟩ => ⟨S8192x1024, .f32⟩
  | .hbm, ⟨25, _⟩ => ⟨S8192x2560, .f32⟩
  | .hbm, ⟨26, _⟩ => ⟨S2560x1024, .f32⟩
  | .hbm, ⟨27, _⟩ => ⟨S1024x2560, .f32⟩
  | .hbm, ⟨28, _⟩ => ⟨S2560x1024, .f32⟩
  | .hbm, ⟨29, _⟩ => ⟨S2560x1024, .f32⟩
  | .hbm, ⟨30, _⟩ => ⟨S2560x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== Kernel11.lean ====
abbrev S2 : Shape := ⟨1, ![2]⟩
abbrev S688x1024 : Shape := ⟨2, ![688, 1024]⟩
abbrev S1x344x1024 : Shape := ⟨3, ![1, 344, 1024]⟩
abbrev S344x1024 : Shape := ⟨2, ![344, 1024]⟩
abbrev S1 : Shape := ⟨1, ![1]⟩

abbrev nBuf : Space → Nat
  | .hbm => 10
  | .vmem => 16
  | .smem => 1
  | _ => 0

abbrev bufTy : (tb : Table) → Fin (tcTables nBuf tb) → BufTy
  | .hbm, ⟨0, _⟩ => ⟨S2, .i32⟩
  | .hbm, ⟨1, _⟩ => ⟨S688x1024, .f32⟩
  | .hbm, ⟨2, _⟩ => ⟨S1x344x1024, .f32⟩
  | .hbm, ⟨3, _⟩ => ⟨S1x344x1024, .f32⟩
  | .hbm, ⟨4, _⟩ => ⟨S688x1024, .f32⟩
  | .hbm, ⟨5, _⟩ => ⟨S688x1024, .f32⟩
  | .hbm, ⟨6, _⟩ => ⟨S688x1024, .f32⟩
  | .hbm, ⟨7, _⟩ => ⟨S688x1024, .f32⟩
  | .hbm, ⟨8, _⟩ => ⟨S688x1024, .f32⟩
  | .hbm, ⟨9, _⟩ => ⟨S688x1024, .f32⟩
  | .local _ .vmem, ⟨0, _⟩ => ⟨S344x1024, .f32⟩
  | .local _ .vmem, ⟨1, _⟩ => ⟨S344x1024, .f32⟩
  | .local _ .vmem, ⟨2, _⟩ => ⟨S1x344x1024, .f32⟩
  | .local _ .vmem, ⟨3, _⟩ => ⟨S1x344x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S344x1024, .f32⟩
  | .local _ .vmem, ⟨12, _⟩ => ⟨S344x1024, .f32⟩
  | .local _ .vmem, ⟨13, _⟩ => ⟨S344x1024, .f32⟩
  | .local _ .vmem, ⟨14, _⟩ => ⟨S344x1024, .f32⟩
  | .local _ .vmem, ⟨15, _⟩ => ⟨S344x1024, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S344x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x344x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x344x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S344x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S344x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S344x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel11Ideal.lean ====
abbrev S2 : Shape := ⟨1, ![2]⟩
abbrev S688x1024 : Shape := ⟨2, ![688, 1024]⟩
abbrev S1x344x1024 : Shape := ⟨3, ![1, 344, 1024]⟩
abbrev S344x1024 : Shape := ⟨2, ![344, 1024]⟩
abbrev S1 : Shape := ⟨1, ![1]⟩

abbrev nBuf : Space → Nat
  | .hbm => 10
  | .vmem => 16
  | .smem => 1
  | _ => 0

abbrev bufTy : (tb : Table) → Fin (tcTables nBuf tb) → BufTy
  | .hbm, ⟨0, _⟩ => ⟨S2, .i32⟩
  | .hbm, ⟨1, _⟩ => ⟨S688x1024, .f32⟩
  | .hbm, ⟨2, _⟩ => ⟨S1x344x1024, .f32⟩
  | .hbm, ⟨3, _⟩ => ⟨S1x344x1024, .f32⟩
  | .hbm, ⟨4, _⟩ => ⟨S688x1024, .f32⟩
  | .hbm, ⟨5, _⟩ => ⟨S688x1024, .f32⟩
  | .hbm, ⟨6, _⟩ => ⟨S688x1024, .f32⟩
  | .hbm, ⟨7, _⟩ => ⟨S688x1024, .f32⟩
  | .hbm, ⟨8, _⟩ => ⟨S688x1024, .f32⟩
  | .hbm, ⟨9, _⟩ => ⟨S688x1024, .f32⟩
  | .local _ .vmem, ⟨0, _⟩ => ⟨S344x1024, .f32⟩
  | .local _ .vmem, ⟨1, _⟩ => ⟨S344x1024, .f32⟩
  | .local _ .vmem, ⟨2, _⟩ => ⟨S1x344x1024, .f32⟩
  | .local _ .vmem, ⟨3, _⟩ => ⟨S1x344x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S344x1024, .f32⟩
  | .local _ .vmem, ⟨12, _⟩ => ⟨S344x1024, .f32⟩
  | .local _ .vmem, ⟨13, _⟩ => ⟨S344x1024, .f32⟩
  | .local _ .vmem, ⟨14, _⟩ => ⟨S344x1024, .f32⟩
  | .local _ .vmem, ⟨15, _⟩ => ⟨S344x1024, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S344x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x344x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x344x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S344x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S344x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S344x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S2 : Shape := ⟨1, ![2]⟩
abbrev S688x1024 : Shape := ⟨2, ![688, 1024]⟩
abbrev S1x344x1024 : Shape := ⟨3, ![1, 344, 1024]⟩
abbrev S1 : Shape := ⟨1, ![1]⟩
abbrev S_ : Shape := ⟨0, ![]⟩
abbrev S344x1024 : Shape := ⟨2, ![344, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2, .i32⟩
  | .hbm, ⟨1, _⟩ => ⟨S688x1024, .f32⟩
  | .hbm, ⟨2, _⟩ => ⟨S1x344x1024, .f32⟩
  | .hbm, ⟨3, _⟩ => ⟨S1x344x1024, .f32⟩
  | .hbm, ⟨4, _⟩ => ⟨S688x1024, .f32⟩
  | .hbm, ⟨5, _⟩ => ⟨S688x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S344x1024, .f32⟩
  | .hbm, ⟨11, _⟩ => ⟨S344x1024, .f32⟩
  | .hbm, ⟨12, _⟩ => ⟨S344x1024, .f32⟩
  | .hbm, ⟨13, _⟩ => ⟨S1, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S344x1024, .f32⟩
  | .hbm, ⟨18, _⟩ => ⟨S344x1024, .f32⟩
  | .hbm, ⟨19, _⟩ => ⟨S344x1024, .f32⟩
  | .hbm, ⟨20, _⟩ => ⟨S688x1024, .f32⟩
  | .hbm, ⟨21, _⟩ => ⟨S_, .f32⟩
  | .hbm, ⟨22, _⟩ => ⟨S688x1024, .f32⟩
  | .hbm, ⟨23, _⟩ => ⟨S688x1024, .f32⟩
  | .hbm, ⟨24, _⟩ => ⟨S_, .f32⟩
  | .hbm, ⟨25, _⟩ => ⟨S688x1024, .f32⟩
  | .hbm, ⟨26, _⟩ => ⟨S688x1024, .f32⟩
  | .hbm, ⟨27, _⟩ => ⟨S688x1024, .f32⟩
  | .hbm, ⟨28, _⟩ => ⟨S_, .f32⟩
  | .hbm, ⟨29, _⟩ => ⟨S688x1024, .f32⟩
  | .hbm, ⟨30, _⟩ => ⟨S688x1024, .f32⟩
  | .hbm, ⟨31, _⟩ => ⟨S688x1024, .f32⟩
  | .hbm, ⟨32, _⟩ => ⟨S_, .f32⟩
  | .hbm, ⟨33, _⟩ => ⟨S688x1024, .f32⟩
  | .hbm, ⟨34, _⟩ => ⟨S688x1024, .f32⟩
  | .hbm, ⟨35, _⟩ => ⟨S688x1024, .f32⟩
  | .hbm, ⟨36, _⟩ => ⟨S_, .f32⟩
  | .hbm, ⟨37, _⟩ => ⟨S688x1024, .f32⟩
  | .hbm, ⟨38, _⟩ => ⟨S688x1024, .f32⟩
  | .hbm, ⟨39, _⟩ => ⟨S_, .f32⟩
  | .hbm, ⟨40, _⟩ => ⟨S688x1024, .f32⟩
  | .hbm, ⟨41, _⟩ => ⟨S688x1024, .f32⟩
  | .hbm, ⟨42, _⟩ => ⟨S688x1024, .f32⟩
  | .hbm, ⟨43, _⟩ => ⟨S_, .f32⟩
  | .hbm, ⟨44, _⟩ => ⟨S688x1024, .f32⟩
  | .hbm, ⟨45, _⟩ => ⟨S688x1024, .f32⟩
  | .hbm, ⟨46, _⟩ => ⟨S688x1024, .f32⟩
  | .hbm, ⟨47, _⟩ => ⟨S_, .f32⟩
  | .hbm, ⟨48, _⟩ => ⟨S688x1024, .f32⟩
  | .hbm, ⟨49, _⟩ => ⟨S688x1024, .f32⟩
  | .hbm, ⟨50, _⟩ => ⟨S688x1024, .f32⟩
  | .hbm, ⟨51, _⟩ => ⟨S_, .f32⟩
  | .hbm, ⟨52, _⟩ => ⟨S688x1024, .f32⟩
  | .hbm, ⟨53, _⟩ => ⟨S688x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Kernel12.lean ====
abbrev S2 : Shape := ⟨1, ![2]⟩
abbrev S1024x640 : Shape := ⟨2, ![1024, 640]⟩
abbrev S1x320x1024 : Shape := ⟨3, ![1, 320, 1024]⟩
abbrev S1 : Shape := ⟨1, ![1]⟩
abbrev S320x1024 : Shape := ⟨2, ![320, 1024]⟩
abbrev S640x1024 : Shape := ⟨2, ![640, 1024]⟩

abbrev nBuf : Space → Nat
  | .hbm => 10
  | .vmem => 9
  | .smem => 1
  | _ => 0

abbrev bufTy : (tb : Table) → Fin (tcTables nBuf tb) → BufTy
  | .hbm, ⟨0, _⟩ => ⟨S2, .i32⟩
  | .hbm, ⟨1, _⟩ => ⟨S1024x640, .f32⟩
  | .hbm, ⟨2, _⟩ => ⟨S1x320x1024, .f32⟩
  | .hbm, ⟨3, _⟩ => ⟨S1x320x1024, .f32⟩
  | .hbm, ⟨4, _⟩ => ⟨S1024x640, .f32⟩
  | .hbm, ⟨5, _⟩ => ⟨S1024x640, .f32⟩
  | .hbm, ⟨6, _⟩ => ⟨S1024x640, .f32⟩
  | .hbm, ⟨7, _⟩ => ⟨S1024x640, .f32⟩
  | .hbm, ⟨8, _⟩ => ⟨S1024x640, .f32⟩
  | .hbm, ⟨9, _⟩ => ⟨S1024x640, .f32⟩
  | .local _ .vmem, ⟨0, _⟩ => ⟨S1024x640, .f32⟩
  | .local _ .vmem, ⟨1, _⟩ => ⟨S1x320x1024, .f32⟩
  | .local _ .vmem, ⟨2, _⟩ => ⟨S1x320x1024, .f32⟩
  | .local _ .vmem, ⟨3, _⟩ => ⟨S1024x640, .f32⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | .local _ .vmem, ⟨7, _⟩ => ⟨S1024x640, .f32⟩
  | .local _ .vmem, ⟨8, _⟩ => ⟨S1024x640, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference12Ideal.lean ====
abbrev S2 : Shape := ⟨1, ![2]⟩
abbrev S1024x640 : Shape := ⟨2, ![1024, 640]⟩
abbrev S1x320x1024 : Shape := ⟨3, ![1, 320, 1024]⟩
abbrev S1 : Shape := ⟨1, ![1]⟩
abbrev S_ : Shape := ⟨0, ![]⟩
abbrev S320x1024 : Shape := ⟨2, ![320, 1024]⟩
abbrev S640x1024 : Shape := ⟨2, ![640, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2, .i32⟩
  | .hbm, ⟨1, _⟩ => ⟨S1024x640, .f32⟩
  | .hbm, ⟨2, _⟩ => ⟨S1x320x1024, .f32⟩
  | .hbm, ⟨3, _⟩ => ⟨S1x320x1024, .f32⟩
  | .hbm, ⟨4, _⟩ => ⟨S1024x640, .f32⟩
  | .hbm, ⟨5, _⟩ => ⟨S1024x640, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S320x1024, .f32⟩
  | .hbm, ⟨11, _⟩ => ⟨S320x1024, .f32⟩
  | .hbm, ⟨12, _⟩ => ⟨S640x1024, .f32⟩
  | .hbm, ⟨13, _⟩ => ⟨S320x1024, .f32⟩
  | .hbm, ⟨14, _⟩ => ⟨S320x1024, .f32⟩
  | .hbm, ⟨15, _⟩ => ⟨S640x1024, .f32⟩
  | .hbm, ⟨16, _⟩ => ⟨S640x1024, .f32⟩
  | .hbm, ⟨17, _⟩ => ⟨S1024x640, .f32⟩
  | .hbm, ⟨18, _⟩ => ⟨S_, .f32⟩
  | .hbm, ⟨19, _⟩ => ⟨S1024x640, .f32⟩
  | .hbm, ⟨20, _⟩ => ⟨S1024x640, .f32⟩
  | .hbm, ⟨21, _⟩ => ⟨S_, .f32⟩
  | .hbm, ⟨22, _⟩ => ⟨S1024x640, .f32⟩
  | .hbm, ⟨23, _⟩ => ⟨S1024x640, .f32⟩
  | .hbm, ⟨24, _⟩ => ⟨S1024x640, .f32⟩
  | .hbm, ⟨25, _⟩ => ⟨S_, .f32⟩
  | .hbm, ⟨26, _⟩ => ⟨S1024x640, .f32⟩
  | .hbm, ⟨27, _⟩ => ⟨S1024x640, .f32⟩
  | .hbm, ⟨28, _⟩ => ⟨S1024x640, .f32⟩
  | .hbm, ⟨29, _⟩ => ⟨S_, .f32⟩
  | .hbm, ⟨30, _⟩ => ⟨S1024x640, .f32⟩
  | .hbm, ⟨31, _⟩ => ⟨S1024x640, .f32⟩
  | .hbm, ⟨32, _⟩ => ⟨S1024x640, .f32⟩
  | .hbm, ⟨33, _⟩ => ⟨S_, .f32⟩
  | .hbm, ⟨34, _⟩ => ⟨S1024x640, .f32⟩
  | .hbm, ⟨35, _⟩ => ⟨S1024x640, .f32⟩
  | .hbm, ⟨36, _⟩ => ⟨S_, .f32⟩
  | .hbm, ⟨37, _⟩ => ⟨S1024x640, .f32⟩
  | .hbm, ⟨38, _⟩ => ⟨S1024x640, .f32⟩
  | .hbm, ⟨39, _⟩ => ⟨S1024x640, .f32⟩
  | .hbm, ⟨40, _⟩ => ⟨S_, .f32⟩
  | .hbm, ⟨41, _⟩ => ⟨S1024x640, .f32⟩
  | .hbm, ⟨42, _⟩ => ⟨S1024x640, .f32⟩
  | .hbm, ⟨43, _⟩ => ⟨S1024x640, .f32⟩
  | .hbm, ⟨44, _⟩ => ⟨S_, .f32⟩
  | .hbm, ⟨45, _⟩ => ⟨S1024x640, .f32⟩
  | .hbm, ⟨46, _⟩ => ⟨S1024x640, .f32⟩
  | .hbm, ⟨47, _⟩ => ⟨S1024x640, .f32⟩
  | .hbm, ⟨48, _⟩ => ⟨S_, .f32⟩
  | .hbm, ⟨49, _⟩ => ⟨S1024x640, .f32⟩
  | .hbm, ⟨50, _⟩ => ⟨S1024x640, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel13.lean ====
abbrev S8x184x128 : Shape := ⟨3, ![8, 184, 128]⟩
abbrev S184x128 : Shape := ⟨2, ![184, 128]⟩
abbrev S1x184x128 : Shape := ⟨3, ![1, 184, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x184x128, .f32⟩
  | .hbm, ⟨1, _⟩ => ⟨S184x128, .f32⟩
  | .hbm, ⟨2, _⟩ => ⟨S184x128, .f32⟩
  | .hbm, ⟨3, _⟩ => ⟨S184x128, .f32⟩
  | .hbm, ⟨4, _⟩ => ⟨S184x128, .f32⟩
  | .hbm, ⟨5, _⟩ => ⟨S184x128, .f32⟩
  | .hbm, ⟨6, _⟩ => ⟨S184x128, .f32⟩
  | .hbm, ⟨7, _⟩ => ⟨S184x128, .f32⟩
  | .local _ .vmem, ⟨0, _⟩ => ⟨S8x184x128, .f32⟩
  | .local _ .vmem, ⟨1, _⟩ => ⟨S184x128, .f32⟩
  | .local _ .vmem, ⟨2, _⟩ => ⟨S184x128, .f32⟩
  | .local _ .vmem, ⟨3, _⟩ => ⟨S184x128, .f32⟩
  | .local _ .vmem, ⟨4, _⟩ => ⟨S184x128, .f32⟩
  | .local _ .vmem, ⟨5, _⟩ => ⟨S184x128, .f32⟩
  | .local _ .vmem, ⟨6, _⟩ => ⟨S184x128, .f32⟩
  | .local _ .vmem, ⟨7, _⟩ => ⟨S184x128, .f32⟩
  | _, _ => ⟨S8x184x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x184x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S184x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S184x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S184x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S184x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S184x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S184x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S184x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference13Ideal.lean ====
abbrev S8x184x128 : Shape := ⟨3, ![8, 184, 128]⟩
abbrev S184x128 : Shape := ⟨2, ![184, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x184x128, .f32⟩
  | .hbm, ⟨1, _⟩ => ⟨S184x128, .f32⟩
  | .hbm, ⟨2, _⟩ => ⟨S184x128, .f32⟩
  | .hbm, ⟨3, _⟩ => ⟨S184x128, .f32⟩
  | .hbm, ⟨4, _⟩ => ⟨S_, .f32⟩
  | .hbm, ⟨5, _⟩ => ⟨S184x128, .f32⟩
  | .hbm, ⟨6, _⟩ => ⟨S_, .f32⟩
  | .hbm, ⟨7, _⟩ => ⟨S184x128, .f32⟩
  | .hbm, ⟨8, _⟩ => ⟨S184x128, .f32⟩
  | .hbm, ⟨9, _⟩ => ⟨S_, .f32⟩
  | .hbm, ⟨10, _⟩ => ⟨S184x128, .f32⟩
  | .hbm, ⟨11, _⟩ => ⟨S184x128, .f32⟩
  | .hbm, ⟨12, _⟩ => ⟨S184x128, .f32⟩
  | .hbm, ⟨13, _⟩ => ⟨S_, .f32⟩
  | .hbm, ⟨14, _⟩ => ⟨S184x128, .f32⟩
  | .hbm, ⟨15, _⟩ => ⟨S184x128, .f32⟩
  | .hbm, ⟨16, _⟩ => ⟨S184x128, .f32⟩
  | .hbm, ⟨17, _⟩ => ⟨S_, .f32⟩
  | .hbm, ⟨18, _⟩ => ⟨S184x128, .f32⟩
  | .hbm, ⟨19, _⟩ => ⟨S184x128, .f32⟩
  | .hbm, ⟨20, _⟩ => ⟨S184x128, .f32⟩
  | .hbm, ⟨21, _⟩ => ⟨S_, .f32⟩
  | .hbm, ⟨22, _⟩ => ⟨S184x128, .f32⟩
  | .hbm, ⟨23, _⟩ => ⟨S184x128, .f32⟩
  | .hbm, ⟨24, _⟩ => ⟨S_, .f32⟩
  | .hbm, ⟨25, _⟩ => ⟨S184x128, .f32⟩
  | .hbm, ⟨26, _⟩ => ⟨S184x128, .f32⟩
  | .hbm, ⟨27, _⟩ => ⟨S184x128, .f32⟩
  | .hbm, ⟨28, _⟩ => ⟨S_, .f32⟩
  | .hbm, ⟨29, _⟩ => ⟨S184x128, .f32⟩
  | .hbm, ⟨30, _⟩ => ⟨S184x128, .f32⟩
  | .hbm, ⟨31, _⟩ => ⟨S184x128, .f32⟩
  | .hbm, ⟨32, _⟩ => ⟨S_, .f32⟩
  | .hbm, ⟨33, _⟩ => ⟨S184x128, .f32⟩
  | .hbm, ⟨34, _⟩ => ⟨S184x128, .f32⟩
  | .hbm, ⟨35, _⟩ => ⟨S184x128, .f32⟩
  | .hbm, ⟨36, _⟩ => ⟨S_, .f32⟩
  | .hbm, ⟨37, _⟩ => ⟨S184x128, .f32⟩
  | .hbm, ⟨38, _⟩ => ⟨S184x128, .f32⟩
  | _, _ => ⟨S8x184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel14.lean ====
abbrev S2 : Shape := ⟨1, ![2]⟩
abbrev S256x1024 : Shape := ⟨2, ![256, 1024]⟩
abbrev S1x128x1024 : Shape := ⟨3, ![1, 128, 1024]⟩
abbrev S128x1024 : Shape := ⟨2, ![128, 1024]⟩
abbrev S1 : Shape := ⟨1, ![1]⟩

abbrev nBuf : Space → Nat
  | .hbm => 10
  | .vmem => 16
  | .smem => 1
  | _ => 0

abbrev bufTy : (tb : Table) → Fin (tcTables nBuf tb) → BufTy
  | .hbm, ⟨0, _⟩ => ⟨S2, .i32⟩
  | .hbm, ⟨1, _⟩ => ⟨S256x1024, .f32⟩
  | .hbm, ⟨2, _⟩ => ⟨S1x128x1024, .f32⟩
  | .hbm, ⟨3, _⟩ => ⟨S1x128x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .hbm, ⟨9, _⟩ => ⟨S256x1024, .f32⟩
  | .local _ .vmem, ⟨0, _⟩ => ⟨S128x1024, .f32⟩
  | .local _ .vmem, ⟨1, _⟩ => ⟨S128x1024, .f32⟩
  | .local _ .vmem, ⟨2, _⟩ => ⟨S1x128x1024, .f32⟩
  | .local _ .vmem, ⟨3, _⟩ => ⟨S1x128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .smem, ⟨0, _⟩ => ⟨S2, .i32⟩
  | _, _ => ⟨S2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference14Ideal.lean ====
abbrev S2 : Shape := ⟨1, ![2]⟩
abbrev S256x1024 : Shape := ⟨2, ![256, 1024]⟩
abbrev S1x128x1024 : Shape := ⟨3, ![1, 128, 1024]⟩
abbrev S1 : Shape := ⟨1, ![1]⟩
abbrev S_ : Shape := ⟨0, ![]⟩
abbrev S128x1024 : Shape := ⟨2, ![128, 1024]⟩

abbrev nBuf : Space → Nat
  | .hbm => 54
  | .vmem => 0
  | .smem => 0
  | _ => 0

abbrev bufTy : (tb : Table) → Fin (tcTables nBuf tb) → BufTy
  | .hbm, ⟨0, _⟩ => ⟨S2, .i32⟩
  | .hbm, ⟨1, _⟩ => ⟨S256x1024, .f32⟩
  | .hbm, ⟨2, _⟩ => ⟨S1x128x1024, .f32⟩
  | .hbm, ⟨3, _⟩ => ⟨S1x128x1024, .f32⟩
  | .hbm, ⟨4, _⟩ => ⟨S256x1024, .f32⟩
  | .hbm, ⟨5, _⟩ => ⟨S256x1024, .f32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S1, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S_, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S256x1024, .f32⟩
  | .hbm, ⟨51, _⟩ => ⟨S_, .f32⟩
  | .hbm, ⟨52, _⟩ => ⟨S256x1024, .f32⟩
  | .hbm, ⟨53, _⟩ => ⟨S256x1024, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Proof.PartsRun.lean ====
/- The input projection's weight gradient: the run of its kernel's body, with the ten copies of its own. -/
module

public import proofs.«01_k».proof.Proof.Gen.Kernel10Ideal.Skeleton
public import proofs.«01_k».proof.Proof.Gen.Kernel10Ideal.Launch
public import proofs.«01_k».proof.Proof.Gen.Kernel10Ideal.Points
public import Idealize.ShloMosaic.Lib.Pipeline.FrameBody
public import Idealize.ShloMosaic.Lib.Pipeline.ValueKit
public import Idealize.ShloMosaic.Lib.Ring
public import Idealize.ShloMosaic.Lib.VecWindow
public import Idealize.ShloMosaic.Lib.Tactic

@[expose] public section

set_option maxRecDepth 16384

noncomputable section

namespace Cert.Parts

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A part in the large memory, whole, at the contents `f`. -/
abbrev pt (c : Dev nD) (b : Ref sig .tc) (f : Buf (Elt F) ((c : Thread nD τ).loc b)) : sProp 𝕄 :=
  (Memref.whole b).view.loc (c : Thread nD τ) ↦{fullShare} f

/-- The two slots of the body's own buffer. -/
abbrev slot0 (m : Memref sig .tc .vmem S2x8192x256 .bf16) : Memref sig .tc .vmem S8192x256 .bf16 :=
  (m.slice (Rect.unit (s := S2x8192x256) ![0, 0, 0] S1x8192x256.size inb_S2x8192x256_S1x8192x256_0_0_0) (fun _ => rfl)).squeeze S8192x256 squeezes_S1x8192x256_S8192x256
abbrev slot1 (m : Memref sig .tc .vmem S2x8192x256 .bf16) : Memref sig .tc .vmem S8192x256 .bf16 :=
  (m.slice (Rect.unit (s := S2x8192x256) ![1, 0, 0] S1x8192x256.size inb_S2x8192x256_S1x8192x256_1_0_0) (fun _ => rfl)).squeeze S8192x256 squeezes_S1x8192x256_S8192x256

section Slots

variable (m : Memref sig .tc .vmem S2x8192x256 .bf16) (f : m.view.ty.Contents (Elt F)) (d : S8192x256.Idx → Elt F .bf16)

theorem hit0 : shapeCast S8192x256 (m.view.readAt (Elt F) (Rect.unit (s := S2x8192x256) ![0, 0, 0] S1x8192x256.size inb_S2x8192x256_S1x8192x256_0_0_0).toLoadRect
    ((slot0 m).view.write (Elt F) f d Finset.univ)) shapeCasts_S1x8192x256_S8192x256 = d :=
  (Memref.read_squeeze_slice m _ _ _ _ _).symm.trans (View.read_write_univ (v := (slot0 m).view) f d)

theorem hit1 : shapeCast S8192x256 (m.view.readAt (Elt F) (Rect.unit (s := S2x8192x256) ![1, 0, 0] S1x8192x256.size inb_S2x8192x256_S1x8192x256_1_0_0).toLoadRect
    ((slot1 m).view.write (Elt F) f d Finset.univ)) shapeCasts_S1x8192x256_S8192x256 = d :=
  (Memref.read_squeeze_slice m _ _ _ _ _).symm.trans (View.read_write_univ (v := (slot1 m).view) f d)

theorem apart : Disjoint (Rect.unit (s := S2x8192x256) ![0, 0, 0] S1x8192x256.size inb_S2x8192x256_S1x8192x256_0_0_0).set
    (Rect.unit (s := S2x8192x256) ![1, 0, 0] S1x8192x256.size inb_S2x8192x256_S1x8192x256_1_0_0).set :=
  LoadRect.disjoint_of_separated _ _ 0 (Or.inl (Or.inr (by decide)))

theorem skip0 : m.view.readAt (Elt F) (Rect.unit (s := S2x8192x256) ![0, 0, 0] S1x8192x256.size inb_S2x8192x256_S1x8192x256_0_0_0).toLoadRect
      ((slot1 m).view.write (Elt F) f d Finset.univ)
    = m.view.readAt (Elt F) (Rect.unit (s := S2x8192x256) ![0, 0, 0] S1x8192x256.size inb_S2x8192x256_S1x8192x256_0_0_0).toLoadRect f :=
  View.readAt_congr fun i hi => write_eq_on_disjoint (v := (slot1 m).view) (I := m.view.setOn _)
    (by have e : (slot1 m).view.set = m.view.setOn _ := (Memref.set_view_squeeze _ _).trans (View.set_slice _ _)
        exact Disjoint.mono le_rfl (le_of_eq e) (View.disjoint_setOn m.view apart)) f d i hi

theorem skip1 : m.view.readAt (Elt F) (Rect.unit (s := S2x8192x256) ![1, 0, 0] S1x8192x256.size inb_S2x8192x256_S1x8192x256_1_0_0).toLoadRect
      ((slot0 m).view.write (Elt F) f d Finset.univ)
    = m.view.readAt (Elt F) (Rect.unit (s := S2x8192x256) ![1, 0, 0] S1x8192x256.size inb_S2x8192x256_S1x8192x256_1_0_0).toLoadRect f :=
  View.readAt_congr fun i hi => write_eq_on_disjoint (v := (slot0 m).view) (I := m.view.setOn _)
    (by have e : (slot0 m).view.set = m.view.setOn _ := (Memref.set_view_squeeze _ _).trans (View.set_slice _ _)
        exact Disjoint.mono le_rfl (le_of_eq e) (View.disjoint_setOn m.view apart).symm) f d i hi

end Slots

/-- The ten blocks of the result, one under the other: rows `256 k …` the transposed part `k` times the operand. -/
def stack32 (f : Fin 10 → S8192x256.Idx → Elt F .bf16) (X : S8192x1024.Idx → Elt F .bf16) : S2560x1024.Idx → Elt F .f32 := fun y =>
  k0_pay1 (f ⟨(y 0).val / 256, by have h : (y 0).val < 2560 := (y 0).isLt; omega⟩) X
    (fun a => match a with | ⟨0, _⟩ => ⟨(y 0).val % 256, Nat.mod_lt _ (by decide)⟩ | ⟨1, _⟩ => ⟨(y 1).val, (y 1).isLt⟩)

/-- The same rounded. -/
def stack16 (f : Fin 10 → S8192x256.Idx → Elt F .bf16) (X : S8192x1024.Idx → Elt F .bf16) : S2560x1024.Idx → Elt F .bf16 := fun y =>
  k0_pay2 (f ⟨(y 0).val / 256, by have h : (y 0).val < 2560 := (y 0).isLt; omega⟩) X
    (fun a => match a with | ⟨0, _⟩ => ⟨(y 0).val % 256, Nat.mod_lt _ (by decide)⟩ | ⟨1, _⟩ => ⟨(y 1).val, (y 1).isLt⟩)

section Pieces

variable (f : Fin 10 → S8192x256.Idx → Elt F .bf16) (X : S8192x1024.Idx → Elt F .bf16) (k : Fin 10) (o : ℕ) (ho : o = 256 * k.val)
  (inb : ∀ a, (![o, 0] : Fin 2 → ℕ) a + S256x1024.size a ≤ S2560x1024.size a) (x : S256x1024.Idx)

include ho in
theorem piece_row : (((Rect.unit (s := S2560x1024) ![o, 0] S256x1024.size inb).emb x) 0).val = 256 * k.val + (x 0).val := by
  show o + 1 * (x 0).val = _
  omega

include ho in
theorem piece32 : k0_pay1 (f k) X x = stack32 f X ((Rect.unit (s := S2560x1024) ![o, 0] S256x1024.size inb).emb x) := by
  have h := piece_row k o ho inb x
  have h0 : (x 0).val < 256 := (x 0).isLt
  unfold stack32
  congr 1
  · congr 1
    apply Fin.ext
    show k.val = _ / 256
    rw [h]; omega
  · funext a
    match a with
    | ⟨0, _⟩ =>
      apply Fin.ext
      show (x 0).val = _ % 256
      rw [h]; omega
    | ⟨1, _⟩ =>
      apply Fin.ext
      show (x 1).val = 0 + 1 * (x 1).val
      omega

include ho in
theorem piece16 : k0_pay2 (f k) X x = stack16 f X ((Rect.unit (s := S2560x1024) ![o, 0] S256x1024.size inb).emb x) := by
  have h := piece_row k o ho inb x
  have h0 : (x 0).val < 256 := (x 0).isLt
  unfold stack16
  congr 1
  · congr 1
    apply Fin.ext
    show k.val = _ / 256
    rw [h]; omega
  · funext a
    match a with
    | ⟨0, _⟩ =>
      apply Fin.ext
      show (x 0).val = _ % 256
      rw [h]; omega
    | ⟨1, _⟩ =>
      apply Fin.ext
      show (x 1).val = 0 + 1 * (x 1).val
      omega

end Pieces

theorem pay3_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay3 w Y = k0_pay1 d X := by
  subst hw; subst hY; rfl

theorem pay5_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay5 w Y = k0_pay1 d X := by
  subst hw; subst hY; rfl

theorem pay7_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay7 w Y = k0_pay1 d X := by
  subst hw; subst hY; rfl

theorem pay9_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay9 w Y = k0_pay1 d X := by
  subst hw; subst hY; rfl

theorem pay11_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay11 w Y = k0_pay1 d X := by
  subst hw; subst hY; rfl

theorem pay13_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay13 w Y = k0_pay1 d X := by
  subst hw; subst hY; rfl

theorem pay15_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay15 w Y = k0_pay1 d X := by
  subst hw; subst hY; rfl

theorem pay17_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay17 w Y = k0_pay1 d X := by
  subst hw; subst hY; rfl

theorem pay19_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay19 w Y = k0_pay1 d X := by
  subst hw; subst hY; rfl

theorem pay1_of {w : S1x8192x256.Idx → Elt F .bf16} {d : S8192x256.Idx → Elt F .bf16} {Y X : S8192x1024.Idx → Elt F .bf16}
    (hw : shapeCast S8192x256 w shapeCasts_S1x8192x256_S8192x256 = d) (hY : Y = X) : k0_pay1 (k0_pay21 w) Y = k0_pay1 d X := by
  subst hw; subst hY; rfl

/-- The parts in the large memory, each whole. -/
def parts (c : Dev nD) (f : Fin 10 → S8192x256.Idx → Elt F .bf16) : sProp 𝕄 :=
  iprop(pt c main_arg0 (f 0) ∗ pt c main_arg1 (f 1) ∗ pt c main_arg2 (f 2) ∗ pt c main_arg3 (f 3) ∗ pt c main_arg4 (f 4) ∗ pt c main_arg5 (f 5) ∗ pt c main_arg6 (f 6) ∗ pt c main_arg7 (f 7) ∗ pt c main_arg8 (f 8) ∗ pt c main_arg9 (f 9))

set_option maxHeartbeats 4000000 in set_option sl_exec.dmaWindow true in set_option sl_exec.dmaWindowSet true in
/-- The body on a whole staged operand and the parts at `f`: the results' buffers end at the stacks, the parts and the counters as they were. -/
theorem sound_body (c : Dev nD) (i : grid0.Coords) (arg11 : Memref sig .tc .vmem S8192x1024 .bf16) (harg11 : arg11.IsWhole) (arg12 : Memref sig .tc .vmem S2560x1024 .f32) (harg12 : arg12.IsWhole) (arg13 : Memref sig .tc .vmem S2560x1024 .bf16) (harg13 : arg13.IsWhole) (arg14 : Memref sig .tc .vmem S2x8192x256 .bf16) (harg14 : arg14.IsWhole)
    (X : S8192x1024.Idx → Elt F .bf16) (f : Fin 10 → S8192x256.Idx → Elt F .bf16) (W : Waits sig Unit) (K : PUnit → sProp 𝕄) :
    iprop(owns (c : Thread nD τ) arg11 fullShare X ∗ (∃ d, owns (c : Thread nD τ) arg12 fullShare d) ∗ (∃ d, owns (c : Thread nD τ) arg13 fullShare d)
          ∗ (∃ d, owns (c : Thread nD τ) arg14 fullShare d) ∗ semVal ((c : Thread nD τ), SemLoc.dma 3) 0 ∗ semVal ((c : Thread nD τ), SemLoc.dma 4) 0
          ∗ parts c f ∗ owes (c : Thread nD τ) 0 W
          ∗ (iprop(owns (c : Thread nD τ) arg11 fullShare X ∗ owns (c : Thread nD τ) arg12 fullShare (stack32 f X) ∗ owns (c : Thread nD τ) arg13 fullShare (stack16 f X)
              ∗ (∃ d, owns (c : Thread nD τ) arg14 fullShare d) ∗ semVal ((c : Thread nD τ), SemLoc.dma 3) 0 ∗ semVal ((c : Thread nD τ), SemLoc.dma 4) 0
              ∗ parts c f ∗ ∃ W', owes (c : Thread nD τ) 0 W') -∗ K ⟨⟩))
      ⊢ wp frame (wpE (defs₀ (F := F)) Variants.none c none) Set.univ (cc0_wgrad_in i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_arg8) (Memref.isWhole_whole _) (Memref.whole main_arg9) (Memref.isWhole_whole _) arg11 harg11 arg12 harg12 arg13 harg13 arg14 harg14 cc0_scratch1) K := by
  simp only [cc0_wgrad_in_eq_skeleton]; unfold cc0_wgrad_in_skel
  simp only [k0_part1_eq_skeleton, k0_part2_eq_skeleton, k0_part3_eq_skeleton, k0_part4_eq_skeleton, k0_part5_eq_skeleton, k0_part6_eq_skeleton]
  unfold owns parts
  iintro ⟨⟨%f0, %hf0, H0⟩, ⟨%d1, %f1, -, H1⟩, ⟨%d2, %f2, -, H2⟩, ⟨%ds0, %fs0, -, HS0⟩, Hq0, Hq1, ⟨Hh0, Hh1, Hh2, Hh3, Hh4, Hh5, Hh6, Hh7, Hh8, Hh9⟩, HW, Hk⟩
  obtain rfl := harg11.eq_unread hf0
  sl_exec
  sl_step
  iapply Hk
  have hX : arg11.view.readAt (Elt F) (Rect.unit (s := S8192x1024) ![0, 0] S8192x1024.size inb_S8192x1024_S8192x1024_0_0).toLoadRect (harg11.unread X) = X :=
    (View.readAt_full _ _ _).trans (harg11.read_unread _)
  isplitl [H0]
  · iexists _; isplitr; · ipureintro; exact harg11.read_unread _
    iexact H0
  isplitl [H1]
  · iexists _; isplitr
    swap; · iexact H1
    ipureintro
    funext y
    refine View.read_writes_apply_of_pieces _ _ (stack32 f X) _ ?_ y (View.cover_of_tiledL (s := S2560x1024) _ S256x1024.size (by sl_kernel_rfl) y)
    refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩⟩⟩⟩⟩⟩
    · exact fun x => (congrFun (pay1_of (hit1 arg14 _ _) hX) x).trans (piece32 f X 9 2304 rfl inb_S2560x1024_S256x1024_2304_0 x)
    · exact fun x => (congrFun (pay19_of ((congrArg (fun w => shapeCast S8192x256 w shapeCasts_S1x8192x256_S8192x256) (skip0 arg14 _ _)).trans (hit0 arg14 _ _)) hX) x).trans (piece32 f X 8 2048 rfl inb_S2560x1024_S256x1024_2048_0 x)
    · exact fun x => (congrFun (pay17_of ((congrArg (fun w => shapeCast S8192x256 w shapeCasts_S1x8192x256_S8192x256) (skip1 arg14 _ _)).trans (hit1 arg14 _ _)) hX) x).trans (piece32 f X 7 1792 rfl inb_S2560x1024_S256x1024_1792_0 x)
    · exact fun x => (congrFun (pay15_of ((congrArg (fun w => shapeCast S8192x256 w shapeCasts_S1x8192x256_S8192x256) (skip0 arg14 _ _)).trans (hit0 arg14 _ _)) hX) x).trans (piece32 f X 6 1536 rfl inb_S2560x1024_S256x1024_1536_0 x)
    · exact fun x => (congrFun (pay13_of ((congrArg (fun w => shapeCast S8192x256 w shapeCasts_S1x8192x256_S8192x256) (skip1 arg14 _ _)).trans (hit1 arg14 _ _)) hX) x).trans (piece32 f X 5 1280 rfl inb_S2560x1024_S256x1024_1280_0 x)
    · exact fun x => (congrFun (pay11_of ((congrArg (fun w => shapeCast S8192x256 w shapeCasts_S1x8192x256_S8192x256) (skip0 arg14 _ _)).trans (hit0 arg14 _ _)) hX) x).trans (piece32 f X 4 1024 rfl inb_S2560x1024_S256x1024_1024_0 x)
    · exact fun x => (congrFun (pay9_of ((congrArg (fun w => shapeCast S8192x256 w shapeCasts_S1x8192x256_S8192x256) (skip1 arg14 _ _)).trans (hit1 arg14 _ _)) hX) x).trans (piece32 f X 3 768 rfl inb_S2560x1024_S256x1024_768_0 x)
    · exact fun x => (congrFun (pay7_of ((congrArg (fun w => shapeCast S8192x256 w shapeCasts_S1x8192x256_S8192x256) (skip0 arg14 _ _)).trans (hit0 arg14 _ _)) hX) x).trans (piece32 f X 2 512 rfl inb_S2560x1024_S256x1024_512_0 x)
    · exact fun x => (congrFun (pay5_of ((congrArg (fun w => shapeCast S8192x256 w shapeCasts_S1x8192x256_S8192x256) (skip1 arg14 _ _)).trans (hit1 arg14 _ _)) hX) x).trans (piece32 f X 1 256 rfl inb_S2560x1024_S256x1024_256_0 x)
    · exact fun x => (congrFun (pay3_of ((congrArg (fun w => shapeCast S8192x256 w shapeCasts_S1x8192x256_S8192x256) (skip0 arg14 _ _)).trans (hit0 arg14 _ _)) hX) x).trans (piece32 f X 0 0 rfl inb_S2560x1024_S256x1024_0_0 x)
  isplitl [H2]
  · iexists _; isplitr
    swap; · iexact H2
    ipureintro
    funext y
    refine View.read_writes_apply_of_pieces _ _ (stack16 f X) _ ?_ y (View.cover_of_tiledL (s := S2560x1024) _ S256x1024.size (by sl_kernel_rfl) y)
    refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_nil _⟩⟩⟩⟩⟩⟩⟩⟩⟩⟩
    · exact fun x => (congrFun (congrArg (fun v => truncf .bf16 v bitsLt_bf16_f32) (pay1_of (hit1 arg14 _ _) hX)) x).trans (piece16 f X 9 2304 rfl inb_S2560x1024_S256x1024_2304_0 x)
    · exact fun x => (congrFun (congrArg (fun v => truncf .bf16 v bitsLt_bf16_f32) (pay19_of ((congrArg (fun w => shapeCast S8192x256 w shapeCasts_S1x8192x256_S8192x256) (skip0 arg14 _ _)).trans (hit0 arg14 _ _)) hX)) x).trans (piece16 f X 8 2048 rfl inb_S2560x1024_S256x1024_2048_0 x)
    · exact fun x => (congrFun (congrArg (fun v => truncf .bf16 v bitsLt_bf16_f32) (pay17_of ((congrArg (fun w => shapeCast S8192x256 w shapeCasts_S1x8192x256_S8192x256) (skip1 arg14 _ _)).trans (hit1 arg14 _ _)) hX)) x).trans (piece16 f X 7 1792 rfl inb_S2560x1024_S256x1024_1792_0 x)
    · exact fun x => (congrFun (congrArg (fun v => truncf .bf16 v bitsLt_bf16_f32) (pay15_of ((congrArg (fun w => shapeCast S8192x256 w shapeCasts_S1x8192x256_S8192x256) (skip0 arg14 _ _)).trans (hit0 arg14 _ _)) hX)) x).trans (piece16 f X 6 1536 rfl inb_S2560x1024_S256x1024_1536_0 x)
    · exact fun x => (congrFun (congrArg (fun v => truncf .bf16 v bitsLt_bf16_f32) (pay13_of ((congrArg (fun w => shapeCast S8192x256 w shapeCasts_S1x8192x256_S8192x256) (skip1 arg14 _ _)).trans (hit1 arg14 _ _)) hX)) x).trans (piece16 f X 5 1280 rfl inb_S2560x1024_S256x1024_1280_0 x)
    · exact fun x => (congrFun (congrArg (fun v => truncf .bf16 v bitsLt_bf16_f32) (pay11_of ((congrArg (fun w => shapeCast S8192x256 w shapeCasts_S1x8192x256_S8192x256) (skip0 arg14 _ _)).trans (hit0 arg14 _ _)) hX)) x).trans (piece16 f X 4 1024 rfl inb_S2560x1024_S256x1024_1024_0 x)
    · exact fun x => (congrFun (congrArg (fun v => truncf .bf16 v bitsLt_bf16_f32) (pay9_of ((congrArg (fun w => shapeCast S8192x256 w shapeCasts_S1x8192x256_S8192x256) (skip1 arg14 _ _)).trans (hit1 arg14 _ _)) hX)) x).trans (piece16 f X 3 768 rfl inb_S2560x1024_S256x1024_768_0 x)
    · exact fun x => (congrFun (congrArg (fun v => truncf .bf16 v bitsLt_bf16_f32) (pay7_of ((congrArg (fun w => shapeCast S8192x256 w shapeCasts_S1x8192x256_S8192x256) (skip0 arg14 _ _)).trans (hit0 arg14 _ _)) hX)) x).trans (piece16 f X 2 512 rfl inb_S2560x1024_S256x1024_512_0 x)
    · exact fun x => (congrFun (congrArg (fun v => truncf .bf16 v bitsLt_bf16_f32) (pay5_of ((congrArg (fun w => shapeCast S8192x256 w shapeCasts_S1x8192x256_S8192x256) (skip1 arg14 _ _)).trans (hit1 arg14 _ _)) hX)) x).trans (piece16 f X 1 256 rfl inb_S2560x1024_S256x1024_256_0 x)
    · exact fun x => (congrFun (congrArg (fun v => truncf .bf16 v bitsLt_bf16_f32) (pay3_of ((congrArg (fun w => shapeCast S8192x256 w shapeCasts_S1x8192x256_S8192x256) (skip0 arg14 _ _)).trans (hit0 arg14 _ _)) hX)) x).trans (piece16 f X 0 0 rfl inb_S2560x1024_S256x1024_0_0 x)
  isplitl [HS0]
  · iexists _; iexists _; isplitr
    swap; · iexact HS0
    ipureintro; rfl
  isplitl [Hq0]; · iexact Hq0
  isplitl [Hq1]; · iexact Hq1
  isplitl [Hh0 Hh1 Hh2 Hh3 Hh4 Hh5 Hh6 Hh7 Hh8 Hh9]
  · iframe
  · iexists _; iexact HW

end Cert.Parts

end
-- ==== Proof.PartsFrame.lean ====
/- The input projection's weight gradient: its kernel's launch, from the body's triple. -/
module

public import proofs.«01_k».proof.Proof.PartsRun
public import Idealize.ShloMosaic.Lib.Claim

@[expose] public section

set_option maxRecDepth 16384

noncomputable section

namespace Cert.Parts

open Cert.Kernel10Ideal Cert.Kernel10Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The buffers as the launch finds them. -/
abbrev V (c : Dev nD) (b : Ref sig .tc) : Buf (Elt F) ((c : Thread nD τ).loc b) := m ((c : Thread nD τ).loc b)

theorem hmain (v : Variants) : Pipeline.HMain (Ix := Unit) (Name := ℕ) (U := Pipeline.UD sig nD τ) (Lvl := ℕ) cfgs 0 defs₀ v m (main (F := F)) (V m) :=
  Pipeline.hmain_region cfgs 0 defs₀ v m main fun c => (main_chain c).trans rfl

/-- The ten parts as launched. -/
def partsAt (c : Dev nD) : Fin 10 → S8192x256.Idx → Elt F .bf16 :=
  ![V m c main_arg0, V m c main_arg1, V m c main_arg2, V m c main_arg3, V m c main_arg4, V m c main_arg5, V m c main_arg6, V m c main_arg7, V m c main_arg8, V m c main_arg9]

/-- A window's block. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's own two counters. -/
abbrev own : Fin 2 → SemLoc sig := fun j => (![SemLoc.dma 3, SemLoc.dma 4] : Fin 2 → SemLoc sig) j

theorem own_facts : Pipeline.OwnSemFacts spec0 own := by decide

theorem own_eq (c : Dev nD) :
    (Pipeline.ownSems0 (Ix := Unit) (Name := ℕ) (U := Pipeline.UD sig nD τ) (Lvl := ℕ) (Val := Elt F) (τ := τ) own c : sProp 𝕄)
      = iprop(semVal ((c : Thread nD τ), SemLoc.dma 3) 0 ∗ semVal ((c : Thread nD τ), SemLoc.dma 4) 0) := by
  rw [Pipeline.ownSems0_eq_of_list c own [0, 1] (by decide) (by decide)]; rfl

/-- The parts' buffers. -/
def bufs : Finset (Ref sig .tc) := {main_arg0, main_arg1, main_arg2, main_arg3, main_arg4, main_arg5, main_arg6, main_arg7, main_arg8, main_arg9}

theorem bufs_sub : bufs ⊆ Pipeline.restRefs sig spec0 := by decide

theorem bufs_eq (c : Dev nD) :
    (bigSep bufs (fun b => ((c : Thread nD τ).loc b) ↦{fullShare} V m c b) : sProp 𝕄) = parts c (partsAt m c) := by
  rw [BI.bigSep_eq_bigSepL_of_eq [main_arg0, main_arg1, main_arg2, main_arg3, main_arg4, main_arg5, main_arg6, main_arg7, main_arg8, main_arg9] (by decide) (by decide)]; rfl

/-- The body's own buffer. -/
abbrev scr : Memref sig .tc .vmem S2x8192x256 .bf16 := Memref.whole cc0_scratch0

/-- What the launch lends the body beside the windows. -/
theorem lent_eq (c : Dev nD) :
    (Pipeline.ΦD own spec0 bufs (V m) c : sProp 𝕄)
      = iprop((∃ d, owns (c : Thread nD τ) scr fullShare d) ∗ (∃ r, prngReg c r)
          ∗ iprop(semVal ((c : Thread nD τ), SemLoc.dma 3) 0 ∗ semVal ((c : Thread nD τ), SemLoc.dma 4) 0) ∗ parts c (partsAt m c)) := by
  rw [Pipeline.ΦD_eq, scopedRest0_eq, own_eq, bufs_eq]; simp only [scr, owns_whole]; try rfl

/-- The arrays as launched; after the body the operand's buffer at its block, each result's at its stack. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => stack32 (partsAt m c) (iblk m c 0 t)
    | ⟨2, _⟩ => stack16 (partsAt m c) (iblk m c 0 t)
  Φ _ := Pipeline.ΦD own spec0 bufs (V m) c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = stack32 (partsAt m c) (iblk m c 0 t) := by dsimp only [dats]
theorem after_2 (c : Dev nD) (t : Fin cfg0.N) : (dats m 0 c).after 2 t = stack16 (partsAt m c) (iblk m c 0 t) := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; rfl) t d).trans rfl

theorem defs₀_row (t : Fin cfg0.N) : defs₀ (F := F) .tc cfg0.body (cfg0.bodyArgs t (cfg0.slots t)) = bodyAt0 t := by
  unfold defs₀; rw [Defs.onTc_tc]

/-- The body's obligation at the one point. -/
theorem obligation (c : Dev nD) : BodyObligation (dats (F := F) m 0 c) (defs₀ (F := F)) Variants.none () Set.univ := fun t => by
  rw [bigSep_W0, bigSep_W0, defs₀_row]
  simp only [before_0]
  rw [show (dats m 0 c).Φ t.succ = (dats m 0 c).Φ t.castSucc from rfl, after_0, after_1, after_2,
    show (dats m 0 c).Φ t.castSucc = Pipeline.ΦD own spec0 bufs (V m) c from rfl, lent_eq]
  unfold Dat.owesAt Pipeline.owesWithin bodyAt0
  rw [show (dats m 0 c).owed t.castSucc = 0 from rfl, show (dats m 0 c).owed t.succ = 0 from rfl]
  iintro ⟨⟨HS, Hg, ⟨Hq0, Hq1⟩, Hp⟩, ⟨%W, -, HW⟩, ⟨%d0, H0⟩, ⟨%d1, H1⟩, ⟨%d2, H2⟩⟩
  iapply (sound_body (F := F) c (grid0.coords t) _ _ _ _ _ _ _ _ (iblk m c 0 t) (partsAt m c) W _)
  isplitl [H0]; · iexact H0
  isplitl [H1]; · iexists _; iexact H1
  isplitl [H2]; · iexists _; iexact H2
  isplitl [HS]; · iexact HS
  isplitl [Hq0]; · iexact Hq0
  isplitl [Hq1]; · iexact Hq1
  isplitl [Hp]; · iexact Hp
  isplitl [HW]; · iexact HW
  iintro ⟨H0, H1, H2, HS, Hq0, Hq1, Hp, ⟨%W', HW'⟩⟩
  isplitl [HS Hg Hq0 Hq1 Hp]
  · isplitl [HS]; · iexact HS
    isplitl [Hg]; · iexact Hg
    isplitl [Hq0 Hq1]
    · isplitl [Hq0]; · iexact Hq0
      iexact Hq1
    iexact Hp
  isplitl [HW']
  · iexists W'; isplitr; · ipureintro; exact fun _ _ => Or.inl trivial
    iexact HW'
  isplitl [H0]; · iexact H0
  isplitl [H1]; · iexact H1
  iexact H2

set_option backward.isDefEq.respectTransparency.types false in
/-- Every array of the pipeline ends at what the library computes from the stacks, every other as launched, and every counter at zero. -/
theorem run_value : θ_run defs (onTc (τ := τ) (main (F := F))) ⟨m, fun _ => 0, ρ⟩ (fun r => Pipeline.FramePost cfgs (dats m) 0 (V m) r ∧ r.2.sem = fun _ => 0) :=
  Pipeline.θ_run_frame_dma (Q' := _) cfgs (dats m) (0 : Fin 1) launch0 own defs₀ Variants.none own_facts bufs bufs_sub m ρ main
    (hbody := fun c => (obligation m c).loose) (hshare := fun c => (dats m 0 c).share_full fun _ => rfl)
    (howed := fun _ _ => rfl) (V := V m) (hmain := hmain m Variants.none) (hA := A_eq m)
    (hin := fun _ => .rfl) (hout := fun _ => .rfl)

/-- The arguments after such a run. -/
theorem kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨(h c).2 main_arg0 (Pipeline.mem_restRefs_of main_arg0 (by decide) (by decide)), (h c).2 main_arg1 (Pipeline.mem_restRefs_of main_arg1 (by decide) (by decide)), (h c).2 main_arg2 (Pipeline.mem_restRefs_of main_arg2 (by decide) (by decide)), (h c).2 main_arg3 (Pipeline.mem_restRefs_of main_arg3 (by decide) (by decide)), (h c).2 main_arg4 (Pipeline.mem_restRefs_of main_arg4 (by decide) (by decide)), (h c).2 main_arg5 (Pipeline.mem_restRefs_of main_arg5 (by decide) (by decide)), (h c).2 main_arg6 (Pipeline.mem_restRefs_of main_arg6 (by decide) (by decide)), (h c).2 main_arg7 (Pipeline.mem_restRefs_of main_arg7 (by decide) (by decide)), (h c).2 main_arg8 (Pipeline.mem_restRefs_of main_arg8 (by decide) (by decide)), (h c).2 main_arg9 (Pipeline.mem_restRefs_of main_arg9 (by decide) (by decide)),
    ((h c).1 0).trans (((dats m 0 c).arrAt_in 0 rfl _).trans (A_eq m c 0))⟩

/-- From any memory with zero counters the program ends, its operands unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun r h => ⟨fun c => kept m h.1 c, h.2⟩) (run_value m ρ)

end Cert.Parts

end
-- ==== Proof.FwdModel.lean ====
/- The feed-forward block's forward pass over the extended reals, row by row. Both programs are shown to compute these functions. -/
module

public import Idealize.ShloMosaic.Lib.Pointwise
public import Idealize.ShloMosaic.PureOps.Ideal.Laws

@[expose] public section

noncomputable section

namespace Cert.Fwd

open Idealize.ShloMosaic

/-- The reciprocal root mean square of a row of 1024 entries. -/
def rms (x : Fin 1024 → EReal) : EReal :=
  Ideal.rsqrt (Ideal.div (∑ k, x k * x k) (Ideal.ofBits .f32 0x44800000#32) + Ideal.ofBits .f32 0x358637BD#32)

/-- The block's parameters. -/
structure Par where
  gpre : Fin 1024 → EReal
  wg : Fin 1024 → Fin 2752 → EReal
  wu : Fin 1024 → Fin 2752 → EReal
  wd : Fin 2752 → Fin 1024 → EReal
  gpost : Fin 1024 → EReal

namespace Par
variable (w : Par) (x t : Fin 1024 → EReal)

/-- The forward values of one row. -/
def h (k : Fin 1024) : EReal := x k * rms x * w.gpre k
def a (f : Fin 2752) : EReal := ∑ k, w.h x k * w.wg k f
def b (f : Fin 2752) : EReal := ∑ k, w.h x k * w.wu k f
def hh (f : Fin 2752) : EReal := w.a x f * Ideal.logistic (w.a x f) * w.b x f
def f (j : Fin 1024) : EReal := ∑ f, w.hh x f * w.wd f j
def y (j : Fin 1024) : EReal := x j + Ideal.ofBits .f32 0x3F000000#32 * (w.f x j * rms (w.f x) * w.gpost j)

/-- The error of one row against the target, its mean square, and the gradient of half of it. -/
def err (j : Fin 1024) : EReal := w.y x j - t j
def sq : EReal := Ideal.div (∑ k, w.err x t k * w.err x t k) (Ideal.ofBits .f32 0x44800000#32)
def dy (j : Fin 1024) : EReal := w.err x t j * Ideal.ofBits .f32 0x3A800000#32

end Par

/-- A matrix as an array. -/
def arr {n p : ℕ} (f : Fin n → Fin p → EReal) : (⟨2, ![n, p]⟩ : Shape).Idx → EReal := fun i => f (i 0) (i 1)

theorem arr_ix2 {n p : ℕ} (f : Fin n → Fin p → EReal) (i : Fin n) (j : Fin p) : arr f (ix2 i j) = f i j := rfl

/-- Every array is the one of its entries; -/
theorem arr_of {n p : ℕ} (X : (⟨2, ![n, p]⟩ : Shape).Idx → EReal) : X = arr fun i j => X (ix2 i j) :=
  funext fun y => congrArg X (eq_ix2 (n0 := n) (n1 := p) y)

/-- one of a single row is that row. -/
theorem arr_row {p : ℕ} (X : (⟨2, ![1, p]⟩ : Shape).Idx → EReal) : X = arr fun (_ : Fin 1) j => X (ix2 0 j) :=
  funext fun y => congrArg X ((eq_ix2 (n0 := 1) (n1 := p) y).trans (congrArg (ix2 · (y 1)) (Subsingleton.elim (α := Fin 1) _ _)))

end Cert.Fwd

end
-- ==== Proof.PartsFinal.lean ====
/- The input projection's weight gradient: what its kernel computes, and its reference. -/
module

public import proofs.«01_k».proof.Proof.PartsFrame
public import proofs.«01_k».proof.Proof.Gen.Reference10Ideal.Run
public import proofs.«01_k».proof.Proof.Gen.Reference10Ideal.Read
public import Idealize.ShloMosaic.Lib.Pipeline.ValueKit
public import Idealize.ShloMosaic.Lib.Claim
public import Idealize.ShloMosaic.Lib.Pointwise
public import proofs.«01_k».proof.Proof.FwdModel

@[expose] public section

set_option maxRecDepth 16384

noncomputable section

namespace Cert.Parts

open Idealize.ShloMosaic Cert.Fwd

/-- The ten parts side by side. -/
def cat (p : Fin 10 → Fin 8192 → Fin 256 → EReal) (s : Fin 8192) (j : Fin 2560) : EReal :=
  p ⟨j.val / 256, by omega⟩ s ⟨j.val % 256, by omega⟩

theorem cat_eq (p : Fin 10 → Fin 8192 → Fin 256 → EReal) (s : Fin 8192) (j : Fin 2560) (a : Fin 10) (b : Fin 256) (h : j.val = a.val * 256 + b.val) :
    p a s b = cat p s j := by
  have e : (⟨j.val / 256, by omega⟩ : Fin 10) = a := Fin.ext (by show j.val / 256 = a.val; omega)
  have f : (⟨j.val % 256, by omega⟩ : Fin 256) = b := Fin.ext (by show j.val % 256 = b.val; omega)
  unfold cat
  rw [e, f]

/-- Their transpose times the operand. -/
def grad (p : Fin 10 → Fin 8192 → Fin 256 → EReal) (x : Fin 8192 → Fin 1024 → EReal) (i : Fin 2560) (j : Fin 1024) : EReal :=
  ∑ s, cat p s i * x s j

/-- Both cases of a choice have one value. -/
theorem pick {c : Prop} [Decidable c] {a : c → EReal} {b : ¬c → EReal} {v : EReal} (h : ∀ u, a u = v) (h' : ∀ u, b u = v) : dite c a b = v := by
  split
  · exact h _
  · exact h' _

end Cert.Parts

namespace Cert.Parts

open Cert.Kernel10Ideal Cert.Kernel10Ideal.Gen Cert.Fwd
open Idealize.ShloMosaic Idealize.ShloMosaic.TcCoe Idealize.SL.Sem

theorem idx : ∀ t : Fin cfg0.N, win0_0.index t = ![0, 0] ∧ win0_1.index t = ![0, 0] ∧ win0_2.index t = ![0, 0] :=
  (by decide +kernel : ∀ t : Fin grid0.N, _)

/-- The arguments are the parts `p` and the operand `x`. -/
structure Args (m : (ℓ : Loc nD τ sig) → Buf (Elt Ideal) ℓ) (c : Dev nD) (p : Fin 10 → Fin 8192 → Fin 256 → EReal) (x : Fin 8192 → Fin 1024 → EReal) : Prop where
  p0 : m ((c : Thread nD τ).loc main_arg0) = (arr (p 0) : FVec Ideal S8192x256 .bf16)
  p1 : m ((c : Thread nD τ).loc main_arg1) = (arr (p 1) : FVec Ideal S8192x256 .bf16)
  p2 : m ((c : Thread nD τ).loc main_arg2) = (arr (p 2) : FVec Ideal S8192x256 .bf16)
  p3 : m ((c : Thread nD τ).loc main_arg3) = (arr (p 3) : FVec Ideal S8192x256 .bf16)
  p4 : m ((c : Thread nD τ).loc main_arg4) = (arr (p 4) : FVec Ideal S8192x256 .bf16)
  p5 : m ((c : Thread nD τ).loc main_arg5) = (arr (p 5) : FVec Ideal S8192x256 .bf16)
  p6 : m ((c : Thread nD τ).loc main_arg6) = (arr (p 6) : FVec Ideal S8192x256 .bf16)
  p7 : m ((c : Thread nD τ).loc main_arg7) = (arr (p 7) : FVec Ideal S8192x256 .bf16)
  p8 : m ((c : Thread nD τ).loc main_arg8) = (arr (p 8) : FVec Ideal S8192x256 .bf16)
  p9 : m ((c : Thread nD τ).loc main_arg9) = (arr (p 9) : FVec Ideal S8192x256 .bf16)
  x : m ((c : Thread nD τ).loc main_arg10) = (arr x : FVec Ideal S8192x1024 .bf16)

theorem pay_at (l : FVec Ideal S8192x256 .bf16) (r : FVec Ideal S8192x1024 .bf16) (i : Fin 256) (j : Fin 1024) :
    k0_pay1 (F := Ideal) l r (ix2 i j) = ∑ s : Fin 8192, l (ix2 s i) * r (ix2 s j) := by
  pointwise [k0_pay1]

/-- The stack over the parts is the gradient. -/
theorem stack_at (f : Fin 10 → S8192x256.Idx → Elt Ideal .bf16) (p : Fin 10 → Fin 8192 → Fin 256 → EReal) (x : Fin 8192 → Fin 1024 → EReal)
    (hf : ∀ k, f k = (arr (p k) : FVec Ideal S8192x256 .bf16)) (y : S2560x1024.Idx) :
    stack32 (F := Ideal) f (arr x : FVec Ideal S8192x1024 .bf16) y = grad p x (y 0) (y 1) := by
  unfold stack32
  rw [hf]
  refine (congrArg (k0_pay1 (F := Ideal) _ _) (funext fun a => ?_)).trans
    (pay_at (arr (p ⟨(y 0).val / 256, Nat.div_lt_of_lt_mul (y 0).isLt⟩)) (arr x) ⟨(y 0).val % 256, Nat.mod_lt _ (by decide)⟩ ⟨(y 1).val, (y 1).isLt⟩)
  match a with
  | 0 => rfl
  | 1 => rfl

theorem stack_at' (f : Fin 10 → S8192x256.Idx → Elt Ideal .bf16) (p : Fin 10 → Fin 8192 → Fin 256 → EReal) (x : Fin 8192 → Fin 1024 → EReal)
    (hf : ∀ k, f k = (arr (p k) : FVec Ideal S8192x256 .bf16)) (y : S2560x1024.Idx) :
    stack16 (F := Ideal) f (arr x : FVec Ideal S8192x1024 .bf16) y = grad p x (y 0) (y 1) := stack_at f p x hf y

variable {m : (ℓ : Loc nD τ sig) → Buf (Elt Ideal) ℓ} {c : Dev nD} {p : Fin 10 → Fin 8192 → Fin 256 → EReal} {x : Fin 8192 → Fin 1024 → EReal}

theorem parts_at (h : Args m c p x) (k : Fin 10) : partsAt m c k = (arr (p k) : FVec Ideal S8192x256 .bf16) := by
  match k with
  | 0 => exact h.p0
  | 1 => exact h.p1
  | 2 => exact h.p2
  | 3 => exact h.p3
  | 4 => exact h.p4
  | 5 => exact h.p5
  | 6 => exact h.p6
  | 7 => exact h.p7
  | 8 => exact h.p8
  | 9 => exact h.p9

theorem blk0 (h : Args m c p x) (t : Fin cfg0.N) : iblk m c 0 t = (arr x : FVec Ideal S8192x1024 .bf16) := by
  funext y
  have e : V m c main_arg10 = (arr x : FVec Ideal S8192x1024 .bf16) := h.x
  blk_simp [iblk, idx t]
  rw [e]
  refine congrArg₂ x (Fin.ext ?_) (Fin.ext ?_) <;> blk_simp [idx t]

theorem final1 (h : Args m c p x) : (dats m 0 c).arrAt 1 (cfgs 0).N = (arr (grad p x) : FVec Ideal S2560x1024 .f32) := by
  refine (dats m 0 c).arrAt_eq_of_covers 1 _ (by decide +kernel) fun t _ y => ?_
  blk_simp
  rw [after_1, blk0 h]
  refine (stack_at _ p x (parts_at h) y).trans (congrArg₂ (grad p x) (Fin.ext ?_) (Fin.ext ?_)) <;> blk_simp [idx t]

theorem final2 (h : Args m c p x) : (dats m 0 c).arrAt 2 (cfgs 0).N = (arr (grad p x) : FVec Ideal S2560x1024 .bf16) := by
  refine (dats m 0 c).arrAt_eq_of_covers 2 _ (by decide +kernel) fun t _ y => ?_
  blk_simp
  rw [after_2, blk0 h]
  refine (stack_at' _ p x (parts_at h) y).trans (congrArg₂ (grad p x) (Fin.ext ?_) (Fin.ext ?_)) <;> blk_simp [idx t]

end Cert.Parts

namespace Cert.Parts.Ref

open Cert.Reference10Ideal Cert.Reference10Ideal.Gen Cert.Reference10Ideal.Read Cert.Fwd
open Idealize.ShloMosaic Idealize.ShloMosaic.TcCoe Idealize.SL.Sem Idealize.ShloMosaic.StableHlo

variable (p : Fin 10 → Fin 8192 → Fin 256 → EReal) (x : Fin 8192 → Fin 1024 → EReal)

theorem v10 (s : Fin 8192) (j : Fin 2560) : val_main_v10 (F := Ideal) (arr (p 0)) (arr (p 1)) (arr (p 2)) (arr (p 3)) (arr (p 4)) (arr (p 5)) (arr (p 6)) (arr (p 7)) (arr (p 8)) (arr (p 9)) (ix2 s j) = cat p s j := by
  pointwise [val_main_v10, val_main_v9, val_main_v8, val_main_v7, val_main_v6, val_main_v5, val_main_v4, val_main_v3, val_main_v2, val_main_v1, val_main_v0, arr_ix2]
  exact pick (fun h0 => cat_eq p s j 0 _ (by show j.val = 0 * 256 + (j.val); omega)) fun h0 =>
    pick (fun h1 => cat_eq p s j 1 _ (by show j.val = 1 * 256 + (j.val - 256); omega)) fun h1 =>
    pick (fun h2 => cat_eq p s j 2 _ (by show j.val = 2 * 256 + (j.val - 256 - 256); omega)) fun h2 =>
    pick (fun h3 => cat_eq p s j 3 _ (by show j.val = 3 * 256 + (j.val - 256 - 256 - 256); omega)) fun h3 =>
    pick (fun h4 => cat_eq p s j 4 _ (by show j.val = 4 * 256 + (j.val - 256 - 256 - 256 - 256); omega)) fun h4 =>
    pick (fun h5 => cat_eq p s j 5 _ (by show j.val = 5 * 256 + (j.val - 256 - 256 - 256 - 256 - 256); omega)) fun h5 =>
    pick (fun h6 => cat_eq p s j 6 _ (by show j.val = 6 * 256 + (j.val - 256 - 256 - 256 - 256 - 256 - 256); omega)) fun h6 =>
    pick (fun h7 => cat_eq p s j 7 _ (by show j.val = 7 * 256 + (j.val - 256 - 256 - 256 - 256 - 256 - 256 - 256); omega)) fun h7 =>
    pick (fun h8 => cat_eq p s j 8 _ (by show j.val = 8 * 256 + (j.val - 256 - 256 - 256 - 256 - 256 - 256 - 256 - 256); omega)) fun h8 =>
    cat_eq p s j 9 _ (by show j.val = 9 * 256 + (j.val - 256 - 256 - 256 - 256 - 256 - 256 - 256 - 256 - 256); omega)

theorem v16 : val_main_v16 (F := Ideal) (arr (p 0)) (arr (p 1)) (arr (p 2)) (arr (p 3)) (arr (p 4)) (arr (p 5)) (arr (p 6)) (arr (p 7)) (arr (p 8)) (arr (p 9)) (arr x) = (arr (grad p x) : FVec Ideal S2560x1024 .f32) := by
  funext y
  idx_vars y
  pointwise [val_main_v16, val_main_v15, val_main_v14, val_main_v12, v10, arr_ix2]
  rfl

theorem v18 : val_main_v18 (F := Ideal) (arr (p 0)) (arr (p 1)) (arr (p 2)) (arr (p 3)) (arr (p 4)) (arr (p 5)) (arr (p 6)) (arr (p 7)) (arr (p 8)) (arr (p 9)) (arr x) = (arr (grad p x) : FVec Ideal S2560x1024 .bf16) := v16 p x

/-- The arguments are the parts `p` and the operand `x`. -/
structure Args (m : (ℓ : Loc nD τ sig) → Buf (Elt Ideal) ℓ) (c : Dev nD) (p : Fin 10 → Fin 8192 → Fin 256 → EReal) (x : Fin 8192 → Fin 1024 → EReal) : Prop where
  p0 : m ((c : Thread nD τ).loc main_arg0) = (arr (p 0) : FVec Ideal S8192x256 .bf16)
  p1 : m ((c : Thread nD τ).loc main_arg1) = (arr (p 1) : FVec Ideal S8192x256 .bf16)
  p2 : m ((c : Thread nD τ).loc main_arg2) = (arr (p 2) : FVec Ideal S8192x256 .bf16)
  p3 : m ((c : Thread nD τ).loc main_arg3) = (arr (p 3) : FVec Ideal S8192x256 .bf16)
  p4 : m ((c : Thread nD τ).loc main_arg4) = (arr (p 4) : FVec Ideal S8192x256 .bf16)
  p5 : m ((c : Thread nD τ).loc main_arg5) = (arr (p 5) : FVec Ideal S8192x256 .bf16)
  p6 : m ((c : Thread nD τ).loc main_arg6) = (arr (p 6) : FVec Ideal S8192x256 .bf16)
  p7 : m ((c : Thread nD τ).loc main_arg7) = (arr (p 7) : FVec Ideal S8192x256 .bf16)
  p8 : m ((c : Thread nD τ).loc main_arg8) = (arr (p 8) : FVec Ideal S8192x256 .bf16)
  p9 : m ((c : Thread nD τ).loc main_arg9) = (arr (p 9) : FVec Ideal S8192x256 .bf16)
  x : m ((c : Thread nD τ).loc main_arg10) = (arr x : FVec Ideal S8192x1024 .bf16)

/-- What the reference ends with, over its arguments. -/
theorem run_grad (m : (ℓ : Loc nD τ sig) → Buf (Elt Ideal) ℓ) (ρ : Dev nD → PrngReg) (p : Dev nD → Fin 10 → Fin 8192 → Fin 256 → EReal)
    (x : Dev nD → Fin 8192 → Fin 1024 → EReal) (h : ∀ c, Args m c (p c) (x c)) :
    θ_run (defs (F := Ideal)) (onTc (τ := τ) (main (F := Ideal))) ⟨m, fun _ => 0, ρ⟩ fun o => ∀ c : Dev nD,
      o.2.mem ((c.tc : Thread nD τ).loc main_v16) = (arr (grad (p c) (x c)) : FVec Ideal S2560x1024 .f32)
      ∧ o.2.mem ((c.tc : Thread nD τ).loc main_v18) = (arr (grad (p c) (x c)) : FVec Ideal S2560x1024 .bf16)
      ∧ o.2.mem ((c.tc : Thread nD τ).loc main_arg0) = m ((c.tc : Thread nD τ).loc main_arg0)
      ∧ o.2.mem ((c.tc : Thread nD τ).loc main_arg1) = m ((c.tc : Thread nD τ).loc main_arg1)
      ∧ o.2.mem ((c.tc : Thread nD τ).loc main_arg2) = m ((c.tc : Thread nD τ).loc main_arg2)
      ∧ o.2.mem ((c.tc : Thread nD τ).loc main_arg3) = m ((c.tc : Thread nD τ).loc main_arg3)
      ∧ o.2.mem ((c.tc : Thread nD τ).loc main_arg4) = m ((c.tc : Thread nD τ).loc main_arg4)
      ∧ o.2.mem ((c.tc : Thread nD τ).loc main_arg5) = m ((c.tc : Thread nD τ).loc main_arg5)
      ∧ o.2.mem ((c.tc : Thread nD τ).loc main_arg6) = m ((c.tc : Thread nD τ).loc main_arg6)
      ∧ o.2.mem ((c.tc : Thread nD τ).loc main_arg7) = m ((c.tc : Thread nD τ).loc main_arg7)
      ∧ o.2.mem ((c.tc : Thread nD τ).loc main_arg8) = m ((c.tc : Thread nD τ).loc main_arg8)
      ∧ o.2.mem ((c.tc : Thread nD τ).loc main_arg9) = m ((c.tc : Thread nD τ).loc main_arg9)
      ∧ o.2.mem ((c.tc : Thread nD τ).loc main_arg10) = m ((c.tc : Thread nD τ).loc main_arg10) :=
  (θ_run (defs (F := Ideal)) _ _).mono (fun o q c => by
    obtain ⟨q1, q2, k⟩ := q c
    refine ⟨q1.trans ?_, q2.trans ?_, k⟩
    · rw [val_main_v16_eq, (h c).p0, (h c).p1, (h c).p2, (h c).p3, (h c).p4, (h c).p5, (h c).p6, (h c).p7, (h c).p8, (h c).p9, (h c).x]; exact v16 _ _
    · rw [val_main_v18_eq, (h c).p0, (h c).p1, (h c).p2, (h c).p3, (h c).p4, (h c).p5, (h c).p6, (h c).p7, (h c).p8, (h c).p9, (h c).x]; exact v18 _ _)
    (Cert.Reference10Ideal.Value.run m ρ)

end Cert.Parts.Ref

end
-- ==== Proof.AdamModel.lean ====
/- AdamW's step on one entry, over the exact values. -/
module

public import Idealize.ShloMosaic.Lib.Claim
public import Idealize.ShloMosaic.Lib.Pointwise
public import proofs.«01_k».proof.Proof.FwdModel

@[expose] public section

set_option maxRecDepth 16384

noncomputable section

namespace Cert.Adam

open Idealize.ShloMosaic

/-- The gradient's mean, moved by `g`. -/
def mean (g m : Ideal .f32) : Ideal .f32 :=
  FloatOps.addf (FloatOps.mulf (FloatOps.ofBits .f32 0x3F666666#32) m) (FloatOps.mulf (FloatOps.ofBits .f32 0x3DCCCCCD#32) g)

/-- The square's mean, moved by `g`. -/
def var (g v : Ideal .f32) : Ideal .f32 :=
  FloatOps.addf (FloatOps.mulf (FloatOps.ofBits .f32 0x3F7FBE77#32) v) (FloatOps.mulf (FloatOps.ofBits .f32 0x3A83126F#32) (FloatOps.mulf g g))

/-- The step itself: the two means put right for the start, their quotient, and the decay. -/
def delta (g w m v : Ideal .f32) : Ideal .f32 :=
  FloatOps.mulf (FloatOps.ofBits .f32 0xBA83126F#32)
    (FloatOps.addf
      (FloatOps.divf (FloatOps.divf (mean g m) (FloatOps.ofBits .f32 0x3F26BD02#32))
        (FloatOps.addf (FloatOps.sqrt (FloatOps.divf (var g v) (FloatOps.ofBits .f32 0x3C231ACC#32))) (FloatOps.ofBits .f32 0x322BCC77#32)))
      (FloatOps.mulf (FloatOps.ofBits .f32 0x3C23D70A#32) w))

/-- Equality is tested either way round. -/
theorem cmp_comm (x y : BitVec 32) : IntOp.cmpi .eq x y = Scalar.cmpi .eq y x :=
  congrArg BitVec.ofBool (BEq.comm (a := x) (b := y))

/-- Both cases of a choice have one value. -/
theorem pick {c : Prop} [Decidable c] {a : c → Ideal .f32} {b : ¬c → Ideal .f32} {v : Ideal .f32} (h : ∀ u, a u = v) (h' : ∀ u, b u = v) : dite c a b = v := by
  split
  · exact h _
  · exact h' _

end Cert.Adam

end
-- ==== Proof.AdamSmall.lean ====
/- The small parameters' step: kernel and reference, both over the packed blocks of the eight devices. -/
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import proofs.«01_k».proof.Proof.AdamModel

@[expose] public section

set_option maxRecDepth 16384

noncomputable section

namespace Cert.Adam.Small

open Idealize.ShloMosaic Idealize.ShloMosaic.TcCoe Idealize.SL.Sem Idealize.ShloMosaic.StableHlo
open Cert.Kernel13Ideal Cert.Kernel13Ideal.Gen

/-- The gradient: the eight blocks' sum. -/
def grad (a : FVec Ideal S8x184x128 .f32) (y : S184x128.Idx) : Ideal .f32 :=
  (∑ d : Fin 8, (a (ix3 d (y 0) (y 1)) : EReal) : EReal)

theorem pay_at (a : FVec Ideal S8x184x128 .f32) (b c d : FVec Ideal S184x128 .f32) (y : S184x128.Idx) :
    k0_pay5 (F := Ideal) a b c d y = grad a y := by
  idx_vars y
  pointwise [k0_pay5, k0_pay4, grad, View.ld_apply, Fin.sum_univ_eight]
  first | rfl | skip

theorem mean_at (g m : FVec Ideal S184x128 .f32) (y : S184x128.Idx) : k0_pay1 (F := Ideal) g m y = mean (g y) (m y) := rfl

theorem var_at (g v : FVec Ideal S184x128 .f32) (y : S184x128.Idx) : k0_pay2 (F := Ideal) g v y = var (g y) (v y) := rfl

theorem delta_at (g w m v : FVec Ideal S184x128 .f32) (y : S184x128.Idx) : k0_pay3 (F := Ideal) g w m v y = delta (g y) (w y) (m y) (v y) := rfl

open Cert.Reference13Ideal.Read

theorem ref_grad (a : FVec Ideal S8x184x128 .f32) (y : S184x128.Idx) : val_main_v0 (F := Ideal) a y = grad a y := by
  idx_vars y
  pointwise [val_main_v0, val_main_cst, grad]
  first | exact zero_add _ | skip

theorem ref_mean (a : FVec Ideal S8x184x128 .f32) (m : FVec Ideal S184x128 .f32) (y : S184x128.Idx) :
    val_main_v5 (F := Ideal) a m y = mean (grad a y) (m y) := by
  rw [val_main_v5_apply, val_main_v4_apply, val_main_v3_apply, val_main_v2_apply, val_main_v1_apply, ref_grad]
  rfl

theorem ref_var (a : FVec Ideal S8x184x128 .f32) (v : FVec Ideal S184x128 .f32) (y : S184x128.Idx) :
    val_main_v11 (F := Ideal) a v y = var (grad a y) (v y) := by
  rw [val_main_v11_apply, val_main_v10_apply, val_main_v9_apply, val_main_v8_apply, val_main_v7_apply, val_main_v6_apply, ref_grad]
  rfl

theorem ref_delta (a : FVec Ideal S8x184x128 .f32) (w m v : FVec Ideal S184x128 .f32) (y : S184x128.Idx) :
    val_main_v24 (F := Ideal) a w m v y = delta (grad a y) (w y) (m y) (v y) := by
  rw [val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, ref_mean, ref_var]
  rfl

/-- The kernel's four results are the reference's. -/
theorem eq_grad (a : FVec Ideal S8x184x128 .f32) (w m v : FVec Ideal S184x128 .f32) :
    Cert.Kernel13Ideal.Value.G4 (F := Ideal) a w m v = val_main_v0 (F := Ideal) a :=
  funext fun y => (pay_at a w m v y).trans (ref_grad a y).symm

theorem eq_delta (a : FVec Ideal S8x184x128 .f32) (w m v : FVec Ideal S184x128 .f32) :
    Cert.Kernel13Ideal.Value.G5 (F := Ideal) a w m v = val_main_v24 (F := Ideal) a w m v :=
  funext fun y => (delta_at _ w m v y).trans (by rw [pay_at, ref_delta])

theorem eq_mean (a : FVec Ideal S8x184x128 .f32) (w m v : FVec Ideal S184x128 .f32) :
    Cert.Kernel13Ideal.Value.G6 (F := Ideal) a w m v = val_main_v5 (F := Ideal) a m :=
  funext fun y => (mean_at _ m y).trans (by rw [pay_at, ref_mean])

theorem eq_var (a : FVec Ideal S8x184x128 .f32) (w m v : FVec Ideal S184x128 .f32) :
    Cert.Kernel13Ideal.Value.G7 (F := Ideal) a w m v = val_main_v11 (F := Ideal) a v :=
  funext fun y => (var_at _ v y).trans (by rw [pay_at, ref_var])

end Cert.Adam.Small

end
-- ==== Proof.AdamRows.lean ====
/- The step on a shard of weights kept by rows: each grid point updates one half of the rows, whose gradient is
   this device's half of the sum or its sibling's, as the device's place says. -/
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit
public import proofs.«01_k».proof.Proof.AdamModel

@[expose] public section

set_option maxRecDepth 16384

noncomputable section

namespace Cert.Adam.Rows

open Idealize.ShloMosaic Idealize.ShloMosaic.TcCoe Idealize.SL.Sem Idealize.ShloMosaic.StableHlo
open Cert.Kernel11Ideal Cert.Kernel11Ideal.Gen

/-- Row `q` of half `k`: this device's, when the place says so, and its sibling's otherwise. -/
def half (p : BitVec 32) (a b : FVec Ideal S1x344x1024 .f32) (k : ℕ) (q : Fin 344) (j : Fin 1024) : Ideal .f32 :=
  Scalar.select (Scalar.cmpi .eq (BitVec.ofNat 32 k) p) (a (ix3 0 q j)) (b (ix3 0 q j))

/-- The gradient: the two halves, one above the other. -/
def grad (p : (⟨S2, .i32⟩ : BufTy).Contents (Elt Ideal)) (a b : FVec Ideal S1x344x1024 .f32) (y : S688x1024.Idx) : Ideal .f32 :=
  half (p (ix1 1)) a b ((y 0).val / 344) ⟨(y 0).val % 344, Nat.mod_lt _ (by decide)⟩ ⟨(y 1).val, (y 1).isLt⟩

theorem idx : ∀ t : Fin cfg0.N, win0_0.index t = ![0] ∧ win0_1.index t = ![t.val, 0] ∧ win0_2.index t = ![0, 0, 0]
    ∧ win0_3.index t = ![0, 0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem coord : ∀ t : Fin cfg0.N, (grid0.coords t 0).val = t.val :=
  (by decide +kernel : ∀ t : Fin grid0.N, _)

/-- Row `q` of the block of point `t`. -/
def rowAt (t : Fin cfg0.N) (q : Fin 344) : Fin 688 :=
  ⟨t.val * 344 + q.val, by have := lt_of_lt_of_eq t.isLt (show cfg0.N = 2 from N_0); have := q.isLt; omega⟩

theorem grad_eq (p : (⟨S2, .i32⟩ : BufTy).Contents (Elt Ideal)) (a b : FVec Ideal S1x344x1024 .f32) (i : Fin 688) (k : ℕ) (q : Fin 344) (j : Fin 1024)
    (h : i.val = k * 344 + q.val) : half (p (ix1 1)) a b k q j = grad p a b (ix2 i j) := by
  have e : i.val / 344 = k := by have := q.isLt; omega
  have f : (⟨i.val % 344, Nat.mod_lt _ (by decide)⟩ : Fin 344) = q := Fin.ext (by show i.val % 344 = q.val; have := q.isLt; omega)
  show _ = half (p (ix1 1)) a b (i.val / 344) ⟨i.val % 344, Nat.mod_lt _ (by decide)⟩ j
  rw [e, f]

theorem grad_row (p : (⟨S2, .i32⟩ : BufTy).Contents (Elt Ideal)) (a b : FVec Ideal S1x344x1024 .f32) (t : Fin cfg0.N) (q : Fin 344) (j : Fin 1024) :
    grad p a b (ix2 (rowAt t q) j) = half (p (ix1 1)) a b (grid0.coords t 0).val q j :=
  (grad_eq p a b (rowAt t q) (grid0.coords t 0).val q j (by rw [coord]; rfl)).symm

theorem pay_at (i : grid0.Coords) (p : BitVec 32) (a b : FVec Ideal S1x344x1024 .f32) (q : Fin 344) (j : Fin 1024) :
    k0_pay2 (F := Ideal) i p a b (ix2 q j) = half p a b (i 0).val q j := by
  pointwise [k0_pay2, half]

theorem mean_at (i : grid0.Coords) (p : BitVec 32) (a b : FVec Ideal S1x344x1024 .f32) (m : FVec Ideal S344x1024 .f32) (y : S344x1024.Idx) :
    k0_pay3 (F := Ideal) i p a b m y = mean (k0_pay2 (F := Ideal) i p a b y) (m y) := rfl

theorem var_at (i : grid0.Coords) (p : BitVec 32) (a b : FVec Ideal S1x344x1024 .f32) (v : FVec Ideal S344x1024 .f32) (y : S344x1024.Idx) :
    k0_pay4 (F := Ideal) i p a b v y = var (k0_pay2 (F := Ideal) i p a b y) (v y) := rfl

theorem delta_at (i : grid0.Coords) (p : BitVec 32) (a b : FVec Ideal S1x344x1024 .f32) (w m v : FVec Ideal S344x1024 .f32) (y : S344x1024.Idx) :
    k0_pay1 (F := Ideal) (k0_pay5 (F := Ideal) i p a b w m v) (k0_pay6 (F := Ideal)) y = delta (k0_pay2 (F := Ideal) i p a b y) (w y) (m y) (v y) := rfl

/-- The arguments. -/
structure Args (m : (ℓ : Loc nD τ sig) → Buf (Elt Ideal) ℓ) (c : Dev nD) (p : (⟨S2, .i32⟩ : BufTy).Contents (Elt Ideal)) (w : FVec Ideal S688x1024 .f32)
    (a b : FVec Ideal S1x344x1024 .f32) (u v : FVec Ideal S688x1024 .f32) : Prop where
  p : m ((c : Thread nD τ).loc main_arg0) = p
  w : m ((c : Thread nD τ).loc main_arg1) = w
  a : m ((c : Thread nD τ).loc main_arg2) = a
  b : m ((c : Thread nD τ).loc main_arg3) = b
  u : m ((c : Thread nD τ).loc main_arg4) = u
  v : m ((c : Thread nD τ).loc main_arg5) = v

variable {m : (ℓ : Loc nD τ sig) → Buf (Elt Ideal) ℓ} {c : Dev nD} {p : (⟨S2, .i32⟩ : BufTy).Contents (Elt Ideal)} {w : FVec Ideal S688x1024 .f32}
  {a b : FVec Ideal S1x344x1024 .f32} {u v : FVec Ideal S688x1024 .f32}

theorem blk0 (h : Args m c p w a b u v) (t : Fin cfg0.N) (inb f) :
    View.ld (Val := Elt Ideal) (S := S2) (e' := .i32) (iblk m c 0 t) (Rect.unit (s := S2) ![1] ![1] inb) f = p (ix1 1) := by
  have e : V m c main_arg0 = p := (V_main_arg0 m c).trans h.p
  rw [View.ld_apply]
  blk_simp [iblk, idx t]
  rw [e]
  refine congrArg p (funext fun a => ?_)
  match a with
  | 0 =>
    refine Fin.ext ?_
    blk_simp [idx t]
    have g : (f 0).val < 1 := (f 0).isLt
    have e := Rect.idx_unit_val (s := S2) ![1] ![1] inb f 0
    refine e.trans ?_
    show 1 + (f 0).val = 1
    omega

theorem blk1 (h : Args m c p w a b u v) (t : Fin cfg0.N) (q : Fin 344) (j : Fin 1024) : (iblk m c 1 t : FVec Ideal S344x1024 .f32) (ix2 q j) = w (ix2 (rowAt t q) j) := by
  have e : V m c main_arg1 = w := (V_main_arg1 m c).trans h.w
  blk_simp [iblk, idx t]
  rw [e]
  refine congrArg w (funext fun a => ?_)
  match a with
  | 0 => exact Fin.ext (by blk_simp [idx t, rowAt])
  | 1 => exact Fin.ext (by blk_simp [idx t, rowAt])

theorem blk2 (h : Args m c p w a b u v) (t : Fin cfg0.N) : iblk m c 2 t = a := by
  funext y
  have e : V m c main_arg2 = a := (V_main_arg2 m c).trans h.a
  blk_simp [iblk, idx t]
  rw [e]
  refine congrArg a (funext fun a => ?_)
  match a with
  | 0 => exact Fin.ext (by blk_simp [idx t, rowAt])
  | 1 => exact Fin.ext (by blk_simp [idx t, rowAt])
  | 2 => exact Fin.ext (by blk_simp [idx t, rowAt])

theorem blk3 (h : Args m c p w a b u v) (t : Fin cfg0.N) : iblk m c 3 t = b := by
  funext y
  have e : V m c main_arg3 = b := (V_main_arg3 m c).trans h.b
  blk_simp [iblk, idx t]
  rw [e]
  refine congrArg b (funext fun a => ?_)
  match a with
  | 0 => exact Fin.ext (by blk_simp [idx t, rowAt])
  | 1 => exact Fin.ext (by blk_simp [idx t, rowAt])
  | 2 => exact Fin.ext (by blk_simp [idx t, rowAt])

theorem blk4 (h : Args m c p w a b u v) (t : Fin cfg0.N) (q : Fin 344) (j : Fin 1024) : (iblk m c 4 t : FVec Ideal S344x1024 .f32) (ix2 q j) = u (ix2 (rowAt t q) j) := by
  have e : V m c main_arg4 = u := (V_main_arg4 m c).trans h.u
  blk_simp [iblk, idx t]
  rw [e]
  refine congrArg u (funext fun a => ?_)
  match a with
  | 0 => exact Fin.ext (by blk_simp [idx t, rowAt])
  | 1 => exact Fin.ext (by blk_simp [idx t, rowAt])

theorem blk5 (h : Args m c p w a b u v) (t : Fin cfg0.N) (q : Fin 344) (j : Fin 1024) : (iblk m c 5 t : FVec Ideal S344x1024 .f32) (ix2 q j) = v (ix2 (rowAt t q) j) := by
  have e : V m c main_arg5 = v := (V_main_arg5 m c).trans h.v
  blk_simp [iblk, idx t]
  rw [e]
  refine congrArg v (funext fun a => ?_)
  match a with
  | 0 => exact Fin.ext (by blk_simp [idx t, rowAt])
  | 1 => exact Fin.ext (by blk_simp [idx t, rowAt])

theorem final6 (h : Args m c p w a b u v) : (dats m 0 c).arrAt 6 (cfgs 0).N = ((fun y => grad p a b y) : FVec Ideal S688x1024 .f32) := by
  refine (dats m 0 c).arrAt_eq_of_covers 6 _ (by decide +kernel) fun t _ y => ?_
  blk_simp
  rw [after0_6]
  unfold outsAt0
  frame_out
  simp only [blk2 h, blk3 h]
  idx_vars y
  rw [blk0 h]
  rw [pay_at, ← grad_row]
  refine congrArg (fun y : S688x1024.Idx => grad p a b y) (funext fun d => ?_)
  match d with
  | 0 => exact Fin.ext (by blk_simp [idx t, rowAt])
  | 1 => exact Fin.ext (by blk_simp [idx t, rowAt])

theorem final7 (h : Args m c p w a b u v) : (dats m 0 c).arrAt 7 (cfgs 0).N = ((fun y => delta (grad p a b y) (w y) (u y) (v y)) : FVec Ideal S688x1024 .f32) := by
  refine (dats m 0 c).arrAt_eq_of_covers 7 _ (by decide +kernel) fun t _ y => ?_
  blk_simp
  rw [after0_7]
  unfold outsAt0
  frame_out
  simp only [blk2 h, blk3 h]
  idx_vars y
  rw [blk0 h]
  refine (delta_at _ _ _ _ _ _ _ _).trans ?_
  rw [pay_at, ← grad_row, blk1 h, blk4 h, blk5 h]
  refine congrArg (fun y : S688x1024.Idx => delta (grad p a b y) (w y) (u y) (v y)) (funext fun d => ?_)
  match d with
  | 0 => exact Fin.ext (by blk_simp [idx t, rowAt])
  | 1 => exact Fin.ext (by blk_simp [idx t, rowAt])

theorem final8 (h : Args m c p w a b u v) : (dats m 0 c).arrAt 8 (cfgs 0).N = ((fun y => mean (grad p a b y) (u y)) : FVec Ideal S688x1024 .f32) := by
  refine (dats m 0 c).arrAt_eq_of_covers 8 _ (by decide +kernel) fun t _ y => ?_
  blk_simp
  rw [after0_8]
  unfold outsAt0
  frame_out
  simp only [blk2 h, blk3 h]
  idx_vars y
  rw [blk0 h]
  refine (mean_at _ _ _ _ _ _).trans ?_
  rw [pay_at, ← grad_row, blk4 h]
  refine congrArg (fun y : S688x1024.Idx => mean (grad p a b y) (u y)) (funext fun d => ?_)
  match d with
  | 0 => exact Fin.ext (by blk_simp [idx t, rowAt])
  | 1 => exact Fin.ext (by blk_simp [idx t, rowAt])

theorem final9 (h : Args m c p w a b u v) : (dats m 0 c).arrAt 9 (cfgs 0).N = ((fun y => var (grad p a b y) (v y)) : FVec Ideal S688x1024 .f32) := by
  refine (dats m 0 c).arrAt_eq_of_covers 9 _ (by decide +kernel) fun t _ y => ?_
  blk_simp
  rw [after0_9]
  unfold outsAt0
  frame_out
  simp only [blk2 h, blk3 h]
  idx_vars y
  rw [blk0 h]
  refine (var_at _ _ _ _ _ _).trans ?_
  rw [pay_at, ← grad_row, blk5 h]
  refine congrArg (fun y : S688x1024.Idx => var (grad p a b y) (v y)) (funext fun d => ?_)
  match d with
  | 0 => exact Fin.ext (by blk_simp [idx t, rowAt])
  | 1 => exact Fin.ext (by blk_simp [idx t, rowAt])

end Cert.Adam.Rows

namespace Cert.Adam.Rows.Ref

open Idealize.ShloMosaic Idealize.ShloMosaic.TcCoe Idealize.SL.Sem Idealize.ShloMosaic.StableHlo
open Cert.Reference11Ideal Cert.Reference11Ideal.Gen Cert.Reference11Ideal.Read

theorem ref_grad (p : (⟨S2, .i32⟩ : BufTy).Contents (Elt Ideal)) (a b : FVec Ideal S1x344x1024 .f32) (y : S688x1024.Idx) :
    val_main_v12 (F := Ideal) p a b y = grad p a b y := by
  idx_vars y
  pointwise [val_main_v12, val_main_v11, val_main_v10, val_main_v9, val_main_v8, val_main_v7, val_main_v6, val_main_v5, val_main_v4, val_main_v3, val_main_v2, val_main_v1, val_main_v0, val_main_c, val_main_c_0]
  rw [cmp_comm, cmp_comm]
  exact pick (fun h => grad_eq p a b y0 0 _ y1 (by show y0.val = 0 * 344 + y0.val; omega))
    fun h => grad_eq p a b y0 1 _ y1 (by show y0.val = 1 * 344 + (y0.val - 344); omega)

theorem ref_mean (p : (⟨S2, .i32⟩ : BufTy).Contents (Elt Ideal)) (a b : FVec Ideal S1x344x1024 .f32) (u : FVec Ideal S688x1024 .f32) (y : S688x1024.Idx) :
    val_main_v17 (F := Ideal) p a b u y = mean (grad p a b y) (u y) := by
  rw [val_main_v17_apply, val_main_v16_apply, val_main_v15_apply, val_main_v14_apply, val_main_v13_apply, ref_grad]
  rfl

theorem ref_var (p : (⟨S2, .i32⟩ : BufTy).Contents (Elt Ideal)) (a b : FVec Ideal S1x344x1024 .f32) (v : FVec Ideal S688x1024 .f32) (y : S688x1024.Idx) :
    val_main_v23 (F := Ideal) p a b v y = var (grad p a b y) (v y) := by
  rw [val_main_v23_apply, val_main_v22_apply, val_main_v21_apply, val_main_v20_apply, val_main_v19_apply, val_main_v18_apply, ref_grad]
  rfl

theorem ref_delta (p : (⟨S2, .i32⟩ : BufTy).Contents (Elt Ideal)) (w : FVec Ideal S688x1024 .f32) (a b : FVec Ideal S1x344x1024 .f32) (u v : FVec Ideal S688x1024 .f32) (y : S688x1024.Idx) :
    val_main_v36 (F := Ideal) p w a b u v y = delta (grad p a b y) (w y) (u y) (v y) := by
  rw [val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply, ref_mean, ref_var]
  rfl

/-- What the reference ends with, over its arguments. -/
theorem run_step (m : (ℓ : Loc nD τ sig) → Buf (Elt Ideal) ℓ) (ρ : Dev nD → PrngReg) (p : Dev nD → (⟨S2, .i32⟩ : BufTy).Contents (Elt Ideal))
    (w : Dev nD → FVec Ideal S688x1024 .f32) (a b : Dev nD → FVec Ideal S1x344x1024 .f32) (u v : Dev nD → FVec Ideal S688x1024 .f32)
    (h : ∀ c : Dev nD, m ((c.tc : Thread nD τ).loc main_arg0) = p c ∧ m ((c.tc : Thread nD τ).loc main_arg1) = w c ∧ m ((c.tc : Thread nD τ).loc main_arg2) = a c
      ∧ m ((c.tc : Thread nD τ).loc main_arg3) = b c ∧ m ((c.tc : Thread nD τ).loc main_arg4) = u c ∧ m ((c.tc : Thread nD τ).loc main_arg5) = v c) :
    θ_run (defs (F := Ideal)) (onTc (τ := τ) (main (F := Ideal))) ⟨m, fun _ => 0, ρ⟩ fun o => ∀ c : Dev nD,
      o.2.mem ((c.tc : Thread nD τ).loc main_v12) = ((fun y => grad (p c) (a c) (b c) y) : FVec Ideal S688x1024 .f32)
      ∧ o.2.mem ((c.tc : Thread nD τ).loc main_v36) = ((fun y => delta (grad (p c) (a c) (b c) y) (w c y) (u c y) (v c y)) : FVec Ideal S688x1024 .f32)
      ∧ o.2.mem ((c.tc : Thread nD τ).loc main_v17) = ((fun y => mean (grad (p c) (a c) (b c) y) (u c y)) : FVec Ideal S688x1024 .f32)
      ∧ o.2.mem ((c.tc : Thread nD τ).loc main_v23) = ((fun y => var (grad (p c) (a c) (b c) y) (v c y)) : FVec Ideal S688x1024 .f32)
      ∧ o.2.mem ((c.tc : Thread nD τ).loc main_arg0) = m ((c.tc : Thread nD τ).loc main_arg0)
      ∧ o.2.mem ((c.tc : Thread nD τ).loc main_arg1) = m ((c.tc : Thread nD τ).loc main_arg1)
      ∧ o.2.mem ((c.tc : Thread nD τ).loc main_arg2) = m ((c.tc : Thread nD τ).loc main_arg2)
      ∧ o.2.mem ((c.tc : Thread nD τ).loc main_arg3) = m ((c.tc : Thread nD τ).loc main_arg3)
      ∧ o.2.mem ((c.tc : Thread nD τ).loc main_arg4) = m ((c.tc : Thread nD τ).loc main_arg4)
      ∧ o.2.mem ((c.tc : Thread nD τ).loc main_arg5) = m ((c.tc : Thread nD τ).loc main_arg5) :=
  (θ_run (defs (F := Ideal)) _ _).mono (fun o q c => by
    obtain ⟨q1, q2, q3, q4, k⟩ := q c
    obtain ⟨h0, h1, h2, h3, h4, h5⟩ := h c
    refine ⟨q1.trans ?_, q2.trans ?_, q3.trans ?_, q4.trans ?_, k⟩
    · rw [val_main_v12_eq, h0, h2, h3]; exact funext fun y => ref_grad _ _ _ y
    · rw [val_main_v36_eq, h0, h1, h2, h3, h4, h5]; exact funext fun y => ref_delta _ _ _ _ _ _ y
    · rw [val_main_v17_eq, h0, h2, h3, h4]; exact funext fun y => ref_mean _ _ _ _ y
    · rw [val_main_v23_eq, h0, h2, h3, h5]; exact funext fun y => ref_var _ _ _ _ y)
    (Cert.Reference11Ideal.Value.run m ρ)

end Cert.Adam.Rows.Ref

end
-- ==== Proof.AdamCols.lean ====
/- The step on a shard of weights kept by columns: the gradient is this device's half of the sum and its sibling's,
   in the order the device's place says, transposed. -/
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import proofs.«01_k».proof.Proof.AdamModel

@[expose] public section

set_option maxRecDepth 16384

noncomputable section

namespace Cert.Adam.Cols

open Idealize.ShloMosaic Idealize.ShloMosaic.TcCoe Idealize.SL.Sem Idealize.ShloMosaic.StableHlo
open Cert.Kernel12Ideal Cert.Kernel12Ideal.Gen

/-- Row `q` of a half: this device's, when the place says so, and its sibling's otherwise. -/
def half (p : BitVec 32) (a b : FVec Ideal S1x320x1024 .f32) (q : Fin 320) (i : Fin 1024) : Ideal .f32 :=
  Scalar.select (Scalar.cmpi .eq p 0#32) (a (ix3 0 q i)) (b (ix3 0 q i))

/-- The gradient: the two halves, one above the other, transposed. -/
def grad (p : (⟨S2, .i32⟩ : BufTy).Contents (Elt Ideal)) (a b : FVec Ideal S1x320x1024 .f32) (y : S1024x640.Idx) : Ideal .f32 :=
  if h : (y 1).val < 320 then half (p (ix1 1)) a b ⟨(y 1).val, h⟩ ⟨(y 0).val, (y 0).isLt⟩
  else half (p (ix1 1)) b a ⟨(y 1).val - 320, by have : (y 1).val < 640 := (y 1).isLt; omega⟩ ⟨(y 0).val, (y 0).isLt⟩

theorem idx : ∀ t : Fin cfg0.N, win0_0.index t = ![0] ∧ win0_1.index t = ![0, 0] ∧ win0_2.index t = ![0, 0, 0]
    ∧ win0_3.index t = ![0, 0, 0] ∧ win0_4.index t = ![0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

theorem pay_at (p : (⟨S2, .i32⟩ : BufTy).Contents (Elt Ideal)) (a b : FVec Ideal S1x320x1024 .f32) (y : S1024x640.Idx) :
    k0_pay2 (F := Ideal) (p (ix1 1)) a b b a y = grad p a b y := by
  idx_vars y
  pointwise [k0_pay2, half, grad]

theorem mean_at (p : BitVec 32) (a b : FVec Ideal S1x320x1024 .f32) (m : FVec Ideal S1024x640 .f32) (y : S1024x640.Idx) :
    k0_pay3 (F := Ideal) p a b b a m y = mean (k0_pay2 (F := Ideal) p a b b a y) (m y) := rfl

theorem var_at (p : BitVec 32) (a b : FVec Ideal S1x320x1024 .f32) (v : FVec Ideal S1024x640 .f32) (y : S1024x640.Idx) :
    k0_pay4 (F := Ideal) p a b b a v y = var (k0_pay2 (F := Ideal) p a b b a y) (v y) := rfl

theorem delta_at (p : BitVec 32) (a b : FVec Ideal S1x320x1024 .f32) (w m v : FVec Ideal S1024x640 .f32) (y : S1024x640.Idx) :
    k0_pay1 (F := Ideal) w (k0_pay4 (F := Ideal) p a b b a v) (k0_pay5 (F := Ideal) p a b b a m) y = delta (k0_pay2 (F := Ideal) p a b b a y) (w y) (m y) (v y) := rfl

/-- The arguments. -/
structure Args (m : (ℓ : Loc nD τ sig) → Buf (Elt Ideal) ℓ) (c : Dev nD) (p : (⟨S2, .i32⟩ : BufTy).Contents (Elt Ideal)) (w : FVec Ideal S1024x640 .f32)
    (a b : FVec Ideal S1x320x1024 .f32) (u v : FVec Ideal S1024x640 .f32) : Prop where
  p : m ((c : Thread nD τ).loc main_arg0) = p
  w : m ((c : Thread nD τ).loc main_arg1) = w
  a : m ((c : Thread nD τ).loc main_arg2) = a
  b : m ((c : Thread nD τ).loc main_arg3) = b
  u : m ((c : Thread nD τ).loc main_arg4) = u
  v : m ((c : Thread nD τ).loc main_arg5) = v

variable {m : (ℓ : Loc nD τ sig) → Buf (Elt Ideal) ℓ} {c : Dev nD} {p : (⟨S2, .i32⟩ : BufTy).Contents (Elt Ideal)} {w : FVec Ideal S1024x640 .f32}
  {a b : FVec Ideal S1x320x1024 .f32} {u v : FVec Ideal S1024x640 .f32}

theorem blk0 (h : Args m c p w a b u v) (t : Fin cfg0.N) (inb f) :
    View.ld (Val := Elt Ideal) (S := S2) (e' := .i32) (iblk m c 0 t) (Rect.unit (s := S2) ![1] ![1] inb) f = p (ix1 1) := by
  have e : V m c main_arg0 = p := (V_main_arg0 m c).trans h.p
  rw [View.ld_apply]
  blk_simp [iblk, idx t]
  rw [e]
  refine congrArg p (funext fun a => ?_)
  match a with
  | 0 =>
    refine Fin.ext ?_
    blk_simp [idx t]
    have g : (f 0).val < 1 := (f 0).isLt
    have e := Rect.idx_unit_val (s := S2) ![1] ![1] inb f 0
    refine e.trans ?_
    show 1 + (f 0).val = 1
    omega

theorem blk1 (h : Args m c p w a b u v) (t : Fin cfg0.N) : iblk m c 1 t = w := by
  funext y
  have e : V m c main_arg1 = w := (V_main_arg1 m c).trans h.w
  blk_simp [iblk, idx t]
  rw [e]
  refine congrArg w (funext fun a => ?_)
  match a with
  | 0 => exact Fin.ext (by blk_simp [idx t])
  | 1 => exact Fin.ext (by blk_simp [idx t])

theorem blk4 (h : Args m c p w a b u v) (t : Fin cfg0.N) : iblk m c 4 t = u := by
  funext y
  have e : V m c main_arg4 = u := (V_main_arg4 m c).trans h.u
  blk_simp [iblk, idx t]
  rw [e]
  refine congrArg u (funext fun a => ?_)
  match a with
  | 0 => exact Fin.ext (by blk_simp [idx t])
  | 1 => exact Fin.ext (by blk_simp [idx t])

theorem blk5 (h : Args m c p w a b u v) (t : Fin cfg0.N) : iblk m c 5 t = v := by
  funext y
  have e : V m c main_arg5 = v := (V_main_arg5 m c).trans h.v
  blk_simp [iblk, idx t]
  rw [e]
  refine congrArg v (funext fun a => ?_)
  match a with
  | 0 => exact Fin.ext (by blk_simp [idx t])
  | 1 => exact Fin.ext (by blk_simp [idx t])

theorem blk2 (h : Args m c p w a b u v) (t : Fin cfg0.N) : iblk m c 2 t = a := by
  funext y
  have e : V m c main_arg2 = a := (V_main_arg2 m c).trans h.a
  blk_simp [iblk, idx t]
  rw [e]
  refine congrArg a (funext fun a => ?_)
  match a with
  | 0 => exact Fin.ext (by blk_simp [idx t])
  | 1 => exact Fin.ext (by blk_simp [idx t])
  | 2 => exact Fin.ext (by blk_simp [idx t])

theorem blk3 (h : Args m c p w a b u v) (t : Fin cfg0.N) : iblk m c 3 t = b := by
  funext y
  have e : V m c main_arg3 = b := (V_main_arg3 m c).trans h.b
  blk_simp [iblk, idx t]
  rw [e]
  refine congrArg b (funext fun a => ?_)
  match a with
  | 0 => exact Fin.ext (by blk_simp [idx t])
  | 1 => exact Fin.ext (by blk_simp [idx t])
  | 2 => exact Fin.ext (by blk_simp [idx t])

theorem final6 (h : Args m c p w a b u v) : (dats m 0 c).arrAt 6 (cfgs 0).N = ((fun y => grad p a b y) : FVec Ideal S1024x640 .f32) := by
  refine (dats m 0 c).arrAt_eq_of_covers 6 _ (by decide +kernel) fun t _ y => ?_
  blk_simp
  rw [after0_6]
  unfold outsAt0
  frame_out
  simp only [blk1 h, blk2 h, blk3 h, blk4 h, blk5 h]
  idx_vars y
  rw [blk0 h]
  rw [pay_at]
  refine congrArg (fun y : S1024x640.Idx => grad p a b y) (funext fun d => ?_)
  match d with
  | 0 => exact Fin.ext (by blk_simp [idx t])
  | 1 => exact Fin.ext (by blk_simp [idx t])

theorem final7 (h : Args m c p w a b u v) : (dats m 0 c).arrAt 7 (cfgs 0).N = ((fun y => delta (grad p a b y) (w y) (u y) (v y)) : FVec Ideal S1024x640 .f32) := by
  refine (dats m 0 c).arrAt_eq_of_covers 7 _ (by decide +kernel) fun t _ y => ?_
  blk_simp
  rw [after0_7]
  unfold outsAt0
  frame_out
  simp only [blk1 h, blk2 h, blk3 h, blk4 h, blk5 h]
  idx_vars y
  rw [blk0 h]
  refine (delta_at _ _ _ _ _ _ _).trans ?_
  rw [pay_at]
  refine congrArg (fun y : S1024x640.Idx => delta (grad p a b y) (w y) (u y) (v y)) (funext fun d => ?_)
  match d with
  | 0 => exact Fin.ext (by blk_simp [idx t])
  | 1 => exact Fin.ext (by blk_simp [idx t])

theorem final8 (h : Args m c p w a b u v) : (dats m 0 c).arrAt 8 (cfgs 0).N = ((fun y => mean (grad p a b y) (u y)) : FVec Ideal S1024x640 .f32) := by
  refine (dats m 0 c).arrAt_eq_of_covers 8 _ (by decide +kernel) fun t _ y => ?_
  blk_simp
  rw [after0_8]
  unfold outsAt0
  frame_out
  simp only [blk1 h, blk2 h, blk3 h, blk4 h, blk5 h]
  idx_vars y
  rw [blk0 h]
  refine (mean_at _ _ _ _ _).trans ?_
  rw [pay_at]
  refine congrArg (fun y : S1024x640.Idx => mean (grad p a b y) (u y)) (funext fun d => ?_)
  match d with
  | 0 => exact Fin.ext (by blk_simp [idx t])
  | 1 => exact Fin.ext (by blk_simp [idx t])

theorem final9 (h : Args m c p w a b u v) : (dats m 0 c).arrAt 9 (cfgs 0).N = ((fun y => var (grad p a b y) (v y)) : FVec Ideal S1024x640 .f32) := by
  refine (dats m 0 c).arrAt_eq_of_covers 9 _ (by decide +kernel) fun t _ y => ?_
  blk_simp
  rw [after0_9]
  unfold outsAt0
  frame_out
  simp only [blk1 h, blk2 h, blk3 h, blk4 h, blk5 h]
  idx_vars y
  rw [blk0 h]
  refine (var_at _ _ _ _ _).trans ?_
  rw [pay_at]
  refine congrArg (fun y : S1024x640.Idx => var (grad p a b y) (v y)) (funext fun d => ?_)
  match d with
  | 0 => exact Fin.ext (by blk_simp [idx t])
  | 1 => exact Fin.ext (by blk_simp [idx t])

end Cert.Adam.Cols

namespace Cert.Adam.Cols.Ref

open Idealize.ShloMosaic Idealize.ShloMosaic.TcCoe Idealize.SL.Sem Idealize.ShloMosaic.StableHlo
open Cert.Reference12Ideal Cert.Reference12Ideal.Gen Cert.Reference12Ideal.Read

theorem ref_grad (p : (⟨S2, .i32⟩ : BufTy).Contents (Elt Ideal)) (a b : FVec Ideal S1x320x1024 .f32) (y : S1024x640.Idx) :
    val_main_v10 (F := Ideal) p a b y = grad p a b y := by
  idx_vars y
  pointwise [val_main_v10, val_main_v9, val_main_v8, val_main_v7, val_main_v6, val_main_v5, val_main_v4, val_main_v3, val_main_v2, val_main_v1, val_main_v0, val_main_c, grad, half]
  by_cases h : y1.val < 320
  · simp only [dif_pos h]
    rfl
  · simp only [dif_neg h]
    rfl

theorem ref_mean (p : (⟨S2, .i32⟩ : BufTy).Contents (Elt Ideal)) (a b : FVec Ideal S1x320x1024 .f32) (u : FVec Ideal S1024x640 .f32) (y : S1024x640.Idx) :
    val_main_v15 (F := Ideal) p a b u y = mean (grad p a b y) (u y) := by
  rw [val_main_v15_apply, val_main_v14_apply, val_main_v13_apply, val_main_v12_apply, val_main_v11_apply, ref_grad]
  rfl

theorem ref_var (p : (⟨S2, .i32⟩ : BufTy).Contents (Elt Ideal)) (a b : FVec Ideal S1x320x1024 .f32) (v : FVec Ideal S1024x640 .f32) (y : S1024x640.Idx) :
    val_main_v21 (F := Ideal) p a b v y = var (grad p a b y) (v y) := by
  rw [val_main_v21_apply, val_main_v20_apply, val_main_v19_apply, val_main_v18_apply, val_main_v17_apply, val_main_v16_apply, ref_grad]
  rfl

theorem ref_delta (p : (⟨S2, .i32⟩ : BufTy).Contents (Elt Ideal)) (w : FVec Ideal S1024x640 .f32) (a b : FVec Ideal S1x320x1024 .f32) (u v : FVec Ideal S1024x640 .f32) (y : S1024x640.Idx) :
    val_main_v34 (F := Ideal) p w a b u v y = delta (grad p a b y) (w y) (u y) (v y) := by
  rw [val_main_v34_apply, val_main_v33_apply, val_main_v32_apply, val_main_v31_apply, val_main_v30_apply, val_main_v29_apply, val_main_v28_apply,
    val_main_v27_apply, val_main_v26_apply, val_main_v25_apply, val_main_v24_apply, val_main_v23_apply, val_main_v22_apply, ref_mean, ref_var]
  rfl

/-- What the reference ends with, over its arguments. -/
theorem run_step (m : (ℓ : Loc nD τ sig) → Buf (Elt Ideal) ℓ) (ρ : Dev nD → PrngReg) (p : Dev nD → (⟨S2, .i32⟩ : BufTy).Contents (Elt Ideal))
    (w : Dev nD → FVec Ideal S1024x640 .f32) (a b : Dev nD → FVec Ideal S1x320x1024 .f32) (u v : Dev nD → FVec Ideal S1024x640 .f32)
    (h : ∀ c : Dev nD, m ((c.tc : Thread nD τ).loc main_arg0) = p c ∧ m ((c.tc : Thread nD τ).loc main_arg1) = w c ∧ m ((c.tc : Thread nD τ).loc main_arg2) = a c
      ∧ m ((c.tc : Thread nD τ).loc main_arg3) = b c ∧ m ((c.tc : Thread nD τ).loc main_arg4) = u c ∧ m ((c.tc : Thread nD τ).loc main_arg5) = v c) :
    θ_run (defs (F := Ideal)) (onTc (τ := τ) (main (F := Ideal))) ⟨m, fun _ => 0, ρ⟩ fun o => ∀ c : Dev nD,
      o.2.mem ((c.tc : Thread nD τ).loc main_v10) = ((fun y => grad (p c) (a c) (b c) y) : FVec Ideal S1024x640 .f32)
      ∧ o.2.mem ((c.tc : Thread nD τ).loc main_v34) = ((fun y => delta (grad (p c) (a c) (b c) y) (w c y) (u c y) (v c y)) : FVec Ideal S1024x640 .f32)
      ∧ o.2.mem ((c.tc : Thread nD τ).loc main_v15) = ((fun y => mean (grad (p c) (a c) (b c) y) (u c y)) : FVec Ideal S1024x640 .f32)
      ∧ o.2.mem ((c.tc : Thread nD τ).loc main_v21) = ((fun y => var (grad (p c) (a c) (b c) y) (v c y)) : FVec Ideal S1024x640 .f32)
      ∧ o.2.mem ((c.tc : Thread nD τ).loc main_arg0) = m ((c.tc : Thread nD τ).loc main_arg0)
      ∧ o.2.mem ((c.tc : Thread nD τ).loc main_arg1) = m ((c.tc : Thread nD τ).loc main_arg1)
      ∧ o.2.mem ((c.tc : Thread nD τ).loc main_arg2) = m ((c.tc : Thread nD τ).loc main_arg2)
      ∧ o.2.mem ((c.tc : Thread nD τ).loc main_arg3) = m ((c.tc : Thread nD τ).loc main_arg3)
      ∧ o.2.mem ((c.tc : Thread nD τ).loc main_arg4) = m ((c.tc : Thread nD τ).loc main_arg4)
      ∧ o.2.mem ((c.tc : Thread nD τ).loc main_arg5) = m ((c.tc : Thread nD τ).loc main_arg5) :=
  (θ_run (defs (F := Ideal)) _ _).mono (fun o q c => by
    obtain ⟨q1, q2, q3, q4, k⟩ := q c
    obtain ⟨h0, h1, h2, h3, h4, h5⟩ := h c
    refine ⟨q1.trans ?_, q2.trans ?_, q3.trans ?_, q4.trans ?_, k⟩
    · rw [val_main_v10_eq, h0, h2, h3]; exact funext fun y => ref_grad _ _ _ y
    · rw [val_main_v34_eq, h0, h1, h2, h3, h4, h5]; exact funext fun y => ref_delta _ _ _ _ _ _ y
    · rw [val_main_v15_eq, h0, h2, h3, h4]; exact funext fun y => ref_mean _ _ _ _ y
    · rw [val_main_v21_eq, h0, h2, h3, h5]; exact funext fun y => ref_var _ _ _ _ y)
    (Cert.Reference12Ideal.Value.run m ρ)

end Cert.Adam.Cols.Ref

end
-- ==== Proof.AdamOut.lean ====
/- The step on the output projection's shard, as on the other shards kept by rows: each grid point updates one half of the rows, whose gradient is
   this device's half of the sum or its sibling's, as the device's place says. -/
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import proofs.«01_k».proof.Proof.AdamModel

@[expose] public section

set_option maxRecDepth 16384

noncomputable section

namespace Cert.Adam.Out

open Idealize.ShloMosaic Idealize.ShloMosaic.TcCoe Idealize.SL.Sem Idealize.ShloMosaic.StableHlo
open Cert.Kernel14Ideal Cert.Kernel14Ideal.Gen

/-- Row `q` of half `k`: this device's, when the place says so, and its sibling's otherwise. -/
def half (p : BitVec 32) (a b : FVec Ideal S1x128x1024 .f32) (k : ℕ) (q : Fin 128) (j : Fin 1024) : Ideal .f32 :=
  Scalar.select (Scalar.cmpi .eq (BitVec.ofNat 32 k) p) (a (ix3 0 q j)) (b (ix3 0 q j))

/-- The gradient: the two halves, one above the other. -/
def grad (p : (⟨S2, .i32⟩ : BufTy).Contents (Elt Ideal)) (a b : FVec Ideal S1x128x1024 .f32) (y : S256x1024.Idx) : Ideal .f32 :=
  half (p (ix1 1)) a b ((y 0).val / 128) ⟨(y 0).val % 128, Nat.mod_lt _ (by decide)⟩ ⟨(y 1).val, (y 1).isLt⟩

theorem idx : ∀ t : Fin cfg0.N, win0_0.index t = ![0] ∧ win0_1.index t = ![t.val, 0] ∧ win0_2.index t = ![0, 0, 0]
    ∧ win0_3.index t = ![0, 0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

theorem coord : ∀ t : Fin cfg0.N, (grid0.coords t 0).val = t.val :=
  (by decide +kernel : ∀ t : Fin grid0.N, _)

/-- Row `q` of the block of point `t`. -/
def rowAt (t : Fin cfg0.N) (q : Fin 128) : Fin 256 :=
  ⟨t.val * 128 + q.val, by have := lt_of_lt_of_eq t.isLt (show cfg0.N = 2 from N_0); have := q.isLt; omega⟩

theorem grad_eq (p : (⟨S2, .i32⟩ : BufTy).Contents (Elt Ideal)) (a b : FVec Ideal S1x128x1024 .f32) (i : Fin 256) (k : ℕ) (q : Fin 128) (j : Fin 1024)
    (h : i.val = k * 128 + q.val) : half (p (ix1 1)) a b k q j = grad p a b (ix2 i j) := by
  have e : i.val / 128 = k := by have := q.isLt; omega
  have f : (⟨i.val % 128, Nat.mod_lt _ (by decide)⟩ : Fin 128) = q := Fin.ext (by show i.val % 128 = q.val; have := q.isLt; omega)
  show _ = half (p (ix1 1)) a b (i.val / 128) ⟨i.val % 128, Nat.mod_lt _ (by decide)⟩ j
  rw [e, f]

theorem grad_row (p : (⟨S2, .i32⟩ : BufTy).Contents (Elt Ideal)) (a b : FVec Ideal S1x128x1024 .f32) (t : Fin cfg0.N) (q : Fin 128) (j : Fin 1024) :
    grad p a b (ix2 (rowAt t q) j) = half (p (ix1 1)) a b (grid0.coords t 0).val q j :=
  (grad_eq p a b (rowAt t q) (grid0.coords t 0).val q j (by rw [coord]; rfl)).symm

theorem pay_at (i : grid0.Coords) (p : BitVec 32) (a b : FVec Ideal S1x128x1024 .f32) (q : Fin 128) (j : Fin 1024) :
    k0_pay2 (F := Ideal) i p a b (ix2 q j) = half p a b (i 0).val q j := by
  pointwise [k0_pay2, half]

theorem mean_at (i : grid0.Coords) (p : BitVec 32) (a b : FVec Ideal S1x128x1024 .f32) (m : FVec Ideal S128x1024 .f32) (y : S128x1024.Idx) :
    k0_pay3 (F := Ideal) i p a b m y = mean (k0_pay2 (F := Ideal) i p a b y) (m y) := rfl

theorem var_at (i : grid0.Coords) (p : BitVec 32) (a b : FVec Ideal S1x128x1024 .f32) (v : FVec Ideal S128x1024 .f32) (y : S128x1024.Idx) :
    k0_pay4 (F := Ideal) i p a b v y = var (k0_pay2 (F := Ideal) i p a b y) (v y) := rfl

theorem delta_at (i : grid0.Coords) (p : BitVec 32) (a b : FVec Ideal S1x128x1024 .f32) (w m v : FVec Ideal S128x1024 .f32) (y : S128x1024.Idx) :
    k0_pay1 (F := Ideal) (k0_pay5 (F := Ideal) i p a b w m v) (k0_pay6 (F := Ideal)) y = delta (k0_pay2 (F := Ideal) i p a b y) (w y) (m y) (v y) := rfl

/-- The arguments. -/
structure Args (m : (ℓ : Loc nD τ sig) → Buf (Elt Ideal) ℓ) (c : Dev nD) (p : (⟨S2, .i32⟩ : BufTy).Contents (Elt Ideal)) (w : FVec Ideal S256x1024 .f32)
    (a b : FVec Ideal S1x128x1024 .f32) (u v : FVec Ideal S256x1024 .f32) : Prop where
  p : m ((c : Thread nD τ).loc main_arg0) = p
  w : m ((c : Thread nD τ).loc main_arg1) = w
  a : m ((c : Thread nD τ).loc main_arg2) = a
  b : m ((c : Thread nD τ).loc main_arg3) = b
  u : m ((c : Thread nD τ).loc main_arg4) = u
  v : m ((c : Thread nD τ).loc main_arg5) = v

variable {m : (ℓ : Loc nD τ sig) → Buf (Elt Ideal) ℓ} {c : Dev nD} {p : (⟨S2, .i32⟩ : BufTy).Contents (Elt Ideal)} {w : FVec Ideal S256x1024 .f32}
  {a b : FVec Ideal S1x128x1024 .f32} {u v : FVec Ideal S256x1024 .f32}

theorem blk0 (h : Args m c p w a b u v) (t : Fin cfg0.N) (inb f) :
    View.ld (Val := Elt Ideal) (S := S2) (e' := .i32) (iblk m c 0 t) (Rect.unit (s := S2) ![1] ![1] inb) f = p (ix1 1) := by
  have e : V m c main_arg0 = p := (V_main_arg0 m c).trans h.p
  rw [View.ld_apply]
  blk_simp [iblk, idx t]
  rw [e]
  refine congrArg p (funext fun a => ?_)
  match a with
  | 0 =>
    refine Fin.ext ?_
    blk_simp [idx t]
    have g : (f 0).val < 1 := (f 0).isLt
    have e := Rect.idx_unit_val (s := S2) ![1] ![1] inb f 0
    refine e.trans ?_
    show 1 + (f 0).val = 1
    omega

theorem blk1 (h : Args m c p w a b u v) (t : Fin cfg0.N) (q : Fin 128) (j : Fin 1024) : (iblk m c 1 t : FVec Ideal S128x1024 .f32) (ix2 q j) = w (ix2 (rowAt t q) j) := by
  have e : V m c main_arg1 = w := (V_main_arg1 m c).trans h.w
  blk_simp [iblk, idx t]
  rw [e]
  refine congrArg w (funext fun a => ?_)
  match a with
  | 0 => exact Fin.ext (by blk_simp [idx t, rowAt])
  | 1 => exact Fin.ext (by blk_simp [idx t, rowAt])

theorem blk2 (h : Args m c p w a b u v) (t : Fin cfg0.N) : iblk m c 2 t = a := by
  funext y
  have e : V m c main_arg2 = a := (V_main_arg2 m c).trans h.a
  blk_simp [iblk, idx t]
  rw [e]
  refine congrArg a (funext fun a => ?_)
  match a with
  | 0 => exact Fin.ext (by blk_simp [idx t, rowAt])
  | 1 => exact Fin.ext (by blk_simp [idx t, rowAt])
  | 2 => exact Fin.ext (by blk_simp [idx t, rowAt])

theorem blk3 (h : Args m c p w a b u v) (t : Fin cfg0.N) : iblk m c 3 t = b := by
  funext y
  have e : V m c main_arg3 = b := (V_main_arg3 m c).trans h.b
  blk_simp [iblk, idx t]
  rw [e]
  refine congrArg b (funext fun a => ?_)
  match a with
  | 0 => exact Fin.ext (by blk_simp [idx t, rowAt])
  | 1 => exact Fin.ext (by blk_simp [idx t, rowAt])
  | 2 => exact Fin.ext (by blk_simp [idx t, rowAt])

theorem blk4 (h : Args m c p w a b u v) (t : Fin cfg0.N) (q : Fin 128) (j : Fin 1024) : (iblk m c 4 t : FVec Ideal S128x1024 .f32) (ix2 q j) = u (ix2 (rowAt t q) j) := by
  have e : V m c main_arg4 = u := (V_main_arg4 m c).trans h.u
  blk_simp [iblk, idx t]
  rw [e]
  refine congrArg u (funext fun a => ?_)
  match a with
  | 0 => exact Fin.ext (by blk_simp [idx t, rowAt])
  | 1 => exact Fin.ext (by blk_simp [idx t, rowAt])

theorem blk5 (h : Args m c p w a b u v) (t : Fin cfg0.N) (q : Fin 128) (j : Fin 1024) : (iblk m c 5 t : FVec Ideal S128x1024 .f32) (ix2 q j) = v (ix2 (rowAt t q) j) := by
  have e : V m c main_arg5 = v := (V_main_arg5 m c).trans h.v
  blk_simp [iblk, idx t]
  rw [e]
  refine congrArg v (funext fun a => ?_)
  match a with
  | 0 => exact Fin.ext (by blk_simp [idx t, rowAt])
  | 1 => exact Fin.ext (by blk_simp [idx t, rowAt])

theorem final6 (h : Args m c p w a b u v) : (dats m 0 c).arrAt 6 (cfgs 0).N = ((fun y => grad p a b y) : FVec Ideal S256x1024 .f32) := by
  refine (dats m 0 c).arrAt_eq_of_covers 6 _ (by decide +kernel) fun t _ y => ?_
  blk_simp
  rw [after0_6]
  unfold outsAt0
  frame_out
  simp only [blk2 h, blk3 h]
  idx_vars y
  rw [blk0 h]
  rw [pay_at, ← grad_row]
  refine congrArg (fun y : S256x1024.Idx => grad p a b y) (funext fun d => ?_)
  match d with
  | 0 => exact Fin.ext (by blk_simp [idx t, rowAt])
  | 1 => exact Fin.ext (by blk_simp [idx t, rowAt])

theorem final7 (h : Args m c p w a b u v) : (dats m 0 c).arrAt 7 (cfgs 0).N = ((fun y => delta (grad p a b y) (w y) (u y) (v y)) : FVec Ideal S256x1024 .f32) := by
  refine (dats m 0 c).arrAt_eq_of_covers 7 _ (by decide +kernel) fun t _ y => ?_
  blk_simp
  rw [after0_7]
  unfold outsAt0
  frame_out
  simp only [blk2 h, blk3 h]
  idx_vars y
  rw [blk0 h]
  refine (delta_at _ _ _ _ _ _ _ _).trans ?_
  rw [pay_at, ← grad_row, blk1 h, blk4 h, blk5 h]
  refine congrArg (fun y : S256x1024.Idx => delta (grad p a b y) (w y) (u y) (v y)) (funext fun d => ?_)
  match d with
  | 0 => exact Fin.ext (by blk_simp [idx t, rowAt])
  | 1 => exact Fin.ext (by blk_simp [idx t, rowAt])

theorem final8 (h : Args m c p w a b u v) : (dats m 0 c).arrAt 8 (cfgs 0).N = ((fun y => mean (grad p a b y) (u y)) : FVec Ideal S256x1024 .f32) := by
  refine (dats m 0 c).arrAt_eq_of_covers 8 _ (by decide +kernel) fun t _ y => ?_
  blk_simp
  rw [after0_8]
  unfold outsAt0
  frame_out
  simp only [blk2 h, blk3 h]
  idx_vars y
  rw [blk0 h]
  refine (mean_at _ _ _ _ _ _).trans ?_
  rw [pay_at, ← grad_row, blk4 h]
  refine congrArg (fun y : S256x1024.Idx => mean (grad p a b y) (u y)) (funext fun d => ?_)
  match d with
  | 0 => exact Fin.ext (by blk_simp [idx t, rowAt])
  | 1 => exact Fin.ext (by blk_simp [idx t, rowAt])

theorem final9 (h : Args m c p w a b u v) : (dats m 0 c).arrAt 9 (cfgs 0).N = ((fun y => var (grad p a b y) (v y)) : FVec Ideal S256x1024 .f32) := by
  refine (dats m 0 c).arrAt_eq_of_covers 9 _ (by decide +kernel) fun t _ y => ?_
  blk_simp
  rw [after0_9]
  unfold outsAt0
  frame_out
  simp only [blk2 h, blk3 h]
  idx_vars y
  rw [blk0 h]
  refine (var_at _ _ _ _ _ _).trans ?_
  rw [pay_at, ← grad_row, blk5 h]
  refine congrArg (fun y : S256x1024.Idx => var (grad p a b y) (v y)) (funext fun d => ?_)
  match d with
  | 0 => exact Fin.ext (by blk_simp [idx t, rowAt])
  | 1 => exact Fin.ext (by blk_simp [idx t, rowAt])

end Cert.Adam.Out

namespace Cert.Adam.Out.Ref

open Idealize.ShloMosaic Idealize.ShloMosaic.TcCoe Idealize.SL.Sem Idealize.ShloMosaic.StableHlo
open Cert.Reference14Ideal Cert.Reference14Ideal.Gen Cert.Reference14Ideal.Read

theorem ref_grad (p : (⟨S2, .i32⟩ : BufTy).Contents (Elt Ideal)) (a b : FVec Ideal S1x128x1024 .f32) (y : S256x1024.Idx) :
    val_main_v12 (F := Ideal) p a b y = grad p a b y := by
  idx_vars y
  pointwise [val_main_v12, val_main_v11, val_main_v10, val_main_v9, val_main_v8, val_main_v7, val_main_v6, val_main_v5, val_main_v4, val_main_v3, val_main_v2, val_main_v1, val_main_v0, val_main_c, val_main_c_0]
  rw [cmp_comm, cmp_comm]
  exact pick (fun h => grad_eq p a b y0 0 _ y1 (by show y0.val = 0 * 128 + y0.val; omega))
    fun h => grad_eq p a b y0 1 _ y1 (by show y0.val = 1 * 128 + (y0.val - 128); omega)

theorem ref_mean (p : (⟨S2, .i32⟩ : BufTy).Contents (Elt Ideal)) (a b : FVec Ideal S1x128x1024 .f32) (u : FVec Ideal S256x1024 .f32) (y : S256x1024.Idx) :
    val_main_v17 (F := Ideal) p a b u y = mean (grad p a b y) (u y) := by
  rw [val_main_v17_apply, val_main_v16_apply, val_main_v15_apply, val_main_v14_apply, val_main_v13_apply, ref_grad]
  rfl

theorem ref_var (p : (⟨S2, .i32⟩ : BufTy).Contents (Elt Ideal)) (a b : FVec Ideal S1x128x1024 .f32) (v : FVec Ideal S256x1024 .f32) (y : S256x1024.Idx) :
    val_main_v23 (F := Ideal) p a b v y = var (grad p a b y) (v y) := by
  rw [val_main_v23_apply, val_main_v22_apply, val_main_v21_apply, val_main_v20_apply, val_main_v19_apply, val_main_v18_apply, ref_grad]
  rfl

theorem ref_delta (p : (⟨S2, .i32⟩ : BufTy).Contents (Elt Ideal)) (w : FVec Ideal S256x1024 .f32) (a b : FVec Ideal S1x128x1024 .f32) (u v : FVec Ideal S256x1024 .f32) (y : S256x1024.Idx) :
    val_main_v36 (F := Ideal) p w a b u v y = delta (grad p a b y) (w y) (u y) (v y) := by
  rw [val_main_v36_apply, val_main_v35_apply, val_main_v34_apply, val_main_v33_apply, val_main_v32_apply, val_main_v31_apply, val_main_v30_apply,
    val_main_v29_apply, val_main_v28_apply, val_main_v27_apply, val_main_v26_apply, val_main_v25_apply, val_main_v24_apply, ref_mean, ref_var]
  rfl

/-- What the reference ends with, over its arguments. -/
theorem run_step (m : (ℓ : Loc nD τ sig) → Buf (Elt Ideal) ℓ) (ρ : Dev nD → PrngReg) (p : Dev nD → (⟨S2, .i32⟩ : BufTy).Contents (Elt Ideal))
    (w : Dev nD → FVec Ideal S256x1024 .f32) (a b : Dev nD → FVec Ideal S1x128x1024 .f32) (u v : Dev nD → FVec Ideal S256x1024 .f32)
    (h : ∀ c : Dev nD, m ((c.tc : Thread nD τ).loc main_arg0) = p c ∧ m ((c.tc : Thread nD τ).loc main_arg1) = w c ∧ m ((c.tc : Thread nD τ).loc main_arg2) = a c
      ∧ m ((c.tc : Thread nD τ).loc main_arg3) = b c ∧ m ((c.tc : Thread nD τ).loc main_arg4) = u c ∧ m ((c.tc : Thread nD τ).loc main_arg5) = v c) :
    θ_run (defs (F := Ideal)) (onTc (τ := τ) (main (F := Ideal))) ⟨m, fun _ => 0, ρ⟩ fun o => ∀ c : Dev nD,
      o.2.mem ((c.tc : Thread nD τ).loc main_v12) = ((fun y => grad (p c) (a c) (b c) y) : FVec Ideal S256x1024 .f32)
      ∧ o.2.mem ((c.tc : Thread nD τ).loc main_v36) = ((fun y => delta (grad (p c) (a c) (b c) y) (w c y) (u c y) (v c y)) : FVec Ideal S256x1024 .f32)
      ∧ o.2.mem ((c.tc : Thread nD τ).loc main_v17) = ((fun y => mean (grad (p c) (a c) (b c) y) (u c y)) : FVec Ideal S256x1024 .f32)
      ∧ o.2.mem ((c.tc : Thread nD τ).loc main_v23) = ((fun y => var (grad (p c) (a c) (b c) y) (v c y)) : FVec Ideal S256x1024 .f32)
      ∧ o.2.mem ((c.tc : Thread nD τ).loc main_arg0) = m ((c.tc : Thread nD τ).loc main_arg0)
      ∧ o.2.mem ((c.tc : Thread nD τ).loc main_arg1) = m ((c.tc : Thread nD τ).loc main_arg1)
      ∧ o.2.mem ((c.tc : Thread nD τ).loc main_arg2) = m ((c.tc : Thread nD τ).loc main_arg2)
      ∧ o.2.mem ((c.tc : Thread nD τ).loc main_arg3) = m ((c.tc : Thread nD τ).loc main_arg3)
      ∧ o.2.mem ((c.tc : Thread nD τ).loc main_arg4) = m ((c.tc : Thread nD τ).loc main_arg4)
      ∧ o.2.mem ((c.tc : Thread nD τ).loc main_arg5) = m ((c.tc : Thread nD τ).loc main_arg5) :=
  (θ_run (defs (F := Ideal)) _ _).mono (fun o q c => by
    obtain ⟨q1, q2, q3, q4, k⟩ := q c
    obtain ⟨h0, h1, h2, h3, h4, h5⟩ := h c
    refine ⟨q1.trans ?_, q2.trans ?_, q3.trans ?_, q4.trans ?_, k⟩
    · rw [val_main_v12_eq, h0, h2, h3]; exact funext fun y => ref_grad _ _ _ y
    · rw [val_main_v36_eq, h0, h1, h2, h3, h4, h5]; exact funext fun y => ref_delta _ _ _ _ _ _ y
    · rw [val_main_v17_eq, h0, h2, h3, h4]; exact funext fun y => ref_mean _ _ _ _ y
    · rw [val_main_v23_eq, h0, h2, h3, h5]; exact funext fun y => ref_var _ _ _ _ y)
    (Cert.Reference14Ideal.Value.run m ρ)

end Cert.Adam.Out.Ref

end
-- ==== Proof.Model.lean ====
/- The feed-forward block's gradient over the real numbers, row by row, and the lemmas that carry the ideal operations
   of real numbers to real numbers. Both programs are shown to compute these functions of finite arguments. -/
module

public import Idealize.ShloMosaic.Lib.Pointwise
public import Idealize.ShloMosaic.PureOps.Ideal.Laws

@[expose] public section

set_option maxRecDepth 16384

noncomputable section

namespace Cert.Model

open Idealize.ShloMosaic

/-! ## Real numbers among the extended ones -/

theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem div_real {x y : ℝ} (h : y ≠ 0) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The positive number added under the root. -/
def eps : ℝ := 8796093 / 8796093022208

theorem eps_pos : 0 < eps := by unfold eps; norm_num

theorem eps_bits : Ideal.ofBits .f32 0x358637BD#32 = ((eps : ℝ) : EReal) := by
  unfold eps; simp [Ideal.ofBits, Ideal.ieee, -EReal.coe_mul]; norm_num

theorem width_bits : Ideal.ofBits .f32 0x44800000#32 = ((1024 : ℝ) : EReal) := by
  simp [Ideal.ofBits, Ideal.ieee, -EReal.coe_mul]; norm_num

theorem half_bits : Ideal.ofBits .f32 0x3F000000#32 = ((1 / 2 : ℝ) : EReal) := by
  simp [Ideal.ofBits, Ideal.ieee, -EReal.coe_mul]; norm_num

theorem neg_half_bits : Ideal.ofBits .f32 0xBF000000#32 = ((-(1 / 2) : ℝ) : EReal) := by
  simp [Ideal.ofBits, Ideal.ieee, -EReal.coe_mul]; norm_num

theorem one_bits : Ideal.ofBits .f32 0x3F800000#32 = ((1 : ℝ) : EReal) := by
  simp [Ideal.ofBits, Ideal.ieee, -EReal.coe_mul]; norm_num

theorem one_real : (1 : EReal) = ((1 : ℝ) : EReal) := rfl
theorem zero_real : (0 : EReal) = ((0 : ℝ) : EReal) := rfl

/-! ## The functions -/

/-- The mean square of a row of 1024 entries, and the small number. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg _) (by norm_num)) eps_pos

/-- The reciprocal root mean square. -/
def inv (x : Fin 1024 → ℝ) : ℝ := (Real.sqrt (ms x))⁻¹

theorem inv_sq (x : Fin 1024 → ℝ) : inv x * inv x = (ms x)⁻¹ := by
  unfold inv
  rw [← mul_inv, Real.mul_self_sqrt (ms_pos x).le]

/-- The normalised row, scaled. -/
def norm (x g : Fin 1024 → ℝ) (j : Fin 1024) : ℝ := x j * inv x * g j

/-- A row times a matrix. -/
def lin {n p : ℕ} (h : Fin n → ℝ) (w : Fin n → Fin p → ℝ) (f : Fin p) : ℝ := ∑ k, h k * w k f

/-- A row times a matrix transposed. -/
def linT {n p : ℕ} (h : Fin p → ℝ) (w : Fin n → Fin p → ℝ) (k : Fin n) : ℝ := ∑ f, h f * w k f

/-- The logistic function. -/
def sigm (a : ℝ) : ℝ := (1 + Real.exp (-a))⁻¹

theorem sig_real (a : ℝ) : Ideal.div 1 (1 + Ideal.exp (-(a : EReal))) = ((sigm a : ℝ) : EReal) := by
  have h : (0 : ℝ) < 1 + Real.exp (-a) := by positivity
  rw [← EReal.coe_neg, Ideal.exp_coe, show (1 : EReal) = ((1 : ℝ) : EReal) from rfl, ← EReal.coe_add, div_real h.ne', one_div]
  rfl

/-- The gated product. -/
def gate {n : ℕ} (a b : Fin n → ℝ) (f : Fin n) : ℝ := a f * sigm (a f) * b f

/-- The gradient of the normalisation with respect to its row, for the cotangent `dy`. -/
def normBwd (x g dy : Fin 1024 → ℝ) (j : Fin 1024) : ℝ :=
  inv x * (dy j * g j - x j * inv x * ((∑ k, dy k * g k * (x k * inv x)) / 1024))

/-- The gradient of the gated product with respect to the gate's argument. -/
def dGate {n : ℕ} (a b d : Fin n → ℝ) (f : Fin n) : ℝ := d f * b f * (sigm (a f) * (1 + a f * (1 - sigm (a f))))

/-- The gradient of the gated product with respect to the other factor. -/
def dUp {n : ℕ} (a d : Fin n → ℝ) (f : Fin n) : ℝ := d f * (a f * sigm (a f))

/-- Reverse mode's formula for the gradient of the normalisation: the same number. -/
theorem normBwd_ad (x g dy : Fin 1024 → ℝ) (j : Fin 1024) (r : ℝ)
    (hr : r = (∑ k, x k * (dy k * g k)) * (-(1 / 2) * (inv x / ms x)) / 1024) :
    dy j * g j * inv x + x j * r + r * x j = normBwd x g dy j := by
  have h3 : inv x / ms x = inv x * (inv x * inv x) := by rw [inv_sq, div_eq_mul_inv]
  have hs : (∑ k, dy k * g k * (x k * inv x)) = (∑ k, x k * (dy k * g k)) * inv x := by
    rw [Finset.sum_mul]; exact Finset.sum_congr rfl fun k _ => by ring
  unfold normBwd
  rw [hr, h3, hs]
  ring

/-- The block's parameters. -/
structure Wts where
  gpre : Fin 1024 → ℝ
  wg : Fin 1024 → Fin 2752 → ℝ
  wu : Fin 1024 → Fin 2752 → ℝ
  wd : Fin 2752 → Fin 1024 → ℝ
  gpost : Fin 1024 → ℝ

namespace Wts
variable (w : Wts) (x d : Fin 1024 → ℝ)

/-- The forward values of one row. -/
def h : Fin 1024 → ℝ := norm x w.gpre
def a : Fin 2752 → ℝ := lin (w.h x) w.wg
def b : Fin 2752 → ℝ := lin (w.h x) w.wu
def hh : Fin 2752 → ℝ := gate (w.a x) (w.b x)
def f : Fin 1024 → ℝ := lin (w.hh x) w.wd

/-- The gradients of one row, for the cotangent `d` of the block's result. -/
def df : Fin 1024 → ℝ := normBwd (w.f x) w.gpost fun j => 1 / 2 * d j
def dhh : Fin 2752 → ℝ := linT (w.df x d) w.wd
def da : Fin 2752 → ℝ := dGate (w.a x) (w.b x) (w.dhh x d)
def db : Fin 2752 → ℝ := dUp (w.a x) (w.dhh x d)
def dh (k : Fin 1024) : ℝ := linT (w.da x d) w.wg k + linT (w.db x d) w.wu k
def dx (j : Fin 1024) : ℝ := d j + normBwd x w.gpre (w.dh x d) j

/-- One row's part of the gradients of the two scales. -/
def dgpre (j : Fin 1024) : ℝ := w.dh x d j * (x j * inv x)
def dgpost (j : Fin 1024) : ℝ := 1 / 2 * d j * (w.f x j * inv (w.f x))

end Wts

/-- A matrix of real numbers as an array. -/
def up {n p : ℕ} (f : Fin n → Fin p → ℝ) : (⟨2, ![n, p]⟩ : Shape).Idx → EReal := fun i => ((f (i 0) (i 1) : ℝ) : EReal)

theorem up_ix2 {n p : ℕ} (f : Fin n → Fin p → ℝ) (i : Fin n) (j : Fin p) : up f (ix2 i j) = ((f i j : ℝ) : EReal) := rfl

end Cert.Model

end
-- ==== Proof.Finite.lean ====
/- The precondition: an argument whose entries are all below infinity in absolute value is a real array. -/
module

public import proofs.«01_k».proof.Defs
public import proofs.«01_k».proof.Proof.Gen.Pre_finite
public import Idealize.ShloMosaic.Lib.ReduceAll
public import Idealize.ShloMosaic.Lib.Affine
public import proofs.«01_k».proof.Proof.Model

@[expose] public section

set_option maxRecDepth 16384

noncomputable section

namespace Cert.Model.Finite

open Idealize.ShloMosaic Idealize.SL.Sem

theorem top_bits : Ideal.ofBits .f32 0x7F800000#32 = (⊤ : EReal) := by
  simp [Ideal.ofBits, Ideal.ieee]

theorem real_of_lt (a : EReal) (h : Ideal.cmp .olt (max a (-a)) (⊤ : EReal) = 1#1) : ∃ r : ℝ, a = (r : EReal) := by
  induction a using EReal.rec with
  | bot => simp [Ideal.cmp] at h
  | coe r => exact ⟨r, rfl⟩
  | top => simp [Ideal.cmp] at h

/-- A two-axis array of entries below infinity is an array of real numbers. -/
theorem up_of_all {n p : ℕ} (X : FVec Ideal (⟨2, ![n, p]⟩ : Shape) .f32)
    (hb : Cert.Pre_finite.S_.BroadcastsInDim (⟨2, ![n, p]⟩ : Shape) ![])
    (h : ∀ i, cmpf .olt (Host.absf X) (broadcastInDim (⟨2, ![n, p]⟩ : Shape) ![] hb (constant Cert.Pre_finite.S_ .f32 0x7F800000#32)) i = 1#1) :
    X = up fun i j => (X (ix2 i j)).toReal := by
  funext i
  have e : Ideal.cmp .olt (max (X i) (-(X i))) (Ideal.ofBits .f32 0x7F800000#32) = 1#1 := h i
  rw [top_bits] at e
  obtain ⟨r, hr⟩ := real_of_lt _ e
  have hi : ix2 (i 0) (i 1) = i := by funext a; match a with | 0 => rfl | 1 => rfl
  refine Eq.trans ?_ (congrArg (fun k => (((X k : EReal).toReal : ℝ) : EReal)) hi.symm)
  show X i = (((X i : EReal).toReal : ℝ) : EReal)
  rw [hr, EReal.toReal_coe]

theorem reals (x0 x1 : FVec Ideal Cert.Pre_finite.S8192x1024 .f32) (x2 : FVec Ideal Cert.Pre_finite.S1x1024 .f32)
    (x3 x4 : FVec Ideal Cert.Pre_finite.S1024x2752 .f32) (x5 : FVec Ideal Cert.Pre_finite.S2752x1024 .f32) (x6 : FVec Ideal Cert.Pre_finite.S1x1024 .f32)
    (h : Cert.Pre_finite.fn (F := Ideal) x0 x1 x2 x3 x4 x5 x6 = fun _ => 1#1) :
    ∃ (w : Wts) (x d : Fin 8192 → Fin 1024 → ℝ), x0 = up x ∧ x1 = up d ∧ x2 = (up fun _ : Fin 1 => w.gpre) ∧ x3 = up w.wg ∧ x4 = up w.wu
      ∧ x5 = up w.wd ∧ x6 = (up fun _ : Fin 1 => w.gpost) := by
  have e := congrFun h fun a => a.elim0
  dsimp only [Cert.Pre_finite.fn, Cert.Pre_finite.fn_part1, Cert.Pre_finite.fn_part2] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e, e0⟩ := IntOp.andi_eq_one.1 e
  haveI : Subsingleton Cert.Pre_finite.S_.Idx := ⟨fun a b => funext fun k => k.elim0⟩
  have row : ∀ X : FVec Ideal Cert.Pre_finite.S1x1024 .f32, X = (up fun i j => (X (ix2 i j)).toReal) → X = up fun _ : Fin 1 => fun j => (X (ix2 0 j)).toReal := by
    intro X hX
    refine hX.trans (congrArg up ?_)
    funext i
    rw [Subsingleton.elim i 0]
  exact ⟨⟨_, _, _, _, _⟩, _, _, up_of_all _ _ (Host.reduce_andi_all _ _ _ _ _ e0), up_of_all _ _ (Host.reduce_andi_all _ _ _ _ _ e1),
    row _ (up_of_all _ _ (Host.reduce_andi_all _ _ _ _ _ e2)), up_of_all _ _ (Host.reduce_andi_all _ _ _ _ _ e3), up_of_all _ _ (Host.reduce_andi_all _ _ _ _ _ e4),
    up_of_all _ _ (Host.reduce_andi_all _ _ _ _ _ e5), row _ (up_of_all _ _ (Host.reduce_andi_all _ _ _ _ _ e6))⟩

end Cert.Model.Finite

end
-- ==== Proof.RefReal.lean ====
/- The reference program over finite arguments: each value it computes is the row function of Proof/Model.lean. -/
module

public import proofs.«01_k».proof.Proof.Gen.ReferenceIdeal.Read
public import proofs.«01_k».proof.Proof.Model

@[expose] public section

set_option maxRecDepth 16384

noncomputable section

namespace Cert.Model.Ref

open Idealize.ShloMosaic Idealize.ShloMosaic.TcCoe Idealize.SL.Sem
open Cert.ReferenceIdeal Cert.ReferenceIdeal.Gen Cert.ReferenceIdeal.Read

variable (w : Wts) (x d : Fin 8192 → Fin 1024 → ℝ) (i : Fin 8192)

/-- A scale as an array of one row. -/
abbrev row (g : Fin 1024 → ℝ) : FVec Ideal S1x1024 .f32 := up fun _ : Fin 1 => g

theorem v8 : val_main_v8 (F := Ideal) (up x) (ix2 i 0) = ((ms (x i) : ℝ) : EReal) := by
  pointwise [val_main_v8, val_main_v7, val_main_cst_3, val_main_v6, val_main_v5, val_main_cst_2, val_main_v4, val_main_v3,
    val_main_cst_1, val_main_v2, up_ix2]
  simp only [eps_bits, width_bits, ← EReal.coe_mul, coe_sum, zero_add, div_real (show (1024 : ℝ) ≠ 0 by norm_num), ← EReal.coe_add]
  rfl

theorem v9 : val_main_v9 (F := Ideal) (up x) (ix2 i 0) = ((inv (x i) : ℝ) : EReal) := by
  pointwise [val_main_v9, v8]
  exact rsqrt_real (ms_pos _)

theorem v12 : val_main_v12 (F := Ideal) (up x) (ix2 i 0) = ((-(1 / 2) * (inv (x i) / ms (x i)) : ℝ) : EReal) := by
  pointwise [val_main_v12, val_main_v11, val_main_v10, val_main_cst_4, v9, v8]
  rw [neg_half_bits, div_real (ms_pos _).ne', ← EReal.coe_mul]

theorem v14 (j : Fin 1024) : val_main_v14 (F := Ideal) (up x) (ix2 i j) = ((x i j * inv (x i) : ℝ) : EReal) := by
  pointwise [val_main_v14, val_main_v13, v9, up_ix2]
  rw [← EReal.coe_mul]

theorem v16 (j : Fin 1024) : val_main_v16 (F := Ideal) (up x) (row w.gpre) (ix2 i j) = ((w.h (x i) j : ℝ) : EReal) := by
  pointwise [val_main_v16, val_main_v15, v14, up_ix2]
  rw [← EReal.coe_mul]; rfl

theorem v18 (f : Fin 2752) : val_main_v18 (F := Ideal) (up x) (row w.gpre) (up w.wg) (ix2 i f) = ((w.a (x i) f : ℝ) : EReal) := by
  pointwise [val_main_v18, val_main_v17, val_main_v0, val_main_cst, v16, up_ix2]
  simp only [← EReal.coe_mul, coe_sum, add_zero]; rfl

theorem v20 (f : Fin 2752) : val_main_v20 (F := Ideal) (up x) (row w.gpre) (up w.wu) (ix2 i f) = ((w.b (x i) f : ℝ) : EReal) := by
  pointwise [val_main_v20, val_main_v19, val_main_v0, val_main_cst, v16, up_ix2]
  simp only [← EReal.coe_mul, coe_sum, add_zero]; rfl

theorem v21_2 (f : Fin 2752) : val_main_v21_2 (F := Ideal) (up x) (row w.gpre) (up w.wg) (ix2 i f) = ((sigm (w.a (x i) f) : ℝ) : EReal) := by
  pointwise [val_main_v21_2, val_main_call0_v4, val_main_call0_cst_0, val_main_call0_v3, val_main_call0_v2, val_main_call0_cst,
    val_main_call0_v1, val_main_call0_v0, v18]
  exact sig_real _

theorem v21_1 (f : Fin 2752) : val_main_v21_1 (F := Ideal) (up x) (row w.gpre) (up w.wg) (ix2 i f)
    = ((sigm (w.a (x i) f) * (1 - sigm (w.a (x i) f)) : ℝ) : EReal) := by
  pointwise [val_main_v21_1, val_main_call0_v7, val_main_call0_v6, val_main_call0_cst_1, v21_2]
  simp only [one_real, ← EReal.coe_sub, ← EReal.coe_mul]

theorem v21_0 (f : Fin 2752) : val_main_v21_0 (F := Ideal) (up x) (row w.gpre) (up w.wg) (ix2 i f)
    = ((w.a (x i) f * sigm (w.a (x i) f) : ℝ) : EReal) := by
  pointwise [val_main_v21_0, v21_2, v18]
  simp only [← EReal.coe_mul]

theorem v22 (f : Fin 2752) : val_main_v22 (F := Ideal) (up x) (row w.gpre) (up w.wg) (up w.wu) (ix2 i f) = ((w.hh (x i) f : ℝ) : EReal) := by
  pointwise [val_main_v22, v21_0, v20]
  rw [← EReal.coe_mul]; rfl

theorem v24 (j : Fin 1024) : val_main_v24 (F := Ideal) (up x) (row w.gpre) (up w.wg) (up w.wu) (up w.wd) (ix2 i j)
    = ((w.f (x i) j : ℝ) : EReal) := by
  pointwise [val_main_v24, val_main_v23, val_main_v1, val_main_cst_0, v22, up_ix2]
  simp only [← EReal.coe_mul, coe_sum, add_zero]; rfl

theorem v31 : val_main_v31 (F := Ideal) (up x) (row w.gpre) (up w.wg) (up w.wu) (up w.wd) (ix2 i 0)
    = ((ms (w.f (x i)) : ℝ) : EReal) := by
  pointwise [val_main_v31, val_main_v30, val_main_cst_7, val_main_v29, val_main_v28, val_main_cst_6, val_main_v27, val_main_v26,
    val_main_cst_5, val_main_v25, v24]
  simp only [eps_bits, width_bits, ← EReal.coe_mul, coe_sum, zero_add, div_real (show (1024 : ℝ) ≠ 0 by norm_num), ← EReal.coe_add]
  rfl

theorem v32 : val_main_v32 (F := Ideal) (up x) (row w.gpre) (up w.wg) (up w.wu) (up w.wd) (ix2 i 0)
    = ((inv (w.f (x i)) : ℝ) : EReal) := by
  pointwise [val_main_v32, v31]
  exact rsqrt_real (ms_pos _)

theorem v35 : val_main_v35 (F := Ideal) (up x) (row w.gpre) (up w.wg) (up w.wu) (up w.wd) (ix2 i 0)
    = ((-(1 / 2) * (inv (w.f (x i)) / ms (w.f (x i))) : ℝ) : EReal) := by
  pointwise [val_main_v35, val_main_v34, val_main_v33, val_main_cst_8, v32, v31]
  rw [neg_half_bits, div_real (ms_pos _).ne', ← EReal.coe_mul]

theorem v45 (j : Fin 1024) : val_main_v45 (F := Ideal) (up d) (ix2 i j) = ((1 / 2 * d i j : ℝ) : EReal) := by
  pointwise [val_main_v45, val_main_v44, val_main_cst_10, val_main_v43, up_ix2]
  rw [half_bits, ← EReal.coe_mul]

theorem v48 (j : Fin 1024) : val_main_v48 (F := Ideal) (up x) (up d) (row w.gpre) (up w.wg) (up w.wu) (up w.wd) (ix2 0 j)
    = ((∑ i, w.dgpost (x i) (d i) j : ℝ) : EReal) := by
  pointwise [val_main_v48, val_main_v47, val_main_cst_11, val_main_v46, val_main_v37, val_main_v36, v45, v32, v24]
  simp only [← EReal.coe_mul, coe_sum, zero_add]
  exact congrArg _ (Finset.sum_congr rfl fun i _ => mul_comm _ _)

theorem v50 (j : Fin 1024) : val_main_v50 (F := Ideal) (up d) (row w.gpost) (ix2 i j) = ((1 / 2 * d i j * w.gpost j : ℝ) : EReal) := by
  pointwise [val_main_v50, val_main_v49, v45, up_ix2]
  rw [← EReal.coe_mul]

/-- The reference's correction of the normalisation's gradient, once for each of its two uses. -/
def corr (x e : Fin 1024 → ℝ) : ℝ := (∑ k, x k * e k) * (-(1 / 2) * (inv x / ms x)) / 1024

theorem v60 (j : Fin 1024) : val_main_v60 (F := Ideal) (up x) (up d) (row w.gpre) (up w.wg) (up w.wu) (up w.wd) (row w.gpost) (ix2 i j)
    = ((corr (w.f (x i)) (fun k => 1 / 2 * d i k * w.gpost k) : ℝ) : EReal) := by
  pointwise [val_main_v60, val_main_v59, val_main_cst_14, val_main_v58, val_main_v57, val_main_cst_13, val_main_v56, val_main_v53,
    val_main_v52, val_main_cst_12, val_main_v51, v50, v35, v24]
  simp only [width_bits, Fin.sum_univ_one, v35, ← EReal.coe_mul, coe_sum, zero_add, div_real (show (1024 : ℝ) ≠ 0 by norm_num)]
  rfl

theorem v64 (j : Fin 1024) : val_main_v64 (F := Ideal) (up x) (up d) (row w.gpre) (up w.wg) (up w.wu) (up w.wd) (row w.gpost) (ix2 i j)
    = ((w.df (x i) (d i) j : ℝ) : EReal) := by
  pointwise [val_main_v64, val_main_v63, val_main_v62, val_main_v61, val_main_v55, val_main_v54, v60, v50, v32, v24]
  simp only [← EReal.coe_mul, ← EReal.coe_add]
  exact congrArg _ (normBwd_ad (w.f (x i)) w.gpost (fun k => 1 / 2 * d i k) j _ rfl)

theorem v65 (f : Fin 2752) : val_main_v65 (F := Ideal) (up x) (up d) (row w.gpre) (up w.wg) (up w.wu) (up w.wd) (row w.gpost) (ix2 i f)
    = ((w.dhh (x i) (d i) f : ℝ) : EReal) := by
  pointwise [val_main_v65, v64, up_ix2]
  simp only [← EReal.coe_mul, coe_sum]; rfl

theorem v66 (f : Fin 2752) : val_main_v66 (F := Ideal) (up x) (up d) (row w.gpre) (up w.wg) (up w.wu) (up w.wd) (row w.gpost) (ix2 i f)
    = ((w.db (x i) (d i) f : ℝ) : EReal) := by
  pointwise [val_main_v66, v65, v21_0]
  rw [← EReal.coe_mul]
  exact congrArg _ (mul_comm _ _)

theorem v68 (f : Fin 2752) : val_main_v68 (F := Ideal) (up x) (up d) (row w.gpre) (up w.wg) (up w.wu) (up w.wd) (row w.gpost) (ix2 i f)
    = ((w.da (x i) (d i) f : ℝ) : EReal) := by
  pointwise [val_main_v68, val_main_call1_v2, val_main_call1_v1, val_main_call1_v0, val_main_v67, v65, v21_2, v21_1, v20, v18]
  simp only [← EReal.coe_mul, ← EReal.coe_add]
  refine congrArg _ ?_
  unfold Wts.da dGate
  ring

theorem v71 (k : Fin 1024) : val_main_v71 (F := Ideal) (up x) (up d) (row w.gpre) (up w.wg) (up w.wu) (up w.wd) (row w.gpost) (ix2 i k)
    = ((w.dh (x i) (d i) k : ℝ) : EReal) := by
  pointwise [val_main_v71, val_main_v70, val_main_v69, v68, v66, up_ix2]
  simp only [← EReal.coe_mul, coe_sum, ← EReal.coe_add]
  exact congrArg _ (add_comm _ _)

theorem v74 (j : Fin 1024) : val_main_v74 (F := Ideal) (up x) (up d) (row w.gpre) (up w.wg) (up w.wu) (up w.wd) (row w.gpost) (ix2 0 j)
    = ((∑ i, w.dgpre (x i) (d i) j : ℝ) : EReal) := by
  pointwise [val_main_v74, val_main_v73, val_main_cst_15, val_main_v72, v71, v14]
  simp only [← EReal.coe_mul, coe_sum, zero_add]
  exact congrArg _ (Finset.sum_congr rfl fun i _ => mul_comm _ _)

theorem v76 (j : Fin 1024) : val_main_v76 (F := Ideal) (up x) (up d) (row w.gpre) (up w.wg) (up w.wu) (up w.wd) (row w.gpost) (ix2 i j)
    = ((w.dh (x i) (d i) j * w.gpre j : ℝ) : EReal) := by
  pointwise [val_main_v76, val_main_v75, v71, up_ix2]
  rw [← EReal.coe_mul]

theorem v87 (j : Fin 1024) : val_main_v87 (F := Ideal) (up x) (up d) (row w.gpre) (up w.wg) (up w.wu) (up w.wd) (row w.gpost) (ix2 i j)
    = ((corr (x i) (fun k => w.dh (x i) (d i) k * w.gpre k) : ℝ) : EReal) := by
  pointwise [val_main_v87, val_main_v86, val_main_cst_18, val_main_v85, val_main_v84, val_main_cst_17, val_main_v83, val_main_v79,
    val_main_v78, val_main_cst_16, val_main_v77, v76, v12, up_ix2]
  simp only [width_bits, Fin.sum_univ_one, v12, ← EReal.coe_mul, coe_sum, zero_add, div_real (show (1024 : ℝ) ≠ 0 by norm_num)]
  rfl

theorem v91 (j : Fin 1024) : val_main_v91 (F := Ideal) (up x) (up d) (row w.gpre) (up w.wg) (up w.wu) (up w.wd) (row w.gpost) (ix2 i j)
    = ((w.dx (x i) (d i) j : ℝ) : EReal) := by
  pointwise [val_main_v91, val_main_v90, val_main_v89, val_main_v88, val_main_v82, val_main_v81, val_main_v80, v87, v76, v9, up_ix2]
  simp only [← EReal.coe_mul, ← EReal.coe_add]
  refine congrArg _ ?_
  rw [add_assoc, add_assoc, ← add_assoc (_ * inv _)]
  exact congrArg _ (normBwd_ad (x i) w.gpre (w.dh (x i) (d i)) j _ rfl)

end Cert.Model.Ref

end
-- ==== Proof.Entry.lean ====
/- What the pipeline finds in its input arrays: the host code's forward values, over real arguments. -/
module

public import proofs.«01_k».proof.Proof.Gen.KernelIdeal.Frame
public import Idealize.ShloMosaic.Lib.Pipeline.ValueKit
public import Idealize.ShloMosaic.Lib.Claim
public import proofs.«01_k».proof.Proof.RefReal

@[expose] public section

set_option maxRecDepth 16384

noncomputable section

namespace Cert.Model.Entry

open Idealize.ShloMosaic Idealize.ShloMosaic.TcCoe Idealize.SL.Sem
open Cert.KernelIdeal Cert.KernelIdeal.Gen
open Cert.ReferenceIdeal.Read (val_main_v16 val_main_v17 val_main_v19)

variable (w : Wts) (x : Fin 8192 → Fin 1024 → ℝ)

/-- The block's last product of the two first ones. -/
def down (a b : FVec Ideal S8192x2752 .f32) (wd : FVec Ideal S2752x1024 .f32) : FVec Ideal S8192x1024 .f32 :=
  Host.dotGeneral dot_S8192x2752_S2752x1024_S8192x1024_1_0_0_1_n_n none
    (mulf (mulf a (Host.divf (broadcastInDim S8192x2752 ![] bcast_S_S8192x2752 (constant S_ .f32 0x3F800000#32))
      (addf (broadcastInDim S8192x2752 ![] bcast_S_S8192x2752 (constant S_ .f32 0x3F800000#32)) (Host.exp (Host.negf a))))) b) wd

theorem down_at (i : Fin 8192) (j : Fin 1024) :
    down (up fun i => w.a (x i)) (up fun i => w.b (x i)) (up w.wd) (ix2 i j) = ((w.f (x i) j : ℝ) : EReal) := by
  pointwise [down, up_ix2]
  simp only [sig_real, ← EReal.coe_mul, coe_sum]
  rfl

theorem down_real : down (up fun i => w.a (x i)) (up fun i => w.b (x i)) (up w.wd) = up fun i => w.f (x i) := by
  funext i
  idx_vars i
  exact down_at w x _ _

theorem v17_real : val_main_v17 (F := Ideal) (up x) (Ref.row w.gpre) (up w.wg) = up fun i => w.a (x i) := by
  funext i
  idx_vars i
  pointwise [val_main_v17, Ref.v16, up_ix2]
  simp only [← EReal.coe_mul, coe_sum]; rfl

theorem v19_real : val_main_v19 (F := Ideal) (up x) (Ref.row w.gpre) (up w.wu) = up fun i => w.b (x i) := by
  funext i
  idx_vars i
  pointwise [val_main_v19, Ref.v16, up_ix2]
  simp only [← EReal.coe_mul, coe_sum]; rfl

/-- A weight as the kernel takes it: transposed. -/
def flip (g : FVec Ideal S1024x2752 .f32) : FVec Ideal S2752x1024 .bf16 :=
  truncf .bf16 (transpose S2752x1024 [1, 0] g transposes_S1024x2752_S2752x1024_1_0) bitsLt_bf16_f32

theorem flip_real (g : Fin 1024 → Fin 2752 → ℝ) : flip (up g) = up fun f k => g k f := by
  funext i
  idx_vars i
  pointwise [flip, up_ix2]

variable (m : (ℓ : Loc nD τ sig) → Buf (Elt Ideal) ℓ) (c : Dev nD)

theorem V12 : V m c main_v12
    = val_main_v17 (F := Ideal) (m ((c : Thread nD τ).loc main_arg0)) (m ((c : Thread nD τ).loc main_arg2)) (m ((c : Thread nD τ).loc main_arg3)) := by
  unfold V
  simp only [hostOps0, hostOps0_1, hostOps0_2, List.flatten_cons, List.flatten_nil, List.cons_append, List.nil_append]
  after_results_simp
  rfl

theorem V13 : V m c main_v13
    = val_main_v19 (F := Ideal) (m ((c : Thread nD τ).loc main_arg0)) (m ((c : Thread nD τ).loc main_arg2)) (m ((c : Thread nD τ).loc main_arg4)) := by
  unfold V
  simp only [hostOps0, hostOps0_1, hostOps0_2, List.flatten_cons, List.flatten_nil, List.cons_append, List.nil_append]
  after_results_simp
  rfl

theorem V16 : V m c main_v16 = down (V m c main_v12) (V m c main_v13) (m ((c : Thread nD τ).loc main_arg5)) := by
  rw [V12, V13]
  unfold V
  simp only [hostOps0, hostOps0_1, hostOps0_2, List.flatten_cons, List.flatten_nil, List.cons_append, List.nil_append]
  after_results_simp
  rfl

theorem V17 : V m c main_v17 = (V m c main_v12 : FVec Ideal S8192x2752 .f32) := by
  rw [V12]
  unfold V
  simp only [hostOps0, hostOps0_1, hostOps0_2, List.flatten_cons, List.flatten_nil, List.cons_append, List.nil_append]
  after_results_simp
  rfl

theorem V18 : V m c main_v18 = (V m c main_v13 : FVec Ideal S8192x2752 .f32) := by
  rw [V13]
  unfold V
  simp only [hostOps0, hostOps0_1, hostOps0_2, List.flatten_cons, List.flatten_nil, List.cons_append, List.nil_append]
  after_results_simp
  rfl

theorem V20 : V m c main_v20
    = flip (m ((c : Thread nD τ).loc main_arg3)) := by
  unfold V
  simp only [hostOps0, hostOps0_1, hostOps0_2, List.flatten_cons, List.flatten_nil, List.cons_append, List.nil_append]
  after_results_simp
  rfl

theorem V22 : V m c main_v22
    = flip (m ((c : Thread nD τ).loc main_arg4)) := by
  unfold V
  simp only [hostOps0, hostOps0_1, hostOps0_2, List.flatten_cons, List.flatten_nil, List.cons_append, List.nil_append]
  after_results_simp
  rfl

theorem V23 : V m c main_v23 = (m ((c : Thread nD τ).loc main_arg5) : FVec Ideal S2752x1024 .f32) := by
  unfold V
  simp only [hostOps0, hostOps0_1, hostOps0_2, List.flatten_cons, List.flatten_nil, List.cons_append, List.nil_append]
  after_results_simp
  rfl

end Cert.Model.Entry

end
-- ==== Proof.Payload.lean ====
/- What the kernel's body computes from real blocks: 256 rows at a time, each the row functions of Proof/Model.lean. -/
module

public import proofs.«01_k».proof.Proof.Gen.KernelIdeal.Skeleton
public import proofs.«01_k».proof.Proof.Model

@[expose] public section

set_option maxRecDepth 16384

noncomputable section

namespace Cert.Model.Pay

open Idealize.ShloMosaic Idealize.ShloMosaic.TcCoe Idealize.SL.Sem
open Cert.KernelIdeal Cert.KernelIdeal.Gen

variable (w : Wts) (x d f : Fin 256 → Fin 1024 → ℝ) (p : Fin 256)

/-- The blocks the body reads, for the rows `x` of the block's input. -/
abbrev rowB (g : Fin 1024 → ℝ) : FVec Ideal S1x1024 .f32 := up fun _ : Fin 1 => g
abbrev xB : FVec Ideal S256x1024 .f32 := up x
abbrev fB : FVec Ideal S256x1024 .f32 := up fun p => w.f (x p)
abbrev aB : FVec Ideal S256x2752 .bf16 := up fun p => w.a (x p)
abbrev bB : FVec Ideal S256x2752 .bf16 := up fun p => w.b (x p)
abbrev wgB : FVec Ideal S2752x1024 .bf16 := up fun f k => w.wg k f
abbrev wuB : FVec Ideal S2752x1024 .bf16 := up fun f k => w.wu k f
abbrev wdB : FVec Ideal S2752x1024 .bf16 := up w.wd

theorem pay4 : k0_pay4 (F := Ideal) (xB f) (ix2 p 0) = ((inv (f p) : ℝ) : EReal) := by
  pointwise [k0_pay4, k0_pay3, up_ix2]
  simp only [eps_bits, width_bits, ← EReal.coe_mul, coe_sum, zero_add, div_real (show (1024 : ℝ) ≠ 0 by norm_num), ← EReal.coe_add]
  exact rsqrt_real (ms_pos _)

theorem pay17 : k0_pay17 (F := Ideal) (xB f) (ix2 p 0) = ((inv (f p) : ℝ) : EReal) := by
  pointwise [k0_pay17, up_ix2]
  simp only [eps_bits, width_bits, ← EReal.coe_mul, coe_sum, zero_add, div_real (show (1024 : ℝ) ≠ 0 by norm_num), ← EReal.coe_add]
  exact rsqrt_real (ms_pos _)

theorem pay5 (j : Fin 1024) : k0_pay5 (F := Ideal) (xB d) (ix2 p j) = ((1 / 2 * d p j : ℝ) : EReal) := by
  pointwise [k0_pay5, up_ix2]
  rw [half_bits, ← EReal.coe_mul]

theorem pay6 (j : Fin 1024) : k0_pay6 (F := Ideal) (xB f) (ix2 p j) = ((f p j * inv (f p) : ℝ) : EReal) := by
  pointwise [k0_pay6, k0_pay3, pay4, up_ix2]
  rw [← EReal.coe_mul]

theorem pay7 (j : Fin 1024) : k0_pay7 (F := Ideal) (xB d) (fB w x) (ix2 0 j) = ((∑ p, w.dgpost (x p) (d p) j : ℝ) : EReal) := by
  pointwise [k0_pay7, pay5, pay6]
  simp only [← EReal.coe_mul, coe_sum, zero_add]
  rfl

theorem pay8 (j : Fin 1024) : k0_pay8 (F := Ideal) (xB d) (fB w x) (rowB w.gpost) (ix2 p j) = ((w.df (x p) (d p) j : ℝ) : EReal) := by
  pointwise [k0_pay8, pay4, pay5, pay6, up_ix2]
  simp only [width_bits, ← EReal.coe_mul, coe_sum, zero_add, div_real (show (1024 : ℝ) ≠ 0 by norm_num), ← EReal.coe_sub]
  rfl

theorem pay9 (f : Fin 2752) : k0_pay9 (F := Ideal) (xB d) (fB w x) (rowB w.gpost) (wdB w) (ix2 p f) = ((w.dhh (x p) (d p) f : ℝ) : EReal) := by
  pointwise [k0_pay9, pay8, up_ix2]
  simp only [← EReal.coe_mul, coe_sum, zero_add]
  rfl

/-- The extended blocks: the gradient of the gated product, and its argument. -/
abbrev dhhB : FVec Ideal S256x2752 .f32 := k0_pay9 (F := Ideal) (xB d) (fB w x) (rowB w.gpost) (wdB w)
abbrev a32 : FVec Ideal S256x2752 .f32 := k0_pay10 (F := Ideal) (aB w x)

theorem pay10 (f : Fin 2752) : a32 w x (ix2 p f) = ((w.a (x p) f : ℝ) : EReal) := by
  pointwise [k0_pay10, up_ix2]

theorem pay11 (f : Fin 2752) : k0_pay11 (F := Ideal) (bB w x) (ix2 p f) = ((w.b (x p) f : ℝ) : EReal) := by
  pointwise [k0_pay11, up_ix2]

theorem pay12 (f : Fin 2752) : k0_pay12 (F := Ideal) (a32 w x) (ix2 p f) = ((sigm (w.a (x p) f) : ℝ) : EReal) := by
  pointwise [k0_pay12, pay10]
  exact Ideal.logistic_coe _

theorem pay13 (f : Fin 2752) : k0_pay13 (F := Ideal) (a32 w x) (ix2 p f) = ((w.a (x p) f * sigm (w.a (x p) f) : ℝ) : EReal) := by
  pointwise [k0_pay13, pay12, pay10]
  rw [← EReal.coe_mul]

theorem pay14 (f : Fin 2752) : k0_pay14 (F := Ideal) (dhhB w x d) (a32 w x) (bB w x) (ix2 p f) = ((w.da (x p) (d p) f : ℝ) : EReal) := by
  pointwise [k0_pay14, pay9, pay10, pay11, pay12]
  simp only [one_real, ← EReal.coe_mul, ← EReal.coe_sub, ← EReal.coe_add]
  rfl

theorem pay15 (f : Fin 2752) : k0_pay15 (F := Ideal) (dhhB w x d) (a32 w x) (ix2 p f) = ((w.db (x p) (d p) f : ℝ) : EReal) := by
  pointwise [k0_pay15, pay9, pay13]
  simp only [← EReal.coe_mul]
  rfl

theorem pay16 (k : Fin 1024) : k0_pay16 (F := Ideal) (dhhB w x d) (a32 w x) (bB w x) (wgB w) (wuB w) (ix2 p k)
    = ((w.dh (x p) (d p) k : ℝ) : EReal) := by
  pointwise [k0_pay16, pay14, pay15, up_ix2]
  simp only [← EReal.coe_mul, coe_sum, zero_add, ← EReal.coe_add]
  rfl

theorem pay18 (j : Fin 1024) : k0_pay18 (F := Ideal) (xB x) (ix2 p j) = ((x p j * inv (x p) : ℝ) : EReal) := by
  pointwise [k0_pay18, pay17, up_ix2]
  rw [← EReal.coe_mul]

theorem pay19 (k : Fin 1024) : k0_pay19 (F := Ideal) (dhhB w x d) (a32 w x) (bB w x) (wgB w) (wuB w) (rowB w.gpre) (ix2 p k)
    = ((w.dh (x p) (d p) k * w.gpre k : ℝ) : EReal) := by
  pointwise [k0_pay19, pay16, up_ix2]
  rw [← EReal.coe_mul]

theorem pay20 (j : Fin 1024) : k0_pay20 (F := Ideal) (dhhB w x d) (a32 w x) (bB w x) (wgB w) (wuB w) (xB x) (rowB w.gpre) (ix2 p j)
    = ((x p j * inv (x p) * ((∑ k, w.dh (x p) (d p) k * w.gpre k * (x p k * inv (x p))) / 1024) : ℝ) : EReal) := by
  pointwise [k0_pay20, pay18, pay19]
  simp only [width_bits, ← EReal.coe_mul, coe_sum, zero_add, div_real (show (1024 : ℝ) ≠ 0 by norm_num)]

theorem pay21 (j : Fin 1024) : k0_pay21 (F := Ideal) (xB d) (k0_pay17 (xB x))
    (k0_pay19 (dhhB w x d) (a32 w x) (bB w x) (wgB w) (wuB w) (rowB w.gpre))
    (k0_pay20 (dhhB w x d) (a32 w x) (bB w x) (wgB w) (wuB w) (xB x) (rowB w.gpre)) (ix2 p j) = ((w.dx (x p) (d p) j : ℝ) : EReal) := by
  pointwise [k0_pay21, pay17, pay19, pay20, up_ix2]
  simp only [← EReal.coe_mul, ← EReal.coe_sub, ← EReal.coe_add]
  rfl

theorem pay22 (f : Fin 2752) : k0_pay22 (F := Ideal) (k0_pay11 (bB w x)) (k0_pay13 (a32 w x)) (ix2 p f) = ((w.hh (x p) f : ℝ) : EReal) := by
  pointwise [k0_pay22, pay11, pay13]
  rw [← EReal.coe_mul]; rfl

theorem pay23 (j : Fin 1024) : k0_pay23 (F := Ideal) (xB x) (k0_pay17 (xB x)) (rowB w.gpre) (ix2 p j) = ((w.h (x p) j : ℝ) : EReal) := by
  pointwise [k0_pay23, pay17, up_ix2]
  simp only [← EReal.coe_mul]
  rfl

theorem pay2 (acc : FVec Ideal S1x1024 .f32) (j : S1x1024.Idx) : k0_pay2 (F := Ideal) (k0_pay24 (k0_pay7 (xB d) (fB w x))) acc j
    = acc j + ((∑ p, w.dgpost (x p) (d p) (j 1) : ℝ) : EReal) := by
  idx_vars j
  obtain rfl : j0 = 0 := Subsingleton.elim _ _
  pointwise [k0_pay2, k0_pay24, pay7]

theorem pay26 (acc : FVec Ideal S1x1024 .f32) (j : S1x1024.Idx) :
    k0_pay26 (F := Ideal) (k0_pay16 (dhhB w x d) (a32 w x) (bB w x) (wgB w) (wuB w)) (k0_pay18 (xB x)) acc j
    = acc j + ((∑ p, w.dgpre (x p) (d p) (j 1) : ℝ) : EReal) := by
  idx_vars j
  pointwise [k0_pay26, pay16, pay18]
  simp only [← EReal.coe_mul, coe_sum, zero_add]
  rfl

theorem pay1 (j : S1x1024.Idx) : k0_pay1 (F := Ideal) j = 0 := by pointwise [k0_pay1]
theorem pay25 (j : S1x1024.Idx) : k0_pay25 (F := Ideal) j = 0 := by pointwise [k0_pay25]

/-- The six blocks written back at every point, at any index. -/
theorem at10 (y : S256x1024.Idx) : k0_pay21 (F := Ideal) (xB d) (k0_pay17 (xB x)) (k0_pay19 (dhhB w x d) (a32 w x) (bB w x) (wgB w) (wuB w) (rowB w.gpre)) (k0_pay20 (dhhB w x d) (a32 w x) (bB w x) (wgB w) (wuB w) (xB x) (rowB w.gpre)) y = ((w.dx (x (y 0)) (d (y 0)) (y 1) : ℝ) : EReal) := by
  idx_vars y
  exact pay21 w x d _ _

theorem at11 (y : S256x2752.Idx) : k0_pay22 (F := Ideal) (k0_pay11 (bB w x)) (k0_pay13 (a32 w x)) y = ((w.hh (x (y 0)) (y 1) : ℝ) : EReal) := by
  idx_vars y
  exact pay22 w x _ _

theorem at12 (y : S256x2752.Idx) : k0_pay14 (F := Ideal) (dhhB w x d) (a32 w x) (bB w x) y = ((w.da (x (y 0)) (d (y 0)) (y 1) : ℝ) : EReal) := by
  idx_vars y
  exact pay14 w x d _ _

theorem at13 (y : S256x2752.Idx) : k0_pay15 (F := Ideal) (dhhB w x d) (a32 w x) y = ((w.db (x (y 0)) (d (y 0)) (y 1) : ℝ) : EReal) := by
  idx_vars y
  exact pay15 w x d _ _

theorem at14 (y : S256x1024.Idx) : k0_pay8 (F := Ideal) (xB d) (fB w x) (rowB w.gpost) y = ((w.df (x (y 0)) (d (y 0)) (y 1) : ℝ) : EReal) := by
  idx_vars y
  exact pay8 w x d _ _

theorem at15 (y : S256x1024.Idx) : k0_pay23 (F := Ideal) (xB x) (k0_pay17 (xB x)) (rowB w.gpre) y = ((w.h (x (y 0)) (y 1) : ℝ) : EReal) := by
  idx_vars y
  exact pay23 w x _ _

end Cert.Model.Pay

end
-- ==== Proof.Blocks.lean ====
/- The blocks each grid point reads, over real arguments: 256 rows of the arrays the host code prepared. -/
module

public import proofs.«01_k».proof.Proof.Entry
public import proofs.«01_k».proof.Proof.Payload

@[expose] public section

set_option maxRecDepth 16384

noncomputable section

namespace Cert.Model.Blocks

open Idealize.ShloMosaic Idealize.ShloMosaic.TcCoe Idealize.SL.Sem
open Cert.KernelIdeal Cert.KernelIdeal.Gen

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![0, 0] ∧ win0_17.index t = ![0, 0] :=
  (by decide +kernel : ∀ t : Fin grid0.N, _)

/-- Row `p` of the block of point `t`. -/
def rowAt (t : Fin cfg0.N) (p : Fin 256) : Fin 8192 :=
  ⟨t.val * 256 + p.val, by have := lt_of_lt_of_eq t.isLt (show cfg0.N = 32 from N_0); have := p.isLt; omega⟩

/-- The arguments are the real numbers `x`, `d` and `w`. -/
structure Args (m : (ℓ : Loc nD τ sig) → Buf (Elt Ideal) ℓ) (c : Dev nD) (w : Wts) (x d : Fin 8192 → Fin 1024 → ℝ) : Prop where
  x : m ((c : Thread nD τ).loc main_arg0) = (up x : FVec Ideal S8192x1024 .f32)
  d : m ((c : Thread nD τ).loc main_arg1) = (up d : FVec Ideal S8192x1024 .f32)
  gpre : m ((c : Thread nD τ).loc main_arg2) = Ref.row w.gpre
  wg : m ((c : Thread nD τ).loc main_arg3) = (up w.wg : FVec Ideal S1024x2752 .f32)
  wu : m ((c : Thread nD τ).loc main_arg4) = (up w.wu : FVec Ideal S1024x2752 .f32)
  wd : m ((c : Thread nD τ).loc main_arg5) = (up w.wd : FVec Ideal S2752x1024 .f32)
  gpost : m ((c : Thread nD τ).loc main_arg6) = Ref.row w.gpost

variable {m : (ℓ : Loc nD τ sig) → Buf (Elt Ideal) ℓ} {c : Dev nD} {w : Wts} {x d : Fin 8192 → Fin 1024 → ℝ}

theorem Args.v12 (h : Args m c w x d) : V m c main_v12 = (up fun i => w.a (x i) : FVec Ideal S8192x2752 .f32) := by
  rw [Entry.V12, h.x, h.gpre, h.wg]; exact Entry.v17_real w x

theorem Args.v13 (h : Args m c w x d) : V m c main_v13 = (up fun i => w.b (x i) : FVec Ideal S8192x2752 .f32) := by
  rw [Entry.V13, h.x, h.gpre, h.wu]; exact Entry.v19_real w x

theorem Args.v16 (h : Args m c w x d) : V m c main_v16 = (up fun i => w.f (x i) : FVec Ideal S8192x1024 .f32) := by
  rw [Entry.V16, h.v12, h.v13, h.wd]; exact Entry.down_real w x

theorem Args.v20 (h : Args m c w x d) : V m c main_v20 = (up fun f k => w.wg k f : FVec Ideal S2752x1024 .bf16) := by
  rw [Entry.V20, h.wg]; exact Entry.flip_real _

theorem Args.v22 (h : Args m c w x d) : V m c main_v22 = (up fun f k => w.wu k f : FVec Ideal S2752x1024 .bf16) := by
  rw [Entry.V22, h.wu]; exact Entry.flip_real _

theorem blk0 (h : Args m c w x d) (t : Fin cfg0.N) : iblk m c 0 t = Pay.xB fun p => d (rowAt t p) := by
  funext y
  have e : V m c main_arg1 = (up d : FVec Ideal S8192x1024 .f32) := (V_main_arg1 m c).trans h.d
  blk_simp [iblk, idx t]
  rw [e]
  refine congrArg Real.toEReal (congrArg₂ _ (Fin.ext ?_) (Fin.ext ?_)) <;> blk_simp [idx t, rowAt]

theorem blk1 (h : Args m c w x d) (t : Fin cfg0.N) : iblk m c 1 t = Pay.xB fun p => x (rowAt t p) := by
  funext y
  have e : V m c main_arg0 = (up x : FVec Ideal S8192x1024 .f32) := (V_main_arg0 m c).trans h.x
  blk_simp [iblk, idx t]
  rw [e]
  refine congrArg Real.toEReal (congrArg₂ _ (Fin.ext ?_) (Fin.ext ?_)) <;> blk_simp [idx t, rowAt]

theorem blk2 (h : Args m c w x d) (t : Fin cfg0.N) : iblk m c 2 t = Pay.fB w fun p => x (rowAt t p) := by
  funext y
  have e : V m c main_v16 = (up fun i => w.f (x i) : FVec Ideal S8192x1024 .f32) := h.v16
  blk_simp [iblk, idx t]
  rw [e]
  refine congrArg Real.toEReal (congrArg₂ _ (congrArg x (Fin.ext ?_)) (Fin.ext ?_)) <;> blk_simp [idx t, rowAt]

theorem blk3 (h : Args m c w x d) (t : Fin cfg0.N) : iblk m c 3 t = Pay.aB w fun p => x (rowAt t p) := by
  funext y
  have e : V m c main_v17 = (up fun i => w.a (x i) : FVec Ideal S8192x2752 .bf16) := (Entry.V17 m c).trans h.v12
  blk_simp [iblk, idx t]
  rw [e]
  refine congrArg Real.toEReal (congrArg₂ _ (congrArg x (Fin.ext ?_)) (Fin.ext ?_)) <;> blk_simp [idx t, rowAt]

theorem blk4 (h : Args m c w x d) (t : Fin cfg0.N) : iblk m c 4 t = Pay.bB w fun p => x (rowAt t p) := by
  funext y
  have e : V m c main_v18 = (up fun i => w.b (x i) : FVec Ideal S8192x2752 .bf16) := (Entry.V18 m c).trans h.v13
  blk_simp [iblk, idx t]
  rw [e]
  refine congrArg Real.toEReal (congrArg₂ _ (congrArg x (Fin.ext ?_)) (Fin.ext ?_)) <;> blk_simp [idx t, rowAt]

theorem blk5 (h : Args m c w x d) (t : Fin cfg0.N) : iblk m c 5 t = Pay.rowB w.gpre := by
  funext y
  have e : V m c main_arg2 = (Ref.row w.gpre) := (V_main_arg2 m c).trans h.gpre
  blk_simp [iblk, idx t]
  rw [e]
  refine congrArg Real.toEReal (congrArg w.gpre (Fin.ext ?_)) <;> blk_simp [idx t, rowAt]

theorem blk6 (h : Args m c w x d) (t : Fin cfg0.N) : iblk m c 6 t = Pay.rowB w.gpost := by
  funext y
  have e : V m c main_arg6 = (Ref.row w.gpost) := (V_main_arg6 m c).trans h.gpost
  blk_simp [iblk, idx t]
  rw [e]
  refine congrArg Real.toEReal (congrArg w.gpost (Fin.ext ?_)) <;> blk_simp [idx t, rowAt]

theorem blk7 (h : Args m c w x d) (t : Fin cfg0.N) : iblk m c 7 t = Pay.wgB w := by
  funext y
  have e : V m c main_v20 = (up fun f k => w.wg k f : FVec Ideal S2752x1024 .bf16) := h.v20
  blk_simp [iblk, idx t]
  rw [e]
  refine congrArg Real.toEReal (congrArg₂ _ (Fin.ext ?_) (Fin.ext ?_)) <;> blk_simp [idx t, rowAt]

theorem blk8 (h : Args m c w x d) (t : Fin cfg0.N) : iblk m c 8 t = Pay.wuB w := by
  funext y
  have e : V m c main_v22 = (up fun f k => w.wu k f : FVec Ideal S2752x1024 .bf16) := h.v22
  blk_simp [iblk, idx t]
  rw [e]
  refine congrArg Real.toEReal (congrArg₂ _ (Fin.ext ?_) (Fin.ext ?_)) <;> blk_simp [idx t, rowAt]

theorem blk9 (h : Args m c w x d) (t : Fin cfg0.N) : iblk m c 9 t = Pay.wdB w := by
  funext y
  have e : V m c main_v23 = (up w.wd : FVec Ideal S2752x1024 .bf16) := (Entry.V23 m c).trans h.wd
  blk_simp [iblk, idx t]
  rw [e]
  refine congrArg Real.toEReal (congrArg₂ _ (Fin.ext ?_) (Fin.ext ?_)) <;> blk_simp [idx t, rowAt]

end Cert.Model.Blocks

end
-- ==== Proof.Final.lean ====
/- The kernel's results over real arguments. -/
module

public import proofs.«01_k».proof.Proof.Gen.KernelIdeal.Value
public import proofs.«01_k».proof.Proof.Blocks

@[expose] public section

set_option maxRecDepth 16384

noncomputable section

namespace Cert.Model.Final

open Idealize.ShloMosaic Idealize.ShloMosaic.TcCoe Idealize.SL.Sem
open Cert.KernelIdeal Cert.KernelIdeal.Gen Cert.Model.Blocks

variable {m : (ℓ : Loc nD τ sig) → Buf (Elt Ideal) ℓ} {c : Dev nD} {w : Wts} {x d : Fin 8192 → Fin 1024 → ℝ}

theorem final10 (h : Args m c w x d) : (dats m 0 c).arrAt 10 (cfgs 0).N = (up fun i => w.dx (x i) (d i) : FVec Ideal S8192x1024 .f32) := by
  refine (dats m 0 c).arrAt_eq_of_covers 10 _ (by decide +kernel) fun t _ y => ?_
  blk_simp
  rw [after0_10]
  by_cases ht : t.val % 32 = 0
  · rw [outsAt0_A m c t ht ht]
    frame_out
    simp only [blk0 h, blk1 h, blk2 h, blk3 h, blk4 h, blk5 h, blk6 h, blk7 h, blk8 h, blk9 h]
    refine (Pay.at10 w _ _ y).trans (congrArg Real.toEReal (congrArg₂ (fun i => w.dx (x i) (d i)) (Fin.ext ?_) (Fin.ext ?_))) <;> blk_simp [idx t, rowAt]
  · rw [outsAt0_B m c t ht ht]
    frame_out
    simp only [blk0 h, blk1 h, blk2 h, blk3 h, blk4 h, blk5 h, blk6 h, blk7 h, blk8 h, blk9 h]
    refine (Pay.at10 w _ _ y).trans (congrArg Real.toEReal (congrArg₂ (fun i => w.dx (x i) (d i)) (Fin.ext ?_) (Fin.ext ?_))) <;> blk_simp [idx t, rowAt]

theorem final11 (h : Args m c w x d) : (dats m 0 c).arrAt 11 (cfgs 0).N = (up fun i => w.hh (x i) : FVec Ideal S8192x2752 .bf16) := by
  refine (dats m 0 c).arrAt_eq_of_covers 11 _ (by decide +kernel) fun t _ y => ?_
  blk_simp
  rw [after0_11]
  by_cases ht : t.val % 32 = 0
  · rw [outsAt0_A m c t ht ht]
    frame_out
    simp only [blk0 h, blk1 h, blk2 h, blk3 h, blk4 h, blk5 h, blk6 h, blk7 h, blk8 h, blk9 h]
    refine (Pay.at11 w _ y).trans (congrArg Real.toEReal (congrArg₂ (fun i => w.hh (x i)) (Fin.ext ?_) (Fin.ext ?_))) <;> blk_simp [idx t, rowAt]
  · rw [outsAt0_B m c t ht ht]
    frame_out
    simp only [blk0 h, blk1 h, blk2 h, blk3 h, blk4 h, blk5 h, blk6 h, blk7 h, blk8 h, blk9 h]
    refine (Pay.at11 w _ y).trans (congrArg Real.toEReal (congrArg₂ (fun i => w.hh (x i)) (Fin.ext ?_) (Fin.ext ?_))) <;> blk_simp [idx t, rowAt]

theorem final12 (h : Args m c w x d) : (dats m 0 c).arrAt 12 (cfgs 0).N = (up fun i => w.da (x i) (d i) : FVec Ideal S8192x2752 .bf16) := by
  refine (dats m 0 c).arrAt_eq_of_covers 12 _ (by decide +kernel) fun t _ y => ?_
  blk_simp
  rw [after0_12]
  by_cases ht : t.val % 32 = 0
  · rw [outsAt0_A m c t ht ht]
    frame_out
    simp only [blk0 h, blk1 h, blk2 h, blk3 h, blk4 h, blk5 h, blk6 h, blk7 h, blk8 h, blk9 h]
    refine (Pay.at12 w _ _ y).trans (congrArg Real.toEReal (congrArg₂ (fun i => w.da (x i) (d i)) (Fin.ext ?_) (Fin.ext ?_))) <;> blk_simp [idx t, rowAt]
  · rw [outsAt0_B m c t ht ht]
    frame_out
    simp only [blk0 h, blk1 h, blk2 h, blk3 h, blk4 h, blk5 h, blk6 h, blk7 h, blk8 h, blk9 h]
    refine (Pay.at12 w _ _ y).trans (congrArg Real.toEReal (congrArg₂ (fun i => w.da (x i) (d i)) (Fin.ext ?_) (Fin.ext ?_))) <;> blk_simp [idx t, rowAt]

theorem final13 (h : Args m c w x d) : (dats m 0 c).arrAt 13 (cfgs 0).N = (up fun i => w.db (x i) (d i) : FVec Ideal S8192x2752 .bf16) := by
  refine (dats m 0 c).arrAt_eq_of_covers 13 _ (by decide +kernel) fun t _ y => ?_
  blk_simp
  rw [after0_13]
  by_cases ht : t.val % 32 = 0
  · rw [outsAt0_A m c t ht ht]
    frame_out
    simp only [blk0 h, blk1 h, blk2 h, blk3 h, blk4 h, blk5 h, blk6 h, blk7 h, blk8 h, blk9 h]
    refine (Pay.at13 w _ _ y).trans (congrArg Real.toEReal (congrArg₂ (fun i => w.db (x i) (d i)) (Fin.ext ?_) (Fin.ext ?_))) <;> blk_simp [idx t, rowAt]
  · rw [outsAt0_B m c t ht ht]
    frame_out
    simp only [blk0 h, blk1 h, blk2 h, blk3 h, blk4 h, blk5 h, blk6 h, blk7 h, blk8 h, blk9 h]
    refine (Pay.at13 w _ _ y).trans (congrArg Real.toEReal (congrArg₂ (fun i => w.db (x i) (d i)) (Fin.ext ?_) (Fin.ext ?_))) <;> blk_simp [idx t, rowAt]

theorem final14 (h : Args m c w x d) : (dats m 0 c).arrAt 14 (cfgs 0).N = (up fun i => w.df (x i) (d i) : FVec Ideal S8192x1024 .bf16) := by
  refine (dats m 0 c).arrAt_eq_of_covers 14 _ (by decide +kernel) fun t _ y => ?_
  blk_simp
  rw [after0_14]
  by_cases ht : t.val % 32 = 0
  · rw [outsAt0_A m c t ht ht]
    frame_out
    simp only [blk0 h, blk1 h, blk2 h, blk3 h, blk4 h, blk5 h, blk6 h, blk7 h, blk8 h, blk9 h]
    refine (Pay.at14 w _ _ y).trans (congrArg Real.toEReal (congrArg₂ (fun i => w.df (x i) (d i)) (Fin.ext ?_) (Fin.ext ?_))) <;> blk_simp [idx t, rowAt]
  · rw [outsAt0_B m c t ht ht]
    frame_out
    simp only [blk0 h, blk1 h, blk2 h, blk3 h, blk4 h, blk5 h, blk6 h, blk7 h, blk8 h, blk9 h]
    refine (Pay.at14 w _ _ y).trans (congrArg Real.toEReal (congrArg₂ (fun i => w.df (x i) (d i)) (Fin.ext ?_) (Fin.ext ?_))) <;> blk_simp [idx t, rowAt]

theorem final15 (h : Args m c w x d) : (dats m 0 c).arrAt 15 (cfgs 0).N = (up fun i => w.h (x i) : FVec Ideal S8192x1024 .bf16) := by
  refine (dats m 0 c).arrAt_eq_of_covers 15 _ (by decide +kernel) fun t _ y => ?_
  blk_simp
  rw [after0_15]
  by_cases ht : t.val % 32 = 0
  · rw [outsAt0_A m c t ht ht]
    frame_out
    simp only [blk0 h, blk1 h, blk2 h, blk3 h, blk4 h, blk5 h, blk6 h, blk7 h, blk8 h, blk9 h]
    refine (Pay.at15 w _ y).trans (congrArg Real.toEReal (congrArg₂ (fun i => w.h (x i)) (Fin.ext ?_) (Fin.ext ?_))) <;> blk_simp [idx t, rowAt]
  · rw [outsAt0_B m c t ht ht]
    frame_out
    simp only [blk0 h, blk1 h, blk2 h, blk3 h, blk4 h, blk5 h, blk6 h, blk7 h, blk8 h, blk9 h]
    refine (Pay.at15 w _ y).trans (congrArg Real.toEReal (congrArg₂ (fun i => w.h (x i)) (Fin.ext ?_) (Fin.ext ?_))) <;> blk_simp [idx t, rowAt]

/-- The 32 points' parts, 256 rows each, are the sum over all rows. -/
theorem sum_rows (f : Fin 8192 → ℝ) : (∑ s : Fin 32, ((∑ p : Fin 256, f ⟨s.val * 256 + p.val, by omega⟩ : ℝ) : EReal)) = ((∑ i, f i : ℝ) : EReal) := by
  rw [coe_sum]
  refine congrArg _ ?_
  exact Fin.sum_mul_add_fin 32 256 f

theorem final16 (h : Args m c w x d) : (dats m 0 c).arrAt 16 (cfgs 0).N
    = (up fun (_ : Fin 1) j => ∑ i, w.dgpre (x i) (d i) j : FVec Ideal S1x1024 .f32) := by
  refine (dats m 0 c).arrAt_eq_of_covers 16 _ (by decide +kernel) fun t hf y => ?_
  blk_simp
  rw [after0_16, Pipeline.eq_sum_fin_of_reset_step_apply_of_flush (fun n h => (outsAt0 m c n h).2.2.2.2.2.2.1) 32 (fun _ => 0)
    (fun t j => ((∑ p, w.dgpre (x (rowAt t p)) (d (rowAt t p)) (j 1) : ℝ) : EReal))
    (fun t ht j => by
      rw [outsAt0_A m c t ht ht]; frame_out
      simp only [blk0 h, blk1 h, blk2 h, blk3 h, blk4 h, blk5 h, blk6 h, blk7 h, blk8 h, blk9 h]
      rw [Pay.pay26, Pay.pay25])
    (fun t ht j => by
      rw [outsAt0_B m c t ht ht]; frame_out
      simp only [blk0 h, blk1 h, blk2 h, blk3 h, blk4 h, blk5 h, blk6 h, blk7 h, blk8 h, blk9 h]
      rw [Pay.pay26])
    t ((flush0_16 t).mp hf) _, zero_add]
  have ht : t.val / 32 = 0 := by have := lt_of_lt_of_eq t.isLt (show cfg0.grid.N = 32 from N_0); omega
  refine Eq.trans ?_ ((sum_rows fun i => w.dgpre (x i) (d i) (y 1)).trans ?_)
  · refine Fin.sum_fin_congr fun s => congrArg Real.toEReal (Finset.sum_congr rfl fun p _ => ?_)
    have e : rowAt ⟨32 * (t.val / 32) + s.val, Pipeline.run_point_lt_of_flush t ((flush0_16 t).mp hf) s⟩ p = ⟨s.val * 256 + p.val, by omega⟩ := Fin.ext (by
      show (32 * (t.val / 32) + s.val) * 256 + p.val = _
      rw [ht]; simp)
    exact congrArg (fun i => w.dgpre (x i) (d i) (y 1)) e
  · refine congrArg Real.toEReal (Finset.sum_congr rfl fun i _ => congrArg (w.dgpre (x i) (d i)) (Fin.ext ?_))
    blk_simp [idx t]

theorem final17 (h : Args m c w x d) : (dats m 0 c).arrAt 17 (cfgs 0).N
    = (up fun (_ : Fin 1) j => ∑ i, w.dgpost (x i) (d i) j : FVec Ideal S1x1024 .f32) := by
  refine (dats m 0 c).arrAt_eq_of_covers 17 _ (by decide +kernel) fun t hf y => ?_
  blk_simp
  rw [after0_17, Pipeline.eq_sum_fin_of_reset_step_apply_of_flush (fun n h => (outsAt0 m c n h).2.2.2.2.2.2.2) 32 (fun _ => 0)
    (fun t j => ((∑ p, w.dgpost (x (rowAt t p)) (d (rowAt t p)) (j 1) : ℝ) : EReal))
    (fun t ht j => by
      rw [outsAt0_A m c t ht ht]; frame_out
      simp only [blk0 h, blk1 h, blk2 h, blk3 h, blk4 h, blk5 h, blk6 h, blk7 h, blk8 h, blk9 h]
      rw [Pay.pay2, Pay.pay1])
    (fun t ht j => by
      rw [outsAt0_B m c t ht ht]; frame_out
      simp only [blk0 h, blk1 h, blk2 h, blk3 h, blk4 h, blk5 h, blk6 h, blk7 h, blk8 h, blk9 h]
      rw [Pay.pay2])
    t ((flush0_17 t).mp hf) _, zero_add]
  have ht : t.val / 32 = 0 := by have := lt_of_lt_of_eq t.isLt (show cfg0.grid.N = 32 from N_0); omega
  refine Eq.trans ?_ ((sum_rows fun i => w.dgpost (x i) (d i) (y 1)).trans ?_)
  · refine Fin.sum_fin_congr fun s => congrArg Real.toEReal (Finset.sum_congr rfl fun p _ => ?_)
    have e : rowAt ⟨32 * (t.val / 32) + s.val, Pipeline.run_point_lt_of_flush t ((flush0_17 t).mp hf) s⟩ p = ⟨s.val * 256 + p.val, by omega⟩ := Fin.ext (by
      show (32 * (t.val / 32) + s.val) * 256 + p.val = _
      rw [ht]; simp)
    exact congrArg (fun i => w.dgpost (x i) (d i) (y 1)) e
  · refine congrArg Real.toEReal (Finset.sum_congr rfl fun i _ => congrArg (w.dgpost (x i) (d i)) (Fin.ext ?_))
    blk_simp [idx t]

end Cert.Model.Final

end
-- ==== Proof.RefRun.lean ====
/- The reference program's run over finite arguments: the eight arrays it ends with, as arrays of real numbers. -/
module

public import proofs.«01_k».proof.Proof.Gen.ReferenceIdeal.Run
public import proofs.«01_k».proof.Proof.RefReal

@[expose] public section

set_option maxRecDepth 16384

noncomputable section

namespace Cert.Model.Ref

open Idealize.ShloMosaic Idealize.ShloMosaic.TcCoe Idealize.SL.Sem
open Idealize.ShloMosaic.StableHlo Cert.ReferenceIdeal Cert.ReferenceIdeal.Gen Cert.ReferenceIdeal.Read

variable (w : Wts) (x d : Fin 8192 → Fin 1024 → ℝ)

theorem dx : val_main_v91 (F := Ideal) (up x) (up d) (row w.gpre) (up w.wg) (up w.wu) (up w.wd) (row w.gpost)
    = up fun i => w.dx (x i) (d i) := by
  funext y; idx_vars y; exact v91 w x d _ _

theorem hh : val_main_v92 (F := Ideal) (up x) (row w.gpre) (up w.wg) (up w.wu) = up fun i => w.hh (x i) := by
  funext y; idx_vars y; pointwise [val_main_v92, v22, up_ix2]

theorem da : val_main_v93 (F := Ideal) (up x) (up d) (row w.gpre) (up w.wg) (up w.wu) (up w.wd) (row w.gpost)
    = up fun i => w.da (x i) (d i) := by
  funext y; idx_vars y; pointwise [val_main_v93, v68, up_ix2]

theorem db : val_main_v94 (F := Ideal) (up x) (up d) (row w.gpre) (up w.wg) (up w.wu) (up w.wd) (row w.gpost)
    = up fun i => w.db (x i) (d i) := by
  funext y; idx_vars y; pointwise [val_main_v94, v66, up_ix2]

theorem df : val_main_v95 (F := Ideal) (up x) (up d) (row w.gpre) (up w.wg) (up w.wu) (up w.wd) (row w.gpost)
    = up fun i => w.df (x i) (d i) := by
  funext y; idx_vars y; pointwise [val_main_v95, v64, up_ix2]

theorem h : val_main_v96 (F := Ideal) (up x) (row w.gpre) = up fun i => w.h (x i) := by
  funext y; idx_vars y; pointwise [val_main_v96, v16, up_ix2]

theorem dgpre : val_main_v74 (F := Ideal) (up x) (up d) (row w.gpre) (up w.wg) (up w.wu) (up w.wd) (row w.gpost)
    = up fun (_ : Fin 1) j => ∑ i, w.dgpre (x i) (d i) j := by
  funext y; idx_vars y
  obtain rfl : y0 = 0 := Subsingleton.elim _ _
  exact v74 w x d _

theorem dgpost : val_main_v48 (F := Ideal) (up x) (up d) (row w.gpre) (up w.wg) (up w.wu) (up w.wd)
    = up fun (_ : Fin 1) j => ∑ i, w.dgpost (x i) (d i) j := by
  funext y; idx_vars y
  obtain rfl : y0 = 0 := Subsingleton.elim _ _
  exact v48 w x d _

/-- The reference's arguments are the real numbers `x`, `d` and `w`. -/
structure Args (m : (ℓ : Loc nD τ sig) → Buf (Elt Ideal) ℓ) (c : Dev nD) : Prop where
  x : m ((c.tc : Thread nD τ).loc main_arg0) = (up x : FVec Ideal S8192x1024 .f32)
  d : m ((c.tc : Thread nD τ).loc main_arg1) = (up d : FVec Ideal S8192x1024 .f32)
  gpre : m ((c.tc : Thread nD τ).loc main_arg2) = row w.gpre
  wg : m ((c.tc : Thread nD τ).loc main_arg3) = (up w.wg : FVec Ideal S1024x2752 .f32)
  wu : m ((c.tc : Thread nD τ).loc main_arg4) = (up w.wu : FVec Ideal S1024x2752 .f32)
  wd : m ((c.tc : Thread nD τ).loc main_arg5) = (up w.wd : FVec Ideal S2752x1024 .f32)
  gpost : m ((c.tc : Thread nD τ).loc main_arg6) = row w.gpost

section
variable {m : (ℓ : Loc nD τ sig) → Buf (Elt Ideal) ℓ} {c : Dev nD} {w : Wts} {x d : Fin 8192 → Fin 1024 → ℝ}

/-- The launch's contents, read at the arguments. -/
theorem Args.launch (a : Args w x d m c) :
    launchContents m c (Proc.devRef .tc main_arg0) = (up x : FVec Ideal S8192x1024 .f32)
    ∧ launchContents m c (Proc.devRef .tc main_arg1) = (up d : FVec Ideal S8192x1024 .f32)
    ∧ launchContents m c (Proc.devRef .tc main_arg2) = row w.gpre
    ∧ launchContents m c (Proc.devRef .tc main_arg3) = (up w.wg : FVec Ideal S1024x2752 .f32)
    ∧ launchContents m c (Proc.devRef .tc main_arg4) = (up w.wu : FVec Ideal S1024x2752 .f32)
    ∧ launchContents m c (Proc.devRef .tc main_arg5) = (up w.wd : FVec Ideal S2752x1024 .f32)
    ∧ launchContents m c (Proc.devRef .tc main_arg6) = row w.gpost :=
  ⟨a.x, a.d, a.gpre, a.wg, a.wu, a.wd, a.gpost⟩
end

/-- What the reference ends with, over real arguments. -/
theorem run_real (m : (ℓ : Loc nD τ sig) → Buf (Elt Ideal) ℓ) (ρ : Dev nD → PrngReg)
    (w : Dev nD → Wts) (x d : Dev nD → Fin 8192 → Fin 1024 → ℝ) (a : ∀ c, Args (w c) (x c) (d c) m c) :
    θ_run (defs (F := Ideal)) (onTc (τ := τ) (main (F := Ideal))) ⟨m, fun _ => 0, ρ⟩ fun r => ∀ c : Dev nD,
      r.2.mem ((c.tc : Thread nD τ).loc main_v91) = (up fun i => (w c).dx (x c i) (d c i) : FVec Ideal S8192x1024 .f32)
      ∧ r.2.mem ((c.tc : Thread nD τ).loc main_v92) = (up fun i => (w c).hh (x c i) : FVec Ideal S8192x2752 .bf16)
      ∧ r.2.mem ((c.tc : Thread nD τ).loc main_v93) = (up fun i => (w c).da (x c i) (d c i) : FVec Ideal S8192x2752 .bf16)
      ∧ r.2.mem ((c.tc : Thread nD τ).loc main_v94) = (up fun i => (w c).db (x c i) (d c i) : FVec Ideal S8192x2752 .bf16)
      ∧ r.2.mem ((c.tc : Thread nD τ).loc main_v95) = (up fun i => (w c).df (x c i) (d c i) : FVec Ideal S8192x1024 .bf16)
      ∧ r.2.mem ((c.tc : Thread nD τ).loc main_v96) = (up fun i => (w c).h (x c i) : FVec Ideal S8192x1024 .bf16)
      ∧ r.2.mem ((c.tc : Thread nD τ).loc main_v74)
        = (up fun (_ : Fin 1) j => ∑ i, (w c).dgpre (x c i) (d c i) j : FVec Ideal S1x1024 .f32)
      ∧ r.2.mem ((c.tc : Thread nD τ).loc main_v48)
        = (up fun (_ : Fin 1) j => ∑ i, (w c).dgpost (x c i) (d c i) j : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun r q c => by
    obtain ⟨q1, q2, q3, q4, q5, q6, q7, q8, k⟩ := q c
    obtain ⟨a0, a1, a2, a3, a4, a5, a6⟩ := (a c).launch
    refine ⟨q1.trans ?_, q2.trans ?_, q3.trans ?_, q4.trans ?_, q5.trans ?_, q6.trans ?_, q7.trans ?_, q8.trans ?_, k⟩
    · rw [val_main_v91_eq (launchContents m c), a0, a1, a2, a3, a4, a5, a6]; exact dx _ _ _
    · rw [val_main_v92_eq (launchContents m c), a0, a2, a3, a4]; exact hh _ _
    · rw [val_main_v93_eq (launchContents m c), a0, a1, a2, a3, a4, a5, a6]; exact da _ _ _
    · rw [val_main_v94_eq (launchContents m c), a0, a1, a2, a3, a4, a5, a6]; exact db _ _ _
    · rw [val_main_v95_eq (launchContents m c), a0, a1, a2, a3, a4, a5, a6]; exact df _ _ _
    · rw [val_main_v96_eq (launchContents m c), a0, a2]; exact h _ _
    · rw [val_main_v74_eq (launchContents m c), a0, a1, a2, a3, a4, a5, a6]; exact dgpre _ _ _
    · rw [val_main_v48_eq (launchContents m c), a0, a1, a2, a3, a4, a5]; exact dgpost _ _ _)
    (Cert.ReferenceIdeal.Value.run m ρ)

end Cert.Model.Ref

end
-- ==== Proof.WgradRun.lean ====
/- The weight gradient's kernel: its body's triple, and the frame of its run. -/
module

public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import Idealize.ShloMosaic.Lib.Pipeline.ValueKit

@[expose] public section

set_option maxRecDepth 16384

noncomputable section

namespace Cert.Wgrad

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The body on whole staging buffers holding `X0` and `X1`: the two results' buffers end with the product of the
    transposed `X0` with `X1`, plain and rounded. -/
theorem sound_body (c : Dev nD) (E : Set ℕ) (i : grid0.Coords)
    (arg1 : Memref sig .tc .vmem S8192x256 .bf16) (h1 : arg1.IsWhole) (arg2 : Memref sig .tc .vmem S8192x1024 .bf16) (h2 : arg2.IsWhole)
    (arg3 : Memref sig .tc .vmem S256x1024 .f32) (h3 : arg3.IsWhole) (arg4 : Memref sig .tc .vmem S256x1024 .bf16) (h4 : arg4.IsWhole)
    (X0 : S8192x256.Idx → Elt F .bf16) (X1 : S8192x1024.Idx → Elt F .bf16) (K : PUnit → sProp 𝕄) :
    iprop(owns (c : Thread nD τ) arg1 fullShare X0 ∗ owns (c : Thread nD τ) arg2 fullShare X1
          ∗ (∃ X, owns (c : Thread nD τ) arg3 fullShare X) ∗ (∃ X, owns (c : Thread nD τ) arg4 fullShare X)
          ∗ (iprop(owns (c : Thread nD τ) arg1 fullShare X0 ∗ owns (c : Thread nD τ) arg2 fullShare X1
                  ∗ owns (c : Thread nD τ) arg3 fullShare (k0_pay1 X0 X1) ∗ owns (c : Thread nD τ) arg4 fullShare (k0_pay2 X0 X1)) -∗ K ⟨⟩))
      ⊢ wp frame (wpE (defs₀ (F := F)) Variants.none c none) E (cc0_wgrad i arg1 h1 arg2 h2 arg3 h3 arg4 h4) K := by
  simp only [cc0_wgrad_eq_skeleton]; unfold cc0_wgrad_skel
  unfold owns
  iintro ⟨⟨%f0, %hf0, H0⟩, ⟨%f1, %hf1, H1⟩, ⟨%d2, %f2, %hf2, H2⟩, ⟨%d3, %f3, %hf3, H3⟩, Hk⟩
  obtain rfl := h1.eq_unread hf0; obtain rfl := h2.eq_unread hf1
  sl_exec
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr
    swap; · iexact H2
    ipureintro
    refine (View.read_writes_of_cover (s := S256x1024) _ _ (Memref.whole cc0_stg2_0).view (Memref.whole cc0_stg2_0).view.junk _ (View.cover_of_tiledL (s := S256x1024) _ S256x1024.size (by sl_kernel_rfl))).trans ?_
    frame_out
  · iexists _; isplitr
    swap; · iexact H3
    ipureintro
    refine (View.read_writes_of_cover (s := S256x1024) _ _ (Memref.whole cc0_stg3_0).view (Memref.whole cc0_stg3_0).view.junk _ (View.cover_of_tiledL (s := S256x1024) _ S256x1024.size (by sl_kernel_rfl))).trans ?_
    frame_out

variable (m : (ℓ : Loc nD τ sig) → Buf (Elt F) ℓ) (ρ : Dev nD → PrngReg)

/-- The left operand's block at point `t`, filled out past the array's end. -/
def lblk (c : Dev nD) (t : Fin cfg0.N) : S8192x256.Idx → Elt F .bf16 :=
  (cfg0.win 0).fill (cfg0.grid.coords t) (fun _ => Scalar.ofBits .bf16 0#16) (iblk m c 0 t)

/-- The arrays as launched; after the body each operand's buffer at its block, each result's at the product. -/
def dats (_ : Fin 1) (c : Dev nD) : Dat τ (Elt F) Unit ℕ (UR sig nD τ) ℕ cfg0 c where
  A w := V m c (Pipeline.arrRef spec0 w)
  after w t := match w with
    | ⟨0, _⟩ => lblk m c t
    | ⟨1, _⟩ => iblk m c 1 t
    | ⟨2, _⟩ => k0_pay1 (lblk m c t) (iblk m c 1 t)
    | ⟨3, _⟩ => k0_pay2 (lblk m c t) (iblk m c 1 t)
  Φ _ := Pipeline.ΦA spec0 c
  q _ := fullShare
  owed _ := 0

theorem before_0 (c : Dev nD) (t : Fin cfg0.N) (d) :
    (dats m 0 c).before 0 t d = (cfg0.win 0).fill (cfg0.grid.coords t) d (iblk m c 0 t) := by
  unfold Dat.before; rw [if_pos (fetch0_0 t)]; rfl

theorem before_1 (c : Dev nD) (t : Fin cfg0.N) (d) : (dats m 0 c).before 1 t d = iblk m c 1 t :=
  before0_1_of m (dats m 0 c) rfl (fun _ => rfl) t d

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The results forgotten. -/
def fgt : Fin cfg0.W → Bool
  | ⟨0, _⟩ => false
  | ⟨1, _⟩ => false
  | ⟨2, _⟩ => true
  | ⟨3, _⟩ => true

theorem lblk_cut (c : Dev nD) (t : Fin cfg0.N) : (cfg0.win 0).cut (cfg0.grid.coords t) (lblk m c t) = iblk m c 0 t := (cfg0.win 0).cut_fill _ _ _

theorem after_0 (c : Dev nD) (t : Fin cfg0.N) : (dats m 0 c).after 0 t = lblk m c t := by dsimp only [dats]

theorem leave_0 (c : Dev nD) (t : Fin cfg0.N) (d) (X) (hX : X = lblk m c t) :
    (cfg0.win 0).fill (cfg0.grid.coords t) d (iblk m c 0 t)
      = (cfg0.win 0).fill (cfg0.grid.coords t) d ((cfg0.win 0).cut (cfg0.grid.coords t) X) := by
  subst hX
  rw [lblk_cut]

/-- The body's obligation at any values, nothing said of the results. -/
theorem obligation_forget (c : Dev nD) : BodyObligationLoose (dats m 0 c) (defs₀ (F := F)) Variants.none () Set.univ fgt := fun t => by
  rw [bigSep_W0, bigSep_W0, defs₀_row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, H2, H3⟩
  rw [before_0 m c t d0, before_1 m c t d1]
  iapply (sound_body (F := F) c Set.univ (grid0.coords t) _ _ _ _ _ _ _ _
    ((cfg0.win 0).fill (cfg0.grid.coords t) d0 (iblk m c 0 t)) (iblk m c 1 t) _)
  isplitl [H0]; · iexact H0
  isplitl [H1]; · iexact H1
  isplitl [H2]; · iexact H2
  isplitl [H3]; · iexact H3
  iintro ⟨H0, H1, H2, H3⟩
  isplitl [HΦ]; · iexact HΦ
  isplitl [Ho]; · iexact Ho
  isplitl [H0]
  · iexists d0
    rw [leave_0 m c t d0 _ (after_0 m c t)]
    iexact H0
  isplitl [H1]; · iexact H1
  isplitl [H2]
  · iexists _; iexact H2
  · iexists _; iexact H3

set_option backward.isDefEq.respectTransparency.types false in
/-- From any memory with zero counters the program ends, its operands unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_forget (Q' := _) cfgs (dats m) (0 : Fin 1) launch0 defs₀ Variants.none fgt m ρ main
    (hbody := obligation_forget m) (hshare := fun c => (dats m 0 c).share_full fun _ => rfl)
    (howed := fun _ _ => rfl) (V := V m) (hmain := hmain m Variants.none) (hA := fun _ _ => rfl) (hΦ := fun _ _ => rfl)
    (hQ' := fun r h => ⟨fun c => ⟨Pipeline.RDat.FramePost.arr_in h.1 c 0 rfl, Pipeline.RDat.FramePost.arr_in h.1 c 1 rfl⟩, h.2⟩)

end Cert.Wgrad

end
-- ==== Proof.WgradValue.lean ====
/- What the weight gradient's kernel computes: the left operand's transpose times the right operand. -/
module

public import proofs.«01_k».proof.Proof.WgradRun

@[expose] public section

set_option maxRecDepth 16384

noncomputable section

namespace Cert.Wgrad

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem pay1_at (X0 : FVec Ideal S8192x256 .bf16) (X1 : FVec Ideal S8192x1024 .bf16) (i : Fin 256) (j : Fin 1024) :
    k0_pay1 (F := Ideal) X0 X1 (ix2 i j) = ∑ s : Fin 8192, X0 (ix2 s i) * X1 (ix2 s j) := by
  pointwise [k0_pay1]

theorem pay1_apply (X0 : FVec Ideal S8192x256 .bf16) (X1 : FVec Ideal S8192x1024 .bf16) (z : S256x1024.Idx) :
    k0_pay1 (F := Ideal) X0 X1 z = ∑ s : Fin 8192, X0 (ix2 s (z 0)) * X1 (ix2 s (z 1)) := by
  idx_vars z
  exact pay1_at X0 X1 z0 z1

theorem pay2_apply (X0 : FVec Ideal S8192x256 .bf16) (X1 : FVec Ideal S8192x1024 .bf16) (z : S256x1024.Idx) :
    k0_pay2 (F := Ideal) X0 X1 z = k0_pay1 (F := Ideal) X0 X1 z := rfl

variable (m : (ℓ : Loc nD τ sig) → Buf (Elt Ideal) ℓ) (ρ : Dev nD → PrngReg)

/-- A column inside the array is moved whole. -/
theorem moved_0 (t : Fin cfg0.N) (s : Fin 8192) (i : Fin 256) (hi : i.val < (cfg0.win 2).xsize (cfg0.grid.coords t) (0 : Fin 2)) :
    (cfg0.win 0).moved (cfg0.grid.coords t) (ix2 s i) = true := by
  refine ((cfg0.win 0).moved_iff _ _).mpr fun a => ?_
  match a with
  | ⟨0, _⟩ => exact s.isLt
  | ⟨1, _⟩ => exact hi

theorem fill_inside (c : Dev nD) (t : Fin cfg0.N) (d) (s : Fin 8192) (i : Fin 256) (hi : i.val < (cfg0.win 2).xsize (cfg0.grid.coords t) (0 : Fin 2)) :
    (cfg0.win 0).fill (cfg0.grid.coords t) d (iblk m c 0 t) (ix2 s i) = lblk m c t (ix2 s i) := by
  have h := moved_0 t s i hi
  unfold lblk Window.fill
  rw [dif_pos h, dif_pos h]

/-- On the rows inside the array the product does not read past the left operand's end. -/
theorem pay_inside (c : Dev nD) (t : Fin cfg0.N) (d) (z : S256x1024.Idx) (hz : (z 0).val < (cfg0.win 2).xsize (cfg0.grid.coords t) (0 : Fin 2)) :
    k0_pay1 (F := Ideal) ((cfg0.win 0).fill (cfg0.grid.coords t) d (iblk m c 0 t)) (iblk m c 1 t) z
      = k0_pay1 (F := Ideal) (lblk m c t) (iblk m c 1 t) z := by
  rw [pay1_apply, pay1_apply]
  refine Finset.sum_congr rfl fun s _ => ?_
  rw [fill_inside m c t d s (z 0) hz]

/-- Two results that agree on the rows inside the array have the same part moved. -/
theorem cut_2 (t : Fin cfg0.N) (X Y : (cfg0.win 2).block.Idx → Elt Ideal .f32)
    (h : ∀ z : S256x1024.Idx, (z 0).val < (cfg0.win 2).xsize (cfg0.grid.coords t) (0 : Fin 2) → X z = Y z) :
    (cfg0.win 2).cut (cfg0.grid.coords t) X = (cfg0.win 2).cut (cfg0.grid.coords t) Y :=
  funext fun y => h _ (y (0 : Fin 2)).isLt

theorem cut_3 (t : Fin cfg0.N) (X Y : (cfg0.win 3).block.Idx → Elt Ideal .bf16)
    (h : ∀ z : S256x1024.Idx, (z 0).val < (cfg0.win 2).xsize (cfg0.grid.coords t) (0 : Fin 2) → X z = Y z) :
    (cfg0.win 3).cut (cfg0.grid.coords t) X = (cfg0.win 3).cut (cfg0.grid.coords t) Y :=
  funext fun y => h _ (y (0 : Fin 2)).isLt

theorem after_2 (c : Dev nD) (t : Fin cfg0.N) : (dats m 0 c).after 2 t = k0_pay1 (F := Ideal) (lblk m c t) (iblk m c 1 t) := by dsimp only [dats]
theorem after_3 (c : Dev nD) (t : Fin cfg0.N) : (dats m 0 c).after 3 t = k0_pay2 (F := Ideal) (lblk m c t) (iblk m c 1 t) := by dsimp only [dats]

theorem leave_2 (c : Dev nD) (t : Fin cfg0.N) (d) (X : (cfg0.win 2).block.Idx → Elt Ideal .f32) (hX : X = k0_pay1 (F := Ideal) (lblk m c t) (iblk m c 1 t))
    (Y : (cfg0.win 2).block.Idx → Elt Ideal .f32)
    (hY : Y = k0_pay1 (F := Ideal) ((cfg0.win 0).fill (cfg0.grid.coords t) d (iblk m c 0 t)) (iblk m c 1 t)) :
    Y = (cfg0.win 2).fill (cfg0.grid.coords t) Y ((cfg0.win 2).cut (cfg0.grid.coords t) X) :=
  ((cfg0.win 2).fill_congr_cut _ (cut_2 t Y X fun z hz => by rw [hX, hY]; exact pay_inside m c t d z hz)).symm

theorem leave_3 (c : Dev nD) (t : Fin cfg0.N) (d) (X : (cfg0.win 3).block.Idx → Elt Ideal .bf16) (hX : X = k0_pay2 (F := Ideal) (lblk m c t) (iblk m c 1 t))
    (Y : (cfg0.win 3).block.Idx → Elt Ideal .bf16)
    (hY : Y = k0_pay2 (F := Ideal) ((cfg0.win 0).fill (cfg0.grid.coords t) d (iblk m c 0 t)) (iblk m c 1 t)) :
    Y = (cfg0.win 3).fill (cfg0.grid.coords t) Y ((cfg0.win 3).cut (cfg0.grid.coords t) X) :=
  ((cfg0.win 3).fill_congr_cut _ (cut_3 t Y X fun z hz => by
    rw [hX, hY, pay2_apply, pay2_apply]; exact pay_inside m c t d z hz)).symm

/-- The body's obligation with what the results hold. -/
theorem obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before_0 m c t d0, before_1 m c t d1]
  iapply (sound_body (F := Ideal) c Set.univ (grid0.coords t) _ _ _ _ _ _ _ _
    ((cfg0.win 0).fill (cfg0.grid.coords t) d0 (iblk m c 0 t)) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]
  · iexists d0
    rw [leave_0 m c t d0 _ (after_0 m c t)]
    iexact H0
  isplitl [H1]; · iexact H1
  isplitl [H2]
  · iexists (k0_pay1 (F := Ideal) ((cfg0.win 0).fill (cfg0.grid.coords t) d0 (iblk m c 0 t)) (iblk m c 1 t))
    rw [← leave_2 m c t d0 _ (after_2 m c t) _ rfl]
    iexact H2
  · iexists (k0_pay2 (F := Ideal) ((cfg0.win 0).fill (cfg0.grid.coords t) d0 (iblk m c 0 t)) (iblk m c 1 t))
    rw [← leave_3 m c t d0 _ (after_3 m c t) _ rfl]
    iexact H3

set_option backward.isDefEq.respectTransparency.types false in
/-- Every array of the pipeline ends at what the library computes from the blocks. -/
theorem run_value : θ_run defs (onTc (τ := τ) (main (F := Ideal))) ⟨m, fun _ => 0, ρ⟩ (fun r => Pipeline.FramePost cfgs (dats m) 0 (V m) r ∧ r.2.sem = fun _ => 0) :=
  Pipeline.θ_run_frame (Q' := _) cfgs (dats m) (0 : Fin 1) launch0 defs₀ Variants.none m ρ main
    (hbody := obligation m) (hshare := fun c => (dats m 0 c).share_full fun _ => rfl)
    (howed := fun _ _ => rfl) (V := V m) (hmain := hmain m Variants.none) (hA := fun _ _ => rfl) (hΦ := fun _ _ => rfl)

end Cert.Wgrad

end
-- ==== Proof.WgradFinal.lean ====
/- The two results of the weight gradient's kernel, and the reference's. -/
module

public import proofs.«01_k».proof.Proof.WgradValue
public import Idealize.ShloMosaic.Lib.Pipeline.ValueKit

@[expose] public section

set_option maxRecDepth 16384

noncomputable section

namespace Cert.Wgrad

open Cert.Kernel2Ideal Cert.Kernel2Ideal.Gen
open Idealize.ShloMosaic Idealize.ShloMosaic.TcCoe Idealize.SL.Sem
open Idealize.ShloMosaic.Pipeline (Dat Cfg Window)

/-- The left operand's transpose times the right operand. -/
def grad (L : FVec Ideal S8192x2752 .bf16) (R : FVec Ideal S8192x1024 .bf16) : S2752x1024.Idx → EReal :=
  fun i => ∑ s : Fin 8192, L (ix2 s (i 0)) * R (ix2 s (i 1))

variable (m : (ℓ : Loc nD τ sig) → Buf (Elt Ideal) ℓ) (ρ : Dev nD → PrngReg)

theorem index : ∀ t : Fin cfg0.N, win0_0.index t = ![0, t.val] ∧ win0_1.index t = ![0, 0] ∧ win0_2.index t = ![t.val, 0] ∧ win0_3.index t = ![t.val, 0] :=
  (by decide +kernel : ∀ t : Fin grid0.N, _)

/-- A column inside the array, of the left operand's block. -/
theorem lblk_at (c : Dev nD) (t : Fin cfg0.N) (s : Fin 8192) (i : Fin 256) (hi : i.val < (cfg0.win 2).xsize (cfg0.grid.coords t) (0 : Fin 2))
    (j : Fin 2752) (hj : j.val = t.val * 256 + i.val) : lblk m c t (ix2 s i) = V m c main_arg0 (ix2 s j) := by
  have h := moved_0 t s i hi
  unfold lblk Window.fill
  rw [dif_pos h]
  blk_simp [iblk, index t]
  refine congrArg _ (funext fun a => Fin.ext ?_)
  match a with
  | ⟨0, _⟩ => blk_simp [index t]
  | ⟨1, _⟩ => blk_simp [index t, hj]

theorem rblk_at (c : Dev nD) (t : Fin cfg0.N) (s : Fin 8192) (i : Fin 1024) : iblk m c 1 t (ix2 s i) = V m c main_arg1 (ix2 s i) := by
  blk_simp [iblk, index t]
  refine congrArg _ (funext fun a => Fin.ext ?_)
  match a with
  | ⟨0, _⟩ => blk_simp [index t]
  | ⟨1, _⟩ => blk_simp [index t]

theorem pay_grad (c : Dev nD) (t : Fin cfg0.N) (z : S256x1024.Idx) (hz : (z 0).val < (cfg0.win 2).xsize (cfg0.grid.coords t) (0 : Fin 2))
    (i : S2752x1024.Idx) (h0 : (i 0).val = t.val * 256 + (z 0).val) (h1 : (i 1).val = (z 1).val) :
    k0_pay1 (F := Ideal) (lblk m c t) (iblk m c 1 t) z = grad (V m c main_arg0) (V m c main_arg1) i := by
  rw [pay1_apply]
  unfold grad
  refine Finset.sum_congr rfl fun s _ => ?_
  refine congrArg₂ (· * ·) (lblk_at m c t s (z 0) hz (i 0) h0) ((rblk_at m c t s (z 1)).trans ?_)
  exact congrArg (fun k : Fin 1024 => V m c main_arg1 (ix2 s k)) (Fin.ext h1.symm)

theorem final2 (c : Dev nD) : (dats m 0 c).arrAt 2 (cfgs 0).N = (grad (V m c main_arg0) (V m c main_arg1) : FVec Ideal S2752x1024 .f32) := by
  refine (dats m 0 c).arrAt_eq_of_covers 2 _ (by decide +kernel) fun t _ y => ?_
  rw [after_2]
  exact pay_grad m c t _ (y (0 : Fin 2)).isLt _ (by blk_simp [index t]) (by blk_simp [index t])

theorem final3 (c : Dev nD) : (dats m 0 c).arrAt 3 (cfgs 0).N = (grad (V m c main_arg0) (V m c main_arg1) : FVec Ideal S2752x1024 .bf16) := by
  refine (dats m 0 c).arrAt_eq_of_covers 3 _ (by decide +kernel) fun t _ y => ?_
  rw [after_3]
  exact pay_grad m c t _ (y (0 : Fin 2)).isLt _ (by blk_simp [index t]) (by blk_simp [index t])

end Cert.Wgrad

end
-- ==== Proof.WgradRef.lean ====
/- The reference of the weight gradient over its arguments. -/
module

public import proofs.«01_k».proof.Proof.Gen.Reference2Ideal.Run
public import proofs.«01_k».proof.Proof.Gen.Reference2Ideal.Read
public import proofs.«01_k».proof.Proof.WgradFinal

@[expose] public section

set_option maxRecDepth 16384

noncomputable section

namespace Cert.Wgrad.Ref

open Cert.Reference2Ideal Cert.Reference2Ideal.Gen Cert.Reference2Ideal.Read
open Idealize.ShloMosaic Idealize.ShloMosaic.TcCoe Idealize.SL.Sem Idealize.ShloMosaic.StableHlo

/-- The reference's product, its factors the other way round, is the gradient. -/
theorem grad_eq (x0 : FVec Ideal S8192x2752 .bf16) (x1 : FVec Ideal S8192x1024 .bf16) :
    val_main_v5 (F := Ideal) x0 x1 = (grad x0 x1 : FVec Ideal S2752x1024 .f32) := by
  funext y
  idx_vars y
  rw [val_main_v5_apply, val_main_v4_apply]
  refine Finset.sum_congr rfl fun s _ => (mul_comm _ _).trans (congrArg₂ (· * ·) ?_ ?_)
  · exact congrArg x0 (funext fun a => match a with | ⟨0, _⟩ => rfl | ⟨1, _⟩ => rfl)
  · exact congrArg x1 (funext fun a => match a with | ⟨0, _⟩ => rfl | ⟨1, _⟩ => rfl)

theorem grad_eq' (x0 : FVec Ideal S8192x2752 .bf16) (x1 : FVec Ideal S8192x1024 .bf16) :
    val_main_v6 (F := Ideal) x0 x1 = (grad x0 x1 : FVec Ideal S2752x1024 .bf16) := grad_eq x0 x1

end Cert.Wgrad.Ref

end
-- ==== Proof.FwdPay.lean ====
/- What the forward kernels' bodies compute from their blocks: 256 rows at a time, each the row functions of Proof/FwdModel.lean. -/
module

public import proofs.«01_k».proof.Proof.Gen.Kernel3Ideal.Skeleton
public import proofs.«01_k».proof.Proof.FwdModel

@[expose] public section

set_option maxRecDepth 16384

noncomputable section

namespace Cert.Fwd.Loss

open Idealize.ShloMosaic Idealize.ShloMosaic.TcCoe Idealize.SL.Sem
open Cert.Kernel3Ideal Cert.Kernel3Ideal.Gen

variable (w : Par) (x t : Fin 256 → Fin 1024 → EReal) (p : Fin 256)

abbrev rowB (g : Fin 1024 → EReal) : FVec Ideal S1x1024 .f32 := arr fun _ : Fin 1 => g
abbrev xB : FVec Ideal S256x1024 .f32 := arr x
abbrev wgB : FVec Ideal S2752x1024 .bf16 := arr fun f k => w.wg k f
abbrev wuB : FVec Ideal S2752x1024 .bf16 := arr fun f k => w.wu k f
abbrev wdB : FVec Ideal S2752x1024 .bf16 := arr w.wd

theorem pay5 (k : Fin 1024) : k0_pay5 (F := Ideal) (xB x) (rowB w.gpre) (ix2 p k) = w.h (x p) k := by
  pointwise [k0_pay5, arr_ix2]
  rfl

theorem pay6 (f : Fin 2752) : k0_pay6 (F := Ideal) (xB x) (rowB w.gpre) (wgB w) (ix2 p f) = w.a (x p) f := by
  pointwise [k0_pay6, pay5, arr_ix2]
  rfl

theorem pay7 (f : Fin 2752) : k0_pay7 (F := Ideal) (xB x) (rowB w.gpre) (wuB w) (ix2 p f) = w.b (x p) f := by
  pointwise [k0_pay7, pay5, arr_ix2]
  rfl

theorem pay8 (j : Fin 1024) : k0_pay8 (F := Ideal) (xB x) (rowB w.gpre) (wgB w) (wuB w) (wdB w) (ix2 p j) = w.f (x p) j := by
  pointwise [k0_pay8, pay6, pay7, arr_ix2]
  rfl

theorem pay9 (j : Fin 1024) : k0_pay9 (F := Ideal) (xB x) (rowB w.gpre) (wgB w) (wuB w) (wdB w) (ix2 p j)
    = w.f (x p) j * rms (w.f (x p)) := by
  pointwise [k0_pay9, pay8, arr_ix2]
  rfl

abbrev nB : FVec Ideal S256x1024 .f32 := k0_pay9 (F := Ideal) (xB x) (rowB w.gpre) (wgB w) (wuB w) (wdB w)

theorem pay12 (j : Fin 1024) : k0_pay12 (F := Ideal) (xB x) (nB w x) (rowB w.gpost) (xB t) (ix2 p j) = w.err (x p) (t p) j := by
  pointwise [k0_pay12, pay9, arr_ix2]
  rfl

theorem pay13 (j : Fin 1024) : k0_pay13 (F := Ideal) (xB x) (nB w x) (rowB w.gpost) (xB t) (ix2 p j) = w.dy (x p) (t p) j := by
  pointwise [k0_pay13, pay12, arr_ix2]
  rfl

theorem pay14 : k0_pay14 (F := Ideal) (xB x) (nB w x) (rowB w.gpost) (xB t)
    = Ideal.ofBits .f32 0x3F000000#32 * ∑ p, w.sq (x p) (t p) := by
  pointwise [k0_pay14, pay12, arr_ix2]
  simp only [Finset.univ_unique, Finset.sum_singleton]
  rfl

abbrev mB : FVec Ideal S256x1 .f32 := k0_pay15 (F := Ideal) (xB x)
abbrev eB : FVec Ideal S256x1 .f32 := k0_pay16 (F := Ideal)

theorem pay17 (k : Fin 1024) : k0_pay17 (F := Ideal) (xB x) (mB x) eB (rowB w.gpre) (ix2 p k) = w.h (x p) k := by
  pointwise [k0_pay17, k0_pay15, k0_pay16, arr_ix2]
  rfl

theorem pay18 (f : Fin 2752) : k0_pay18 (F := Ideal) (xB x) (mB x) eB (rowB w.gpre) (wgB w) (ix2 p f) = w.a (x p) f := by
  pointwise [k0_pay18, pay17, arr_ix2]
  rfl

theorem pay19 (f : Fin 2752) : k0_pay19 (F := Ideal) (xB x) (mB x) eB (rowB w.gpre) (wuB w) (ix2 p f) = w.b (x p) f := by
  pointwise [k0_pay19, pay17, arr_ix2]
  rfl

theorem pay20 (j : Fin 1024) : k0_pay20 (F := Ideal) (xB x) (mB x) eB (rowB w.gpre) (wgB w) (wuB w) (wdB w) (ix2 p j) = w.f (x p) j := by
  pointwise [k0_pay20, pay18, pay19, arr_ix2]
  rfl

theorem pay21 (j : Fin 1024) : k0_pay21 (F := Ideal) (xB x) (mB x) eB (rowB w.gpre) (wgB w) (wuB w) (wdB w) (rowB w.gpost) (ix2 p j)
    = w.y (x p) j := by
  pointwise [k0_pay21, pay20, arr_ix2]
  rfl

abbrev yB : FVec Ideal S256x1024 .f32 := k0_pay21 (F := Ideal) (xB x) (mB x) eB (rowB w.gpre) (wgB w) (wuB w) (wdB w) (rowB w.gpost)

theorem pay1 (j : Fin 1024) : k0_pay1 (F := Ideal) (yB w x) (xB t) (ix2 p j) = w.err (x p) (t p) j := by
  pointwise [k0_pay1, pay21, arr_ix2]
  rfl

theorem pay2 (j : Fin 1024) : k0_pay2 (F := Ideal) (yB w x) (xB t) (ix2 p j) = w.dy (x p) (t p) j := by
  pointwise [k0_pay2, pay1, arr_ix2]
  rfl

theorem pay4 (s : EReal) (acc : FVec Ideal S8x128 .f32) (i : Fin 8) (j : Fin 128) : k0_pay4 (F := Ideal) s (yB w x) (xB t) acc (ix2 i j)
    = acc (ix2 i j) + (s + Ideal.ofBits .f32 0x3F000000#32 * ∑ p, w.sq (x p) (t p)) := by
  pointwise [k0_pay4, pay1, arr_ix2]
  simp only [Finset.univ_unique, Finset.sum_singleton]
  rfl

theorem pay10 (f : Fin 2752) (a : FVec Ideal S256x2752 .f32) : k0_pay10 (F := Ideal) a (ix2 p f) = a (ix2 p f) := by
  pointwise [k0_pay10]

theorem pay11 (f : Fin 2752) (b : FVec Ideal S256x2752 .f32) : k0_pay11 (F := Ideal) b (ix2 p f) = b (ix2 p f) := by
  pointwise [k0_pay11]

theorem pay22 (f : Fin 2752) : k0_pay22 (F := Ideal) (xB x) (mB x) eB (rowB w.gpre) (wgB w) (ix2 p f) = w.a (x p) f := by
  pointwise [k0_pay22, pay18, arr_ix2]

theorem pay23 (f : Fin 2752) : k0_pay23 (F := Ideal) (xB x) (mB x) eB (rowB w.gpre) (wuB w) (ix2 p f) = w.b (x p) f := by
  pointwise [k0_pay23, pay19, arr_ix2]

theorem pay3 (i : Fin 8) (j : Fin 128) : k0_pay3 (F := Ideal) (ix2 i j) = 0 := by
  pointwise [k0_pay3]

end Cert.Fwd.Loss

end
-- ==== Proof.FwdBlocks.lean ====
/- The blocks each grid point of the forward call with the loss reads: 512 rows of the arrays, taken 256 at a time. -/
module

public import proofs.«01_k».proof.Proof.Gen.Kernel3Ideal.Value
public import proofs.«01_k».proof.Proof.FwdPay
public import Idealize.ShloMosaic.Lib.Pipeline.ValueKit

@[expose] public section

set_option maxRecDepth 16384

noncomputable section

namespace Cert.Fwd.Loss

open Idealize.ShloMosaic Idealize.ShloMosaic.TcCoe Idealize.SL.Sem
open Cert.Kernel3Ideal Cert.Kernel3Ideal.Gen

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0]
    ∧ win0_10.index t = ![t.val, 0] ∧ win0_11.index t = ![0, 0] :=
  (by decide +kernel : ∀ t : Fin grid0.N, _)

/-- Row `q` of the block of point `t`. -/
def rowAt (t : Fin cfg0.N) (q : Fin 512) : Fin 8192 :=
  ⟨t.val * 512 + q.val, by have := lt_of_lt_of_eq t.isLt (show cfg0.N = 16 from N_0); have := q.isLt; omega⟩

/-- A weight as the kernel takes it: transposed. -/
def flip (g : FVec Ideal S1024x2752 .f32) : FVec Ideal S2752x1024 .bf16 :=
  truncf .bf16 (transpose S2752x1024 [1, 0] g transposes_S1024x2752_S2752x1024_1_0) bitsLt_bf16_f32

theorem flip_arr (g : Fin 1024 → Fin 2752 → EReal) : flip (arr g) = arr fun f k => g k f := by
  funext i
  idx_vars i
  pointwise [flip, arr_ix2]

/-- The arguments are `x`, `w` and `t`. -/
structure Args (m : (ℓ : Loc nD τ sig) → Buf (Elt Ideal) ℓ) (c : Dev nD) (w : Par) (x d : Fin 8192 → Fin 1024 → EReal) : Prop where
  x : m ((c : Thread nD τ).loc main_arg0) = (arr x : FVec Ideal S8192x1024 .f32)
  gpre : m ((c : Thread nD τ).loc main_arg1) = (arr (fun _ => w.gpre) : FVec Ideal S1x1024 .f32)
  wg : m ((c : Thread nD τ).loc main_arg2) = (arr w.wg : FVec Ideal S1024x2752 .f32)
  wu : m ((c : Thread nD τ).loc main_arg3) = (arr w.wu : FVec Ideal S1024x2752 .f32)
  wd : m ((c : Thread nD τ).loc main_arg4) = (arr w.wd : FVec Ideal S2752x1024 .f32)
  gpost : m ((c : Thread nD τ).loc main_arg5) = (arr (fun _ => w.gpost) : FVec Ideal S1x1024 .f32)
  d : m ((c : Thread nD τ).loc main_arg6) = (arr d : FVec Ideal S8192x1024 .f32)

variable {m : (ℓ : Loc nD τ sig) → Buf (Elt Ideal) ℓ} {c : Dev nD} {w : Par} {x d : Fin 8192 → Fin 1024 → EReal}

theorem V1 (m : (ℓ : Loc nD τ sig) → Buf (Elt Ideal) ℓ) (c : Dev nD) : V m c main_v1 = flip (m ((c : Thread nD τ).loc main_arg2)) := by
  unfold V
  simp only [hostOps0]
  after_results_simp
  rfl

theorem V3 (m : (ℓ : Loc nD τ sig) → Buf (Elt Ideal) ℓ) (c : Dev nD) : V m c main_v3 = flip (m ((c : Thread nD τ).loc main_arg3)) := by
  unfold V
  simp only [hostOps0]
  after_results_simp
  rfl

theorem V4 (m : (ℓ : Loc nD τ sig) → Buf (Elt Ideal) ℓ) (c : Dev nD) : V m c main_v4 = (m ((c : Thread nD τ).loc main_arg4) : FVec Ideal S2752x1024 .f32) := by
  unfold V
  simp only [hostOps0]
  after_results_simp
  rfl

theorem blk0 (h : Args m c w x d) (t : Fin cfg0.N) : iblk m c 0 t = (arr fun q => x (rowAt t q) : FVec Ideal S512x1024 .f32) := by
  funext y
  have e : V m c main_arg0 = (arr x : FVec Ideal S8192x1024 .f32) := (V_main_arg0 m c).trans h.x
  blk_simp [iblk, idx t]
  rw [e]
  refine congrArg₂ x (Fin.ext ?_) (Fin.ext ?_) <;> blk_simp [idx t, rowAt]

theorem blk6 (h : Args m c w x d) (t : Fin cfg0.N) : iblk m c 6 t = (arr fun q => d (rowAt t q) : FVec Ideal S512x1024 .f32) := by
  funext y
  have e : V m c main_arg6 = (arr d : FVec Ideal S8192x1024 .f32) := (V_main_arg6 m c).trans h.d
  blk_simp [iblk, idx t]
  rw [e]
  refine congrArg₂ d (Fin.ext ?_) (Fin.ext ?_) <;> blk_simp [idx t, rowAt]

theorem blk1 (h : Args m c w x d) (t : Fin cfg0.N) : iblk m c 1 t = rowB w.gpre := by
  funext y
  have e : V m c main_arg1 = rowB w.gpre := (V_main_arg1 m c).trans h.gpre
  blk_simp [iblk, idx t]
  rw [e]
  refine congrArg w.gpre (Fin.ext ?_); blk_simp [idx t]

theorem blk5 (h : Args m c w x d) (t : Fin cfg0.N) : iblk m c 5 t = rowB w.gpost := by
  funext y
  have e : V m c main_arg5 = rowB w.gpost := (V_main_arg5 m c).trans h.gpost
  blk_simp [iblk, idx t]
  rw [e]
  refine congrArg w.gpost (Fin.ext ?_); blk_simp [idx t]

theorem blk2 (h : Args m c w x d) (t : Fin cfg0.N) : iblk m c 2 t = wgB w := by
  funext y
  have e : V m c main_v1 = wgB w := by rw [V1, h.wg]; exact flip_arr _
  blk_simp [iblk, idx t]
  rw [e]
  refine congrArg₂ w.wg (Fin.ext ?_) (Fin.ext ?_) <;> blk_simp [idx t]

theorem blk3 (h : Args m c w x d) (t : Fin cfg0.N) : iblk m c 3 t = wuB w := by
  funext y
  have e : V m c main_v3 = wuB w := by rw [V3, h.wu]; exact flip_arr _
  blk_simp [iblk, idx t]
  rw [e]
  refine congrArg₂ w.wu (Fin.ext ?_) (Fin.ext ?_) <;> blk_simp [idx t]

theorem blk4 (h : Args m c w x d) (t : Fin cfg0.N) : iblk m c 4 t = wdB w := by
  funext y
  have e : V m c main_v4 = (arr w.wd : FVec Ideal S2752x1024 .f32) := by rw [V4, h.wd]
  blk_simp [iblk, idx t]
  rw [e]
  refine congrArg₂ w.wd (Fin.ext ?_) (Fin.ext ?_) <;> blk_simp [idx t]

/-- The two halves of a block's rows. -/
def lo (p : Fin 256) : Fin 512 := ⟨p.val, by omega⟩
def hi (p : Fin 256) : Fin 512 := ⟨256 + p.val, by omega⟩

theorem ld_lo (u : Fin 512 → Fin 1024 → EReal) (inb) :
    View.ld (Val := Elt Ideal) (S := S512x1024) (e' := .f32) (arr u) (Rect.unit (s := S512x1024) ![0, 0] ![256, 1024] inb)
      = (arr fun p => u (lo p) : FVec Ideal S256x1024 .f32) := by
  funext y
  rw [View.ld_apply]
  refine congrArg₂ u (Fin.ext ?_) (Fin.ext ?_) <;> simp [lo]

theorem ld_hi (u : Fin 512 → Fin 1024 → EReal) (inb) :
    View.ld (Val := Elt Ideal) (S := S512x1024) (e' := .f32) (arr u) (Rect.unit (s := S512x1024) ![256, 0] ![256, 1024] inb)
      = (arr fun p => u (hi p) : FVec Ideal S256x1024 .f32) := by
  funext y
  rw [View.ld_apply]
  refine congrArg₂ u (Fin.ext ?_) (Fin.ext ?_) <;> simp [hi]

/-- A block stored as its two halves of rows. -/
theorem halves (n : ℕ) (e : EltTy) (g : Fin 512 → Fin n → Elt Ideal e) (inb0 inb1) (v0 v1 : (⟨2, ![256, n]⟩ : Shape).Idx → Elt Ideal e)
    (h0 : ∀ p j, v0 (ix2 p j) = g (lo p) j) (h1 : ∀ p j, v1 (ix2 p j) = g (hi p) j) (y : (⟨2, ![512, n]⟩ : Shape).Idx) :
    View.canon (Val := Elt Ideal) (s := ⟨2, ![512, n]⟩) (e := e)
      [⟨Rect.unit (s := ⟨2, ![512, n]⟩) ![256, 0] ![256, n] inb1, v1⟩, ⟨Rect.unit (s := ⟨2, ![512, n]⟩) ![0, 0] ![256, n] inb0, v0⟩] y = g (y 0) (y 1) := by
  refine View.canon_eq_of_allAt _ y _ ?_ (View.allAt_cons_unit _ _ _ _ _ (fun z hz => ?_) (View.allAt_cons_unit _ _ _ _ _ (fun z hz => ?_) (View.allAt_nil _ _)))
  · by_cases hy : (y 0).val < 256
    · refine ⟨_, List.mem_cons_of_mem _ List.mem_cons_self, (Rect.mem_set_unit (inb := inb0)).mpr fun a => ?_⟩
      match a with
      | ⟨0, _⟩ => exact ⟨Nat.zero_le _, by simpa using hy⟩
      | ⟨1, _⟩ => exact ⟨Nat.zero_le _, by simpa using (y 1).isLt⟩
    · refine ⟨_, List.mem_cons_self, (Rect.mem_set_unit (inb := inb1)).mpr fun a => ?_⟩
      match a with
      | ⟨0, _⟩ => exact ⟨by simpa using hy, by have := (y 0).isLt; simpa using this⟩
      | ⟨1, _⟩ => exact ⟨Nat.zero_le _, by simpa using (y 1).isLt⟩
  · refine (congrArg v1 (eq_ix2 (n0 := 256) (n1 := n) z)).trans ((h1 _ _).trans ?_)
    exact congrArg₂ g (Fin.ext (hz 0).symm) (Fin.ext ((hz 1).trans (Nat.zero_add _)).symm)
  · refine (congrArg v0 (eq_ix2 (n0 := 256) (n1 := n) z)).trans ((h0 _ _).trans ?_)
    exact congrArg₂ g (Fin.ext ((hz 0).trans (Nat.zero_add _)).symm) (Fin.ext ((hz 1).trans (Nat.zero_add _)).symm)

end Cert.Fwd.Loss

end
-- ==== Proof.FwdFinal.lean ====
/- The results of the forward call with the loss, over its arguments. -/
module

public import proofs.«01_k».proof.Proof.FwdBlocks
public import proofs.«01_k».proof.Proof.Model

@[expose] public section

set_option maxRecDepth 16384

noncomputable section

namespace Cert.Fwd.Loss

open Idealize.ShloMosaic Idealize.ShloMosaic.TcCoe Idealize.SL.Sem
open Cert.Kernel3Ideal Cert.Kernel3Ideal.Gen

variable {m : (ℓ : Loc nD τ sig) → Buf (Elt Ideal) ℓ} {c : Dev nD} {w : Par} {x d : Fin 8192 → Fin 1024 → EReal}

theorem final7 (h : Args m c w x d) : (dats m 0 c).arrAt 7 (cfgs 0).N = (arr fun i => w.dy (x i) (d i) : FVec Ideal S8192x1024 .f32) := by
  refine (dats m 0 c).arrAt_eq_of_covers 7 _ (by decide +kernel) fun t _ y => ?_
  blk_simp
  rw [after0_7]
  by_cases ht : t.val % 16 = 0
  · rw [outsAt0_A m c t ht]
    frame_out
    simp only [blk0 h, blk1 h, blk2 h, blk3 h, blk4 h, blk5 h, blk6 h, ld_lo, ld_hi]
    refine (halves 1024 .f32 (fun q => w.dy (x (rowAt t q)) (d (rowAt t q))) _ _ _ _ (fun p j => Loss.pay13 w _ _ p j) (fun p j => Loss.pay2 w _ _ p j) y).trans ?_
    refine congrArg₂ (fun i => w.dy (x i) (d i)) (Fin.ext ?_) (Fin.ext ?_) <;> blk_simp [idx t, rowAt]
  · rw [outsAt0_B m c t ht]
    frame_out
    simp only [blk0 h, blk1 h, blk2 h, blk3 h, blk4 h, blk5 h, blk6 h, ld_lo, ld_hi]
    refine (halves 1024 .f32 (fun q => w.dy (x (rowAt t q)) (d (rowAt t q))) _ _ _ _ (fun p j => Loss.pay13 w _ _ p j) (fun p j => Loss.pay2 w _ _ p j) y).trans ?_
    refine congrArg₂ (fun i => w.dy (x i) (d i)) (Fin.ext ?_) (Fin.ext ?_) <;> blk_simp [idx t, rowAt]

theorem final8 (h : Args m c w x d) : (dats m 0 c).arrAt 8 (cfgs 0).N = (arr fun i => w.a (x i) : FVec Ideal S8192x2752 .bf16) := by
  refine (dats m 0 c).arrAt_eq_of_covers 8 _ (by decide +kernel) fun t _ y => ?_
  blk_simp
  rw [after0_8]
  by_cases ht : t.val % 16 = 0
  · rw [outsAt0_A m c t ht]
    frame_out
    simp only [blk0 h, blk1 h, blk2 h, blk3 h, blk4 h, blk5 h, blk6 h, ld_lo, ld_hi]
    refine (halves 2752 .bf16 (fun q => w.a (x (rowAt t q))) _ _ _ _ (fun p j => (pay10 p j _).trans (pay6 w _ p j)) (fun p j => pay22 w _ p j) y).trans ?_
    refine congrArg₂ (fun i => w.a (x i)) (Fin.ext ?_) (Fin.ext ?_) <;> blk_simp [idx t, rowAt]
  · rw [outsAt0_B m c t ht]
    frame_out
    simp only [blk0 h, blk1 h, blk2 h, blk3 h, blk4 h, blk5 h, blk6 h, ld_lo, ld_hi]
    refine (halves 2752 .bf16 (fun q => w.a (x (rowAt t q))) _ _ _ _ (fun p j => (pay10 p j _).trans (pay6 w _ p j)) (fun p j => pay22 w _ p j) y).trans ?_
    refine congrArg₂ (fun i => w.a (x i)) (Fin.ext ?_) (Fin.ext ?_) <;> blk_simp [idx t, rowAt]

theorem final9 (h : Args m c w x d) : (dats m 0 c).arrAt 9 (cfgs 0).N = (arr fun i => w.b (x i) : FVec Ideal S8192x2752 .bf16) := by
  refine (dats m 0 c).arrAt_eq_of_covers 9 _ (by decide +kernel) fun t _ y => ?_
  blk_simp
  rw [after0_9]
  by_cases ht : t.val % 16 = 0
  · rw [outsAt0_A m c t ht]
    frame_out
    simp only [blk0 h, blk1 h, blk2 h, blk3 h, blk4 h, blk5 h, blk6 h, ld_lo, ld_hi]
    refine (halves 2752 .bf16 (fun q => w.b (x (rowAt t q))) _ _ _ _ (fun p j => (pay11 p j _).trans (pay7 w _ p j)) (fun p j => pay23 w _ p j) y).trans ?_
    refine congrArg₂ (fun i => w.b (x i)) (Fin.ext ?_) (Fin.ext ?_) <;> blk_simp [idx t, rowAt]
  · rw [outsAt0_B m c t ht]
    frame_out
    simp only [blk0 h, blk1 h, blk2 h, blk3 h, blk4 h, blk5 h, blk6 h, ld_lo, ld_hi]
    refine (halves 2752 .bf16 (fun q => w.b (x (rowAt t q))) _ _ _ _ (fun p j => (pay11 p j _).trans (pay7 w _ p j)) (fun p j => pay23 w _ p j) y).trans ?_
    refine congrArg₂ (fun i => w.b (x i)) (Fin.ext ?_) (Fin.ext ?_) <;> blk_simp [idx t, rowAt]

theorem final10 (h : Args m c w x d) : (dats m 0 c).arrAt 10 (cfgs 0).N = (arr fun i => w.f (x i) : FVec Ideal S8192x1024 .f32) := by
  refine (dats m 0 c).arrAt_eq_of_covers 10 _ (by decide +kernel) fun t _ y => ?_
  blk_simp
  rw [after0_10]
  by_cases ht : t.val % 16 = 0
  · rw [outsAt0_A m c t ht]
    frame_out
    simp only [blk0 h, blk1 h, blk2 h, blk3 h, blk4 h, blk5 h, blk6 h, ld_lo, ld_hi]
    refine (halves 1024 .f32 (fun q => w.f (x (rowAt t q))) _ _ _ _ (fun p j => pay8 w _ p j) (fun p j => pay20 w _ p j) y).trans ?_
    refine congrArg₂ (fun i => w.f (x i)) (Fin.ext ?_) (Fin.ext ?_) <;> blk_simp [idx t, rowAt]
  · rw [outsAt0_B m c t ht]
    frame_out
    simp only [blk0 h, blk1 h, blk2 h, blk3 h, blk4 h, blk5 h, blk6 h, ld_lo, ld_hi]
    refine (halves 1024 .f32 (fun q => w.f (x (rowAt t q))) _ _ _ _ (fun p j => pay8 w _ p j) (fun p j => pay20 w _ p j) y).trans ?_
    refine congrArg₂ (fun i => w.f (x i)) (Fin.ext ?_) (Fin.ext ?_) <;> blk_simp [idx t, rowAt]

/-- A half of a sum is the sum of the halves. -/
theorem half_sum {n : ℕ} (f : Fin n → EReal) :
    (∑ i, Ideal.ofBits .f32 0x3F000000#32 * f i) = Ideal.ofBits .f32 0x3F000000#32 * ∑ i, f i := by
  rw [Cert.Model.half_bits]
  have e : ∀ s : Finset (Fin n), (∑ i ∈ s, ((1 / 2 : ℝ) : EReal) * f i) = ((1 / 2 : ℝ) : EReal) * ∑ i ∈ s, f i := fun s => by
    induction s using Finset.cons_induction with
    | empty => simp
    | cons i s h ih => rw [Finset.sum_cons, Finset.sum_cons, ih, EReal.left_distrib_of_nonneg_of_ne_top (EReal.coe_nonneg.mpr (by norm_num)) (EReal.coe_ne_top _)]
  exact e _

theorem half_add (a b : EReal) : Ideal.ofBits .f32 0x3F000000#32 * a + Ideal.ofBits .f32 0x3F000000#32 * b
    = Ideal.ofBits .f32 0x3F000000#32 * (a + b) := by
  rw [Cert.Model.half_bits, EReal.left_distrib_of_nonneg_of_ne_top (EReal.coe_nonneg.mpr (by norm_num)) (EReal.coe_ne_top _)]

/-- The two halves of a block's rows are all of them. -/
theorem sum_halves (f : Fin 512 → EReal) : (∑ p, f (lo p)) + ∑ p, f (hi p) = ∑ q, f q := by
  rw [← Fin.sum_mul_add_fin 2 256 f, Fin.sum_univ_two]
  refine congrArg₂ _ (Finset.sum_congr rfl fun p _ => congrArg f (Fin.ext ?_)) (Finset.sum_congr rfl fun p _ => congrArg f (Fin.ext ?_)) <;> simp [lo, hi]

theorem final11 (h : Args m c w x d) : (dats m 0 c).arrAt 11 (cfgs 0).N
    = (arr fun _ _ => Ideal.ofBits .f32 0x3F000000#32 * ∑ i, w.sq (x i) (d i) : FVec Ideal S8x128 .f32) := by
  refine (dats m 0 c).arrAt_eq_of_covers 11 _ (by decide +kernel) fun t hf y => ?_
  blk_simp
  rw [after0_11, Pipeline.eq_sum_fin_of_reset_step_apply_of_flush (fun n h => (outsAt0 m c n h).2.2.2.2) 16 (fun _ => 0)
    (fun t _ => Ideal.ofBits .f32 0x3F000000#32 * ∑ q, w.sq (x (rowAt t q)) (d (rowAt t q)))
    (fun t ht j => by
      rw [outsAt0_A m c t ht]; frame_out
      simp only [blk0 h, blk1 h, blk2 h, blk3 h, blk4 h, blk5 h, blk6 h, ld_lo, ld_hi]
      idx_vars j
      rw [pay4, pay14, pay3, half_add, sum_halves fun q => w.sq (x (rowAt t q)) (d (rowAt t q))])
    (fun t ht j => by
      rw [outsAt0_B m c t ht]; frame_out
      simp only [blk0 h, blk1 h, blk2 h, blk3 h, blk4 h, blk5 h, blk6 h, ld_lo, ld_hi]
      idx_vars j
      rw [pay4, pay14, half_add, sum_halves fun q => w.sq (x (rowAt t q)) (d (rowAt t q))])
    t ((flush0_11 t).mp hf) _, zero_add]
  have ht : t.val / 16 = 0 := by have := lt_of_lt_of_eq t.isLt (show cfg0.grid.N = 16 from N_0); omega
  rw [half_sum]
  refine congrArg (Ideal.ofBits .f32 0x3F000000#32 * ·) ((Finset.sum_congr rfl fun s _ => Finset.sum_congr rfl fun q _ => ?_).trans
    (Fin.sum_mul_add_fin 16 512 fun i => w.sq (x i) (d i)))
  have e : rowAt ⟨16 * (t.val / 16) + s.val, Pipeline.run_point_lt_of_flush t ((flush0_11 t).mp hf) s⟩ q = ⟨s.val * 512 + q.val, by omega⟩ := Fin.ext (by
    show (16 * (t.val / 16) + s.val) * 512 + q.val = _
    rw [ht]; simp)
  exact congrArg (fun i => w.sq (x i) (d i)) e

end Cert.Fwd.Loss

end
-- ==== Proof.FwdRef.lean ====
/- The reference's forward pass with the loss, read at an index: the row functions of Proof/FwdModel.lean. -/
module

public import proofs.«01_k».proof.Proof.Gen.Reference3Ideal.Read
public import proofs.«01_k».proof.Proof.Gen.Reference3Ideal.Run
public import proofs.«01_k».proof.Proof.FwdModel
public import proofs.«01_k».proof.Proof.Model

@[expose] public section

set_option maxRecDepth 16384

noncomputable section

namespace Cert.Fwd.LossRef

open Idealize.ShloMosaic Idealize.ShloMosaic.TcCoe Idealize.SL.Sem
open Idealize.ShloMosaic.StableHlo Cert.Reference3Ideal Cert.Reference3Ideal.Gen Cert.Reference3Ideal.Read

variable (w : Par) (x d : Fin 8192 → Fin 1024 → EReal) (i : Fin 8192)

abbrev row (g : Fin 1024 → EReal) : FVec Ideal S1x1024 .f32 := arr fun _ : Fin 1 => g

theorem v7 : val_main_v7 (F := Ideal) (arr x) (ix2 i 0) = rms (x i) := by
  pointwise [val_main_v7, val_main_v6, val_main_v5, val_main_cst_1, val_main_v4, val_main_v3, val_main_cst_0, val_main_v2, val_main_v1,
    val_main_cst, val_main_v0, arr_ix2]
  rfl

theorem v11 (k : Fin 1024) : val_main_v11 (F := Ideal) (arr x) (row w.gpre) (ix2 i k) = w.h (x i) k := by
  pointwise [val_main_v11, val_main_v10, val_main_v9, val_main_v8, v7, arr_ix2]
  rfl

theorem v12 (f : Fin 2752) : val_main_v12 (F := Ideal) (arr x) (row w.gpre) (arr w.wg) (ix2 i f) = w.a (x i) f := by
  pointwise [val_main_v12, v11, arr_ix2]
  rfl

theorem v13 (f : Fin 2752) : val_main_v13 (F := Ideal) (arr x) (row w.gpre) (arr w.wu) (ix2 i f) = w.b (x i) f := by
  pointwise [val_main_v13, v11, arr_ix2]
  rfl

theorem v15 (f : Fin 2752) : val_main_v15 (F := Ideal) (arr x) (row w.gpre) (arr w.wg) (arr w.wu) (ix2 i f) = w.hh (x i) f := by
  pointwise [val_main_v15, val_main_v14, val_main_call0_v5, val_main_call0_v4, val_main_call0_cst_0, val_main_call0_v3, val_main_call0_v2,
    val_main_call0_cst, val_main_call0_v1, val_main_call0_v0, v12, v13]
  rfl

theorem v16 (j : Fin 1024) : val_main_v16 (F := Ideal) (arr x) (row w.gpre) (arr w.wg) (arr w.wu) (arr w.wd) (ix2 i j) = w.f (x i) j := by
  pointwise [val_main_v16, v15, arr_ix2]
  rfl

theorem v24 : val_main_v24 (F := Ideal) (arr x) (row w.gpre) (arr w.wg) (arr w.wu) (arr w.wd) (ix2 i 0) = rms (w.f (x i)) := by
  pointwise [val_main_v24, val_main_v23, val_main_v22, val_main_cst_4, val_main_v21, val_main_v20, val_main_cst_3, val_main_v19, val_main_v18,
    val_main_cst_2, val_main_v17, v16]
  rfl

theorem v31 (j : Fin 1024) : val_main_v31 (F := Ideal) (arr x) (row w.gpre) (arr w.wg) (arr w.wu) (arr w.wd) (row w.gpost) (ix2 i j) = w.y (x i) j := by
  pointwise [val_main_v31, val_main_v30, val_main_v29, val_main_cst_5, val_main_v28, val_main_v27, val_main_v26, val_main_v25, v24, v16, arr_ix2]
  rfl

theorem v32 (j : Fin 1024) : val_main_v32 (F := Ideal) (arr x) (row w.gpre) (arr w.wg) (arr w.wu) (arr w.wd) (row w.gpost) (arr d) (ix2 i j)
    = w.err (x i) (d i) j := by
  pointwise [val_main_v32, v31, arr_ix2]
  rfl

theorem two_bits : Ideal.ofBits .f32 0x40000000#32 = ((2 : ℝ) : EReal) := by
  simp [Ideal.ofBits, Ideal.ieee, -EReal.coe_mul]; norm_num

theorem rate_bits : Ideal.ofBits .f32 0x3A800000#32 = ((1 / 1024 : ℝ) : EReal) := by
  simp [Ideal.ofBits, Ideal.ieee, -EReal.coe_mul]; norm_num

/-- A half over the width, of twice the error. -/
theorem rate (e : EReal) : Ideal.div (Ideal.ofBits .f32 0x3F000000#32) (Ideal.ofBits .f32 0x44800000#32)
    * (Ideal.ofBits .f32 0x40000000#32 * e) = e * Ideal.ofBits .f32 0x3A800000#32 := by
  rw [Cert.Model.half_bits, Cert.Model.width_bits, two_bits, rate_bits,
    Cert.Model.div_real (by norm_num), ← mul_assoc, ← EReal.coe_mul, mul_comm]
  norm_num

theorem v46 (j : Fin 1024) : val_main_v46 (F := Ideal) (arr x) (row w.gpre) (arr w.wg) (arr w.wu) (arr w.wd) (row w.gpost) (arr d) (ix2 i j)
    = w.dy (x i) (d i) j := by
  pointwise [val_main_v46, val_main_v45, val_main_v44, val_main_v43, val_main_cst_13, val_main_v42, val_main_v41, val_main_cst_12,
    val_main_cst_11, val_main_v35, val_main_v34, val_main_cst_6, v32]
  exact rate _

theorem v38 : val_main_v38 (F := Ideal) (arr x) (row w.gpre) (arr w.wg) (arr w.wu) (arr w.wd) (row w.gpost) (arr d) (ix1 i)
    = w.sq (x i) (d i) := by
  pointwise [val_main_v38, val_main_v37, val_main_cst_8, val_main_v36, val_main_cst_7, val_main_v33, v32]
  rfl

theorem v49 (p : Fin 8) (q : Fin 128) :
    val_main_v49 (F := Ideal) (arr x) (row w.gpre) (arr w.wg) (arr w.wu) (arr w.wd) (row w.gpost) (arr d) (ix2 p q)
    = Ideal.ofBits .f32 0x3F000000#32 * ∑ i, w.sq (x i) (d i) := by
  pointwise [val_main_v49, val_main_v40, val_main_cst_10, val_main_v39, val_main_cst_9, v38]

theorem dy : val_main_v46 (F := Ideal) (arr x) (row w.gpre) (arr w.wg) (arr w.wu) (arr w.wd) (row w.gpost) (arr d) = arr fun i => w.dy (x i) (d i) := by
  funext y; idx_vars y; exact v46 w x d _ _

theorem a : val_main_v47 (F := Ideal) (arr x) (row w.gpre) (arr w.wg) = arr fun i => w.a (x i) := by
  funext y; idx_vars y; pointwise [val_main_v47, v12, arr_ix2]

theorem b : val_main_v48 (F := Ideal) (arr x) (row w.gpre) (arr w.wu) = arr fun i => w.b (x i) := by
  funext y; idx_vars y; pointwise [val_main_v48, v13, arr_ix2]

theorem f : val_main_v16 (F := Ideal) (arr x) (row w.gpre) (arr w.wg) (arr w.wu) (arr w.wd) = arr fun i => w.f (x i) := by
  funext y; idx_vars y; exact v16 w x _ _

theorem loss : val_main_v49 (F := Ideal) (arr x) (row w.gpre) (arr w.wg) (arr w.wu) (arr w.wd) (row w.gpost) (arr d)
    = (arr fun (_ : Fin 8) (_ : Fin 128) => Ideal.ofBits .f32 0x3F000000#32 * ∑ i, w.sq (x i) (d i)) := by
  funext y; idx_vars y; exact v49 w x d _ _

/-- What the reference ends with, over its arguments. -/
theorem run_fwd (m : (ℓ : Loc nD τ sig) → Buf (Elt Ideal) ℓ) (ρ : Dev nD → PrngReg)
    (w : Dev nD → Par) (x d : Dev nD → Fin 8192 → Fin 1024 → EReal)
    (a0 : ∀ c : Dev nD, m ((c.tc : Thread nD τ).loc main_arg0) = (arr (x c) : FVec Ideal S8192x1024 .f32))
    (a1 : ∀ c : Dev nD, m ((c.tc : Thread nD τ).loc main_arg1) = row (w c).gpre)
    (a2 : ∀ c : Dev nD, m ((c.tc : Thread nD τ).loc main_arg2) = (arr (w c).wg : FVec Ideal S1024x2752 .f32))
    (a3 : ∀ c : Dev nD, m ((c.tc : Thread nD τ).loc main_arg3) = (arr (w c).wu : FVec Ideal S1024x2752 .f32))
    (a4 : ∀ c : Dev nD, m ((c.tc : Thread nD τ).loc main_arg4) = (arr (w c).wd : FVec Ideal S2752x1024 .f32))
    (a5 : ∀ c : Dev nD, m ((c.tc : Thread nD τ).loc main_arg5) = row (w c).gpost)
    (a6 : ∀ c : Dev nD, m ((c.tc : Thread nD τ).loc main_arg6) = (arr (d c) : FVec Ideal S8192x1024 .f32)) :
    θ_run (defs (F := Ideal)) (onTc (τ := τ) (main (F := Ideal))) ⟨m, fun _ => 0, ρ⟩ fun r => ∀ c : Dev nD,
      r.2.mem ((c.tc : Thread nD τ).loc main_v46) = (arr fun i => (w c).dy (x c i) (d c i) : FVec Ideal S8192x1024 .f32)
      ∧ r.2.mem ((c.tc : Thread nD τ).loc main_v47) = (arr fun i => (w c).a (x c i) : FVec Ideal S8192x2752 .bf16)
      ∧ r.2.mem ((c.tc : Thread nD τ).loc main_v48) = (arr fun i => (w c).b (x c i) : FVec Ideal S8192x2752 .bf16)
      ∧ r.2.mem ((c.tc : Thread nD τ).loc main_v16) = (arr fun i => (w c).f (x c i) : FVec Ideal S8192x1024 .f32)
      ∧ r.2.mem ((c.tc : Thread nD τ).loc main_v49)
        = (arr fun _ _ => Ideal.ofBits .f32 0x3F000000#32 * ∑ i, (w c).sq (x c i) (d c i) : FVec Ideal S8x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun r q c => by
    obtain ⟨q1, q2, q3, q4, q5, k⟩ := q c
    refine ⟨q1.trans ?_, q2.trans ?_, q3.trans ?_, q4.trans ?_, q5.trans ?_, k⟩
    · rw [val_main_v46_eq, a0, a1, a2, a3, a4, a5, a6]; exact dy _ _ _
    · rw [val_main_v47_eq, a0, a1, a2]; exact a _ _
    · rw [val_main_v48_eq, a0, a1, a3]; exact b _ _
    · rw [val_main_v16_eq, a0, a1, a2, a3, a4]; exact f _ _
    · rw [val_main_v49_eq, a0, a1, a2, a3, a4, a5, a6]; exact loss _ _ _)
    (Cert.Reference3Ideal.Value.run m ρ)

end Cert.Fwd.LossRef

end
-- ==== Proof.FwdPlain.lean ====
/- What the forward call without the loss computes from its blocks, and its results over its arguments: the row functions of Proof/FwdModel.lean. -/
module

public import proofs.«01_k».proof.Proof.Gen.Kernel4Ideal.Value
public import proofs.«01_k».proof.Proof.FwdBlocks

@[expose] public section

set_option maxRecDepth 16384

noncomputable section

namespace Cert.Fwd.Plain

open Idealize.ShloMosaic Idealize.ShloMosaic.TcCoe Idealize.SL.Sem
open Cert.Kernel4Ideal Cert.Kernel4Ideal.Gen
open Cert.Fwd.Loss (rowB xB wgB wuB wdB lo hi ld_lo ld_hi halves flip flip_arr)

section
variable (w : Par) (x : Fin 256 → Fin 1024 → EReal) (p : Fin 256)

theorem pay5 (k : Fin 1024) : k0_pay5 (F := Ideal) (xB x) (rowB w.gpre) (ix2 p k) = w.h (x p) k := by
  pointwise [k0_pay5, arr_ix2]
  rfl

theorem pay6 (f : Fin 2752) : k0_pay6 (F := Ideal) (xB x) (rowB w.gpre) (wgB w) (ix2 p f) = w.a (x p) f := by
  pointwise [k0_pay6, pay5, arr_ix2]
  rfl

theorem pay7 (f : Fin 2752) : k0_pay7 (F := Ideal) (xB x) (rowB w.gpre) (wuB w) (ix2 p f) = w.b (x p) f := by
  pointwise [k0_pay7, pay5, arr_ix2]
  rfl

theorem pay13 (k : Fin 1024) : k0_pay13 (F := Ideal) (xB x) (rowB w.gpre) (ix2 p k) = w.h (x p) k := by
  pointwise [k0_pay13, arr_ix2]
  rfl

theorem pay14 (f : Fin 2752) : k0_pay14 (F := Ideal) (xB x) (rowB w.gpre) (wgB w) (ix2 p f) = w.a (x p) f := by
  pointwise [k0_pay14, pay13, arr_ix2]
  rfl

theorem pay15 (f : Fin 2752) : k0_pay15 (F := Ideal) (xB x) (rowB w.gpre) (wuB w) (ix2 p f) = w.b (x p) f := by
  pointwise [k0_pay15, pay13, arr_ix2]
  rfl

theorem pay8 (j : Fin 1024) : k0_pay8 (F := Ideal) (xB x) (rowB w.gpre) (wgB w) (wuB w) (wdB w) (ix2 p j) = w.f (x p) j := by
  pointwise [k0_pay8, pay6, pay7, arr_ix2]
  rfl

theorem pay9 (j : Fin 1024) : k0_pay9 (F := Ideal) (xB x) (rowB w.gpre) (wgB w) (wuB w) (wdB w) (ix2 p j) = w.f (x p) j * rms (w.f (x p)) := by
  pointwise [k0_pay9, pay8, arr_ix2]
  rfl

theorem pay10 (j : Fin 1024) : k0_pay10 (F := Ideal) (xB x) (k0_pay9 (xB x) (rowB w.gpre) (wgB w) (wuB w) (wdB w)) (rowB w.gpost) (ix2 p j) = w.y (x p) j := by
  pointwise [k0_pay10, pay9, arr_ix2]
  rfl

abbrev aB : FVec Ideal S256x2752 .f32 := k0_pay14 (F := Ideal) (xB x) (rowB w.gpre) (wgB w)
abbrev bB : FVec Ideal S256x2752 .f32 := k0_pay15 (F := Ideal) (xB x) (rowB w.gpre) (wuB w)
abbrev sB : FVec Ideal S256x2752 .f32 := k0_pay16 (F := Ideal) (xB x) (rowB w.gpre) (wgB w)

theorem pay1 (j : Fin 1024) : k0_pay1 (F := Ideal) (aB w x) (bB w x) (sB w x) (wdB w) (ix2 p j) = w.f (x p) j := by
  pointwise [k0_pay1, k0_pay16, pay14, pay15, arr_ix2]
  rfl

theorem pay2 (j : Fin 1024) : k0_pay2 (F := Ideal) (xB x) (aB w x) (bB w x) (sB w x) (wdB w) (rowB w.gpost) (ix2 p j) = w.y (x p) j := by
  pointwise [k0_pay2, pay1, arr_ix2]
  rfl

theorem pay11 (f : Fin 2752) (a : FVec Ideal S256x2752 .f32) : k0_pay11 (F := Ideal) a (ix2 p f) = a (ix2 p f) := by
  pointwise [k0_pay11]

theorem pay12 (f : Fin 2752) (a : FVec Ideal S256x2752 .f32) : k0_pay12 (F := Ideal) a (ix2 p f) = a (ix2 p f) := by
  pointwise [k0_pay12]

theorem pay3 (f : Fin 2752) (a : FVec Ideal S256x2752 .f32) : k0_pay3 (F := Ideal) a (ix2 p f) = a (ix2 p f) := by
  pointwise [k0_pay3]

theorem pay4 (f : Fin 2752) (a : FVec Ideal S256x2752 .f32) : k0_pay4 (F := Ideal) a (ix2 p f) = a (ix2 p f) := by
  pointwise [k0_pay4]

end

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![t.val, 0] :=
  (by decide +kernel : ∀ t : Fin grid0.N, _)

/-- Row `q` of the block of point `t`. -/
def rowAt (t : Fin cfg0.N) (q : Fin 512) : Fin 8192 :=
  ⟨t.val * 512 + q.val, by have := lt_of_lt_of_eq t.isLt (show cfg0.N = 16 from N_0); have := q.isLt; omega⟩

/-- The arguments are `x` and `w`. -/
structure Args (m : (ℓ : Loc nD τ sig) → Buf (Elt Ideal) ℓ) (c : Dev nD) (w : Par) (x : Fin 8192 → Fin 1024 → EReal) : Prop where
  x : m ((c : Thread nD τ).loc main_arg0) = (arr x : FVec Ideal S8192x1024 .f32)
  gpre : m ((c : Thread nD τ).loc main_arg1) = (arr (fun _ => w.gpre) : FVec Ideal S1x1024 .f32)
  wg : m ((c : Thread nD τ).loc main_arg2) = (arr w.wg : FVec Ideal S1024x2752 .f32)
  wu : m ((c : Thread nD τ).loc main_arg3) = (arr w.wu : FVec Ideal S1024x2752 .f32)
  wd : m ((c : Thread nD τ).loc main_arg4) = (arr w.wd : FVec Ideal S2752x1024 .f32)
  gpost : m ((c : Thread nD τ).loc main_arg5) = (arr (fun _ => w.gpost) : FVec Ideal S1x1024 .f32)

variable {m : (ℓ : Loc nD τ sig) → Buf (Elt Ideal) ℓ} {c : Dev nD} {w : Par} {x : Fin 8192 → Fin 1024 → EReal}

theorem V1 (m : (ℓ : Loc nD τ sig) → Buf (Elt Ideal) ℓ) (c : Dev nD) : V m c main_v1 = flip (m ((c : Thread nD τ).loc main_arg2)) := by
  unfold V
  simp only [hostOps0]
  after_results_simp
  rfl

theorem V3 (m : (ℓ : Loc nD τ sig) → Buf (Elt Ideal) ℓ) (c : Dev nD) : V m c main_v3 = flip (m ((c : Thread nD τ).loc main_arg3)) := by
  unfold V
  simp only [hostOps0]
  after_results_simp
  rfl

theorem V4 (m : (ℓ : Loc nD τ sig) → Buf (Elt Ideal) ℓ) (c : Dev nD) : V m c main_v4 = (m ((c : Thread nD τ).loc main_arg4) : FVec Ideal S2752x1024 .f32) := by
  unfold V
  simp only [hostOps0]
  after_results_simp
  rfl

theorem blk0 (h : Args m c w x) (t : Fin cfg0.N) : iblk m c 0 t = (arr fun q => x (rowAt t q) : FVec Ideal S512x1024 .f32) := by
  funext y
  have e : V m c main_arg0 = (arr x : FVec Ideal S8192x1024 .f32) := (V_main_arg0 m c).trans h.x
  blk_simp [iblk, idx t]
  rw [e]
  refine congrArg₂ x (Fin.ext ?_) (Fin.ext ?_) <;> blk_simp [idx t, rowAt]

theorem blk1 (h : Args m c w x) (t : Fin cfg0.N) : iblk m c 1 t = rowB w.gpre := by
  funext y
  have e : V m c main_arg1 = rowB w.gpre := (V_main_arg1 m c).trans h.gpre
  blk_simp [iblk, idx t]
  rw [e]
  refine congrArg w.gpre (Fin.ext ?_); blk_simp [idx t]

theorem blk5 (h : Args m c w x) (t : Fin cfg0.N) : iblk m c 5 t = rowB w.gpost := by
  funext y
  have e : V m c main_arg5 = rowB w.gpost := (V_main_arg5 m c).trans h.gpost
  blk_simp [iblk, idx t]
  rw [e]
  refine congrArg w.gpost (Fin.ext ?_); blk_simp [idx t]

theorem blk2 (h : Args m c w x) (t : Fin cfg0.N) : iblk m c 2 t = wgB w := by
  funext y
  have e : V m c main_v1 = wgB w := by rw [V1, h.wg]; exact flip_arr _
  blk_simp [iblk, idx t]
  rw [e]
  refine congrArg₂ w.wg (Fin.ext ?_) (Fin.ext ?_) <;> blk_simp [idx t]

theorem blk3 (h : Args m c w x) (t : Fin cfg0.N) : iblk m c 3 t = wuB w := by
  funext y
  have e : V m c main_v3 = wuB w := by rw [V3, h.wu]; exact flip_arr _
  blk_simp [iblk, idx t]
  rw [e]
  refine congrArg₂ w.wu (Fin.ext ?_) (Fin.ext ?_) <;> blk_simp [idx t]

theorem blk4 (h : Args m c w x) (t : Fin cfg0.N) : iblk m c 4 t = wdB w := by
  funext y
  have e : V m c main_v4 = (arr w.wd : FVec Ideal S2752x1024 .f32) := by rw [V4, h.wd]
  blk_simp [iblk, idx t]
  rw [e]
  refine congrArg₂ w.wd (Fin.ext ?_) (Fin.ext ?_) <;> blk_simp [idx t]

theorem final6 (h : Args m c w x) : (dats m 0 c).arrAt 6 (cfgs 0).N = (arr fun i => w.y (x i) : FVec Ideal S8192x1024 .f32) := by
  refine (dats m 0 c).arrAt_eq_of_covers 6 _ (by decide +kernel) fun t _ y => ?_
  blk_simp
  rw [after0_6]
  unfold out0_6 k0_pay17 k0_pay18 k0_pay19 r0_0 r0_1 r0_2 r0_4
  frame_out
  simp only [blk0 h, blk1 h, blk2 h, blk3 h, blk4 h, blk5 h, ld_lo, ld_hi]
  refine (halves 1024 .f32 (fun q => w.y (x (rowAt t q))) _ _ _ _ (fun p j => pay10 w _ p j) (fun p j => pay2 w _ p j) y).trans ?_
  refine congrArg₂ (fun i => w.y (x i)) (Fin.ext ?_) (Fin.ext ?_) <;> blk_simp [idx t, rowAt]

theorem final7 (h : Args m c w x) : (dats m 0 c).arrAt 7 (cfgs 0).N = (arr fun i => w.a (x i) : FVec Ideal S8192x2752 .bf16) := by
  refine (dats m 0 c).arrAt_eq_of_covers 7 _ (by decide +kernel) fun t _ y => ?_
  blk_simp
  rw [after0_7]
  unfold out0_7 k0_pay17 r0_0 r0_1 r0_2 r0_3 r0_4 r0_5
  frame_out
  simp only [blk0 h, blk1 h, blk2 h, blk3 h, blk4 h, blk5 h, ld_lo, ld_hi]
  refine (halves 2752 .bf16 (fun q => w.a (x (rowAt t q))) _ _ _ _ (fun p j => (pay11 p j _).trans (pay6 w _ p j)) (fun p j => (pay3 p j _).trans (pay14 w _ p j)) y).trans ?_
  refine congrArg₂ (fun i => w.a (x i)) (Fin.ext ?_) (Fin.ext ?_) <;> blk_simp [idx t, rowAt]

theorem final8 (h : Args m c w x) : (dats m 0 c).arrAt 8 (cfgs 0).N = (arr fun i => w.b (x i) : FVec Ideal S8192x2752 .bf16) := by
  refine (dats m 0 c).arrAt_eq_of_covers 8 _ (by decide +kernel) fun t _ y => ?_
  blk_simp
  rw [after0_8]
  unfold out0_8 k0_pay18 r0_0 r0_1 r0_2 r0_3 r0_4 r0_5
  frame_out
  simp only [blk0 h, blk1 h, blk2 h, blk3 h, blk4 h, blk5 h, ld_lo, ld_hi]
  refine (halves 2752 .bf16 (fun q => w.b (x (rowAt t q))) _ _ _ _ (fun p j => (pay12 p j _).trans (pay7 w _ p j)) (fun p j => (pay4 p j _).trans (pay15 w _ p j)) y).trans ?_
  refine congrArg₂ (fun i => w.b (x i)) (Fin.ext ?_) (Fin.ext ?_) <;> blk_simp [idx t, rowAt]

theorem final9 (h : Args m c w x) : (dats m 0 c).arrAt 9 (cfgs 0).N = (arr fun i => w.f (x i) : FVec Ideal S8192x1024 .f32) := by
  refine (dats m 0 c).arrAt_eq_of_covers 9 _ (by decide +kernel) fun t _ y => ?_
  blk_simp
  rw [after0_9]
  unfold out0_9 k0_pay17 k0_pay18 k0_pay19 r0_0 r0_1 r0_2 r0_4
  frame_out
  simp only [blk0 h, blk1 h, blk2 h, blk3 h, blk4 h, blk5 h, ld_lo, ld_hi]
  refine (halves 1024 .f32 (fun q => w.f (x (rowAt t q))) _ _ _ _ (fun p j => pay8 w _ p j) (fun p j => pay1 w _ p j) y).trans ?_
  refine congrArg₂ (fun i => w.f (x i)) (Fin.ext ?_) (Fin.ext ?_) <;> blk_simp [idx t, rowAt]

end Cert.Fwd.Plain

end
-- ==== Proof.FwdPlainRef.lean ====
/- The reference's forward pass without the loss, read at an index: the row functions of Proof/FwdModel.lean. -/
module

public import proofs.«01_k».proof.Proof.Gen.Reference4Ideal.Read
public import proofs.«01_k».proof.Proof.Gen.Reference4Ideal.Run
public import proofs.«01_k».proof.Proof.FwdModel
public import proofs.«01_k».proof.Proof.Model

@[expose] public section

set_option maxRecDepth 16384

noncomputable section

namespace Cert.Fwd.PlainRef

open Idealize.ShloMosaic Idealize.ShloMosaic.TcCoe Idealize.SL.Sem
open Idealize.ShloMosaic.StableHlo Cert.Reference4Ideal Cert.Reference4Ideal.Gen Cert.Reference4Ideal.Read

variable (w : Par) (x : Fin 8192 → Fin 1024 → EReal) (i : Fin 8192)

abbrev row (g : Fin 1024 → EReal) : FVec Ideal S1x1024 .f32 := arr fun _ : Fin 1 => g

theorem v7 : val_main_v7 (F := Ideal) (arr x) (ix2 i 0) = rms (x i) := by
  pointwise [val_main_v7, val_main_v6, val_main_v5, val_main_cst_1, val_main_v4, val_main_v3, val_main_cst_0, val_main_v2, val_main_v1,
    val_main_cst, val_main_v0, arr_ix2]
  rfl

theorem v11 (k : Fin 1024) : val_main_v11 (F := Ideal) (arr x) (row w.gpre) (ix2 i k) = w.h (x i) k := by
  pointwise [val_main_v11, val_main_v10, val_main_v9, val_main_v8, v7, arr_ix2]
  rfl

theorem v12 (f : Fin 2752) : val_main_v12 (F := Ideal) (arr x) (row w.gpre) (arr w.wg) (ix2 i f) = w.a (x i) f := by
  pointwise [val_main_v12, v11, arr_ix2]
  rfl

theorem v13 (f : Fin 2752) : val_main_v13 (F := Ideal) (arr x) (row w.gpre) (arr w.wu) (ix2 i f) = w.b (x i) f := by
  pointwise [val_main_v13, v11, arr_ix2]
  rfl

theorem v15 (f : Fin 2752) : val_main_v15 (F := Ideal) (arr x) (row w.gpre) (arr w.wg) (arr w.wu) (ix2 i f) = w.hh (x i) f := by
  pointwise [val_main_v15, val_main_v14, val_main_call0_v5, val_main_call0_v4, val_main_call0_cst_0, val_main_call0_v3, val_main_call0_v2,
    val_main_call0_cst, val_main_call0_v1, val_main_call0_v0, v12, v13]
  rfl

theorem v16 (j : Fin 1024) : val_main_v16 (F := Ideal) (arr x) (row w.gpre) (arr w.wg) (arr w.wu) (arr w.wd) (ix2 i j) = w.f (x i) j := by
  pointwise [val_main_v16, v15, arr_ix2]
  rfl

theorem v24 : val_main_v24 (F := Ideal) (arr x) (row w.gpre) (arr w.wg) (arr w.wu) (arr w.wd) (ix2 i 0) = rms (w.f (x i)) := by
  pointwise [val_main_v24, val_main_v23, val_main_v22, val_main_cst_4, val_main_v21, val_main_v20, val_main_cst_3, val_main_v19, val_main_v18,
    val_main_cst_2, val_main_v17, v16]
  rfl

theorem v31 (j : Fin 1024) : val_main_v31 (F := Ideal) (arr x) (row w.gpre) (arr w.wg) (arr w.wu) (arr w.wd) (row w.gpost) (ix2 i j) = w.y (x i) j := by
  pointwise [val_main_v31, val_main_v30, val_main_v29, val_main_cst_5, val_main_v28, val_main_v27, val_main_v26, val_main_v25, v24, v16, arr_ix2]
  rfl

theorem y : val_main_v31 (F := Ideal) (arr x) (row w.gpre) (arr w.wg) (arr w.wu) (arr w.wd) (row w.gpost) = arr fun i => w.y (x i) := by
  funext y; idx_vars y; exact v31 w x _ _

theorem a : val_main_v32 (F := Ideal) (arr x) (row w.gpre) (arr w.wg) = arr fun i => w.a (x i) := by
  funext y; idx_vars y; pointwise [val_main_v32, v12, arr_ix2]

theorem b : val_main_v33 (F := Ideal) (arr x) (row w.gpre) (arr w.wu) = arr fun i => w.b (x i) := by
  funext y; idx_vars y; pointwise [val_main_v33, v13, arr_ix2]

theorem f : val_main_v16 (F := Ideal) (arr x) (row w.gpre) (arr w.wg) (arr w.wu) (arr w.wd) = arr fun i => w.f (x i) := by
  funext y; idx_vars y; exact v16 w x _ _

/-- What the reference ends with, over its arguments. -/
theorem run_fwd (m : (ℓ : Loc nD τ sig) → Buf (Elt Ideal) ℓ) (ρ : Dev nD → PrngReg)
    (w : Dev nD → Par) (x : Dev nD → Fin 8192 → Fin 1024 → EReal)
    (a0 : ∀ c : Dev nD, m ((c.tc : Thread nD τ).loc main_arg0) = (arr (x c) : FVec Ideal S8192x1024 .f32))
    (a1 : ∀ c : Dev nD, m ((c.tc : Thread nD τ).loc main_arg1) = row (w c).gpre)
    (a2 : ∀ c : Dev nD, m ((c.tc : Thread nD τ).loc main_arg2) = (arr (w c).wg : FVec Ideal S1024x2752 .f32))
    (a3 : ∀ c : Dev nD, m ((c.tc : Thread nD τ).loc main_arg3) = (arr (w c).wu : FVec Ideal S1024x2752 .f32))
    (a4 : ∀ c : Dev nD, m ((c.tc : Thread nD τ).loc main_arg4) = (arr (w c).wd : FVec Ideal S2752x1024 .f32))
    (a5 : ∀ c : Dev nD, m ((c.tc : Thread nD τ).loc main_arg5) = row (w c).gpost) :
    θ_run (defs (F := Ideal)) (onTc (τ := τ) (main (F := Ideal))) ⟨m, fun _ => 0, ρ⟩ fun r => ∀ c : Dev nD,
      r.2.mem ((c.tc : Thread nD τ).loc main_v31) = (arr fun i => (w c).y (x c i) : FVec Ideal S8192x1024 .f32)
      ∧ r.2.mem ((c.tc : Thread nD τ).loc main_v32) = (arr fun i => (w c).a (x c i) : FVec Ideal S8192x2752 .bf16)
      ∧ r.2.mem ((c.tc : Thread nD τ).loc main_v33) = (arr fun i => (w c).b (x c i) : FVec Ideal S8192x2752 .bf16)
      ∧ r.2.mem ((c.tc : Thread nD τ).loc main_v16) = (arr fun i => (w c).f (x c i) : FVec Ideal S8192x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun r q c => by
    obtain ⟨q1, q2, q3, q4, k⟩ := q c
    refine ⟨q1.trans ?_, q2.trans ?_, q3.trans ?_, q4.trans ?_, k⟩
    · rw [val_main_v31_eq, a0, a1, a2, a3, a4, a5]; exact y _ _
    · rw [val_main_v32_eq, a0, a1, a2]; exact a _ _
    · rw [val_main_v33_eq, a0, a1, a3]; exact b _ _
    · rw [val_main_v16_eq, a0, a1, a2, a3, a4]; exact f _ _)
    (Cert.Reference4Ideal.Value.run m ρ)

end Cert.Fwd.PlainRef

end
-- ==== Proof.MixModel.lean ====
/- The gradient of the output projection, its normalisation and the mixture of the dilations over the real numbers, row by
   row. Both programs are shown to compute these functions of finite arguments. -/
module

public import proofs.«01_k».proof.Proof.Model
public import Idealize.ShloMosaic.Lib.Pipeline.ValueKit

@[expose] public section

set_option maxRecDepth 16384

noncomputable section

namespace Cert.Model.Mix

open Idealize.ShloMosaic

theorem max_real (a b : ℝ) : max (a : EReal) (b : EReal) = ((max a b : ℝ) : EReal) :=
  (EReal.coe_strictMono.monotone.map_max).symm

/-- The head a lane belongs to: 64 lanes each. -/
def hd (j : Fin 256) : Fin 4 := ⟨j.val / 64, by omega⟩

/-- A head's lane. -/
def lane (h : Fin 4) (t : Fin 64) : Fin 256 := ⟨h.val * 64 + t.val, by omega⟩

theorem hd_lane (h : Fin 4) (t : Fin 64) : hd (lane h t) = h := Fin.ext (by show (h.val * 64 + t.val) / 64 = h.val; omega)

/-- A sum over the lanes that share a lane's head. -/
theorem sum_head (f : Fin 256 → ℝ) (j : Fin 256) :
    (∑ k : Fin 256, f k * (if hd k = hd j then 1 else 0)) = ∑ t : Fin 64, f (lane (hd j) t) := by
  have e : (∑ h : Fin 4, ∑ t : Fin 64, f ⟨h.val * 64 + t.val, by omega⟩ * (if hd ⟨h.val * 64 + t.val, by omega⟩ = hd j then (1 : ℝ) else 0))
      = ∑ k : Fin 256, f k * (if hd k = hd j then 1 else 0) :=
    Fin.sum_mul_add_fin 4 64 fun k : Fin 256 => f k * (if hd k = hd j then (1 : ℝ) else 0)
  rw [← e, Finset.sum_eq_single (hd j)]
  · refine Finset.sum_congr rfl fun t _ => ?_
    have : hd ⟨(hd j).val * 64 + t.val, by omega⟩ = hd j := hd_lane (hd j) t
    rw [if_pos this, mul_one]; rfl
  · intro h _ hn
    refine Finset.sum_eq_zero fun t _ => ?_
    have : hd ⟨h.val * 64 + t.val, by omega⟩ = h := hd_lane h t
    rw [this, if_neg hn, mul_zero]
  · intro h; exact absurd (Finset.mem_univ _) h

/-- The parameters: the projection and the normalisation's scale. -/
structure Prm where
  w : Fin 1024 → Fin 1024 → ℝ
  g : Fin 1024 → ℝ

/-- One row: the cotangent, the concatenated mixture, each dilation's output and log-denominators. -/
structure Row where
  d : Fin 1024 → ℝ
  cat : Fin 1024 → ℝ
  o : Fin 3 → Fin 256 → ℝ
  l : Fin 3 → Fin 4 → ℝ

namespace Row
variable (r : Row) (q : Prm)

/-- The mixture's weights: the softmax of the log-denominators over the dilations. -/
def m (h : Fin 4) : ℝ := max (max (r.l 0 h) (r.l 1 h)) (r.l 2 h)
def e (k : Fin 3) (h : Fin 4) : ℝ := Real.exp (r.l k h - r.m h)
def den (h : Fin 4) : ℝ := r.e 0 h + r.e 1 h + r.e 2 h
def al (k : Fin 3) (h : Fin 4) : ℝ := r.e k h / r.den h

theorem den_pos (h : Fin 4) : 0 < r.den h := by unfold den e; positivity

/-- The projection's output, and the gradients of one row. -/
def mix : Fin 1024 → ℝ := lin r.cat q.w
def dmix : Fin 1024 → ℝ := normBwd (r.mix q) q.g r.d
def dcat : Fin 1024 → ℝ := linT (r.dmix q) q.w
def dpool (j : Fin 256) : ℝ := r.dcat q ⟨j.val, by omega⟩
def dA (k : Fin 3) (j : Fin 256) : ℝ := r.dcat q ⟨(k.val + 1) * 256 + j.val, by omega⟩
def dot (k : Fin 3) (h : Fin 4) : ℝ := ∑ t : Fin 64, r.o k (lane h t) * r.dA q k (lane h t)
def tot (h : Fin 4) : ℝ := r.al 0 h * r.dot q 0 h + r.al 1 h * r.dot q 1 h + r.al 2 h * r.dot q 2 h
def dout (k : Fin 3) (j : Fin 256) : ℝ := r.dA q k j * r.al k (hd j)
def term (k : Fin 3) (j : Fin 256) : ℝ := -(r.al k (hd j) * r.tot q (hd j))
def dg (j : Fin 1024) : ℝ := r.d j * (r.mix q j * inv (r.mix q))

/-- What the kernel sums over a head's lanes. -/
def part (j : Fin 256) : ℝ :=
  r.dA q 0 j * (r.o 0 j * r.al 0 (hd j)) + r.dA q 1 j * (r.o 1 j * r.al 1 (hd j)) + r.dA q 2 j * (r.o 2 j * r.al 2 (hd j))

theorem sum_part (j : Fin 256) : (∑ k : Fin 256, r.part q k * (if hd k = hd j then 1 else 0)) = r.tot q (hd j) := by
  rw [sum_head]
  unfold part tot dot
  simp only [hd_lane, Finset.mul_sum, ← Finset.sum_add_distrib]
  exact Finset.sum_congr rfl fun t _ => by ring

/-- The gradient of the log-denominators, by reverse mode's formula for the softmax. -/
def dlse (k : Fin 3) (h : Fin 4) : ℝ :=
  (r.dot q k h / r.den h + -(r.dot q 0 h * (1 / (r.den h * r.den h)) * r.e 0 h + r.dot q 1 h * (1 / (r.den h * r.den h)) * r.e 1 h
    + r.dot q 2 h * (1 / (r.den h * r.den h)) * r.e 2 h)) * r.e k h

theorem term_ad (k : Fin 3) (j : Fin 256) :
    r.dlse q k (hd j) - (∑ t : Fin 64, r.dout q k (lane (hd j) t) * r.o k (lane (hd j) t)) = r.term q k j := by
  have e : (∑ t : Fin 64, r.dout q k (lane (hd j) t) * r.o k (lane (hd j) t)) = r.al k (hd j) * r.dot q k (hd j) := by
    unfold dout dot
    simp only [hd_lane, Finset.mul_sum]
    exact Finset.sum_congr rfl fun t _ => by ring
  rw [e]
  unfold dlse term tot al
  have := (r.den_pos (hd j)).ne'
  field_simp
  ring

end Row

end Cert.Model.Mix

end
-- ==== Proof.MixRef.lean ====
/- The reference program of the output projection's gradient over finite arguments: each value it computes is the row
   function of Proof/MixModel.lean. -/
module

public import proofs.«01_k».proof.Proof.Gen.Reference5Ideal.Read
public import proofs.«01_k».proof.Proof.MixModel

@[expose] public section

set_option maxRecDepth 16384

noncomputable section

namespace Cert.Model.Mix.Ref

open Idealize.ShloMosaic Idealize.ShloMosaic.TcCoe Idealize.SL.Sem
open Cert.Reference5Ideal Cert.Reference5Ideal.Gen Cert.Reference5Ideal.Read

/-- The arguments of one device: for each of its rows the cotangent, the pooling mixer's output, the dilations' outputs
    and log-denominators. -/
structure Data where
  d : Fin 8192 → Fin 1024 → ℝ
  a : Fin 8192 → Fin 256 → ℝ
  o : Fin 3 → Fin 8192 → Fin 256 → ℝ
  l : Fin 3 → Fin 8192 → Fin 4 → ℝ

variable (D : Data) (q : Prm) (i : Fin 8192)

abbrev g1 : FVec Ideal S1x1024 .f32 := up fun _ : Fin 1 => q.g

theorem v4 (k : Fin 3) (h : Fin 4) : val_main_v4 (F := Ideal) (up (D.l 0)) (up (D.l 1)) (up (D.l 2)) (ix3 k i h) = ((D.l k i h : ℝ) : EReal) := by
  fin_cases k <;> pointwise [val_main_v4, val_main_v3, val_main_v2, val_main_v1, up_ix2]

theorem bot_bits : Ideal.ofBits .f32 0xFF800000#32 = (⊥ : EReal) := by
  simp [Ideal.ofBits, Ideal.ieee]

theorem fold3 (f : Fin 3 → ℝ) : max (⊥ : EReal) (Finset.fold max (⊥ : EReal) (fun k => (f k : EReal)) Finset.univ)
    = ((max (max (f 0) (f 1)) (f 2) : ℝ) : EReal) := by
  have u : (Finset.univ : Finset (Fin 3)) = {0, 1, 2} := by decide
  rw [u, Finset.fold_insert (by decide), Finset.fold_insert (by decide), Finset.fold_singleton, max_eq_right bot_le, max_eq_left (bot_le (a := ((f 2 : ℝ) : EReal))),
    max_real, max_real, max_assoc]

theorem v12 (h : Fin 4) : val_main_v12 (F := Ideal) (up (D.l 0)) (up (D.l 1)) (up (D.l 2)) (ix2 i h) = ((max (max (D.l 0 i h) (D.l 1 i h)) (D.l 2 i h) : ℝ) : EReal) := by
  pointwise [val_main_v12, val_main_v11, val_main_cst_2, val_main_cst_0, val_main_v5, v4]
  rw [bot_bits]
  exact fold3 fun k => D.l k i h

/-- Row `i`, but for the mixture. -/
def row0 : Row := ⟨D.d i, fun _ => 0, fun k => D.o k i, fun k => D.l k i⟩

theorem v25 (k : Fin 3) (h : Fin 4) : val_main_v25 (F := Ideal) (up (D.l 0)) (up (D.l 1)) (up (D.l 2)) (ix3 k i h) = (((row0 D i).e k h : ℝ) : EReal) := by
  pointwise [val_main_v25, val_main_v24, val_main_v23, val_main_v22, v12, v4]
  rw [← EReal.coe_sub, Ideal.exp_coe]; rfl

theorem v26 (h : Fin 4) : val_main_v26 (F := Ideal) (up (D.l 0)) (up (D.l 1)) (up (D.l 2)) (ix2 i h) = (((row0 D i).den h : ℝ) : EReal) := by
  pointwise [val_main_v26, val_main_cst_8, v25]
  rw [coe_sum, Fin.sum_univ_three]; rfl

theorem v29 (k : Fin 3) (h : Fin 4) : val_main_v29 (F := Ideal) (up (D.l 0)) (up (D.l 1)) (up (D.l 2)) (ix3 k i h) = (((row0 D i).al k h : ℝ) : EReal) := by
  pointwise [val_main_v29, val_main_v28, val_main_v27, v26, v25]
  exact div_real ((row0 D i).den_pos h).ne'

theorem v53_real (j : Fin 1024) : ∃ r : ℝ, val_main_v53 (F := Ideal) (up D.a) (up (D.o 0)) (up (D.o 1)) (up (D.o 2)) (up (D.l 0)) (up (D.l 1)) (up (D.l 2)) (ix2 i j) = (r : EReal) := by
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36,
    val_main_v35, val_main_v34, val_main_v33, v29, up_ix2]
  simp only [← EReal.coe_mul]
  split_ifs <;> exact ⟨_, rfl⟩

/-- The concatenated mixture of row `i`. -/
def cat (j : Fin 1024) : ℝ := Exists.choose (v53_real D i j)

/-- Row `i`. -/
def row : Row := ⟨D.d i, cat D i, fun k => D.o k i, fun k => D.l k i⟩

theorem v53 (j : Fin 1024) : val_main_v53 (F := Ideal) (up D.a) (up (D.o 0)) (up (D.o 1)) (up (D.o 2)) (up (D.l 0)) (up (D.l 1)) (up (D.l 2)) (ix2 i j) = (((row D i).cat j : ℝ) : EReal) :=
  Exists.choose_spec (v53_real D i j)

theorem v55 (j : Fin 1024) : val_main_v55 (F := Ideal) (up D.a) (up (D.o 0)) (up (D.o 1)) (up (D.o 2)) (up (D.l 0)) (up (D.l 1)) (up (D.l 2)) (up q.w) (ix2 i j) = (((row D i).mix q j : ℝ) : EReal) := by
  pointwise [val_main_v55, val_main_v54, val_main_v0, val_main_cst, v53, up_ix2]
  simp only [← EReal.coe_mul, coe_sum, add_zero]; rfl

theorem v62 : val_main_v62 (F := Ideal) (up D.a) (up (D.o 0)) (up (D.o 1)) (up (D.o 2)) (up (D.l 0)) (up (D.l 1)) (up (D.l 2)) (up q.w) (ix2 i 0) = ((ms ((row D i).mix q) : ℝ) : EReal) := by
  pointwise [val_main_v62, val_main_v61, val_main_cst_12, val_main_v60, val_main_v59, val_main_cst_11, val_main_v58, val_main_v57,
    val_main_cst_10, val_main_v56, v55]
  simp only [eps_bits, width_bits, ← EReal.coe_mul, coe_sum, zero_add, div_real (show (1024 : ℝ) ≠ 0 by norm_num), ← EReal.coe_add]
  rfl

theorem v63 : val_main_v63 (F := Ideal) (up D.a) (up (D.o 0)) (up (D.o 1)) (up (D.o 2)) (up (D.l 0)) (up (D.l 1)) (up (D.l 2)) (up q.w) (ix2 i 0) = ((inv ((row D i).mix q) : ℝ) : EReal) := by
  pointwise [val_main_v63, v62]
  exact rsqrt_real (ms_pos _)

theorem v66 : val_main_v66 (F := Ideal) (up D.a) (up (D.o 0)) (up (D.o 1)) (up (D.o 2)) (up (D.l 0)) (up (D.l 1)) (up (D.l 2)) (up q.w) (ix2 i 0)
    = ((-(1 / 2) * (inv ((row D i).mix q) / ms ((row D i).mix q)) : ℝ) : EReal) := by
  pointwise [val_main_v66, val_main_v65, val_main_v64, val_main_cst_13, v63, v62]
  rw [neg_half_bits, div_real (ms_pos _).ne', ← EReal.coe_mul]

theorem v73 (j : Fin 1024) : val_main_v73 (F := Ideal) (up D.d) (up D.a) (up (D.o 0)) (up (D.o 1)) (up (D.o 2)) (up (D.l 0)) (up (D.l 1)) (up (D.l 2)) (up q.w) (ix2 0 j) = ((∑ i, (row D i).dg q j : ℝ) : EReal) := by
  pointwise [val_main_v73, val_main_v72, val_main_cst_14, val_main_v71, val_main_v68, val_main_v67, v55, v63, up_ix2]
  simp only [← EReal.coe_mul, coe_sum, zero_add]
  exact congrArg _ (Finset.sum_congr rfl fun i _ => mul_comm _ _)

theorem v75 (j : Fin 1024) : val_main_v75 (F := Ideal) (up D.d) (g1 q) (ix2 i j) = ((D.d i j * q.g j : ℝ) : EReal) := by
  pointwise [val_main_v75, val_main_v74, up_ix2]
  rw [← EReal.coe_mul]

theorem v85 (j : Fin 1024) : val_main_v85 (F := Ideal) (up D.d) (up D.a) (up (D.o 0)) (up (D.o 1)) (up (D.o 2)) (up (D.l 0)) (up (D.l 1)) (up (D.l 2)) (up q.w) (g1 q) (ix2 i j)
    = (((∑ k, (row D i).mix q k * (D.d i k * q.g k)) * (-(1 / 2) * (inv ((row D i).mix q) / ms ((row D i).mix q))) / 1024 : ℝ) : EReal) := by
  pointwise [val_main_v85, val_main_v84, val_main_cst_17, val_main_v83, val_main_v82, val_main_cst_16, val_main_v81, val_main_v78,
    val_main_v77, val_main_cst_15, val_main_v76, v75, v66, v55]
  simp only [width_bits, Fin.sum_univ_one, v66, ← EReal.coe_mul, coe_sum, zero_add, div_real (show (1024 : ℝ) ≠ 0 by norm_num)]

theorem v89 (j : Fin 1024) : val_main_v89 (F := Ideal) (up D.d) (up D.a) (up (D.o 0)) (up (D.o 1)) (up (D.o 2)) (up (D.l 0)) (up (D.l 1)) (up (D.l 2)) (up q.w) (g1 q) (ix2 i j) = (((row D i).dmix q j : ℝ) : EReal) := by
  pointwise [val_main_v89, val_main_v88, val_main_v87, val_main_v86, val_main_v80, val_main_v79, v85, v75, v63, v55]
  simp only [← EReal.coe_mul, ← EReal.coe_add]
  exact congrArg _ (normBwd_ad ((row D i).mix q) q.g (D.d i) j _ rfl)

theorem v90 (j : Fin 1024) : val_main_v90 (F := Ideal) (up D.d) (up D.a) (up (D.o 0)) (up (D.o 1)) (up (D.o 2)) (up (D.l 0)) (up (D.l 1)) (up (D.l 2)) (up q.w) (g1 q) (ix2 i j) = (((row D i).dcat q j : ℝ) : EReal) := by
  pointwise [val_main_v90, v89, up_ix2]
  simp only [← EReal.coe_mul, coe_sum]; rfl

theorem v91 (j : Fin 256) : val_main_v91 (F := Ideal) (up D.d) (up D.a) (up (D.o 0)) (up (D.o 1)) (up (D.o 2)) (up (D.l 0)) (up (D.l 1)) (up (D.l 2)) (up q.w) (g1 q) (ix2 i j) = (((row D i).dpool q j : ℝ) : EReal) := by
  pointwise [val_main_v91, v90]
  exact congrArg (fun k => (((row D i).dcat q k : ℝ) : EReal)) (Fin.ext (by simp))

theorem v94 (h : Fin 4) (t : Fin 64) : val_main_v94 (F := Ideal) (up D.d) (up D.a) (up (D.o 0)) (up (D.o 1)) (up (D.o 2)) (up (D.l 0)) (up (D.l 1)) (up (D.l 2)) (up q.w) (g1 q) (ix3 i h t) = (((row D i).dA q 0 (lane h t) : ℝ) : EReal) := by
  pointwise [val_main_v94, val_main_v93, val_main_v92, v90]
  refine congrArg (fun k => (((row D i).dcat q k : ℝ) : EReal)) (Fin.ext ?_)
  simp [lane]
  try omega

theorem v95 (h : Fin 4) (t : Fin 64) : val_main_v95 (F := Ideal) (up D.d) (up D.a) (up (D.o 0)) (up (D.o 1)) (up (D.o 2)) (up (D.l 0)) (up (D.l 1)) (up (D.l 2)) (up q.w) (g1 q) (ix3 i h t) = (((row D i).dA q 1 (lane h t) : ℝ) : EReal) := by
  pointwise [val_main_v95, val_main_v93, val_main_v92, v90]
  refine congrArg (fun k => (((row D i).dcat q k : ℝ) : EReal)) (Fin.ext ?_)
  simp [lane]
  try omega

theorem v96 (h : Fin 4) (t : Fin 64) : val_main_v96 (F := Ideal) (up D.d) (up D.a) (up (D.o 0)) (up (D.o 1)) (up (D.o 2)) (up (D.l 0)) (up (D.l 1)) (up (D.l 2)) (up q.w) (g1 q) (ix3 i h t) = (((row D i).dA q 2 (lane h t) : ℝ) : EReal) := by
  pointwise [val_main_v96, val_main_v93, val_main_v92, v90]
  refine congrArg (fun k => (((row D i).dcat q k : ℝ) : EReal)) (Fin.ext ?_)
  simp [lane]
  try omega

theorem v117 (h : Fin 4) : val_main_v117 (F := Ideal) (up D.d) (up D.a) (up (D.o 0)) (up (D.o 1)) (up (D.o 2)) (up (D.l 0)) (up (D.l 1)) (up (D.l 2)) (up q.w) (g1 q) (ix2 i h) = (((row D i).dot q 0 h : ℝ) : EReal) := by
  pointwise [val_main_v117, val_main_v116, val_main_cst_24, val_main_v33, v94, up_ix2]
  simp only [← EReal.coe_mul, coe_sum, zero_add]
  rfl

theorem v107 (h : Fin 4) : val_main_v107 (F := Ideal) (up D.d) (up D.a) (up (D.o 0)) (up (D.o 1)) (up (D.o 2)) (up (D.l 0)) (up (D.l 1)) (up (D.l 2)) (up q.w) (g1 q) (ix2 i h) = (((row D i).dot q 1 h : ℝ) : EReal) := by
  pointwise [val_main_v107, val_main_v106, val_main_cst_21, val_main_v39, v95, up_ix2]
  simp only [← EReal.coe_mul, coe_sum, zero_add]
  rfl

theorem v98 (h : Fin 4) : val_main_v98 (F := Ideal) (up D.d) (up D.a) (up (D.o 0)) (up (D.o 1)) (up (D.o 2)) (up (D.l 0)) (up (D.l 1)) (up (D.l 2)) (up q.w) (g1 q) (ix2 i h) = (((row D i).dot q 2 h : ℝ) : EReal) := by
  pointwise [val_main_v98, val_main_v97, val_main_cst_18, val_main_v45, v96, up_ix2]
  simp only [← EReal.coe_mul, coe_sum, zero_add]
  rfl

theorem v124 (k : Fin 3) (h : Fin 4) : val_main_v124 (F := Ideal) (up D.d) (up D.a) (up (D.o 0)) (up (D.o 1)) (up (D.o 2)) (up (D.l 0)) (up (D.l 1)) (up (D.l 2)) (up q.w) (g1 q) (ix3 k i h) = (((row D i).dot q k h : ℝ) : EReal) := by
  fin_cases k <;> pointwise [val_main_v124, val_main_v123, val_main_v122, val_main_v121, val_main_v118, val_main_v114, val_main_v113,
    val_main_v112, val_main_v111, val_main_v108, val_main_v104, val_main_v103, val_main_v102, val_main_v99, val_main_cst_19, val_main_cst_20,
    val_main_cst_22, val_main_cst_23, val_main_cst_25, val_main_cst_26, v98, v107, v117] <;> simp [Fin.sum_univ_one, v98, v107, v117]

theorem v137 (k : Fin 3) (h : Fin 4) : val_main_v137 (F := Ideal) (up D.d) (up D.a) (up (D.o 0)) (up (D.o 1)) (up (D.o 2)) (up (D.l 0)) (up (D.l 1)) (up (D.l 2)) (up q.w) (g1 q) (ix3 k i h) = (((row D i).dlse q k h : ℝ) : EReal) := by
  pointwise [val_main_v137, val_main_v136, val_main_v135, val_main_v134, val_main_cst_28, val_main_v131, val_main_v130, val_main_v129,
    val_main_cst_27, val_main_v128, val_main_v127, val_main_v126, val_main_v32, val_main_v31, val_main_cst_9, val_main_v30, val_main_v27,
    val_main_v133, val_main_v132, val_main_v27, v124, v26, v25]
  rw [Fin.sum_univ_one, Fin.sum_univ_three, div_real ((row0 D i).den_pos h).ne', ← EReal.coe_mul, one_real,
    div_real (mul_pos ((row0 D i).den_pos h) ((row0 D i).den_pos h)).ne']
  simp only [← EReal.coe_mul, ← EReal.coe_add, ← EReal.coe_neg]
  rfl

theorem v125 (j : Fin 256) : val_main_v125 (F := Ideal) (up D.d) (up D.a) (up (D.o 0)) (up (D.o 1)) (up (D.o 2)) (up (D.l 0)) (up (D.l 1)) (up (D.l 2)) (up q.w) (g1 q) (ix2 i j) = (((row D i).dout q 0 j : ℝ) : EReal) := by
  pointwise [val_main_v125, val_main_v120, val_main_v119, val_main_v36, val_main_v35, val_main_v34, v29, v94]
  rw [← EReal.coe_mul]
  refine congrArg (fun k => (((row D i).dA q 0 k * (row D i).al 0 (hd j) : ℝ) : EReal)) (Fin.ext ?_)
  show j.val / 64 * 64 + j.val % 64 = j.val
  omega

theorem v115 (j : Fin 256) : val_main_v115 (F := Ideal) (up D.d) (up D.a) (up (D.o 0)) (up (D.o 1)) (up (D.o 2)) (up (D.l 0)) (up (D.l 1)) (up (D.l 2)) (up q.w) (g1 q) (ix2 i j) = (((row D i).dout q 1 j : ℝ) : EReal) := by
  pointwise [val_main_v115, val_main_v110, val_main_v109, val_main_v42, val_main_v41, val_main_v40, v29, v95]
  rw [← EReal.coe_mul]
  refine congrArg (fun k => (((row D i).dA q 1 k * (row D i).al 1 (hd j) : ℝ) : EReal)) (Fin.ext ?_)
  show j.val / 64 * 64 + j.val % 64 = j.val
  omega

theorem v105 (j : Fin 256) : val_main_v105 (F := Ideal) (up D.d) (up D.a) (up (D.o 0)) (up (D.o 1)) (up (D.o 2)) (up (D.l 0)) (up (D.l 1)) (up (D.l 2)) (up q.w) (g1 q) (ix2 i j) = (((row D i).dout q 2 j : ℝ) : EReal) := by
  pointwise [val_main_v105, val_main_v101, val_main_v100, val_main_v48, val_main_v47, val_main_v46, v29, v96]
  rw [← EReal.coe_mul]
  refine congrArg (fun k => (((row D i).dA q 2 k * (row D i).al 2 (hd j) : ℝ) : EReal)) (Fin.ext ?_)
  show j.val / 64 * 64 + j.val % 64 = j.val
  omega

theorem v149 (j : Fin 256) : val_main_v149 (F := Ideal) (up D.d) (up D.a) (up (D.o 0)) (up (D.o 1)) (up (D.o 2)) (up (D.l 0)) (up (D.l 1)) (up (D.l 2)) (up q.w) (g1 q) (ix2 i j) = (((row D i).term q 0 j : ℝ) : EReal) := by
  pointwise [val_main_v149, val_main_v148, val_main_v147, val_main_v146, val_main_cst_29, val_main_v145, val_main_v144, val_main_v139, val_main_v138, v137, v125, up_ix2]
  simp only [← EReal.coe_mul, coe_sum, ← EReal.coe_sub]
  exact congrArg _ ((row D i).term_ad q 0 j)

theorem v155 (j : Fin 256) : val_main_v155 (F := Ideal) (up D.d) (up D.a) (up (D.o 0)) (up (D.o 1)) (up (D.o 2)) (up (D.l 0)) (up (D.l 1)) (up (D.l 2)) (up q.w) (g1 q) (ix2 i j) = (((row D i).term q 1 j : ℝ) : EReal) := by
  pointwise [val_main_v155, val_main_v154, val_main_v153, val_main_v152, val_main_cst_30, val_main_v151, val_main_v150, val_main_v141, val_main_v140, v137, v115, up_ix2]
  simp only [← EReal.coe_mul, coe_sum, ← EReal.coe_sub]
  exact congrArg _ ((row D i).term_ad q 1 j)

theorem v161 (j : Fin 256) : val_main_v161 (F := Ideal) (up D.d) (up D.a) (up (D.o 0)) (up (D.o 1)) (up (D.o 2)) (up (D.l 0)) (up (D.l 1)) (up (D.l 2)) (up q.w) (g1 q) (ix2 i j) = (((row D i).term q 2 j : ℝ) : EReal) := by
  pointwise [val_main_v161, val_main_v160, val_main_v159, val_main_v158, val_main_cst_31, val_main_v157, val_main_v156, val_main_v143, val_main_v142, v137, v105, up_ix2]
  simp only [← EReal.coe_mul, coe_sum, ← EReal.coe_sub]
  exact congrArg _ ((row D i).term_ad q 2 j)

end Cert.Model.Mix.Ref

end
-- ==== Proof.MixFinite.lean ====
/- The output projection's precondition: arguments whose entries are all below infinity in absolute value are real arrays. -/
module

public import proofs.«01_k».proof.Proof.Gen.Pre_finite5
public import proofs.«01_k».proof.Proof.Finite
public import proofs.«01_k».proof.Proof.MixRef

@[expose] public section

set_option maxRecDepth 16384

noncomputable section

namespace Cert.Model.Mix.Finite

open Idealize.ShloMosaic Idealize.SL.Sem
open Cert.Pre_finite5 Cert.Model.Finite
open Cert.Model.Mix.Ref (Data)

theorem reals (x0 : FVec Ideal S8192x1024 .f32) (x1 x2 x3 x4 : FVec Ideal S8192x256 .f32) (x5 x6 x7 : FVec Ideal S8192x4 .f32)
    (x8 : FVec Ideal S1024x1024 .f32) (x9 : FVec Ideal S1x1024 .f32) (h : Cert.Pre_finite5.fn (F := Ideal) x0 x1 x2 x3 x4 x5 x6 x7 x8 x9 = fun _ => 1#1) :
    ∃ (D : Data) (q : Prm), x0 = up D.d ∧ x1 = up D.a ∧ x2 = up (D.o 0) ∧ x3 = up (D.o 1) ∧ x4 = up (D.o 2) ∧ x5 = up (D.l 0)
      ∧ x6 = up (D.l 1) ∧ x7 = up (D.l 2) ∧ x8 = up q.w ∧ x9 = (up fun _ : Fin 1 => q.g) := by
  have e := congrFun h fun a => a.elim0
  dsimp only [Cert.Pre_finite5.fn, Cert.Pre_finite5.fn_part1, Cert.Pre_finite5.fn_part2] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e, e0⟩ := IntOp.andi_eq_one.1 e
  haveI : Subsingleton Cert.Pre_finite5.S_.Idx := ⟨fun a b => funext fun k => k.elim0⟩
  have row : ∀ X : FVec Ideal S1x1024 .f32, X = (up fun i j => (X (ix2 i j)).toReal) → X = up fun _ : Fin 1 => fun j => (X (ix2 0 j)).toReal := by
    intro X hX
    refine hX.trans (congrArg up ?_)
    funext i
    rw [Subsingleton.elim i 0]
  exact ⟨⟨fun i j => (x0 (ix2 i j)).toReal, fun i j => (x1 (ix2 i j)).toReal,
      ![fun i j => (x2 (ix2 i j)).toReal, fun i j => (x3 (ix2 i j)).toReal, fun i j => (x4 (ix2 i j)).toReal],
      ![fun i j => (x5 (ix2 i j)).toReal, fun i j => (x6 (ix2 i j)).toReal, fun i j => (x7 (ix2 i j)).toReal]⟩,
    ⟨fun i j => (x8 (ix2 i j)).toReal, fun j => (x9 (ix2 0 j)).toReal⟩,
    up_of_all _ _ (Host.reduce_andi_all _ _ _ _ _ e0),
    up_of_all _ _ (Host.reduce_andi_all _ _ _ _ _ e1),
    up_of_all _ _ (Host.reduce_andi_all _ _ _ _ _ e2),
    up_of_all _ _ (Host.reduce_andi_all _ _ _ _ _ e3),
    up_of_all _ _ (Host.reduce_andi_all _ _ _ _ _ e4),
    up_of_all _ _ (Host.reduce_andi_all _ _ _ _ _ e5),
    up_of_all _ _ (Host.reduce_andi_all _ _ _ _ _ e6),
    up_of_all _ _ (Host.reduce_andi_all _ _ _ _ _ e7),
    up_of_all _ _ (Host.reduce_andi_all _ _ _ _ _ e8),
    row _ (up_of_all _ _ (Host.reduce_andi_all _ _ _ _ _ e9))⟩

end Cert.Model.Mix.Finite

end
-- ==== Proof.MixPay.lean ====
/- What the kernel's body computes from real blocks in the output projection's gradient: 1024 rows at a time, each the row
   functions of Proof/MixModel.lean. -/
module

public import proofs.«01_k».proof.Proof.Gen.Kernel5Ideal.Skeleton
public import proofs.«01_k».proof.Proof.MixModel

@[expose] public section

set_option maxRecDepth 16384

noncomputable section

namespace Cert.Model.Mix.Pay

open Idealize.ShloMosaic Idealize.ShloMosaic.TcCoe Idealize.SL.Sem
open Cert.Kernel5Ideal Cert.Kernel5Ideal.Gen

variable (q : Prm) (r : Fin 1024 → Row) (p : Fin 1024)

/-- The blocks the body reads. -/
abbrev dB : FVec Ideal S1024x1024 .f32 := up fun p => (r p).d
abbrev catB : FVec Ideal S1024x1024 .bf16 := up fun p => (r p).cat
abbrev oB (k : Fin 3) : FVec Ideal S1024x256 .f32 := up fun p => (r p).o k
abbrev lB (k : Fin 3) : FVec Ideal S1024x256 .f32 := up fun p j => (r p).l k (hd j)
abbrev wB : FVec Ideal S1024x1024 .bf16 := up q.w
abbrev gB : FVec Ideal S1x1024 .f32 := up fun _ : Fin 1 => q.g
abbrev onesB : FVec Ideal S256x256 .bf16 := up fun k j => if hd k = hd j then 1 else 0

theorem pay1 (j : Fin 1024) : k0_pay1 (F := Ideal) (catB r) (wB q) (ix2 p j) = (((r p).mix q j : ℝ) : EReal) := by
  pointwise [k0_pay1, up_ix2]
  simp only [← EReal.coe_mul, coe_sum]
  rfl

theorem pay2 : k0_pay2 (F := Ideal) (catB r) (wB q) (ix2 p 0) = ((inv ((r p).mix q) : ℝ) : EReal) := by
  pointwise [k0_pay2, pay1]
  simp only [eps_bits, width_bits, ← EReal.coe_mul, coe_sum, zero_add, div_real (show (1024 : ℝ) ≠ 0 by norm_num), ← EReal.coe_add]
  exact rsqrt_real (ms_pos _)

theorem pay3 (j : Fin 1024) : k0_pay3 (F := Ideal) (catB r) (wB q) (ix2 p j) = (((r p).mix q j * inv ((r p).mix q) : ℝ) : EReal) := by
  pointwise [k0_pay3, pay1, pay2]
  rw [← EReal.coe_mul]

theorem pay4 (j : Fin 1024) : k0_pay4 (F := Ideal) (catB r) (wB q) (dB r) (ix2 0 j) = ((∑ p, (r p).dg q j : ℝ) : EReal) := by
  pointwise [k0_pay4, pay3, up_ix2]
  simp only [← EReal.coe_mul, coe_sum, zero_add]
  rfl

theorem pay5 (j : Fin 1024) : k0_pay5 (F := Ideal) (catB r) (wB q) (gB q) (dB r) (ix2 p j) = (((r p).dmix q j : ℝ) : EReal) := by
  pointwise [k0_pay5, pay3, pay2, up_ix2]
  simp only [width_bits, ← EReal.coe_mul, coe_sum, zero_add, div_real (show (1024 : ℝ) ≠ 0 by norm_num), ← EReal.coe_sub]
  rfl

theorem pay7 (X Y : FVec Ideal S1x1024 .f32) (j : S1x1024.Idx) : k0_pay7 (F := Ideal) X Y j = (Y j + X j : EReal) := by
  pointwise [k0_pay7]

/-- The gradient of the normalisation's argument, as the body holds it. -/
abbrev dmB : FVec Ideal S1024x1024 .bf16 := k0_pay5 (F := Ideal) (catB r) (wB q) (gB q) (dB r)

theorem pay8 (j : Fin 1024) : k0_pay8 (F := Ideal) (dmB q r) (wB q) (ix2 p j) = (((r p).dcat q j : ℝ) : EReal) := by
  pointwise [k0_pay8, pay5, up_ix2]
  simp only [← EReal.coe_mul, coe_sum]
  rfl

theorem pay9 (j : Fin 256) : k0_pay9 (F := Ideal) (dmB q r) (wB q) (ix2 p j) = (((r p).dpool q j : ℝ) : EReal) := by
  pointwise [k0_pay9, pay8]
  exact congrArg (fun k => (((r p).dcat q k : ℝ) : EReal)) (Fin.ext (by simp))

theorem pay21 (j : Fin 256) : k0_pay21 (F := Ideal) (dmB q r) (wB q) (ix2 p j) = (((r p).dA q 0 j : ℝ) : EReal) := by
  pointwise [k0_pay21, pay8]
  exact congrArg (fun k => (((r p).dcat q k : ℝ) : EReal)) (Fin.ext (by simp))

theorem pay22 (j : Fin 256) : k0_pay22 (F := Ideal) (dmB q r) (wB q) (ix2 p j) = (((r p).dA q 1 j : ℝ) : EReal) := by
  pointwise [k0_pay22, pay8]
  exact congrArg (fun k => (((r p).dcat q k : ℝ) : EReal)) (Fin.ext (by simp))

theorem pay23 (j : Fin 256) : k0_pay23 (F := Ideal) (dmB q r) (wB q) (ix2 p j) = (((r p).dA q 2 j : ℝ) : EReal) := by
  pointwise [k0_pay23, pay8]
  exact congrArg (fun k => (((r p).dcat q k : ℝ) : EReal)) (Fin.ext (by simp))

theorem pay13 (j : Fin 256) : k0_pay13 (F := Ideal) (lB r 0) (lB r 1) (lB r 2) (ix2 p j) = (((r p).m (hd j) : ℝ) : EReal) := by
  pointwise [k0_pay13, k0_pay12, k0_pay11, k0_pay10, up_ix2]
  simp only [max_real]
  rfl

theorem pay14 (j : Fin 256) : k0_pay14 (F := Ideal) (lB r 0) (lB r 1) (lB r 2) (ix2 p j) = (((r p).e 0 (hd j) : ℝ) : EReal) := by
  pointwise [k0_pay14, pay13, k0_pay10, up_ix2]
  rw [← EReal.coe_sub, Ideal.exp_coe]; rfl

theorem pay15 (j : Fin 256) : k0_pay15 (F := Ideal) (lB r 0) (lB r 1) (lB r 2) (ix2 p j) = (((r p).e 1 (hd j) : ℝ) : EReal) := by
  pointwise [k0_pay15, pay13, k0_pay11, up_ix2]
  rw [← EReal.coe_sub, Ideal.exp_coe]; rfl

theorem pay16 (j : Fin 256) : k0_pay16 (F := Ideal) (lB r 0) (lB r 1) (lB r 2) (ix2 p j) = (((r p).e 2 (hd j) : ℝ) : EReal) := by
  pointwise [k0_pay16, pay13, k0_pay12, up_ix2]
  rw [← EReal.coe_sub, Ideal.exp_coe]; rfl

theorem pay17 (j : Fin 256) : k0_pay17 (F := Ideal) (lB r 0) (lB r 1) (lB r 2) (ix2 p j) = (((r p).den (hd j) : ℝ) : EReal) := by
  pointwise [k0_pay17, pay14, pay15, pay16]
  simp only [← EReal.coe_add]; rfl

theorem pay18 (j : Fin 256) : k0_pay18 (F := Ideal) (lB r 0) (lB r 1) (lB r 2) (ix2 p j) = (((r p).al 0 (hd j) : ℝ) : EReal) := by
  pointwise [k0_pay18, pay14, pay17]
  exact div_real ((r p).den_pos _).ne'

theorem pay19 (j : Fin 256) : k0_pay19 (F := Ideal) (lB r 0) (lB r 1) (lB r 2) (ix2 p j) = (((r p).al 1 (hd j) : ℝ) : EReal) := by
  pointwise [k0_pay19, pay15, pay17]
  exact div_real ((r p).den_pos _).ne'

theorem pay20 (j : Fin 256) : k0_pay20 (F := Ideal) (lB r 0) (lB r 1) (lB r 2) (ix2 p j) = (((r p).al 2 (hd j) : ℝ) : EReal) := by
  pointwise [k0_pay20, pay16, pay17]
  exact div_real ((r p).den_pos _).ne'

/-- The weights and the products, as the body holds them. -/
abbrev a0 : FVec Ideal S1024x256 .f32 := k0_pay18 (F := Ideal) (lB r 0) (lB r 1) (lB r 2)
abbrev a1 : FVec Ideal S1024x256 .f32 := k0_pay19 (F := Ideal) (lB r 0) (lB r 1) (lB r 2)
abbrev a2 : FVec Ideal S1024x256 .f32 := k0_pay20 (F := Ideal) (lB r 0) (lB r 1) (lB r 2)
abbrev d0 : FVec Ideal S1024x256 .f32 := k0_pay21 (F := Ideal) (dmB q r) (wB q)
abbrev d1 : FVec Ideal S1024x256 .f32 := k0_pay22 (F := Ideal) (dmB q r) (wB q)
abbrev d2 : FVec Ideal S1024x256 .f32 := k0_pay23 (F := Ideal) (dmB q r) (wB q)
abbrev s0 : FVec Ideal S1024x256 .f32 := k0_pay24 (F := Ideal) (dmB q r) (wB q) (lB r 0) (lB r 1) (lB r 2) (oB r 0)
abbrev s1 : FVec Ideal S1024x256 .f32 := k0_pay25 (F := Ideal) (dmB q r) (wB q) (lB r 0) (lB r 1) (lB r 2) (oB r 1)

theorem pay24 (j : Fin 256) : s0 q r (ix2 p j) = (((r p).dA q 0 j * ((r p).o 0 j * (r p).al 0 (hd j)) : ℝ) : EReal) := by
  pointwise [k0_pay24, pay21, pay18, up_ix2]
  simp only [← EReal.coe_mul, zero_add]

theorem pay25 (j : Fin 256) : s1 q r (ix2 p j) = (((r p).dA q 1 j * ((r p).o 1 j * (r p).al 1 (hd j)) : ℝ) : EReal) := by
  pointwise [k0_pay25, pay22, pay19, up_ix2]
  simp only [← EReal.coe_mul]

theorem pay26 (j : Fin 256) : k0_pay26 (F := Ideal) (a2 r) (d2 q r) (s0 q r) (s1 q r) (oB r 2) onesB onesB (ix2 p j)
    = (((r p).tot q (hd j) : ℝ) : EReal) := by
  pointwise [k0_pay26, pay24, pay25, pay23, pay20, up_ix2]
  simp only [← EReal.coe_mul, ← EReal.coe_add, ← EReal.coe_sub, coe_sum, sub_self, zero_mul, Finset.sum_const_zero, add_zero]
  exact congrArg _ ((r p).sum_part q j)

theorem pay27 (j : Fin 256) : k0_pay27 (F := Ideal) (a0 r) (d0 q r) (ix2 p j) = (((r p).dout q 0 j : ℝ) : EReal) := by
  pointwise [k0_pay27, pay18, pay21]
  rw [← EReal.coe_mul]; rfl

theorem pay29 (j : Fin 256) : k0_pay29 (F := Ideal) (a1 r) (d1 q r) (ix2 p j) = (((r p).dout q 1 j : ℝ) : EReal) := by
  pointwise [k0_pay29, pay19, pay22]
  rw [← EReal.coe_mul]; rfl

theorem pay31 (j : Fin 256) : k0_pay31 (F := Ideal) (a2 r) (d2 q r) (ix2 p j) = (((r p).dout q 2 j : ℝ) : EReal) := by
  pointwise [k0_pay31, pay20, pay23]
  rw [← EReal.coe_mul]; rfl

theorem neg_mul_real (a b : ℝ) : (0 - (a : EReal)) * (b : EReal) = ((-(a * b) : ℝ) : EReal) := by
  rw [zero_real, ← EReal.coe_sub, ← EReal.coe_mul, zero_sub, neg_mul]

theorem pay28 (j : Fin 256) : k0_pay28 (F := Ideal) (a0 r) (a2 r) (d2 q r) (s0 q r) (s1 q r) (oB r 2) onesB onesB (ix2 p j)
    = (((r p).term q 0 j : ℝ) : EReal) := by
  pointwise [k0_pay28, pay26, pay18]
  exact neg_mul_real _ _

theorem pay30 (j : Fin 256) : k0_pay30 (F := Ideal) (a1 r) (a2 r) (d2 q r) (s0 q r) (s1 q r) (oB r 2) onesB onesB (ix2 p j)
    = (((r p).term q 1 j : ℝ) : EReal) := by
  pointwise [k0_pay30, pay26, pay19]
  exact neg_mul_real _ _

theorem pay32 (j : Fin 256) : k0_pay32 (F := Ideal) (a2 r) (d2 q r) (s0 q r) (s1 q r) (oB r 2) onesB onesB (ix2 p j)
    = (((r p).term q 2 j : ℝ) : EReal) := by
  pointwise [k0_pay32, pay26, pay20]
  exact neg_mul_real _ _

end Cert.Model.Mix.Pay

end
-- ==== Proof.MixEntry.lean ====
/- What the pipeline of the output projection's gradient finds in its input arrays, over real arguments. -/
module

public import proofs.«01_k».proof.Proof.Gen.Kernel5Ideal.Frame
public import Idealize.ShloMosaic.Lib.Pipeline.ValueKit
public import Idealize.ShloMosaic.Lib.Claim
public import proofs.«01_k».proof.Proof.MixRef
public import proofs.«01_k».proof.Proof.MixPay

@[expose] public section

set_option maxRecDepth 65536

noncomputable section

namespace Cert.Model.Mix.Entry

open Idealize.ShloMosaic Idealize.ShloMosaic.TcCoe Idealize.SL.Sem
open Cert.Kernel5Ideal Cert.Kernel5Ideal.Gen
open Cert.Reference5Ideal.Read
open Cert.Model.Mix.Ref (Data row)

/-- A row of log-denominators repeated over each head's lanes. -/
def lanes (l : FVec Ideal S8192x4 .f32) : FVec Ideal S8192x256 .f32 :=
  shapeCast _ (broadcastInDim S8192x4x64 ![0, 1] bcast_S8192x4_S8192x4x64_0_1 l) shapeCasts_S8192x4x64_S8192x256

theorem lanes_real (l : Fin 8192 → Fin 4 → ℝ) : lanes (up l) = up fun i j => l i (hd j) := by
  funext y
  idx_vars y
  pointwise [lanes, up_ix2]
  rfl

/-- The head of each lane. -/
def heads : (⟨S256, .i32⟩ : BufTy).Contents (Elt Ideal) :=
  Host.shrsi (iotaInDim S256 32 0 : (⟨S256, .i32⟩ : BufTy).Contents (Elt Ideal)) (broadcastInDim S256 ![] bcast_S_S256 (constantI S_ 32 6#32))

/-- One where two lanes share their head. -/
def ones : FVec Ideal S256x256 .bf16 :=
  uitofp .bf16 (cmpi .eq (broadcastInDim S256x256 ![0, 1] bcast_S256x1_S256x256_0_1 (broadcastInDim S256x1 ![0] bcast_S256_S256x1_0 heads) : (⟨S256x256, .i32⟩ : BufTy).Contents (Elt Ideal))
    (broadcastInDim S256x256 ![0, 1] bcast_S1x256_S256x256_0_1 (broadcastInDim S1x256 ![1] bcast_S256_S1x256_1 heads)))

theorem head_bits : ∀ k : Fin 256, IntOp.shrsi ArithUnit.host (BitVec.ofNat 32 k.val) 6#32 = BitVec.ofNat 32 (hd k).val := by decide +kernel

theorem head_inj : ∀ a b : Fin 4, BitVec.ofNat 32 a.val = BitVec.ofNat 32 b.val → a = b := by decide +kernel

theorem ones_real : ones = Pay.onesB := by
  funext y
  idx_vars y
  pointwise [ones, heads, up_ix2]
  rw [head_bits, head_bits]
  by_cases e : hd y0 = hd y1
  · rw [if_pos e, e]
    simp [IntOp.cmpi, FloatOps.uitofp]
  · rw [if_neg e]
    have n : BitVec.ofNat 32 (hd y0).val ≠ BitVec.ofNat 32 (hd y1).val := fun h => e (head_inj _ _ h)
    simp [IntOp.cmpi, FloatOps.uitofp, n]

variable (m : (ℓ : Loc nD τ sig) → Buf (Elt Ideal) ℓ) (c : Dev nD)

theorem V8 : V m c main_v8 = ones := by
  unfold V
  simp only [hostOps0]
  after_results_simp
  rfl

theorem join2 {α : Type} {t : Shape} {d : Fin t.rank} {s₀ s₁ : Shape} (h : Shape.Concatenates [s₀, s₁] t d) {a a' : s₀.Idx → α} {b b' : s₁.Idx → α}
    (ha : a = a') (hb : b = b') : concatenate t d [⟨s₀, a⟩, ⟨s₁, b⟩] h = concatenate t d [⟨s₀, a'⟩, ⟨s₁, b'⟩] h := by
  rw [ha, hb]

theorem join3 {α : Type} {t : Shape} {d : Fin t.rank} {s₀ s₁ s₂ : Shape} (h : Shape.Concatenates [s₀, s₁, s₂] t d) {a a' : s₀.Idx → α}
    {b b' : s₁.Idx → α} {e e' : s₂.Idx → α} (ha : a = a') (hb : b = b') (he : e = e') :
    concatenate t d [⟨s₀, a⟩, ⟨s₁, b⟩, ⟨s₂, e⟩] h = concatenate t d [⟨s₀, a'⟩, ⟨s₁, b'⟩, ⟨s₂, e'⟩] h := by
  rw [ha, hb, he]

/-- The exponentials of three stacked rows of log-denominators, less their largest. -/
def expo (x y z : FVec Ideal S1x8192x4 .f32) : FVec Ideal S3x8192x4 .f32 :=
  Host.exp (subf (concatenate S3x8192x4 0 [⟨S1x8192x4, x⟩, ⟨S1x8192x4, y⟩, ⟨S1x8192x4, z⟩] concatenates_S1x8192x4_S1x8192x4_S1x8192x4_S3x8192x4_d0)
    (broadcastInDim S3x8192x4 ![0, 1, 2] bcast_S1x8192x4_S3x8192x4_0_1_2 (broadcastInDim S1x8192x4 ![1, 2] bcast_S8192x4_S1x8192x4_1_2
      (maximumf (broadcastInDim S8192x4 ![] bcast_S_S8192x4 (constant S_ .f32 4286578688#32))
        (Host.reduce FloatOps.maximumf
          (concatenate S3x8192x4 0 [⟨S1x8192x4, x⟩, ⟨S1x8192x4, y⟩, ⟨S1x8192x4, z⟩] concatenates_S1x8192x4_S1x8192x4_S1x8192x4_S3x8192x4_d0)
          (constant S_ .f32 4286578688#32) reducesTo_S3x8192x4_S8192x4_d0 h_S_)))))

/-- Their shares. -/
def soft (x y z : FVec Ideal S1x8192x4 .f32) : FVec Ideal S3x8192x4 .f32 :=
  Host.divf (expo x y z) (broadcastInDim S3x8192x4 ![0, 1, 2] bcast_S1x8192x4_S3x8192x4_0_1_2
    (broadcastInDim S1x8192x4 ![1, 2] bcast_S8192x4_S1x8192x4_1_2
      (Host.reduceAdd (expo x y z) (constant S_ .f32 0#32) reducesTo_S3x8192x4_S8192x4_d0 h_S_)))

theorem expo_eq (l₀ l₁ l₂ : FVec Ideal S8192x4 .f32) :
    expo (val_main_v1 (F := Ideal) l₀) (val_main_v2 (F := Ideal) l₁) (val_main_v3 (F := Ideal) l₂) = val_main_v25 (F := Ideal) l₀ l₁ l₂ :=
  rfl

theorem soft_eq {x y z : FVec Ideal S1x8192x4 .f32} {l₀ l₁ l₂ : FVec Ideal S8192x4 .f32} (hx : x = val_main_v1 (F := Ideal) l₀)
    (hy : y = val_main_v2 (F := Ideal) l₁) (hz : z = val_main_v3 (F := Ideal) l₂) : soft x y z = val_main_v29 (F := Ideal) l₀ l₁ l₂ := by
  rw [hx, hy, hz]
  unfold soft
  rw [expo_eq]
  rfl

/-- One dilation's output by its shares. -/
def weigh (off : Fin 3 → ℕ) (h : S3x8192x4.Slices off S1x8192x4) (o : FVec Ideal S8192x256 .f32) (z : FVec Ideal S3x8192x4 .f32) :
    FVec Ideal S8192x4x64 .f32 :=
  mulf (shapeCast S8192x4x64 o shapeCasts_S8192x256_S8192x4x64) (broadcastInDim S8192x4x64 ![0, 1, 2] bcast_S8192x4x1_S8192x4x64_0_1_2
    (broadcastInDim S8192x4x1 ![0, 1] bcast_S8192x4_S8192x4x1_0_1
      (shapeCast S8192x4 (extractStridedSlice S1x8192x4 off z h) shapeCasts_S1x8192x4_S8192x4)))

theorem V44 : V m c main_v44
    = val_main_v53 (F := Ideal) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) := by
  unfold V
  simp only [hostOps0]
  after_results_simp
  unfold val_main_v53
  refine join2 _ ?_ ?_
  · after_results_simp
  · after_results_simp
    unfold val_main_v52 val_main_v51
    refine congrArg (fun z => shapeCast _ z _) (join3 _ ?_ ?_ ?_)
    · dsimp only [Matrix.cons_val]
      after_results_simp
      refine congrArg (weigh ![0, 0, 0] slices_S3x8192x4_S1x8192x4_0_0_0 _) (soft_eq ?_ ?_ ?_) <;> dsimp only [Matrix.cons_val] <;>
        after_results_simp <;> rfl
    · dsimp only [Matrix.cons_val]
      after_results_simp
      refine congrArg (weigh ![1, 0, 0] slices_S3x8192x4_S1x8192x4_1_0_0 _) (soft_eq ?_ ?_ ?_) <;> dsimp only [Matrix.cons_val] <;>
        after_results_simp <;> rfl
    · dsimp only [Matrix.cons_val]
      after_results_simp
      refine congrArg (weigh ![2, 0, 0] slices_S3x8192x4_S1x8192x4_2_0_0 _) (soft_eq ?_ ?_ ?_) <;> dsimp only [Matrix.cons_val] <;>
        after_results_simp <;> rfl

theorem V45 : V m c main_v45 = (V m c main_v44 : FVec Ideal S8192x1024 .f32) := by
  unfold V
  simp only [hostOps0]
  after_results_simp
  rfl

theorem V47 : V m c main_v47 = lanes (m ((c : Thread nD τ).loc main_arg5)) := by
  unfold V
  simp only [hostOps0]
  after_results_simp
  rfl

theorem V49 : V m c main_v49 = lanes (m ((c : Thread nD τ).loc main_arg6)) := by
  unfold V
  simp only [hostOps0]
  after_results_simp
  rfl

theorem V51 : V m c main_v51 = lanes (m ((c : Thread nD τ).loc main_arg7)) := by
  unfold V
  simp only [hostOps0]
  after_results_simp
  rfl

theorem V52 : V m c main_v52 = (m ((c : Thread nD τ).loc main_arg8) : FVec Ideal S1024x1024 .f32) := by
  unfold V
  simp only [hostOps0]
  after_results_simp
  rfl

end Cert.Model.Mix.Entry

end
-- ==== Proof.MixBlocks.lean ====
/- The blocks each grid point of the output projection's gradient reads, over real arguments: 1024 rows of the arrays the
   host code prepared. -/
module

public import proofs.«01_k».proof.Proof.MixEntry

@[expose] public section

set_option maxRecDepth 16384

noncomputable section

namespace Cert.Model.Mix.Blocks

open Idealize.ShloMosaic Idealize.ShloMosaic.TcCoe Idealize.SL.Sem
open Cert.Kernel5Ideal Cert.Kernel5Ideal.Gen
open Cert.Model.Mix.Ref (Data row)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] ∧ win0_10.index t = ![0, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] ∧ win0_17.index t = ![t.val, 0]
    ∧ win0_18.index t = ![t.val, 0] ∧ win0_19.index t = ![0, 0] :=
  (by decide +kernel : ∀ t : Fin grid0.N, _)

/-- Row `p` of the block of point `t`. -/
def rowAt (t : Fin cfg0.N) (p : Fin 1024) : Fin 8192 :=
  ⟨t.val * 1024 + p.val, by have := lt_of_lt_of_eq t.isLt (show cfg0.N = 8 from N_0); have := p.isLt; omega⟩

/-- The arguments are the real numbers `D` and `q`. -/
structure Args (m : (ℓ : Loc nD τ sig) → Buf (Elt Ideal) ℓ) (c : Dev nD) (D : Data) (q : Prm) : Prop where
  d : m ((c : Thread nD τ).loc main_arg0) = (up D.d : FVec Ideal S8192x1024 .f32)
  a : m ((c : Thread nD τ).loc main_arg1) = (up D.a : FVec Ideal S8192x256 .f32)
  o0 : m ((c : Thread nD τ).loc main_arg2) = (up (D.o 0) : FVec Ideal S8192x256 .f32)
  o1 : m ((c : Thread nD τ).loc main_arg3) = (up (D.o 1) : FVec Ideal S8192x256 .f32)
  o2 : m ((c : Thread nD τ).loc main_arg4) = (up (D.o 2) : FVec Ideal S8192x256 .f32)
  l0 : m ((c : Thread nD τ).loc main_arg5) = (up (D.l 0) : FVec Ideal S8192x4 .f32)
  l1 : m ((c : Thread nD τ).loc main_arg6) = (up (D.l 1) : FVec Ideal S8192x4 .f32)
  l2 : m ((c : Thread nD τ).loc main_arg7) = (up (D.l 2) : FVec Ideal S8192x4 .f32)
  w : m ((c : Thread nD τ).loc main_arg8) = (up q.w : FVec Ideal S1024x1024 .f32)
  g : m ((c : Thread nD τ).loc main_arg9) = Ref.g1 q

variable {m : (ℓ : Loc nD τ sig) → Buf (Elt Ideal) ℓ} {c : Dev nD} {D : Data} {q : Prm}

theorem Args.cat (h : Args m c D q) : V m c main_v45 = (up fun i => (row D i).cat : FVec Ideal S8192x1024 .f32) := by
  rw [Entry.V45, Entry.V44, h.a, h.o0, h.o1, h.o2, h.l0, h.l1, h.l2]
  funext y
  idx_vars y
  exact Ref.v53 D _ _

theorem blk0 (h : Args m c D q) (t : Fin cfg0.N) : iblk m c 0 t = Pay.dB fun p => row D (rowAt t p) := by
  funext y
  have e : V m c main_arg0 = (up D.d : FVec Ideal S8192x1024 .f32) := (V_main_arg0 m c).trans h.d
  blk_simp [iblk, idx t]
  rw [e]
  refine congrArg Real.toEReal (congrArg₂ D.d (Fin.ext ?_) (Fin.ext ?_)) <;> blk_simp [idx t, rowAt]

theorem blk1 (h : Args m c D q) (t : Fin cfg0.N) : iblk m c 1 t = Pay.catB fun p => row D (rowAt t p) := by
  funext y
  have e : V m c main_v45 = (up fun i => (row D i).cat : FVec Ideal S8192x1024 .bf16) := h.cat
  blk_simp [iblk, idx t]
  rw [e]
  refine congrArg Real.toEReal (congrArg₂ (fun i => (row D i).cat) (Fin.ext ?_) (Fin.ext ?_)) <;> blk_simp [idx t, rowAt]

theorem blk2 (h : Args m c D q) (t : Fin cfg0.N) : iblk m c 2 t = Pay.oB (fun p => row D (rowAt t p)) 0 := by
  funext y
  have e : V m c main_arg2 = (up (D.o 0) : FVec Ideal S8192x256 .f32) := (V_main_arg2 m c).trans h.o0
  blk_simp [iblk, idx t]
  rw [e]
  refine congrArg Real.toEReal (congrArg₂ (D.o 0) (Fin.ext ?_) (Fin.ext ?_)) <;> blk_simp [idx t, rowAt]

theorem blk3 (h : Args m c D q) (t : Fin cfg0.N) : iblk m c 3 t = Pay.oB (fun p => row D (rowAt t p)) 1 := by
  funext y
  have e : V m c main_arg3 = (up (D.o 1) : FVec Ideal S8192x256 .f32) := (V_main_arg3 m c).trans h.o1
  blk_simp [iblk, idx t]
  rw [e]
  refine congrArg Real.toEReal (congrArg₂ (D.o 1) (Fin.ext ?_) (Fin.ext ?_)) <;> blk_simp [idx t, rowAt]

theorem blk4 (h : Args m c D q) (t : Fin cfg0.N) : iblk m c 4 t = Pay.oB (fun p => row D (rowAt t p)) 2 := by
  funext y
  have e : V m c main_arg4 = (up (D.o 2) : FVec Ideal S8192x256 .f32) := (V_main_arg4 m c).trans h.o2
  blk_simp [iblk, idx t]
  rw [e]
  refine congrArg Real.toEReal (congrArg₂ (D.o 2) (Fin.ext ?_) (Fin.ext ?_)) <;> blk_simp [idx t, rowAt]

theorem blk5 (h : Args m c D q) (t : Fin cfg0.N) : iblk m c 5 t = Pay.lB (fun p => row D (rowAt t p)) 0 := by
  funext y
  have e : V m c main_v47 = (up fun i j => D.l 0 i (hd j) : FVec Ideal S8192x256 .f32) := by rw [Entry.V47, h.l0]; exact Entry.lanes_real _
  blk_simp [iblk, idx t]
  rw [e]
  refine congrArg Real.toEReal (congrArg₂ (fun i j => D.l 0 i (hd j)) (Fin.ext ?_) (Fin.ext ?_)) <;> blk_simp [idx t, rowAt]

theorem blk6 (h : Args m c D q) (t : Fin cfg0.N) : iblk m c 6 t = Pay.lB (fun p => row D (rowAt t p)) 1 := by
  funext y
  have e : V m c main_v49 = (up fun i j => D.l 1 i (hd j) : FVec Ideal S8192x256 .f32) := by rw [Entry.V49, h.l1]; exact Entry.lanes_real _
  blk_simp [iblk, idx t]
  rw [e]
  refine congrArg Real.toEReal (congrArg₂ (fun i j => D.l 1 i (hd j)) (Fin.ext ?_) (Fin.ext ?_)) <;> blk_simp [idx t, rowAt]

theorem blk7 (h : Args m c D q) (t : Fin cfg0.N) : iblk m c 7 t = Pay.lB (fun p => row D (rowAt t p)) 2 := by
  funext y
  have e : V m c main_v51 = (up fun i j => D.l 2 i (hd j) : FVec Ideal S8192x256 .f32) := by rw [Entry.V51, h.l2]; exact Entry.lanes_real _
  blk_simp [iblk, idx t]
  rw [e]
  refine congrArg Real.toEReal (congrArg₂ (fun i j => D.l 2 i (hd j)) (Fin.ext ?_) (Fin.ext ?_)) <;> blk_simp [idx t, rowAt]

theorem blk8 (h : Args m c D q) (t : Fin cfg0.N) : iblk m c 8 t = Pay.wB q := by
  funext y
  have e : V m c main_v52 = (up q.w : FVec Ideal S1024x1024 .bf16) := (Entry.V52 m c).trans h.w
  blk_simp [iblk, idx t]
  rw [e]
  refine congrArg Real.toEReal (congrArg₂ q.w (Fin.ext ?_) (Fin.ext ?_)) <;> blk_simp [idx t, rowAt]

theorem blk9 (h : Args m c D q) (t : Fin cfg0.N) : iblk m c 9 t = Pay.gB q := by
  funext y
  have e : V m c main_arg9 = (Ref.g1 q) := (V_main_arg9 m c).trans h.g
  blk_simp [iblk, idx t]
  rw [e]
  refine congrArg Real.toEReal (congrArg q.g (Fin.ext ?_)) <;> blk_simp [idx t, rowAt]

theorem blk10 (h : Args m c D q) (t : Fin cfg0.N) : iblk m c 10 t = Pay.onesB := by
  funext y
  have e : V m c main_v8 = (Pay.onesB) := (Entry.V8 m c).trans Entry.ones_real
  blk_simp [iblk, idx t]
  rw [e]
  refine congrArg Real.toEReal (congrArg₂ (fun k j : Fin 256 => if hd k = hd j then (1 : ℝ) else 0) (Fin.ext ?_) (Fin.ext ?_)) <;> blk_simp [idx t, rowAt]

end Cert.Model.Mix.Blocks

end
-- ==== Proof.MixFinal.lean ====
/- The results of the output projection's gradient over real arguments. -/
module

public import proofs.«01_k».proof.Proof.Gen.Kernel5Ideal.Value
public import proofs.«01_k».proof.Proof.MixBlocks

@[expose] public section

set_option maxRecDepth 16384

noncomputable section

namespace Cert.Model.Mix.Final

open Idealize.ShloMosaic Idealize.ShloMosaic.TcCoe Idealize.SL.Sem
open Cert.Kernel5Ideal Cert.Kernel5Ideal.Gen Cert.Model.Mix.Blocks
open Cert.Model.Mix.Ref (Data row)
open Cert.Model.Mix.Pay

section At

variable (q : Prm) (r : Fin 1024 → Row)

theorem at11 (y : S1024x256.Idx) : k0_pay9 (F := Ideal) (dmB q r) (wB q) y = (((r (y 0)).dpool q (y 1) : ℝ) : EReal) := by
  idx_vars y
  exact pay9 q r _ _

theorem at12 (y : S1024x1024.Idx) : dmB q r y = (((r (y 0)).dmix q (y 1) : ℝ) : EReal) := by
  idx_vars y
  exact pay5 q r _ _

theorem at13 (y : S1024x256.Idx) : k0_pay27 (F := Ideal) (a0 r) (d0 q r) y = (((r (y 0)).dout q 0 (y 1) : ℝ) : EReal) := by
  idx_vars y
  exact pay27 q r _ _

theorem at14 (y : S1024x256.Idx) : k0_pay29 (F := Ideal) (a1 r) (d1 q r) y = (((r (y 0)).dout q 1 (y 1) : ℝ) : EReal) := by
  idx_vars y
  exact pay29 q r _ _

theorem at15 (y : S1024x256.Idx) : k0_pay31 (F := Ideal) (a2 r) (d2 q r) y = (((r (y 0)).dout q 2 (y 1) : ℝ) : EReal) := by
  idx_vars y
  exact pay31 q r _ _

theorem at16 (y : S1024x256.Idx) : k0_pay28 (F := Ideal) (a0 r) (a2 r) (d2 q r) (s0 q r) (s1 q r) (oB r 2) onesB onesB y = (((r (y 0)).term q 0 (y 1) : ℝ) : EReal) := by
  idx_vars y
  exact pay28 q r _ _

theorem at17 (y : S1024x256.Idx) : k0_pay30 (F := Ideal) (a1 r) (a2 r) (d2 q r) (s0 q r) (s1 q r) (oB r 2) onesB onesB y = (((r (y 0)).term q 1 (y 1) : ℝ) : EReal) := by
  idx_vars y
  exact pay30 q r _ _

theorem at18 (y : S1024x256.Idx) : k0_pay32 (F := Ideal) (a2 r) (d2 q r) (s0 q r) (s1 q r) (oB r 2) onesB onesB y = (((r (y 0)).term q 2 (y 1) : ℝ) : EReal) := by
  idx_vars y
  exact pay32 q r _ _

end At

variable {m : (ℓ : Loc nD τ sig) → Buf (Elt Ideal) ℓ} {c : Dev nD} {D : Data} {q : Prm}

theorem final11 (h : Args m c D q) : (dats m 0 c).arrAt 11 (cfgs 0).N = (up fun i => (row D i).dpool q : FVec Ideal S8192x256 .f32) := by
  refine (dats m 0 c).arrAt_eq_of_covers 11 _ (by decide +kernel) fun t _ y => ?_
  blk_simp
  rw [after0_11]
  by_cases ht : t.val % 8 = 0
  · rw [outsAt0_A m c t ht]
    frame_out
    simp only [blk0 h, blk1 h, blk2 h, blk3 h, blk4 h, blk5 h, blk6 h, blk7 h, blk8 h, blk9 h, blk10 h]
    refine (at11 q _ y).trans (congrArg Real.toEReal (congrArg₂ (fun i => (row D i).dpool q) (Fin.ext ?_) (Fin.ext ?_))) <;> blk_simp [idx t, rowAt]
  · rw [outsAt0_B m c t ht]
    frame_out
    simp only [blk0 h, blk1 h, blk2 h, blk3 h, blk4 h, blk5 h, blk6 h, blk7 h, blk8 h, blk9 h, blk10 h]
    refine (at11 q _ y).trans (congrArg Real.toEReal (congrArg₂ (fun i => (row D i).dpool q) (Fin.ext ?_) (Fin.ext ?_))) <;> blk_simp [idx t, rowAt]

theorem final12 (h : Args m c D q) : (dats m 0 c).arrAt 12 (cfgs 0).N = (up fun i => (row D i).dmix q : FVec Ideal S8192x1024 .bf16) := by
  refine (dats m 0 c).arrAt_eq_of_covers 12 _ (by decide +kernel) fun t _ y => ?_
  blk_simp
  rw [after0_12]
  by_cases ht : t.val % 8 = 0
  · rw [outsAt0_A m c t ht]
    frame_out
    simp only [blk0 h, blk1 h, blk2 h, blk3 h, blk4 h, blk5 h, blk6 h, blk7 h, blk8 h, blk9 h, blk10 h]
    refine (at12 q _ y).trans (congrArg Real.toEReal (congrArg₂ (fun i => (row D i).dmix q) (Fin.ext ?_) (Fin.ext ?_))) <;> blk_simp [idx t, rowAt]
  · rw [outsAt0_B m c t ht]
    frame_out
    simp only [blk0 h, blk1 h, blk2 h, blk3 h, blk4 h, blk5 h, blk6 h, blk7 h, blk8 h, blk9 h, blk10 h]
    refine (at12 q _ y).trans (congrArg Real.toEReal (congrArg₂ (fun i => (row D i).dmix q) (Fin.ext ?_) (Fin.ext ?_))) <;> blk_simp [idx t, rowAt]

theorem final13 (h : Args m c D q) : (dats m 0 c).arrAt 13 (cfgs 0).N = (up fun i => (row D i).dout q 0 : FVec Ideal S8192x256 .bf16) := by
  refine (dats m 0 c).arrAt_eq_of_covers 13 _ (by decide +kernel) fun t _ y => ?_
  blk_simp
  rw [after0_13]
  by_cases ht : t.val % 8 = 0
  · rw [outsAt0_A m c t ht]
    frame_out
    simp only [blk0 h, blk1 h, blk2 h, blk3 h, blk4 h, blk5 h, blk6 h, blk7 h, blk8 h, blk9 h, blk10 h]
    refine (at13 q _ y).trans (congrArg Real.toEReal (congrArg₂ (fun i => (row D i).dout q 0) (Fin.ext ?_) (Fin.ext ?_))) <;> blk_simp [idx t, rowAt]
  · rw [outsAt0_B m c t ht]
    frame_out
    simp only [blk0 h, blk1 h, blk2 h, blk3 h, blk4 h, blk5 h, blk6 h, blk7 h, blk8 h, blk9 h, blk10 h]
    refine (at13 q _ y).trans (congrArg Real.toEReal (congrArg₂ (fun i => (row D i).dout q 0) (Fin.ext ?_) (Fin.ext ?_))) <;> blk_simp [idx t, rowAt]

theorem final14 (h : Args m c D q) : (dats m 0 c).arrAt 14 (cfgs 0).N = (up fun i => (row D i).dout q 1 : FVec Ideal S8192x256 .f32) := by
  refine (dats m 0 c).arrAt_eq_of_covers 14 _ (by decide +kernel) fun t _ y => ?_
  blk_simp
  rw [after0_14]
  by_cases ht : t.val % 8 = 0
  · rw [outsAt0_A m c t ht]
    frame_out
    simp only [blk0 h, blk1 h, blk2 h, blk3 h, blk4 h, blk5 h, blk6 h, blk7 h, blk8 h, blk9 h, blk10 h]
    refine (at14 q _ y).trans (congrArg Real.toEReal (congrArg₂ (fun i => (row D i).dout q 1) (Fin.ext ?_) (Fin.ext ?_))) <;> blk_simp [idx t, rowAt]
  · rw [outsAt0_B m c t ht]
    frame_out
    simp only [blk0 h, blk1 h, blk2 h, blk3 h, blk4 h, blk5 h, blk6 h, blk7 h, blk8 h, blk9 h, blk10 h]
    refine (at14 q _ y).trans (congrArg Real.toEReal (congrArg₂ (fun i => (row D i).dout q 1) (Fin.ext ?_) (Fin.ext ?_))) <;> blk_simp [idx t, rowAt]

theorem final15 (h : Args m c D q) : (dats m 0 c).arrAt 15 (cfgs 0).N = (up fun i => (row D i).dout q 2 : FVec Ideal S8192x256 .f32) := by
  refine (dats m 0 c).arrAt_eq_of_covers 15 _ (by decide +kernel) fun t _ y => ?_
  blk_simp
  rw [after0_15]
  by_cases ht : t.val % 8 = 0
  · rw [outsAt0_A m c t ht]
    frame_out
    simp only [blk0 h, blk1 h, blk2 h, blk3 h, blk4 h, blk5 h, blk6 h, blk7 h, blk8 h, blk9 h, blk10 h]
    refine (at15 q _ y).trans (congrArg Real.toEReal (congrArg₂ (fun i => (row D i).dout q 2) (Fin.ext ?_) (Fin.ext ?_))) <;> blk_simp [idx t, rowAt]
  · rw [outsAt0_B m c t ht]
    frame_out
    simp only [blk0 h, blk1 h, blk2 h, blk3 h, blk4 h, blk5 h, blk6 h, blk7 h, blk8 h, blk9 h, blk10 h]
    refine (at15 q _ y).trans (congrArg Real.toEReal (congrArg₂ (fun i => (row D i).dout q 2) (Fin.ext ?_) (Fin.ext ?_))) <;> blk_simp [idx t, rowAt]

theorem final16 (h : Args m c D q) : (dats m 0 c).arrAt 16 (cfgs 0).N = (up fun i => (row D i).term q 0 : FVec Ideal S8192x256 .f32) := by
  refine (dats m 0 c).arrAt_eq_of_covers 16 _ (by decide +kernel) fun t _ y => ?_
  blk_simp
  rw [after0_16]
  by_cases ht : t.val % 8 = 0
  · rw [outsAt0_A m c t ht]
    frame_out
    simp only [blk0 h, blk1 h, blk2 h, blk3 h, blk4 h, blk5 h, blk6 h, blk7 h, blk8 h, blk9 h, blk10 h]
    refine (at16 q _ y).trans (congrArg Real.toEReal (congrArg₂ (fun i => (row D i).term q 0) (Fin.ext ?_) (Fin.ext ?_))) <;> blk_simp [idx t, rowAt]
  · rw [outsAt0_B m c t ht]
    frame_out
    simp only [blk0 h, blk1 h, blk2 h, blk3 h, blk4 h, blk5 h, blk6 h, blk7 h, blk8 h, blk9 h, blk10 h]
    refine (at16 q _ y).trans (congrArg Real.toEReal (congrArg₂ (fun i => (row D i).term q 0) (Fin.ext ?_) (Fin.ext ?_))) <;> blk_simp [idx t, rowAt]

theorem final17 (h : Args m c D q) : (dats m 0 c).arrAt 17 (cfgs 0).N = (up fun i => (row D i).term q 1 : FVec Ideal S8192x256 .f32) := by
  refine (dats m 0 c).arrAt_eq_of_covers 17 _ (by decide +kernel) fun t _ y => ?_
  blk_simp
  rw [after0_17]
  by_cases ht : t.val % 8 = 0
  · rw [outsAt0_A m c t ht]
    frame_out
    simp only [blk0 h, blk1 h, blk2 h, blk3 h, blk4 h, blk5 h, blk6 h, blk7 h, blk8 h, blk9 h, blk10 h]
    refine (at17 q _ y).trans (congrArg Real.toEReal (congrArg₂ (fun i => (row D i).term q 1) (Fin.ext ?_) (Fin.ext ?_))) <;> blk_simp [idx t, rowAt]
  · rw [outsAt0_B m c t ht]
    frame_out
    simp only [blk0 h, blk1 h, blk2 h, blk3 h, blk4 h, blk5 h, blk6 h, blk7 h, blk8 h, blk9 h, blk10 h]
    refine (at17 q _ y).trans (congrArg Real.toEReal (congrArg₂ (fun i => (row D i).term q 1) (Fin.ext ?_) (Fin.ext ?_))) <;> blk_simp [idx t, rowAt]

theorem final18 (h : Args m c D q) : (dats m 0 c).arrAt 18 (cfgs 0).N = (up fun i => (row D i).term q 2 : FVec Ideal S8192x256 .f32) := by
  refine (dats m 0 c).arrAt_eq_of_covers 18 _ (by decide +kernel) fun t _ y => ?_
  blk_simp
  rw [after0_18]
  by_cases ht : t.val % 8 = 0
  · rw [outsAt0_A m c t ht]
    frame_out
    simp only [blk0 h, blk1 h, blk2 h, blk3 h, blk4 h, blk5 h, blk6 h, blk7 h, blk8 h, blk9 h, blk10 h]
    refine (at18 q _ y).trans (congrArg Real.toEReal (congrArg₂ (fun i => (row D i).term q 2) (Fin.ext ?_) (Fin.ext ?_))) <;> blk_simp [idx t, rowAt]
  · rw [outsAt0_B m c t ht]
    frame_out
    simp only [blk0 h, blk1 h, blk2 h, blk3 h, blk4 h, blk5 h, blk6 h, blk7 h, blk8 h, blk9 h, blk10 h]
    refine (at18 q _ y).trans (congrArg Real.toEReal (congrArg₂ (fun i => (row D i).term q 2) (Fin.ext ?_) (Fin.ext ?_))) <;> blk_simp [idx t, rowAt]

/-- The 8 points' parts, 1024 rows each, are the sum over all rows. -/
theorem sum_rows (f : Fin 8192 → ℝ) : (∑ s : Fin 8, ((∑ p : Fin 1024, f ⟨s.val * 1024 + p.val, by omega⟩ : ℝ) : EReal)) = ((∑ i, f i : ℝ) : EReal) := by
  rw [coe_sum]
  refine congrArg _ ?_
  exact Fin.sum_mul_add_fin 8 1024 f

theorem at19 (q : Prm) (r : Fin 1024 → Row) (y : S1x1024.Idx) :
    k0_pay4 (F := Ideal) (catB r) (wB q) (dB r) y = ((∑ p, (r p).dg q (y 1) : ℝ) : EReal) := by
  idx_vars y
  obtain rfl : y0 = 0 := Subsingleton.elim _ _
  exact pay4 q r _

theorem pay6 (j : S1x1024.Idx) : k0_pay6 (F := Ideal) j = (0 : EReal) := by
  pointwise [k0_pay6]

theorem final19 (h : Args m c D q) : (dats m 0 c).arrAt 19 (cfgs 0).N
    = (up fun (_ : Fin 1) j => ∑ i, (row D i).dg q j : FVec Ideal S1x1024 .f32) := by
  refine (dats m 0 c).arrAt_eq_of_covers 19 _ (by decide +kernel) fun t hf y => ?_
  blk_simp
  rw [after0_19, Pipeline.eq_sum_fin_of_reset_step_apply_of_flush (fun n h => (outsAt0 m c n h).2.2.2.2.2.2.2.2) 8 (fun _ => 0)
    (fun t j => ((∑ p, (row D (rowAt t p)).dg q (j 1) : ℝ) : EReal))
    (fun t ht j => by
      rw [outsAt0_A m c t ht]; frame_out
      simp only [blk0 h, blk1 h, blk2 h, blk3 h, blk4 h, blk5 h, blk6 h, blk7 h, blk8 h, blk9 h, blk10 h]
      rw [pay7, at19, pay6])
    (fun t ht j => by
      rw [outsAt0_B m c t ht]; frame_out
      simp only [blk0 h, blk1 h, blk2 h, blk3 h, blk4 h, blk5 h, blk6 h, blk7 h, blk8 h, blk9 h, blk10 h]
      rw [pay7, at19])
    t ((flush0_19 t).mp hf) _, zero_add]
  have ht : t.val / 8 = 0 := by have := lt_of_lt_of_eq t.isLt (show cfg0.grid.N = 8 from N_0); omega
  refine Eq.trans ?_ ((sum_rows fun i => (row D i).dg q (y 1)).trans ?_)
  · refine Fin.sum_fin_congr fun s => congrArg Real.toEReal (Finset.sum_congr rfl fun p _ => ?_)
    have e : rowAt ⟨8 * (t.val / 8) + s.val, Pipeline.run_point_lt_of_flush t ((flush0_19 t).mp hf) s⟩ p = ⟨s.val * 1024 + p.val, by omega⟩ := Fin.ext (by
      show (8 * (t.val / 8) + s.val) * 1024 + p.val = _
      rw [ht]; simp)
    exact congrArg (fun i => (row D i).dg q (y 1)) e
  · refine congrArg Real.toEReal (Finset.sum_congr rfl fun i _ => congrArg ((row D i).dg q) (Fin.ext ?_))
    blk_simp [idx t]

end Cert.Model.Mix.Final

end
-- ==== Proof.MixRun.lean ====
/- The run of the output projection's reference over finite arguments: the nine arrays it ends with, as arrays of real numbers. -/
module

public import proofs.«01_k».proof.Proof.Gen.Reference5Ideal.Run
public import proofs.«01_k».proof.Proof.MixRef

@[expose] public section

set_option maxRecDepth 16384

noncomputable section

namespace Cert.Model.Mix.Ref

open Idealize.ShloMosaic Idealize.ShloMosaic.TcCoe Idealize.SL.Sem
open Idealize.ShloMosaic.StableHlo Cert.Reference5Ideal Cert.Reference5Ideal.Gen Cert.Reference5Ideal.Read

variable (D : Data) (q : Prm)

theorem dpool : val_main_v91 (F := Ideal) (up D.d) (up D.a) (up (D.o 0)) (up (D.o 1)) (up (D.o 2)) (up (D.l 0)) (up (D.l 1)) (up (D.l 2)) (up q.w) (g1 q)
    = up fun i => (row D i).dpool q := by
  funext y; idx_vars y; exact v91 D q _ _

theorem dmix : val_main_v162 (F := Ideal) (up D.d) (up D.a) (up (D.o 0)) (up (D.o 1)) (up (D.o 2)) (up (D.l 0)) (up (D.l 1)) (up (D.l 2)) (up q.w) (g1 q)
    = up fun i => (row D i).dmix q := by
  funext y; idx_vars y; pointwise [val_main_v162, v89, up_ix2]

theorem do0 : val_main_v163 (F := Ideal) (up D.d) (up D.a) (up (D.o 0)) (up (D.o 1)) (up (D.o 2)) (up (D.l 0)) (up (D.l 1)) (up (D.l 2)) (up q.w) (g1 q)
    = up fun i => (row D i).dout q 0 := by
  funext y; idx_vars y; pointwise [val_main_v163, v125, up_ix2]

theorem do1 : val_main_v115 (F := Ideal) (up D.d) (up D.a) (up (D.o 0)) (up (D.o 1)) (up (D.o 2)) (up (D.l 0)) (up (D.l 1)) (up (D.l 2)) (up q.w) (g1 q)
    = up fun i => (row D i).dout q 1 := by
  funext y; idx_vars y; exact v115 D q _ _

theorem do2 : val_main_v105 (F := Ideal) (up D.d) (up D.a) (up (D.o 0)) (up (D.o 1)) (up (D.o 2)) (up (D.l 0)) (up (D.l 1)) (up (D.l 2)) (up q.w) (g1 q)
    = up fun i => (row D i).dout q 2 := by
  funext y; idx_vars y; exact v105 D q _ _

theorem c0 : val_main_v149 (F := Ideal) (up D.d) (up D.a) (up (D.o 0)) (up (D.o 1)) (up (D.o 2)) (up (D.l 0)) (up (D.l 1)) (up (D.l 2)) (up q.w) (g1 q)
    = up fun i => (row D i).term q 0 := by
  funext y; idx_vars y; exact v149 D q _ _

theorem c1 : val_main_v155 (F := Ideal) (up D.d) (up D.a) (up (D.o 0)) (up (D.o 1)) (up (D.o 2)) (up (D.l 0)) (up (D.l 1)) (up (D.l 2)) (up q.w) (g1 q)
    = up fun i => (row D i).term q 1 := by
  funext y; idx_vars y; exact v155 D q _ _

theorem c2 : val_main_v161 (F := Ideal) (up D.d) (up D.a) (up (D.o 0)) (up (D.o 1)) (up (D.o 2)) (up (D.l 0)) (up (D.l 1)) (up (D.l 2)) (up q.w) (g1 q)
    = up fun i => (row D i).term q 2 := by
  funext y; idx_vars y; exact v161 D q _ _

theorem dg : val_main_v73 (F := Ideal) (up D.d) (up D.a) (up (D.o 0)) (up (D.o 1)) (up (D.o 2)) (up (D.l 0)) (up (D.l 1)) (up (D.l 2)) (up q.w)
    = up fun (_ : Fin 1) j => ∑ i, (row D i).dg q j := by
  funext y; idx_vars y
  obtain rfl : y0 = 0 := Subsingleton.elim _ _
  exact v73 D q _

/-- The reference's arguments are the real numbers `D` and `q`. -/
structure Args (m : (ℓ : Loc nD τ sig) → Buf (Elt Ideal) ℓ) (c : Dev nD) : Prop where
  d : m ((c.tc : Thread nD τ).loc main_arg0) = (up D.d : FVec Ideal S8192x1024 .f32)
  a : m ((c.tc : Thread nD τ).loc main_arg1) = (up D.a : FVec Ideal S8192x256 .f32)
  o0 : m ((c.tc : Thread nD τ).loc main_arg2) = (up (D.o 0) : FVec Ideal S8192x256 .f32)
  o1 : m ((c.tc : Thread nD τ).loc main_arg3) = (up (D.o 1) : FVec Ideal S8192x256 .f32)
  o2 : m ((c.tc : Thread nD τ).loc main_arg4) = (up (D.o 2) : FVec Ideal S8192x256 .f32)
  l0 : m ((c.tc : Thread nD τ).loc main_arg5) = (up (D.l 0) : FVec Ideal S8192x4 .f32)
  l1 : m ((c.tc : Thread nD τ).loc main_arg6) = (up (D.l 1) : FVec Ideal S8192x4 .f32)
  l2 : m ((c.tc : Thread nD τ).loc main_arg7) = (up (D.l 2) : FVec Ideal S8192x4 .f32)
  w : m ((c.tc : Thread nD τ).loc main_arg8) = (up q.w : FVec Ideal S1024x1024 .f32)
  g : m ((c.tc : Thread nD τ).loc main_arg9) = g1 q

section
variable {m : (ℓ : Loc nD τ sig) → Buf (Elt Ideal) ℓ} {c : Dev nD} {D : Data} {q : Prm}

/-- The launch's contents, read at the arguments. -/
theorem Args.launch (a : Args D q m c) :
    launchContents m c (Proc.devRef .tc main_arg0) = (up D.d : FVec Ideal S8192x1024 .f32)
    ∧ launchContents m c (Proc.devRef .tc main_arg1) = (up D.a : FVec Ideal S8192x256 .f32)
    ∧ launchContents m c (Proc.devRef .tc main_arg2) = (up (D.o 0) : FVec Ideal S8192x256 .f32)
    ∧ launchContents m c (Proc.devRef .tc main_arg3) = (up (D.o 1) : FVec Ideal S8192x256 .f32)
    ∧ launchContents m c (Proc.devRef .tc main_arg4) = (up (D.o 2) : FVec Ideal S8192x256 .f32)
    ∧ launchContents m c (Proc.devRef .tc main_arg5) = (up (D.l 0) : FVec Ideal S8192x4 .f32)
    ∧ launchContents m c (Proc.devRef .tc main_arg6) = (up (D.l 1) : FVec Ideal S8192x4 .f32)
    ∧ launchContents m c (Proc.devRef .tc main_arg7) = (up (D.l 2) : FVec Ideal S8192x4 .f32)
    ∧ launchContents m c (Proc.devRef .tc main_arg8) = (up q.w : FVec Ideal S1024x1024 .f32)
    ∧ launchContents m c (Proc.devRef .tc main_arg9) = g1 q :=
  ⟨a.d, a.a, a.o0, a.o1, a.o2, a.l0, a.l1, a.l2, a.w, a.g⟩
end

/-- What the reference ends with, over real arguments. -/
theorem run_real (m : (ℓ : Loc nD τ sig) → Buf (Elt Ideal) ℓ) (ρ : Dev nD → PrngReg) (D : Dev nD → Data) (q : Dev nD → Prm)
    (a : ∀ c, Args (D c) (q c) m c) :
    θ_run (defs (F := Ideal)) (onTc (τ := τ) (main (F := Ideal))) ⟨m, fun _ => 0, ρ⟩ fun r => ∀ c : Dev nD,
      r.2.mem ((c.tc : Thread nD τ).loc main_v91) = (up fun i => (row (D c) i).dpool (q c) : FVec Ideal S8192x256 .f32)
      ∧ r.2.mem ((c.tc : Thread nD τ).loc main_v162) = (up fun i => (row (D c) i).dmix (q c) : FVec Ideal S8192x1024 .bf16)
      ∧ r.2.mem ((c.tc : Thread nD τ).loc main_v163) = (up fun i => (row (D c) i).dout (q c) 0 : FVec Ideal S8192x256 .bf16)
      ∧ r.2.mem ((c.tc : Thread nD τ).loc main_v115) = (up fun i => (row (D c) i).dout (q c) 1 : FVec Ideal S8192x256 .f32)
      ∧ r.2.mem ((c.tc : Thread nD τ).loc main_v105) = (up fun i => (row (D c) i).dout (q c) 2 : FVec Ideal S8192x256 .f32)
      ∧ r.2.mem ((c.tc : Thread nD τ).loc main_v149) = (up fun i => (row (D c) i).term (q c) 0 : FVec Ideal S8192x256 .f32)
      ∧ r.2.mem ((c.tc : Thread nD τ).loc main_v155) = (up fun i => (row (D c) i).term (q c) 1 : FVec Ideal S8192x256 .f32)
      ∧ r.2.mem ((c.tc : Thread nD τ).loc main_v161) = (up fun i => (row (D c) i).term (q c) 2 : FVec Ideal S8192x256 .f32)
      ∧ r.2.mem ((c.tc : Thread nD τ).loc main_v73)
        = (up fun (_ : Fin 1) j => ∑ i, (row (D c) i).dg (q c) j : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun r h c => by
    obtain ⟨h0, h1, h2, h3, h4, h5, h6, h7, h8, k⟩ := h c
    obtain ⟨a0, a1, a2, a3, a4, a5, a6, a7, a8, a9⟩ := (a c).launch
    refine ⟨h0.trans ?_, h1.trans ?_, h2.trans ?_, h3.trans ?_, h4.trans ?_, h5.trans ?_, h6.trans ?_, h7.trans ?_, h8.trans ?_, k⟩
    · rw [val_main_v91_eq (launchContents m c), a0, a1, a2, a3, a4, a5, a6, a7, a8, a9]; exact dpool _ _
    · rw [val_main_v162_eq (launchContents m c), a0, a1, a2, a3, a4, a5, a6, a7, a8, a9]; exact dmix _ _
    · rw [val_main_v163_eq (launchContents m c), a0, a1, a2, a3, a4, a5, a6, a7, a8, a9]; exact do0 _ _
    · rw [val_main_v115_eq (launchContents m c), a0, a1, a2, a3, a4, a5, a6, a7, a8, a9]; exact do1 _ _
    · rw [val_main_v105_eq (launchContents m c), a0, a1, a2, a3, a4, a5, a6, a7, a8, a9]; exact do2 _ _
    · rw [val_main_v149_eq (launchContents m c), a0, a1, a2, a3, a4, a5, a6, a7, a8, a9]; exact c0 _ _
    · rw [val_main_v155_eq (launchContents m c), a0, a1, a2, a3, a4, a5, a6, a7, a8, a9]; exact c1 _ _
    · rw [val_main_v161_eq (launchContents m c), a0, a1, a2, a3, a4, a5, a6, a7, a8, a9]; exact c2 _ _
    · rw [val_main_v73_eq (launchContents m c), a0, a1, a2, a3, a4, a5, a6, a7, a8]; exact dg _ _)
    (Cert.Reference5Ideal.Value.run m ρ)

end Cert.Model.Mix.Ref

end
-- ==== Proof.InpModel.lean ====
/- The gradient of the input projection and its normalisation over the real numbers, row by row. Both programs are shown
   to compute these functions of finite arguments. -/
module

public import proofs.«01_k».proof.Proof.Model

@[expose] public section

set_option maxRecDepth 16384

noncomputable section

namespace Cert.Model.Inp

open Idealize.ShloMosaic

/-- Both cases of a choice have one value. -/
theorem pick {c : Prop} [Decidable c] {a : c → EReal} {b : ¬c → EReal} {v : EReal} (h : ∀ u, a u = v) (h' : ∀ u, b u = v) : dite c a b = v := by
  split
  · exact h _
  · exact h' _

/-- The parameters: the projection and the normalisation's scale. -/
structure Prm where
  w : Fin 1024 → Fin 2560 → ℝ
  g : Fin 1024 → ℝ

/-- One row: the ten parts of the projection's cotangent, the normalisation's argument and the cotangent passed around it. -/
structure Row where
  p : Fin 10 → Fin 256 → ℝ
  x : Fin 1024 → ℝ
  d : Fin 1024 → ℝ

namespace Row
variable (r : Row) (q : Prm)

/-- The parts side by side. -/
def dz (k : Fin 2560) : ℝ := r.p ⟨k.val / 256, by omega⟩ ⟨k.val % 256, by omega⟩

/-- The cotangent of the normalised row. -/
def dh : Fin 1024 → ℝ := linT r.dz q.w

def dx (j : Fin 1024) : ℝ := r.d j + normBwd r.x q.g (r.dh q) j

/-- One row's part of the gradient of the scale. -/
def dg (j : Fin 1024) : ℝ := r.dh q j * (r.x j * inv r.x)

theorem dz_eq (k : Fin 2560) (a : Fin 10) (b : Fin 256) (h : k.val = a.val * 256 + b.val) : r.p a b = r.dz k := by
  have e : (⟨k.val / 256, by omega⟩ : Fin 10) = a := Fin.ext (by show k.val / 256 = a.val; omega)
  have f : (⟨k.val % 256, by omega⟩ : Fin 256) = b := Fin.ext (by show k.val % 256 = b.val; omega)
  unfold dz
  rw [e, f]

end Row

/-- The arguments of one device, for each of its rows. -/
structure Data where
  p : Fin 10 → Fin 8192 → Fin 256 → ℝ
  x : Fin 8192 → Fin 1024 → ℝ
  d : Fin 8192 → Fin 1024 → ℝ

/-- Row `i`. -/
def row (D : Data) (i : Fin 8192) : Row := ⟨fun k => D.p k i, D.x i, D.d i⟩

end Cert.Model.Inp

end
-- ==== Proof.InpFinite.lean ====
/- The input projection's precondition: arguments whose entries are all below infinity in absolute value are real arrays. -/
module

public import proofs.«01_k».proof.Proof.Gen.Pre_finite6
public import proofs.«01_k».proof.Proof.Finite
public import proofs.«01_k».proof.Proof.InpModel

@[expose] public section

set_option maxRecDepth 16384

noncomputable section

namespace Cert.Model.Inp.Finite

open Idealize.ShloMosaic Idealize.SL.Sem
open Cert.Pre_finite6 Cert.Model.Finite

theorem half_top : Ideal.ofBits .bf16 0x7F80#16 = (⊤ : EReal) := by
  simp [Ideal.ofBits, Ideal.ieee]

/-- A two-axis array of sixteen-bit entries below infinity is an array of real numbers. -/
theorem half_of_all {n p : ℕ} (X : FVec Ideal (⟨2, ![n, p]⟩ : Shape) .bf16)
    (hb : Cert.Pre_finite6.S_.BroadcastsInDim (⟨2, ![n, p]⟩ : Shape) ![])
    (h : ∀ i, cmpf .olt (Host.absf X) (broadcastInDim (⟨2, ![n, p]⟩ : Shape) ![] hb (constant Cert.Pre_finite6.S_ .bf16 0x7F80#16)) i = 1#1) :
    X = up fun i j => (X (ix2 i j)).toReal := by
  funext i
  have e : Ideal.cmp .olt (max (X i) (-(X i))) (Ideal.ofBits .bf16 0x7F80#16) = 1#1 := h i
  rw [half_top] at e
  obtain ⟨r, hr⟩ := real_of_lt _ e
  have hi : ix2 (i 0) (i 1) = i := by funext a; match a with | 0 => rfl | 1 => rfl
  refine Eq.trans ?_ (congrArg (fun k => (((X k : EReal).toReal : ℝ) : EReal)) hi.symm)
  show X i = (((X i : EReal).toReal : ℝ) : EReal)
  rw [hr, EReal.toReal_coe]

theorem reals (x0 x1 x2 x3 x4 x5 x6 x7 x8 x9 : FVec Ideal S8192x256 .bf16) (x10 x11 : FVec Ideal S8192x1024 .f32)
    (x12 : FVec Ideal S1x1024 .f32) (x13 : FVec Ideal S1024x2560 .f32)
    (h : Cert.Pre_finite6.fn (F := Ideal) x0 x1 x2 x3 x4 x5 x6 x7 x8 x9 x10 x11 x12 x13 = fun _ => 1#1) :
    ∃ (D : Data) (q : Prm), x0 = up (D.p 0) ∧ x1 = up (D.p 1) ∧ x2 = up (D.p 2) ∧ x3 = up (D.p 3) ∧ x4 = up (D.p 4) ∧ x5 = up (D.p 5) ∧ x6 = up (D.p 6) ∧ x7 = up (D.p 7) ∧ x8 = up (D.p 8) ∧ x9 = up (D.p 9)
      ∧ x10 = up D.x ∧ x11 = up D.d ∧ x12 = (up fun _ : Fin 1 => q.g) ∧ x13 = up q.w := by
  have e := congrFun h fun a => a.elim0
  dsimp only [Cert.Pre_finite6.fn, Cert.Pre_finite6.fn_part1, Cert.Pre_finite6.fn_part2, Cert.Pre_finite6.fn_part3, Cert.Pre_finite6.fn_part4] at e
  obtain ⟨e, e13⟩ := IntOp.andi_eq_one.1 e
  obtain ⟨e, e12⟩ := IntOp.andi_eq_one.1 e
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e, e0⟩ := IntOp.andi_eq_one.1 e
  haveI : Subsingleton Cert.Pre_finite6.S_.Idx := ⟨fun a b => funext fun k => k.elim0⟩
  have row : ∀ X : FVec Ideal S1x1024 .f32, X = (up fun i j => (X (ix2 i j)).toReal) → X = up fun _ : Fin 1 => fun j => (X (ix2 0 j)).toReal := by
    intro X hX
    refine hX.trans (congrArg up ?_)
    funext i
    rw [Subsingleton.elim i 0]
  exact ⟨⟨![fun i j => (x0 (ix2 i j)).toReal, fun i j => (x1 (ix2 i j)).toReal, fun i j => (x2 (ix2 i j)).toReal, fun i j => (x3 (ix2 i j)).toReal, fun i j => (x4 (ix2 i j)).toReal, fun i j => (x5 (ix2 i j)).toReal, fun i j => (x6 (ix2 i j)).toReal, fun i j => (x7 (ix2 i j)).toReal, fun i j => (x8 (ix2 i j)).toReal, fun i j => (x9 (ix2 i j)).toReal],
      fun i j => (x10 (ix2 i j)).toReal, fun i j => (x11 (ix2 i j)).toReal⟩,
    ⟨fun i j => (x13 (ix2 i j)).toReal, fun j => (x12 (ix2 0 j)).toReal⟩,
    half_of_all _ _ (Host.reduce_andi_all _ _ _ _ _ e0),
    half_of_all _ _ (Host.reduce_andi_all _ _ _ _ _ e1),
    half_of_all _ _ (Host.reduce_andi_all _ _ _ _ _ e2),
    half_of_all _ _ (Host.reduce_andi_all _ _ _ _ _ e3),
    half_of_all _ _ (Host.reduce_andi_all _ _ _ _ _ e4),
    half_of_all _ _ (Host.reduce_andi_all _ _ _ _ _ e5),
    half_of_all _ _ (Host.reduce_andi_all _ _ _ _ _ e6),
    half_of_all _ _ (Host.reduce_andi_all _ _ _ _ _ e7),
    half_of_all _ _ (Host.reduce_andi_all _ _ _ _ _ e8),
    half_of_all _ _ (Host.reduce_andi_all _ _ _ _ _ e9),
    up_of_all _ _ (Host.reduce_andi_all _ _ _ _ _ e10), up_of_all _ _ (Host.reduce_andi_all _ _ _ _ _ e11),
    row _ (up_of_all _ _ (Host.reduce_andi_all _ _ _ _ _ e12)), up_of_all _ _ (Host.reduce_andi_all _ _ _ _ _ e13)⟩

end Cert.Model.Inp.Finite

end
-- ==== Proof.InpPay.lean ====
/- What the kernel's body computes from real blocks in the input projection's gradient: 512 rows at a time, each the row
   functions of Proof/InpModel.lean. -/
module

public import proofs.«01_k».proof.Proof.Gen.Kernel6Ideal.Skeleton
public import proofs.«01_k».proof.Proof.InpModel

@[expose] public section

set_option maxRecDepth 16384

noncomputable section

namespace Cert.Model.Inp.Pay

open Idealize.ShloMosaic Idealize.ShloMosaic.TcCoe Idealize.SL.Sem
open Cert.Kernel6Ideal Cert.Kernel6Ideal.Gen

variable (q : Prm) (r : Fin 512 → Row) (p : Fin 512)

/-- The blocks the body reads. -/
abbrev pB (k : Fin 10) : FVec Ideal S512x256 .bf16 := up fun p => (r p).p k
abbrev xB : FVec Ideal S512x1024 .f32 := up fun p => (r p).x
abbrev dB : FVec Ideal S512x1024 .f32 := up fun p => (r p).d
abbrev gB : FVec Ideal S1x1024 .f32 := up fun _ : Fin 1 => q.g
abbrev wB : FVec Ideal S2560x1024 .bf16 := up fun k j => q.w j k

/-- The parts side by side, as the body holds them. -/
abbrev zB : FVec Ideal S512x2560 .bf16 :=
  concatenate S512x2560 1 [⟨S512x256, pB r 0⟩, ⟨S512x256, pB r 1⟩, ⟨S512x256, pB r 2⟩, ⟨S512x256, pB r 3⟩, ⟨S512x256, pB r 4⟩, ⟨S512x256, pB r 5⟩, ⟨S512x256, pB r 6⟩, ⟨S512x256, pB r 7⟩, ⟨S512x256, pB r 8⟩, ⟨S512x256, pB r 9⟩]
    concatenates_S512x256_S512x256_S512x256_S512x256_S512x256_S512x256_S512x256_S512x256_S512x256_S512x256_S512x2560_d1

theorem join (k : Fin 2560) : zB r (ix2 p k) = (((r p).dz k : ℝ) : EReal) := by
  pointwise [up_ix2]
  exact pick (fun h0 => congrArg Real.toEReal ((r p).dz_eq k 0 _ (by show k.val = 0 * 256 + (k.val); omega))) fun h0 =>
    pick (fun h1 => congrArg Real.toEReal ((r p).dz_eq k 1 _ (by show k.val = 1 * 256 + (k.val - 256); omega))) fun h1 =>
    pick (fun h2 => congrArg Real.toEReal ((r p).dz_eq k 2 _ (by show k.val = 2 * 256 + (k.val - 256 - 256); omega))) fun h2 =>
    pick (fun h3 => congrArg Real.toEReal ((r p).dz_eq k 3 _ (by show k.val = 3 * 256 + (k.val - 256 - 256 - 256); omega))) fun h3 =>
    pick (fun h4 => congrArg Real.toEReal ((r p).dz_eq k 4 _ (by show k.val = 4 * 256 + (k.val - 256 - 256 - 256 - 256); omega))) fun h4 =>
    pick (fun h5 => congrArg Real.toEReal ((r p).dz_eq k 5 _ (by show k.val = 5 * 256 + (k.val - 256 - 256 - 256 - 256 - 256); omega))) fun h5 =>
    pick (fun h6 => congrArg Real.toEReal ((r p).dz_eq k 6 _ (by show k.val = 6 * 256 + (k.val - 256 - 256 - 256 - 256 - 256 - 256); omega))) fun h6 =>
    pick (fun h7 => congrArg Real.toEReal ((r p).dz_eq k 7 _ (by show k.val = 7 * 256 + (k.val - 256 - 256 - 256 - 256 - 256 - 256 - 256); omega))) fun h7 =>
    pick (fun h8 => congrArg Real.toEReal ((r p).dz_eq k 8 _ (by show k.val = 8 * 256 + (k.val - 256 - 256 - 256 - 256 - 256 - 256 - 256 - 256); omega))) fun h8 =>
    congrArg Real.toEReal ((r p).dz_eq k 9 _ (by show k.val = 9 * 256 + (k.val - 256 - 256 - 256 - 256 - 256 - 256 - 256 - 256 - 256); omega))

abbrev hB : FVec Ideal S512x1024 .f32 := k0_pay4 (F := Ideal) (pB r 0) (pB r 1) (pB r 2) (pB r 3) (pB r 4) (pB r 5) (pB r 6) (pB r 7) (pB r 8) (pB r 9) (wB q)
abbrev nB : FVec Ideal S512x1024 .f32 := k0_pay6 (F := Ideal) (xB r)

theorem pay4 (j : Fin 1024) : hB q r (ix2 p j) = (((r p).dh q j : ℝ) : EReal) := by
  pointwise [k0_pay4, join, up_ix2]
  simp only [← EReal.coe_mul, coe_sum]
  rfl

theorem pay5 : k0_pay5 (F := Ideal) (xB r) (ix2 p 0) = ((inv (r p).x : ℝ) : EReal) := by
  pointwise [k0_pay5, up_ix2]
  simp only [eps_bits, width_bits, ← EReal.coe_mul, coe_sum, zero_add, div_real (show (1024 : ℝ) ≠ 0 by norm_num), ← EReal.coe_add]
  exact rsqrt_real (ms_pos _)

theorem pay6 (j : Fin 1024) : nB r (ix2 p j) = (((r p).x j * inv (r p).x : ℝ) : EReal) := by
  pointwise [k0_pay6, pay5, up_ix2]
  rw [← EReal.coe_mul]

theorem pay7 (j : Fin 1024) : k0_pay7 (F := Ideal) (pB r 0) (pB r 1) (pB r 2) (pB r 3) (pB r 4) (pB r 5) (pB r 6) (pB r 7) (pB r 8) (pB r 9) (wB q) (gB q) (ix2 p j) = (((r p).dh q j * q.g j : ℝ) : EReal) := by
  pointwise [k0_pay7, pay4, up_ix2]
  rw [← EReal.coe_mul]

theorem pay1 (j : Fin 1024) : k0_pay1 (F := Ideal) (k0_pay5 (F := Ideal) (xB r)) (nB r)
    (k0_pay7 (F := Ideal) (pB r 0) (pB r 1) (pB r 2) (pB r 3) (pB r 4) (pB r 5) (pB r 6) (pB r 7) (pB r 8) (pB r 9) (wB q) (gB q))
    (k0_pay8 (F := Ideal) (pB r 0) (pB r 1) (pB r 2) (pB r 3) (pB r 4) (pB r 5) (pB r 6) (pB r 7) (pB r 8) (pB r 9) (wB q) (xB r) (gB q)) (dB r) (ix2 p j) = (((r p).dx q j : ℝ) : EReal) := by
  pointwise [k0_pay1, k0_pay8, pay7, pay6, pay5, up_ix2]
  simp only [width_bits, ← EReal.coe_mul, coe_sum, zero_add, div_real (show (1024 : ℝ) ≠ 0 by norm_num), ← EReal.coe_sub, ← EReal.coe_add]
  rfl

theorem pay3 (Y : FVec Ideal S1x1024 .f32) (j : Fin 1024) : k0_pay3 (F := Ideal) (hB q r) (nB r) Y (ix2 0 j)
    = (Y (ix2 0 j) + ((∑ p, (r p).dg q j : ℝ) : EReal) : EReal) := by
  pointwise [k0_pay3, pay4, pay6]
  simp only [← EReal.coe_mul, coe_sum, zero_add]
  rfl

theorem pay2 (j : S1x1024.Idx) : k0_pay2 (F := Ideal) j = (0 : EReal) := by
  pointwise [k0_pay2]

end Cert.Model.Inp.Pay

end
-- ==== Proof.InpFinal.lean ====
/- The results of the input projection's gradient over real arguments. -/
module

public import proofs.«01_k».proof.Proof.Gen.Kernel6Ideal.Value
public import Idealize.ShloMosaic.Lib.Pipeline.ValueKit
public import Idealize.ShloMosaic.Lib.Claim
public import proofs.«01_k».proof.Proof.InpPay

@[expose] public section

set_option maxRecDepth 65536

noncomputable section

namespace Cert.Model.Inp.Final

open Idealize.ShloMosaic Idealize.ShloMosaic.TcCoe Idealize.SL.Sem
open Cert.Kernel6Ideal Cert.Kernel6Ideal.Gen

theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![t.val, 0]
    ∧ win0_10.index t = ![t.val, 0]
    ∧ win0_11.index t = ![t.val, 0]
    ∧ win0_12.index t = ![0, 0]
    ∧ win0_13.index t = ![0, 0]
    ∧ win0_14.index t = ![t.val, 0]
    ∧ win0_15.index t = ![0, 0] :=
  (by decide +kernel : ∀ t : Fin grid0.N, _)

/-- Row `p` of the block of point `t`. -/
def rowAt (t : Fin cfg0.N) (p : Fin 512) : Fin 8192 :=
  ⟨t.val * 512 + p.val, by have := lt_of_lt_of_eq t.isLt (show cfg0.N = 16 from N_0); have := p.isLt; omega⟩

/-- The arguments are the real numbers `D` and `q`. -/
structure Args (m : (ℓ : Loc nD τ sig) → Buf (Elt Ideal) ℓ) (c : Dev nD) (D : Data) (q : Prm) : Prop where
  p0 : m ((c : Thread nD τ).loc main_arg0) = (up (D.p 0) : FVec Ideal S8192x256 .bf16)
  p1 : m ((c : Thread nD τ).loc main_arg1) = (up (D.p 1) : FVec Ideal S8192x256 .bf16)
  p2 : m ((c : Thread nD τ).loc main_arg2) = (up (D.p 2) : FVec Ideal S8192x256 .bf16)
  p3 : m ((c : Thread nD τ).loc main_arg3) = (up (D.p 3) : FVec Ideal S8192x256 .bf16)
  p4 : m ((c : Thread nD τ).loc main_arg4) = (up (D.p 4) : FVec Ideal S8192x256 .bf16)
  p5 : m ((c : Thread nD τ).loc main_arg5) = (up (D.p 5) : FVec Ideal S8192x256 .bf16)
  p6 : m ((c : Thread nD τ).loc main_arg6) = (up (D.p 6) : FVec Ideal S8192x256 .bf16)
  p7 : m ((c : Thread nD τ).loc main_arg7) = (up (D.p 7) : FVec Ideal S8192x256 .bf16)
  p8 : m ((c : Thread nD τ).loc main_arg8) = (up (D.p 8) : FVec Ideal S8192x256 .bf16)
  p9 : m ((c : Thread nD τ).loc main_arg9) = (up (D.p 9) : FVec Ideal S8192x256 .bf16)
  x : m ((c : Thread nD τ).loc main_arg10) = (up D.x : FVec Ideal S8192x1024 .f32)
  d : m ((c : Thread nD τ).loc main_arg11) = (up D.d : FVec Ideal S8192x1024 .f32)
  g : m ((c : Thread nD τ).loc main_arg12) = (up (fun _ : Fin 1 => q.g) : FVec Ideal S1x1024 .f32)
  w : m ((c : Thread nD τ).loc main_arg13) = (up q.w : FVec Ideal S1024x2560 .f32)

/-- The projection transposed, as the host code prepares it. -/
def flip (w : FVec Ideal S1024x2560 .f32) : FVec Ideal S2560x1024 .bf16 :=
  truncf .bf16 (transpose S2560x1024 [1, 0] w transposes_S1024x2560_S2560x1024_1_0) bitsLt_bf16_f32

theorem V1 (m : (ℓ : Loc nD τ sig) → Buf (Elt Ideal) ℓ) (c : Dev nD) : V m c main_v1 = flip (m ((c : Thread nD τ).loc main_arg13)) := by
  unfold V
  simp only [hostOps0]
  after_results_simp
  rfl

theorem flip_real (w : Fin 1024 → Fin 2560 → ℝ) : flip (up w) = up fun k j => w j k := by
  funext y
  idx_vars y
  pointwise [flip, up_ix2]

variable {m : (ℓ : Loc nD τ sig) → Buf (Elt Ideal) ℓ} {c : Dev nD} {D : Data} {q : Prm}

theorem blk0 (h : Args m c D q) (t : Fin cfg0.N) : iblk m c 0 t = Pay.pB (fun p => row D (rowAt t p)) 0 := by
  funext y
  have e : V m c main_arg0 = (up (D.p 0) : FVec Ideal S8192x256 .bf16) := (V_main_arg0 m c).trans h.p0
  blk_simp [iblk, idx t]
  rw [e]
  refine congrArg Real.toEReal (congrArg₂ (D.p 0) (Fin.ext ?_) (Fin.ext ?_)) <;> blk_simp [idx t, rowAt]

theorem blk1 (h : Args m c D q) (t : Fin cfg0.N) : iblk m c 1 t = Pay.pB (fun p => row D (rowAt t p)) 1 := by
  funext y
  have e : V m c main_arg1 = (up (D.p 1) : FVec Ideal S8192x256 .bf16) := (V_main_arg1 m c).trans h.p1
  blk_simp [iblk, idx t]
  rw [e]
  refine congrArg Real.toEReal (congrArg₂ (D.p 1) (Fin.ext ?_) (Fin.ext ?_)) <;> blk_simp [idx t, rowAt]

theorem blk2 (h : Args m c D q) (t : Fin cfg0.N) : iblk m c 2 t = Pay.pB (fun p => row D (rowAt t p)) 2 := by
  funext y
  have e : V m c main_arg2 = (up (D.p 2) : FVec Ideal S8192x256 .bf16) := (V_main_arg2 m c).trans h.p2
  blk_simp [iblk, idx t]
  rw [e]
  refine congrArg Real.toEReal (congrArg₂ (D.p 2) (Fin.ext ?_) (Fin.ext ?_)) <;> blk_simp [idx t, rowAt]

theorem blk3 (h : Args m c D q) (t : Fin cfg0.N) : iblk m c 3 t = Pay.pB (fun p => row D (rowAt t p)) 3 := by
  funext y
  have e : V m c main_arg3 = (up (D.p 3) : FVec Ideal S8192x256 .bf16) := (V_main_arg3 m c).trans h.p3
  blk_simp [iblk, idx t]
  rw [e]
  refine congrArg Real.toEReal (congrArg₂ (D.p 3) (Fin.ext ?_) (Fin.ext ?_)) <;> blk_simp [idx t, rowAt]

theorem blk4 (h : Args m c D q) (t : Fin cfg0.N) : iblk m c 4 t = Pay.pB (fun p => row D (rowAt t p)) 4 := by
  funext y
  have e : V m c main_arg4 = (up (D.p 4) : FVec Ideal S8192x256 .bf16) := (V_main_arg4 m c).trans h.p4
  blk_simp [iblk, idx t]
  rw [e]
  refine congrArg Real.toEReal (congrArg₂ (D.p 4) (Fin.ext ?_) (Fin.ext ?_)) <;> blk_simp [idx t, rowAt]

theorem blk5 (h : Args m c D q) (t : Fin cfg0.N) : iblk m c 5 t = Pay.pB (fun p => row D (rowAt t p)) 5 := by
  funext y
  have e : V m c main_arg5 = (up (D.p 5) : FVec Ideal S8192x256 .bf16) := (V_main_arg5 m c).trans h.p5
  blk_simp [iblk, idx t]
  rw [e]
  refine congrArg Real.toEReal (congrArg₂ (D.p 5) (Fin.ext ?_) (Fin.ext ?_)) <;> blk_simp [idx t, rowAt]

theorem blk6 (h : Args m c D q) (t : Fin cfg0.N) : iblk m c 6 t = Pay.pB (fun p => row D (rowAt t p)) 6 := by
  funext y
  have e : V m c main_arg6 = (up (D.p 6) : FVec Ideal S8192x256 .bf16) := (V_main_arg6 m c).trans h.p6
  blk_simp [iblk, idx t]
  rw [e]
  refine congrArg Real.toEReal (congrArg₂ (D.p 6) (Fin.ext ?_) (Fin.ext ?_)) <;> blk_simp [idx t, rowAt]

theorem blk7 (h : Args m c D q) (t : Fin cfg0.N) : iblk m c 7 t = Pay.pB (fun p => row D (rowAt t p)) 7 := by
  funext y
  have e : V m c main_arg7 = (up (D.p 7) : FVec Ideal S8192x256 .bf16) := (V_main_arg7 m c).trans h.p7
  blk_simp [iblk, idx t]
  rw [e]
  refine congrArg Real.toEReal (congrArg₂ (D.p 7) (Fin.ext ?_) (Fin.ext ?_)) <;> blk_simp [idx t, rowAt]

theorem blk8 (h : Args m c D q) (t : Fin cfg0.N) : iblk m c 8 t = Pay.pB (fun p => row D (rowAt t p)) 8 := by
  funext y
  have e : V m c main_arg8 = (up (D.p 8) : FVec Ideal S8192x256 .bf16) := (V_main_arg8 m c).trans h.p8
  blk_simp [iblk, idx t]
  rw [e]
  refine congrArg Real.toEReal (congrArg₂ (D.p 8) (Fin.ext ?_) (Fin.ext ?_)) <;> blk_simp [idx t, rowAt]

theorem blk9 (h : Args m c D q) (t : Fin cfg0.N) : iblk m c 9 t = Pay.pB (fun p => row D (rowAt t p)) 9 := by
  funext y
  have e : V m c main_arg9 = (up (D.p 9) : FVec Ideal S8192x256 .bf16) := (V_main_arg9 m c).trans h.p9
  blk_simp [iblk, idx t]
  rw [e]
  refine congrArg Real.toEReal (congrArg₂ (D.p 9) (Fin.ext ?_) (Fin.ext ?_)) <;> blk_simp [idx t, rowAt]

theorem blk10 (h : Args m c D q) (t : Fin cfg0.N) : iblk m c 10 t = Pay.xB (fun p => row D (rowAt t p)) := by
  funext y
  have e : V m c main_arg10 = (up D.x : FVec Ideal S8192x1024 .f32) := (V_main_arg10 m c).trans h.x
  blk_simp [iblk, idx t]
  rw [e]
  refine congrArg Real.toEReal (congrArg₂ D.x (Fin.ext ?_) (Fin.ext ?_)) <;> blk_simp [idx t, rowAt]

theorem blk11 (h : Args m c D q) (t : Fin cfg0.N) : iblk m c 11 t = Pay.dB (fun p => row D (rowAt t p)) := by
  funext y
  have e : V m c main_arg11 = (up D.d : FVec Ideal S8192x1024 .f32) := (V_main_arg11 m c).trans h.d
  blk_simp [iblk, idx t]
  rw [e]
  refine congrArg Real.toEReal (congrArg₂ D.d (Fin.ext ?_) (Fin.ext ?_)) <;> blk_simp [idx t, rowAt]

theorem blk12 (h : Args m c D q) (t : Fin cfg0.N) : iblk m c 12 t = Pay.gB q := by
  funext y
  have e : V m c main_arg12 = (up (fun _ : Fin 1 => q.g) : FVec Ideal S1x1024 .f32) := (V_main_arg12 m c).trans h.g
  blk_simp [iblk, idx t]
  rw [e]
  refine congrArg Real.toEReal (congrArg q.g (Fin.ext ?_)) <;> blk_simp [idx t, rowAt]

theorem blk13 (h : Args m c D q) (t : Fin cfg0.N) : iblk m c 13 t = Pay.wB q := by
  funext y
  have e : V m c main_v1 = (up (fun k j => q.w j k) : FVec Ideal S2560x1024 .bf16) := by rw [V1, h.w]; exact flip_real _
  blk_simp [iblk, idx t]
  rw [e]
  refine congrArg Real.toEReal (congrArg₂ (fun k j => q.w j k) (Fin.ext ?_) (Fin.ext ?_)) <;> blk_simp [idx t, rowAt]

theorem at14 (q : Prm) (r : Fin 512 → Row) (y : S512x1024.Idx) : k0_pay1 (F := Ideal) (k0_pay5 (F := Ideal) (Pay.xB r)) (Pay.nB r)
    (k0_pay7 (F := Ideal) (Pay.pB r 0) (Pay.pB r 1) (Pay.pB r 2) (Pay.pB r 3) (Pay.pB r 4) (Pay.pB r 5) (Pay.pB r 6) (Pay.pB r 7) (Pay.pB r 8) (Pay.pB r 9) (Pay.wB q) (Pay.gB q))
    (k0_pay8 (F := Ideal) (Pay.pB r 0) (Pay.pB r 1) (Pay.pB r 2) (Pay.pB r 3) (Pay.pB r 4) (Pay.pB r 5) (Pay.pB r 6) (Pay.pB r 7) (Pay.pB r 8) (Pay.pB r 9) (Pay.wB q) (Pay.xB r) (Pay.gB q)) (Pay.dB r) y
    = (((r (y 0)).dx q (y 1) : ℝ) : EReal) := by
  idx_vars y
  exact Pay.pay1 q r _ _

theorem at15 (q : Prm) (r : Fin 512 → Row) (Y : FVec Ideal S1x1024 .f32) (y : S1x1024.Idx) :
    k0_pay3 (F := Ideal) (Pay.hB q r) (Pay.nB r) Y y = (Y y + ((∑ p, (r p).dg q (y 1) : ℝ) : EReal) : EReal) := by
  idx_vars y
  obtain rfl : y0 = 0 := Subsingleton.elim _ _
  exact Pay.pay3 q r Y _

theorem final14 (h : Args m c D q) : (dats m 0 c).arrAt 14 (cfgs 0).N = (up fun i => (row D i).dx q : FVec Ideal S8192x1024 .f32) := by
  refine (dats m 0 c).arrAt_eq_of_covers 14 _ (by decide +kernel) fun t _ y => ?_
  blk_simp
  rw [after0_14]
  by_cases ht : t.val % 16 = 0
  · rw [outsAt0_A m c t ht]
    frame_out
    simp only [blk0 h, blk1 h, blk2 h, blk3 h, blk4 h, blk5 h, blk6 h, blk7 h, blk8 h, blk9 h, blk10 h, blk11 h, blk12 h, blk13 h]
    refine (at14 q _ y).trans (congrArg Real.toEReal (congrArg₂ (fun i => (row D i).dx q) (Fin.ext ?_) (Fin.ext ?_))) <;> blk_simp [idx t, rowAt]
  · rw [outsAt0_B m c t ht]
    frame_out
    simp only [blk0 h, blk1 h, blk2 h, blk3 h, blk4 h, blk5 h, blk6 h, blk7 h, blk8 h, blk9 h, blk10 h, blk11 h, blk12 h, blk13 h]
    refine (at14 q _ y).trans (congrArg Real.toEReal (congrArg₂ (fun i => (row D i).dx q) (Fin.ext ?_) (Fin.ext ?_))) <;> blk_simp [idx t, rowAt]

/-- The 16 points' parts, 512 rows each, are the sum over all rows. -/
theorem sum_rows (f : Fin 8192 → ℝ) : (∑ s : Fin 16, ((∑ p : Fin 512, f ⟨s.val * 512 + p.val, by omega⟩ : ℝ) : EReal)) = ((∑ i, f i : ℝ) : EReal) := by
  rw [coe_sum]
  refine congrArg _ ?_
  exact Fin.sum_mul_add_fin 16 512 f

theorem final15 (h : Args m c D q) : (dats m 0 c).arrAt 15 (cfgs 0).N
    = (up fun (_ : Fin 1) j => ∑ i, (row D i).dg q j : FVec Ideal S1x1024 .f32) := by
  refine (dats m 0 c).arrAt_eq_of_covers 15 _ (by decide +kernel) fun t hf y => ?_
  blk_simp
  rw [after0_15, Pipeline.eq_sum_fin_of_reset_step_apply_of_flush (fun n h => (outsAt0 m c n h).2) 16 (fun _ => 0)
    (fun t j => ((∑ p, (row D (rowAt t p)).dg q (j 1) : ℝ) : EReal))
    (fun t ht j => by
      rw [outsAt0_A m c t ht]; frame_out
      simp only [blk0 h, blk1 h, blk2 h, blk3 h, blk4 h, blk5 h, blk6 h, blk7 h, blk8 h, blk9 h, blk10 h, blk11 h, blk12 h, blk13 h]
      rw [at15, Pay.pay2])
    (fun t ht j => by
      rw [outsAt0_B m c t ht]; frame_out
      simp only [blk0 h, blk1 h, blk2 h, blk3 h, blk4 h, blk5 h, blk6 h, blk7 h, blk8 h, blk9 h, blk10 h, blk11 h, blk12 h, blk13 h]
      rw [at15])
    t ((flush0_15 t).mp hf) _, zero_add]
  have ht : t.val / 16 = 0 := by have := lt_of_lt_of_eq t.isLt (show cfg0.grid.N = 16 from N_0); omega
  refine Eq.trans ?_ ((sum_rows fun i => (row D i).dg q (y 1)).trans ?_)
  · refine Fin.sum_fin_congr fun s => congrArg Real.toEReal (Finset.sum_congr rfl fun p _ => ?_)
    have e : rowAt ⟨16 * (t.val / 16) + s.val, Pipeline.run_point_lt_of_flush t ((flush0_15 t).mp hf) s⟩ p = ⟨s.val * 512 + p.val, by omega⟩ := Fin.ext (by
      show (16 * (t.val / 16) + s.val) * 512 + p.val = _
      rw [ht]; simp)
    exact congrArg (fun i => (row D i).dg q (y 1)) e
  · refine congrArg Real.toEReal (Finset.sum_congr rfl fun i _ => congrArg ((row D i).dg q) (Fin.ext ?_))
    blk_simp [idx t]

end Cert.Model.Inp.Final

end
-- ==== Proof.InpRef.lean ====
/- The reference program of the input projection's gradient over finite arguments: each value it computes is the row
   function of Proof/InpModel.lean. -/
module

public import proofs.«01_k».proof.Proof.Gen.Reference6Ideal.Read
public import proofs.«01_k».proof.Proof.Gen.Reference6Ideal.Run
public import proofs.«01_k».proof.Proof.InpModel

@[expose] public section

set_option maxRecDepth 16384

noncomputable section

namespace Cert.Model.Inp.Ref

open Idealize.ShloMosaic Idealize.ShloMosaic.TcCoe Idealize.SL.Sem
open Idealize.ShloMosaic.StableHlo Cert.Reference6Ideal Cert.Reference6Ideal.Gen Cert.Reference6Ideal.Read

variable (D : Data) (q : Prm) (i : Fin 8192)

abbrev g1 : FVec Ideal S1x1024 .f32 := up fun _ : Fin 1 => q.g

theorem v10 (k : Fin 2560) : val_main_v10 (F := Ideal) (up (D.p 0)) (up (D.p 1)) (up (D.p 2)) (up (D.p 3)) (up (D.p 4)) (up (D.p 5)) (up (D.p 6)) (up (D.p 7)) (up (D.p 8)) (up (D.p 9)) (ix2 i k) = (((row D i).dz k : ℝ) : EReal) := by
  pointwise [val_main_v10, val_main_v0, val_main_v1, val_main_v2, val_main_v3, val_main_v4, val_main_v5, val_main_v6, val_main_v7, val_main_v8, val_main_v9, up_ix2]
  exact pick (fun h0 => congrArg Real.toEReal ((row D i).dz_eq k 0 _ (by show k.val = 0 * 256 + (k.val); omega))) fun h0 =>
    pick (fun h1 => congrArg Real.toEReal ((row D i).dz_eq k 1 _ (by show k.val = 1 * 256 + (k.val - 256); omega))) fun h1 =>
    pick (fun h2 => congrArg Real.toEReal ((row D i).dz_eq k 2 _ (by show k.val = 2 * 256 + (k.val - 256 - 256); omega))) fun h2 =>
    pick (fun h3 => congrArg Real.toEReal ((row D i).dz_eq k 3 _ (by show k.val = 3 * 256 + (k.val - 256 - 256 - 256); omega))) fun h3 =>
    pick (fun h4 => congrArg Real.toEReal ((row D i).dz_eq k 4 _ (by show k.val = 4 * 256 + (k.val - 256 - 256 - 256 - 256); omega))) fun h4 =>
    pick (fun h5 => congrArg Real.toEReal ((row D i).dz_eq k 5 _ (by show k.val = 5 * 256 + (k.val - 256 - 256 - 256 - 256 - 256); omega))) fun h5 =>
    pick (fun h6 => congrArg Real.toEReal ((row D i).dz_eq k 6 _ (by show k.val = 6 * 256 + (k.val - 256 - 256 - 256 - 256 - 256 - 256); omega))) fun h6 =>
    pick (fun h7 => congrArg Real.toEReal ((row D i).dz_eq k 7 _ (by show k.val = 7 * 256 + (k.val - 256 - 256 - 256 - 256 - 256 - 256 - 256); omega))) fun h7 =>
    pick (fun h8 => congrArg Real.toEReal ((row D i).dz_eq k 8 _ (by show k.val = 8 * 256 + (k.val - 256 - 256 - 256 - 256 - 256 - 256 - 256 - 256); omega))) fun h8 =>
    congrArg Real.toEReal ((row D i).dz_eq k 9 _ (by show k.val = 9 * 256 + (k.val - 256 - 256 - 256 - 256 - 256 - 256 - 256 - 256 - 256); omega))

theorem v27 (j : Fin 1024) : val_main_v27 (F := Ideal) (up (D.p 0)) (up (D.p 1)) (up (D.p 2)) (up (D.p 3)) (up (D.p 4)) (up (D.p 5)) (up (D.p 6)) (up (D.p 7)) (up (D.p 8)) (up (D.p 9)) (up q.w) (ix2 i j) = (((row D i).dh q j : ℝ) : EReal) := by
  pointwise [val_main_v27, v10, up_ix2]
  simp only [← EReal.coe_mul, coe_sum]; rfl

theorem v17 : val_main_v17 (F := Ideal) (up D.x) (ix2 i 0) = ((ms (D.x i) : ℝ) : EReal) := by
  pointwise [val_main_v17, val_main_v16, val_main_cst_1, val_main_v15, val_main_v14, val_main_cst_0, val_main_v13, val_main_v12,
    val_main_cst, val_main_v11, up_ix2]
  simp only [eps_bits, width_bits, ← EReal.coe_mul, coe_sum, zero_add, div_real (show (1024 : ℝ) ≠ 0 by norm_num), ← EReal.coe_add]
  rfl

theorem v18 : val_main_v18 (F := Ideal) (up D.x) (ix2 i 0) = ((inv (D.x i) : ℝ) : EReal) := by
  pointwise [val_main_v18, v17]
  exact rsqrt_real (ms_pos _)

theorem v21 : val_main_v21 (F := Ideal) (up D.x) (ix2 i 0) = ((-(1 / 2) * (inv (D.x i) / ms (D.x i)) : ℝ) : EReal) := by
  pointwise [val_main_v21, val_main_v20, val_main_v19, val_main_cst_2, v18, v17]
  rw [neg_half_bits, div_real (ms_pos _).ne', ← EReal.coe_mul]

theorem v30 (j : Fin 1024) : val_main_v30 (F := Ideal) (up (D.p 0)) (up (D.p 1)) (up (D.p 2)) (up (D.p 3)) (up (D.p 4)) (up (D.p 5)) (up (D.p 6)) (up (D.p 7)) (up (D.p 8)) (up (D.p 9)) (up D.x) (up q.w) (ix2 0 j) = ((∑ i, (row D i).dg q j : ℝ) : EReal) := by
  pointwise [val_main_v30, val_main_v29, val_main_cst_3, val_main_v28, val_main_v23, val_main_v22, v27, v18, up_ix2]
  simp only [← EReal.coe_mul, coe_sum, zero_add]
  exact congrArg _ (Finset.sum_congr rfl fun i _ => mul_comm _ _)

theorem v32 (j : Fin 1024) : val_main_v32 (F := Ideal) (up (D.p 0)) (up (D.p 1)) (up (D.p 2)) (up (D.p 3)) (up (D.p 4)) (up (D.p 5)) (up (D.p 6)) (up (D.p 7)) (up (D.p 8)) (up (D.p 9)) (g1 q) (up q.w) (ix2 i j) = (((row D i).dh q j * q.g j : ℝ) : EReal) := by
  pointwise [val_main_v32, val_main_v31, v27, up_ix2]
  rw [← EReal.coe_mul]

theorem v43 (j : Fin 1024) : val_main_v43 (F := Ideal) (up (D.p 0)) (up (D.p 1)) (up (D.p 2)) (up (D.p 3)) (up (D.p 4)) (up (D.p 5)) (up (D.p 6)) (up (D.p 7)) (up (D.p 8)) (up (D.p 9)) (up D.x) (g1 q) (up q.w) (ix2 i j)
    = (((∑ k, D.x i k * ((row D i).dh q k * q.g k)) * (-(1 / 2) * (inv (D.x i) / ms (D.x i))) / 1024 : ℝ) : EReal) := by
  pointwise [val_main_v43, val_main_v42, val_main_cst_6, val_main_v41, val_main_v40, val_main_cst_5, val_main_v39, val_main_v35,
    val_main_v34, val_main_cst_4, val_main_v33, v32, v21, up_ix2]
  simp only [width_bits, Fin.sum_univ_one, v21, ← EReal.coe_mul, coe_sum, zero_add, div_real (show (1024 : ℝ) ≠ 0 by norm_num)]

theorem v47 (j : Fin 1024) : val_main_v47 (F := Ideal) (up (D.p 0)) (up (D.p 1)) (up (D.p 2)) (up (D.p 3)) (up (D.p 4)) (up (D.p 5)) (up (D.p 6)) (up (D.p 7)) (up (D.p 8)) (up (D.p 9)) (up D.x) (up D.d) (g1 q) (up q.w) (ix2 i j) = (((row D i).dx q j : ℝ) : EReal) := by
  pointwise [val_main_v47, val_main_v46, val_main_v45, val_main_v44, val_main_v38, val_main_v37, val_main_v36, v43, v32, v18, up_ix2]
  simp only [← EReal.coe_mul, ← EReal.coe_add]
  refine congrArg _ (Eq.trans ?_ (congrArg (D.d i j + ·) (normBwd_ad (D.x i) q.g ((row D i).dh q) j _ rfl)))
  simp only [add_assoc]

theorem dx : val_main_v47 (F := Ideal) (up (D.p 0)) (up (D.p 1)) (up (D.p 2)) (up (D.p 3)) (up (D.p 4)) (up (D.p 5)) (up (D.p 6)) (up (D.p 7)) (up (D.p 8)) (up (D.p 9)) (up D.x) (up D.d) (g1 q) (up q.w) = up fun i => (row D i).dx q := by
  funext y; idx_vars y; exact v47 D q _ _

theorem dg : val_main_v30 (F := Ideal) (up (D.p 0)) (up (D.p 1)) (up (D.p 2)) (up (D.p 3)) (up (D.p 4)) (up (D.p 5)) (up (D.p 6)) (up (D.p 7)) (up (D.p 8)) (up (D.p 9)) (up D.x) (up q.w) = up fun (_ : Fin 1) j => ∑ i, (row D i).dg q j := by
  funext y; idx_vars y
  obtain rfl : y0 = 0 := Subsingleton.elim _ _
  exact v30 D q _

/-- The reference's arguments are the real numbers `D` and `q`. -/
structure Args (m : (ℓ : Loc nD τ sig) → Buf (Elt Ideal) ℓ) (c : Dev nD) : Prop where
  p0 : m ((c.tc : Thread nD τ).loc main_arg0) = (up (D.p 0) : FVec Ideal S8192x256 .bf16)
  p1 : m ((c.tc : Thread nD τ).loc main_arg1) = (up (D.p 1) : FVec Ideal S8192x256 .bf16)
  p2 : m ((c.tc : Thread nD τ).loc main_arg2) = (up (D.p 2) : FVec Ideal S8192x256 .bf16)
  p3 : m ((c.tc : Thread nD τ).loc main_arg3) = (up (D.p 3) : FVec Ideal S8192x256 .bf16)
  p4 : m ((c.tc : Thread nD τ).loc main_arg4) = (up (D.p 4) : FVec Ideal S8192x256 .bf16)
  p5 : m ((c.tc : Thread nD τ).loc main_arg5) = (up (D.p 5) : FVec Ideal S8192x256 .bf16)
  p6 : m ((c.tc : Thread nD τ).loc main_arg6) = (up (D.p 6) : FVec Ideal S8192x256 .bf16)
  p7 : m ((c.tc : Thread nD τ).loc main_arg7) = (up (D.p 7) : FVec Ideal S8192x256 .bf16)
  p8 : m ((c.tc : Thread nD τ).loc main_arg8) = (up (D.p 8) : FVec Ideal S8192x256 .bf16)
  p9 : m ((c.tc : Thread nD τ).loc main_arg9) = (up (D.p 9) : FVec Ideal S8192x256 .bf16)
  x : m ((c.tc : Thread nD τ).loc main_arg10) = (up D.x : FVec Ideal S8192x1024 .f32)
  d : m ((c.tc : Thread nD τ).loc main_arg11) = (up D.d : FVec Ideal S8192x1024 .f32)
  g : m ((c.tc : Thread nD τ).loc main_arg12) = g1 q
  w : m ((c.tc : Thread nD τ).loc main_arg13) = (up q.w : FVec Ideal S1024x2560 .f32)

/-- What the reference ends with, over real arguments. -/
theorem run_real (m : (ℓ : Loc nD τ sig) → Buf (Elt Ideal) ℓ) (ρ : Dev nD → PrngReg) (D : Dev nD → Data) (q : Dev nD → Prm)
    (a : ∀ c, Args (D c) (q c) m c) :
    θ_run (defs (F := Ideal)) (onTc (τ := τ) (main (F := Ideal))) ⟨m, fun _ => 0, ρ⟩ fun r => ∀ c : Dev nD,
      r.2.mem ((c.tc : Thread nD τ).loc main_v47) = (up fun i => (row (D c) i).dx (q c) : FVec Ideal S8192x1024 .f32)
      ∧ r.2.mem ((c.tc : Thread nD τ).loc main_v30)
        = (up fun (_ : Fin 1) j => ∑ i, (row (D c) i).dg (q c) j : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run (defs (F := Ideal)) _ _).mono (fun r h c => by
    obtain ⟨h0, h1, k⟩ := h c
    have a := a c
    refine ⟨h0.trans ?_, h1.trans ?_, k⟩
    · rw [val_main_v47_eq, a.p0, a.p1, a.p2, a.p3, a.p4, a.p5, a.p6, a.p7, a.p8, a.p9, a.x, a.d, a.g, a.w]; exact dx _ _
    · rw [val_main_v30_eq, a.p0, a.p1, a.p2, a.p3, a.p4, a.p5, a.p6, a.p7, a.p8, a.p9, a.x, a.w]; exact dg _ _)
    (Cert.Reference6Ideal.Value.run m ρ)

end Cert.Model.Inp.Ref

end
-- ==== Proof.WoutFinal.lean ====
/- The weight gradient at the output projection's shape: what its kernel computes, and its reference. -/
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Claim
public import Idealize.ShloMosaic.Lib.Pointwise
public import proofs.«01_k».proof.Proof.FwdModel

@[expose] public section

set_option maxRecDepth 16384

noncomputable section

namespace Cert.Wout

open Cert.Kernel7Ideal Cert.Kernel7Ideal.Gen Cert.Fwd
open Idealize.ShloMosaic Idealize.ShloMosaic.TcCoe Idealize.SL.Sem

/-- The left operand's transpose times the right operand. -/
def grad (l r : Fin 8192 → Fin 1024 → EReal) (i j : Fin 1024) : EReal := ∑ s, l s i * r s j

theorem idx : ∀ t : Fin cfg0.N, win0_0.index t = ![0, t.val] ∧ win0_1.index t = ![0, 0] ∧ win0_2.index t = ![t.val, 0] ∧ win0_3.index t = ![t.val, 0] :=
  (by decide +kernel : ∀ t : Fin grid0.N, _)

/-- Column `p` of the block of point `t`. -/
def colAt (t : Fin cfg0.N) (p : Fin 256) : Fin 1024 :=
  ⟨t.val * 256 + p.val, by have := lt_of_lt_of_eq t.isLt (show cfg0.N = 4 from N_0); have := p.isLt; omega⟩

/-- The arguments are `l` and `r`. -/
structure Args (m : (ℓ : Loc nD τ sig) → Buf (Elt Ideal) ℓ) (c : Dev nD) (l r : Fin 8192 → Fin 1024 → EReal) : Prop where
  l : m ((c : Thread nD τ).loc main_arg0) = (arr l : FVec Ideal S8192x1024 .bf16)
  r : m ((c : Thread nD τ).loc main_arg1) = (arr r : FVec Ideal S8192x1024 .bf16)

abbrev lB (l : Fin 8192 → Fin 256 → EReal) : FVec Ideal S8192x256 .bf16 := arr l
abbrev rB (r : Fin 8192 → Fin 1024 → EReal) : FVec Ideal S8192x1024 .bf16 := arr r

theorem at2 (l : Fin 8192 → Fin 256 → EReal) (r : Fin 8192 → Fin 1024 → EReal) (y : S256x1024.Idx) :
    k0_pay1 (F := Ideal) (lB l) (rB r) y = ∑ s, l s (y 0) * r s (y 1) := by
  idx_vars y
  pointwise [k0_pay1, arr_ix2]

theorem at3 (l : Fin 8192 → Fin 256 → EReal) (r : Fin 8192 → Fin 1024 → EReal) (y : S256x1024.Idx) :
    k0_pay2 (F := Ideal) (lB l) (rB r) y = ∑ s, l s (y 0) * r s (y 1) := at2 l r y

variable {m : (ℓ : Loc nD τ sig) → Buf (Elt Ideal) ℓ} {c : Dev nD} {l r : Fin 8192 → Fin 1024 → EReal}

theorem blk0 (h : Args m c l r) (t : Fin cfg0.N) : iblk m c 0 t = lB fun s p => l s (colAt t p) := by
  funext y
  have e : V m c main_arg0 = (arr l : FVec Ideal S8192x1024 .bf16) := (V_main_arg0 m c).trans h.l
  blk_simp [iblk, idx t]
  rw [e]
  refine congrArg₂ l (Fin.ext ?_) (Fin.ext ?_) <;> blk_simp [idx t, colAt]

theorem blk1 (h : Args m c l r) (t : Fin cfg0.N) : iblk m c 1 t = rB r := by
  funext y
  have e : V m c main_arg1 = (arr r : FVec Ideal S8192x1024 .bf16) := (V_main_arg1 m c).trans h.r
  blk_simp [iblk, idx t]
  rw [e]
  refine congrArg₂ r (Fin.ext ?_) (Fin.ext ?_) <;> blk_simp [idx t]

theorem final2 (h : Args m c l r) : (dats m 0 c).arrAt 2 (cfgs 0).N = (arr (grad l r) : FVec Ideal S1024x1024 .f32) := by
  refine (dats m 0 c).arrAt_eq_of_covers 2 _ (by decide +kernel) fun t _ y => ?_
  blk_simp
  rw [after0_2]
  unfold out0_2 r0_0 r0_1 r0_2
  frame_out
  simp only [blk0 h, blk1 h]
  refine (at2 _ _ y).trans (congrArg₂ (grad l r) (Fin.ext ?_) (Fin.ext ?_)) <;> blk_simp [idx t, colAt]

theorem final3 (h : Args m c l r) : (dats m 0 c).arrAt 3 (cfgs 0).N = (arr (grad l r) : FVec Ideal S1024x1024 .bf16) := by
  refine (dats m 0 c).arrAt_eq_of_covers 3 _ (by decide +kernel) fun t _ y => ?_
  blk_simp
  rw [after0_3]
  unfold out0_3 r0_0 r0_1 r0_2
  frame_out
  simp only [blk0 h, blk1 h]
  refine (at3 _ _ y).trans (congrArg₂ (grad l r) (Fin.ext ?_) (Fin.ext ?_)) <;> blk_simp [idx t, colAt]

end Cert.Wout

namespace Cert.Wout.Ref

open Cert.Reference7Ideal Cert.Reference7Ideal.Gen Cert.Reference7Ideal.Read Cert.Fwd
open Idealize.ShloMosaic Idealize.ShloMosaic.TcCoe Idealize.SL.Sem Idealize.ShloMosaic.StableHlo

/-- The reference's product, its factors the other way round, is the gradient. -/
theorem v5 (l r : Fin 8192 → Fin 1024 → EReal) : val_main_v5 (F := Ideal) (arr l) (arr r) = (arr (grad l r) : FVec Ideal S1024x1024 .f32) := by
  funext y
  idx_vars y
  pointwise [val_main_v5, val_main_v4, val_main_v3, val_main_v1, arr_ix2]
  exact Finset.sum_congr rfl fun s _ => mul_comm _ _

theorem v6 (l r : Fin 8192 → Fin 1024 → EReal) : val_main_v6 (F := Ideal) (arr l) (arr r) = (arr (grad l r) : FVec Ideal S1024x1024 .bf16) := v5 l r

/-- What the reference ends with, over its arguments. -/
theorem run_grad (m : (ℓ : Loc nD τ sig) → Buf (Elt Ideal) ℓ) (ρ : Dev nD → PrngReg) (l r : Dev nD → Fin 8192 → Fin 1024 → EReal)
    (a0 : ∀ c : Dev nD, m ((c.tc : Thread nD τ).loc main_arg0) = (arr (l c) : FVec Ideal S8192x1024 .bf16))
    (a1 : ∀ c : Dev nD, m ((c.tc : Thread nD τ).loc main_arg1) = (arr (r c) : FVec Ideal S8192x1024 .bf16)) :
    θ_run (defs (F := Ideal)) (onTc (τ := τ) (main (F := Ideal))) ⟨m, fun _ => 0, ρ⟩ fun o => ∀ c : Dev nD,
      o.2.mem ((c.tc : Thread nD τ).loc main_v5) = (arr (grad (l c) (r c)) : FVec Ideal S1024x1024 .f32)
      ∧ o.2.mem ((c.tc : Thread nD τ).loc main_v6) = (arr (grad (l c) (r c)) : FVec Ideal S1024x1024 .bf16)
      ∧ o.2.mem ((c.tc : Thread nD τ).loc main_arg0) = m ((c.tc : Thread nD τ).loc main_arg0)
      ∧ o.2.mem ((c.tc : Thread nD τ).loc main_arg1) = m ((c.tc : Thread nD τ).loc main_arg1) :=
  (θ_run (defs (F := Ideal)) _ _).mono (fun o q c => by
    obtain ⟨q1, q2, k⟩ := q c
    refine ⟨q1.trans ?_, q2.trans ?_, k⟩
    · rw [val_main_v5_eq, a0, a1]; exact v5 _ _
    · rw [val_main_v6_eq, a0, a1]; exact v6 _ _)
    (Cert.Reference7Ideal.Value.run m ρ)

end Cert.Wout.Ref

end
-- ==== Proof.ProjFinal.lean ====
/- The input projection's forward call: its results over its arguments, row by row, on any arguments; and its reference. -/
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Claim
public import Idealize.ShloMosaic.Lib.Pointwise
public import proofs.«01_k».proof.Proof.FwdModel

@[expose] public section

set_option maxRecDepth 16384

noncomputable section

namespace Cert.Proj

open Idealize.ShloMosaic Cert.Fwd

/-- The scale of the normalisation and the projection. -/
structure Prm where
  g : Fin 1024 → EReal
  w : Fin 1024 → Fin 2560 → EReal

namespace Prm
variable (q : Prm) (x : Fin 1024 → EReal)

/-- The normalised row, its projection, the projection's parts, and those of them that are scaled. -/
def h (k : Fin 1024) : EReal := x k * rms x * q.g k
def z (j : Fin 2560) : EReal := ∑ k, q.h x k * q.w k j
def part (a : Fin 10) (j : Fin 256) : EReal := q.z x ⟨a.val * 256 + j.val, by omega⟩
def scaled (a : Fin 10) (j : Fin 256) : EReal := q.part x a j * Ideal.ofBits .f32 0x3E000000#32

end Prm

end Cert.Proj

namespace Cert.Proj.Final

open Cert.Kernel8Ideal Cert.Kernel8Ideal.Gen Cert.Fwd
open Idealize.ShloMosaic Idealize.ShloMosaic.TcCoe Idealize.SL.Sem

section
variable (q : Prm) (x : Fin 1024 → Fin 1024 → EReal) (p : Fin 1024)

abbrev xB : FVec Ideal S1024x1024 .f32 := arr x
abbrev gB : FVec Ideal S1x1024 .f32 := arr fun _ : Fin 1 => q.g
abbrev wB : FVec Ideal S2560x1024 .bf16 := arr fun j k => q.w k j
abbrev zB : FVec Ideal S1024x2560 .f32 := k0_pay8 (F := Ideal) (xB x) (gB q) (wB q)

theorem pay7 (k : Fin 1024) : k0_pay7 (F := Ideal) (xB x) (gB q) (ix2 p k) = q.h (x p) k := by
  pointwise [k0_pay7, arr_ix2]
  rfl

theorem pay8 (j : Fin 2560) : zB q x (ix2 p j) = q.z (x p) j := by
  pointwise [k0_pay8, pay7, arr_ix2]
  rfl

theorem at3 (y : S1024x1024.Idx) : k0_pay7 (F := Ideal) (xB x) (gB q) y = q.h (x (y 0)) (y 1) := by
  idx_vars y
  exact pay7 q x _ _

theorem at4 (y : S1024x256.Idx) : k0_pay9 (F := Ideal) (xB x) (gB q) (wB q) y = q.part (x (y 0)) 0 (y 1) := by
  idx_vars y
  pointwise [k0_pay9, pay8]
  refine congrArg (fun k => q.z (x y0) k) (Fin.ext ?_)
  simp

theorem at5 (y : S1024x256.Idx) : k0_pay10 (F := Ideal) (xB x) (gB q) (wB q) y = q.scaled (x (y 0)) 1 (y 1) := by
  idx_vars y
  pointwise [k0_pay10, pay8]
  refine congrArg (fun k => q.z (x y0) k * Ideal.ofBits .f32 0x3E000000#32) (Fin.ext ?_)
  simp

theorem at6 (y : S1024x256.Idx) : k0_pay11 (F := Ideal) (xB x) (gB q) (wB q) y = q.scaled (x (y 0)) 2 (y 1) := by
  idx_vars y
  pointwise [k0_pay11, pay8]
  refine congrArg (fun k => q.z (x y0) k * Ideal.ofBits .f32 0x3E000000#32) (Fin.ext ?_)
  simp

theorem at7 (y : S1024x256.Idx) : k0_pay12 (F := Ideal) (xB x) (gB q) (wB q) y = q.scaled (x (y 0)) 3 (y 1) := by
  idx_vars y
  pointwise [k0_pay12, pay8]
  refine congrArg (fun k => q.z (x y0) k * Ideal.ofBits .f32 0x3E000000#32) (Fin.ext ?_)
  simp

theorem at8 (y : S1024x256.Idx) : k0_pay1 (F := Ideal) (zB q x) y = q.part (x (y 0)) 4 (y 1) := by
  idx_vars y
  pointwise [k0_pay1, pay8]
  refine congrArg (fun k => q.z (x y0) k) (Fin.ext ?_)
  simp

theorem at9 (y : S1024x256.Idx) : k0_pay2 (F := Ideal) (zB q x) y = q.part (x (y 0)) 5 (y 1) := by
  idx_vars y
  pointwise [k0_pay2, pay8]
  refine congrArg (fun k => q.z (x y0) k) (Fin.ext ?_)
  simp

theorem at10 (y : S1024x256.Idx) : k0_pay3 (F := Ideal) (zB q x) y = q.part (x (y 0)) 6 (y 1) := by
  idx_vars y
  pointwise [k0_pay3, pay8]
  refine congrArg (fun k => q.z (x y0) k) (Fin.ext ?_)
  simp

theorem at11 (y : S1024x256.Idx) : k0_pay4 (F := Ideal) (zB q x) y = q.part (x (y 0)) 7 (y 1) := by
  idx_vars y
  pointwise [k0_pay4, pay8]
  refine congrArg (fun k => q.z (x y0) k) (Fin.ext ?_)
  simp

theorem at12 (y : S1024x256.Idx) : k0_pay5 (F := Ideal) (zB q x) y = q.part (x (y 0)) 8 (y 1) := by
  idx_vars y
  pointwise [k0_pay5, pay8]
  refine congrArg (fun k => q.z (x y0) k) (Fin.ext ?_)
  simp

theorem at13 (y : S1024x256.Idx) : k0_pay6 (F := Ideal) (zB q x) y = q.part (x (y 0)) 9 (y 1) := by
  idx_vars y
  pointwise [k0_pay6, pay8]
  refine congrArg (fun k => q.z (x y0) k) (Fin.ext ?_)
  simp

end

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] :=
  (by decide +kernel : ∀ t : Fin grid0.N, _)

/-- Row `p` of the block of point `t`. -/
def rowAt (t : Fin cfg0.N) (p : Fin 1024) : Fin 8192 :=
  ⟨t.val * 1024 + p.val, by have := lt_of_lt_of_eq t.isLt (show cfg0.N = 8 from N_0); have := p.isLt; omega⟩

/-- The arguments are `x` and `q`. -/
structure Args (m : (ℓ : Loc nD τ sig) → Buf (Elt Ideal) ℓ) (c : Dev nD) (q : Prm) (x : Fin 8192 → Fin 1024 → EReal) : Prop where
  x : m ((c : Thread nD τ).loc main_arg0) = (arr x : FVec Ideal S8192x1024 .f32)
  g : m ((c : Thread nD τ).loc main_arg1) = gB q
  w : m ((c : Thread nD τ).loc main_arg2) = (arr q.w : FVec Ideal S1024x2560 .f32)

/-- The projection as the kernel takes it: transposed. -/
def flip (w : FVec Ideal S1024x2560 .f32) : FVec Ideal S2560x1024 .bf16 :=
  truncf .bf16 (transpose S2560x1024 [1, 0] w transposes_S1024x2560_S2560x1024_1_0) bitsLt_bf16_f32

theorem flip_arr (w : Fin 1024 → Fin 2560 → EReal) : flip (arr w) = arr fun j k => w k j := by
  funext i
  idx_vars i
  pointwise [flip, arr_ix2]

variable {m : (ℓ : Loc nD τ sig) → Buf (Elt Ideal) ℓ} {c : Dev nD} {q : Prm} {x : Fin 8192 → Fin 1024 → EReal}

theorem V1 (m : (ℓ : Loc nD τ sig) → Buf (Elt Ideal) ℓ) (c : Dev nD) : V m c main_v1 = flip (m ((c : Thread nD τ).loc main_arg2)) := by
  unfold V
  simp only [hostOps0]
  after_results_simp
  rfl

theorem blk0 (h : Args m c q x) (t : Fin cfg0.N) : iblk m c 0 t = xB fun p => x (rowAt t p) := by
  funext y
  have e : V m c main_arg0 = (arr x : FVec Ideal S8192x1024 .f32) := (V_main_arg0 m c).trans h.x
  blk_simp [iblk, idx t]
  rw [e]
  refine congrArg₂ x (Fin.ext ?_) (Fin.ext ?_) <;> blk_simp [idx t, rowAt]

theorem blk1 (h : Args m c q x) (t : Fin cfg0.N) : iblk m c 1 t = gB q := by
  funext y
  have e : V m c main_arg1 = gB q := (V_main_arg1 m c).trans h.g
  blk_simp [iblk, idx t]
  rw [e]
  refine congrArg q.g (Fin.ext ?_); blk_simp [idx t]

theorem blk2 (h : Args m c q x) (t : Fin cfg0.N) : iblk m c 2 t = wB q := by
  funext y
  have e : V m c main_v1 = wB q := by rw [V1, h.w]; exact flip_arr _
  blk_simp [iblk, idx t]
  rw [e]
  refine congrArg₂ (fun j k => q.w k j) (Fin.ext ?_) (Fin.ext ?_) <;> blk_simp [idx t]

theorem final3 (h : Args m c q x) : (dats m 0 c).arrAt 3 (cfgs 0).N = (arr fun i => q.h (x i) : FVec Ideal S8192x1024 .bf16) := by
  refine (dats m 0 c).arrAt_eq_of_covers 3 _ (by decide +kernel) fun t _ y => ?_
  blk_simp
  rw [after0_3]
  unfold out0_3 r0_0 r0_1
  frame_out
  simp only [blk0 h, blk1 h, blk2 h]
  refine (at3 q _ y).trans (congrArg₂ (fun i => q.h (x i)) (Fin.ext ?_) (Fin.ext ?_)) <;> blk_simp [idx t, rowAt]

theorem final4 (h : Args m c q x) : (dats m 0 c).arrAt 4 (cfgs 0).N = (arr fun i => q.part (x i) 0 : FVec Ideal S8192x256 .f32) := by
  refine (dats m 0 c).arrAt_eq_of_covers 4 _ (by decide +kernel) fun t _ y => ?_
  blk_simp
  rw [after0_4]
  unfold out0_4 r0_0 r0_1 r0_2 r0_3
  frame_out
  simp only [blk0 h, blk1 h, blk2 h]
  refine (at4 q _ y).trans (congrArg₂ (fun i => q.part (x i) 0) (Fin.ext ?_) (Fin.ext ?_)) <;> blk_simp [idx t, rowAt]

theorem final5 (h : Args m c q x) : (dats m 0 c).arrAt 5 (cfgs 0).N = (arr fun i => q.scaled (x i) 1 : FVec Ideal S8192x256 .bf16) := by
  refine (dats m 0 c).arrAt_eq_of_covers 5 _ (by decide +kernel) fun t _ y => ?_
  blk_simp
  rw [after0_5]
  unfold out0_5 r0_0 r0_1 r0_2 r0_3
  frame_out
  simp only [blk0 h, blk1 h, blk2 h]
  refine (at5 q _ y).trans (congrArg₂ (fun i => q.scaled (x i) 1) (Fin.ext ?_) (Fin.ext ?_)) <;> blk_simp [idx t, rowAt]

theorem final6 (h : Args m c q x) : (dats m 0 c).arrAt 6 (cfgs 0).N = (arr fun i => q.scaled (x i) 2 : FVec Ideal S8192x256 .f32) := by
  refine (dats m 0 c).arrAt_eq_of_covers 6 _ (by decide +kernel) fun t _ y => ?_
  blk_simp
  rw [after0_6]
  unfold out0_6 r0_0 r0_1 r0_2 r0_3
  frame_out
  simp only [blk0 h, blk1 h, blk2 h]
  refine (at6 q _ y).trans (congrArg₂ (fun i => q.scaled (x i) 2) (Fin.ext ?_) (Fin.ext ?_)) <;> blk_simp [idx t, rowAt]

theorem final7 (h : Args m c q x) : (dats m 0 c).arrAt 7 (cfgs 0).N = (arr fun i => q.scaled (x i) 3 : FVec Ideal S8192x256 .f32) := by
  refine (dats m 0 c).arrAt_eq_of_covers 7 _ (by decide +kernel) fun t _ y => ?_
  blk_simp
  rw [after0_7]
  unfold out0_7 r0_0 r0_1 r0_2 r0_3
  frame_out
  simp only [blk0 h, blk1 h, blk2 h]
  refine (at7 q _ y).trans (congrArg₂ (fun i => q.scaled (x i) 3) (Fin.ext ?_) (Fin.ext ?_)) <;> blk_simp [idx t, rowAt]

theorem final8 (h : Args m c q x) : (dats m 0 c).arrAt 8 (cfgs 0).N = (arr fun i => q.part (x i) 4 : FVec Ideal S8192x256 .bf16) := by
  refine (dats m 0 c).arrAt_eq_of_covers 8 _ (by decide +kernel) fun t _ y => ?_
  blk_simp
  rw [after0_8]
  unfold out0_8 k0_pay13 r0_0 r0_1 r0_2 r0_3
  frame_out
  simp only [blk0 h, blk1 h, blk2 h]
  refine (at8 q _ y).trans (congrArg₂ (fun i => q.part (x i) 4) (Fin.ext ?_) (Fin.ext ?_)) <;> blk_simp [idx t, rowAt]

theorem final9 (h : Args m c q x) : (dats m 0 c).arrAt 9 (cfgs 0).N = (arr fun i => q.part (x i) 5 : FVec Ideal S8192x256 .f32) := by
  refine (dats m 0 c).arrAt_eq_of_covers 9 _ (by decide +kernel) fun t _ y => ?_
  blk_simp
  rw [after0_9]
  unfold out0_9 k0_pay13 r0_0 r0_1 r0_2 r0_3
  frame_out
  simp only [blk0 h, blk1 h, blk2 h]
  refine (at9 q _ y).trans (congrArg₂ (fun i => q.part (x i) 5) (Fin.ext ?_) (Fin.ext ?_)) <;> blk_simp [idx t, rowAt]

theorem final10 (h : Args m c q x) : (dats m 0 c).arrAt 10 (cfgs 0).N = (arr fun i => q.part (x i) 6 : FVec Ideal S8192x256 .f32) := by
  refine (dats m 0 c).arrAt_eq_of_covers 10 _ (by decide +kernel) fun t _ y => ?_
  blk_simp
  rw [after0_10]
  unfold out0_10 k0_pay13 r0_0 r0_1 r0_2 r0_3
  frame_out
  simp only [blk0 h, blk1 h, blk2 h]
  refine (at10 q _ y).trans (congrArg₂ (fun i => q.part (x i) 6) (Fin.ext ?_) (Fin.ext ?_)) <;> blk_simp [idx t, rowAt]

theorem final11 (h : Args m c q x) : (dats m 0 c).arrAt 11 (cfgs 0).N = (arr fun i => q.part (x i) 7 : FVec Ideal S8192x256 .bf16) := by
  refine (dats m 0 c).arrAt_eq_of_covers 11 _ (by decide +kernel) fun t _ y => ?_
  blk_simp
  rw [after0_11]
  unfold out0_11 k0_pay13 r0_0 r0_1 r0_2 r0_3
  frame_out
  simp only [blk0 h, blk1 h, blk2 h]
  refine (at11 q _ y).trans (congrArg₂ (fun i => q.part (x i) 7) (Fin.ext ?_) (Fin.ext ?_)) <;> blk_simp [idx t, rowAt]

theorem final12 (h : Args m c q x) : (dats m 0 c).arrAt 12 (cfgs 0).N = (arr fun i => q.part (x i) 8 : FVec Ideal S8192x256 .f32) := by
  refine (dats m 0 c).arrAt_eq_of_covers 12 _ (by decide +kernel) fun t _ y => ?_
  blk_simp
  rw [after0_12]
  unfold out0_12 k0_pay13 r0_0 r0_1 r0_2 r0_3
  frame_out
  simp only [blk0 h, blk1 h, blk2 h]
  refine (at12 q _ y).trans (congrArg₂ (fun i => q.part (x i) 8) (Fin.ext ?_) (Fin.ext ?_)) <;> blk_simp [idx t, rowAt]

theorem final13 (h : Args m c q x) : (dats m 0 c).arrAt 13 (cfgs 0).N = (arr fun i => q.part (x i) 9 : FVec Ideal S8192x256 .f32) := by
  refine (dats m 0 c).arrAt_eq_of_covers 13 _ (by decide +kernel) fun t _ y => ?_
  blk_simp
  rw [after0_13]
  unfold out0_13 k0_pay13 r0_0 r0_1 r0_2 r0_3
  frame_out
  simp only [blk0 h, blk1 h, blk2 h]
  refine (at13 q _ y).trans (congrArg₂ (fun i => q.part (x i) 9) (Fin.ext ?_) (Fin.ext ?_)) <;> blk_simp [idx t, rowAt]

end Cert.Proj.Final

namespace Cert.Proj.Ref

open Cert.Reference8Ideal Cert.Reference8Ideal.Gen Cert.Reference8Ideal.Read Cert.Fwd
open Idealize.ShloMosaic Idealize.ShloMosaic.TcCoe Idealize.SL.Sem Idealize.ShloMosaic.StableHlo

variable (q : Prm) (x : Fin 8192 → Fin 1024 → EReal) (i : Fin 8192)

abbrev row (g : Fin 1024 → EReal) : FVec Ideal S1x1024 .f32 := arr fun _ : Fin 1 => g

theorem v7 : val_main_v7 (F := Ideal) (arr x) (ix2 i 0) = rms (x i) := by
  pointwise [val_main_v7, val_main_v6, val_main_v5, val_main_cst_1, val_main_v4, val_main_v3, val_main_cst_0, val_main_v2, val_main_v1,
    val_main_cst, val_main_v0, arr_ix2]
  rfl

theorem v11 (k : Fin 1024) : val_main_v11 (F := Ideal) (arr x) (row q.g) (ix2 i k) = q.h (x i) k := by
  pointwise [val_main_v11, val_main_v10, val_main_v9, val_main_v8, v7, arr_ix2]
  rfl

theorem v12 (j : Fin 2560) : val_main_v12 (F := Ideal) (arr x) (row q.g) (arr q.w) (ix2 i j) = q.z (x i) j := by
  pointwise [val_main_v12, v11, arr_ix2]
  rfl

theorem r3 : val_main_v28 (F := Ideal) (arr x) (row q.g) = arr fun i => q.h (x i) := by
  funext y; idx_vars y; pointwise [val_main_v28, v11, arr_ix2]

theorem r4 : val_main_v29 (F := Ideal) (arr x) (row q.g) (arr q.w) = arr fun i => q.part (x i) 0 := by
  funext y; idx_vars y
  pointwise [val_main_v29, v12, arr_ix2]
  refine congrArg (fun k => q.z (x y0) k) (Fin.ext ?_)
  simp

theorem r5 : val_main_v30 (F := Ideal) (arr x) (row q.g) (arr q.w) = arr fun i => q.scaled (x i) 1 := by
  funext y; idx_vars y
  pointwise [val_main_v30, val_main_v23, val_main_v22, val_main_cst_2, val_main_v13, v12, arr_ix2]
  refine congrArg (fun k => q.z (x y0) k * Ideal.ofBits .f32 0x3E000000#32) (Fin.ext ?_)
  simp

theorem r6 : val_main_v25 (F := Ideal) (arr x) (row q.g) (arr q.w) = arr fun i => q.scaled (x i) 2 := by
  funext y; idx_vars y
  pointwise [val_main_v25, val_main_v24, val_main_cst_3, val_main_v14, v12, arr_ix2]
  refine congrArg (fun k => q.z (x y0) k * Ideal.ofBits .f32 0x3E000000#32) (Fin.ext ?_)
  simp

theorem r7 : val_main_v27 (F := Ideal) (arr x) (row q.g) (arr q.w) = arr fun i => q.scaled (x i) 3 := by
  funext y; idx_vars y
  pointwise [val_main_v27, val_main_v26, val_main_cst_4, val_main_v15, v12, arr_ix2]
  refine congrArg (fun k => q.z (x y0) k * Ideal.ofBits .f32 0x3E000000#32) (Fin.ext ?_)
  simp

theorem r8 : val_main_v31 (F := Ideal) (arr x) (row q.g) (arr q.w) = arr fun i => q.part (x i) 4 := by
  funext y; idx_vars y
  pointwise [val_main_v31, val_main_v16, v12, arr_ix2]
  refine congrArg (fun k => q.z (x y0) k) (Fin.ext ?_)
  simp

theorem r9 : val_main_v17 (F := Ideal) (arr x) (row q.g) (arr q.w) = arr fun i => q.part (x i) 5 := by
  funext y; idx_vars y
  pointwise [val_main_v17, v12, arr_ix2]
  refine congrArg (fun k => q.z (x y0) k) (Fin.ext ?_)
  simp

theorem r10 : val_main_v18 (F := Ideal) (arr x) (row q.g) (arr q.w) = arr fun i => q.part (x i) 6 := by
  funext y; idx_vars y
  pointwise [val_main_v18, v12, arr_ix2]
  refine congrArg (fun k => q.z (x y0) k) (Fin.ext ?_)
  simp

theorem r11 : val_main_v32 (F := Ideal) (arr x) (row q.g) (arr q.w) = arr fun i => q.part (x i) 7 := by
  funext y; idx_vars y
  pointwise [val_main_v32, val_main_v19, v12, arr_ix2]
  refine congrArg (fun k => q.z (x y0) k) (Fin.ext ?_)
  simp

theorem r12 : val_main_v20 (F := Ideal) (arr x) (row q.g) (arr q.w) = arr fun i => q.part (x i) 8 := by
  funext y; idx_vars y
  pointwise [val_main_v20, v12, arr_ix2]
  refine congrArg (fun k => q.z (x y0) k) (Fin.ext ?_)
  simp

theorem r13 : val_main_v21 (F := Ideal) (arr x) (row q.g) (arr q.w) = arr fun i => q.part (x i) 9 := by
  funext y; idx_vars y
  pointwise [val_main_v21, v12, arr_ix2]
  refine congrArg (fun k => q.z (x y0) k) (Fin.ext ?_)
  simp

/-- What the reference ends with, over its arguments. -/
theorem run_fwd (m : (ℓ : Loc nD τ sig) → Buf (Elt Ideal) ℓ) (ρ : Dev nD → PrngReg)
    (q : Dev nD → Prm) (x : Dev nD → Fin 8192 → Fin 1024 → EReal)
    (a0 : ∀ c : Dev nD, m ((c.tc : Thread nD τ).loc main_arg0) = (arr (x c) : FVec Ideal S8192x1024 .f32))
    (a1 : ∀ c : Dev nD, m ((c.tc : Thread nD τ).loc main_arg1) = row (q c).g)
    (a2 : ∀ c : Dev nD, m ((c.tc : Thread nD τ).loc main_arg2) = (arr (q c).w : FVec Ideal S1024x2560 .f32)) :
    θ_run (defs (F := Ideal)) (onTc (τ := τ) (main (F := Ideal))) ⟨m, fun _ => 0, ρ⟩ fun o => ∀ c : Dev nD,
      o.2.mem ((c.tc : Thread nD τ).loc main_v28) = (arr fun i => (q c).h (x c i) : FVec Ideal S8192x1024 .bf16)
      ∧ o.2.mem ((c.tc : Thread nD τ).loc main_v29) = (arr fun i => (q c).part (x c i) 0 : FVec Ideal S8192x256 .f32)
      ∧ o.2.mem ((c.tc : Thread nD τ).loc main_v30) = (arr fun i => (q c).scaled (x c i) 1 : FVec Ideal S8192x256 .bf16)
      ∧ o.2.mem ((c.tc : Thread nD τ).loc main_v25) = (arr fun i => (q c).scaled (x c i) 2 : FVec Ideal S8192x256 .f32)
      ∧ o.2.mem ((c.tc : Thread nD τ).loc main_v27) = (arr fun i => (q c).scaled (x c i) 3 : FVec Ideal S8192x256 .f32)
      ∧ o.2.mem ((c.tc : Thread nD τ).loc main_v31) = (arr fun i => (q c).part (x c i) 4 : FVec Ideal S8192x256 .bf16)
      ∧ o.2.mem ((c.tc : Thread nD τ).loc main_v17) = (arr fun i => (q c).part (x c i) 5 : FVec Ideal S8192x256 .f32)
      ∧ o.2.mem ((c.tc : Thread nD τ).loc main_v18) = (arr fun i => (q c).part (x c i) 6 : FVec Ideal S8192x256 .f32)
      ∧ o.2.mem ((c.tc : Thread nD τ).loc main_v32) = (arr fun i => (q c).part (x c i) 7 : FVec Ideal S8192x256 .bf16)
      ∧ o.2.mem ((c.tc : Thread nD τ).loc main_v20) = (arr fun i => (q c).part (x c i) 8 : FVec Ideal S8192x256 .f32)
      ∧ o.2.mem ((c.tc : Thread nD τ).loc main_v21) = (arr fun i => (q c).part (x c i) 9 : FVec Ideal S8192x256 .f32)
      ∧ o.2.mem ((c.tc : Thread nD τ).loc main_arg0) = m ((c.tc : Thread nD τ).loc main_arg0)
      ∧ o.2.mem ((c.tc : Thread nD τ).loc main_arg1) = m ((c.tc : Thread nD τ).loc main_arg1)
      ∧ o.2.mem ((c.tc : Thread nD τ).loc main_arg2) = m ((c.tc : Thread nD τ).loc main_arg2) :=
  (θ_run (defs (F := Ideal)) _ _).mono (fun o r c => by
    obtain ⟨q3, q4, q5, q6, q7, q8, q9, q10, q11, q12, q13, k⟩ := r c
    refine ⟨q3.trans ?_, q4.trans ?_, q5.trans ?_, q6.trans ?_, q7.trans ?_, q8.trans ?_, q9.trans ?_, q10.trans ?_, q11.trans ?_, q12.trans ?_, q13.trans ?_, k⟩
    · rw [val_main_v28_eq, a0, a1]; exact r3 _ _
    · rw [val_main_v29_eq, a0, a1, a2]; exact r4 _ _
    · rw [val_main_v30_eq, a0, a1, a2]; exact r5 _ _
    · rw [val_main_v25_eq, a0, a1, a2]; exact r6 _ _
    · rw [val_main_v27_eq, a0, a1, a2]; exact r7 _ _
    · rw [val_main_v31_eq, a0, a1, a2]; exact r8 _ _
    · rw [val_main_v17_eq, a0, a1, a2]; exact r9 _ _
    · rw [val_main_v18_eq, a0, a1, a2]; exact r10 _ _
    · rw [val_main_v32_eq, a0, a1, a2]; exact r11 _ _
    · rw [val_main_v20_eq, a0, a1, a2]; exact r12 _ _
    · rw [val_main_v21_eq, a0, a1, a2]; exact r13 _ _)
    (Cert.Reference8Ideal.Value.run m ρ)

end Cert.Proj.Ref

end
-- ==== Proof.OutRef.lean ====
/- The output projection's forward call over its arguments, row by row, on any arguments; and its reference. -/
module

public import proofs.«01_k».proof.Proof.Gen.Reference9Ideal.Run
public import proofs.«01_k».proof.Proof.Gen.Reference9Ideal.Read
public import Idealize.ShloMosaic.Lib.Pipeline.ValueKit
public import Idealize.ShloMosaic.Lib.Claim
public import Idealize.ShloMosaic.Lib.Pointwise
public import proofs.«01_k».proof.Proof.FwdModel

@[expose] public section

set_option maxRecDepth 16384

noncomputable section

namespace Cert.Outp

open Idealize.ShloMosaic Cert.Fwd

/-- The head of a lane. -/
def hd (j : Fin 256) : Fin 4 := ⟨j.val / 64, by omega⟩

/-- The projection and the scale of the normalisation. -/
structure Prm where
  w : Fin 1024 → Fin 1024 → EReal
  g : Fin 1024 → EReal

/-- One row: the pooling mixer's output, the dilations' outputs and log-denominators, and the residual. -/
structure Row where
  a : Fin 256 → EReal
  o : Fin 3 → Fin 256 → EReal
  l : Fin 3 → Fin 4 → EReal
  x : Fin 1024 → EReal

namespace Row
variable (r : Row) (q : Prm)

/-- The shares of the dilations, head by head. -/
def top (h : Fin 4) : EReal := max (max (r.l 0 h) (r.l 1 h)) (r.l 2 h)
def e (k : Fin 3) (h : Fin 4) : EReal := Ideal.exp (r.l k h - r.top h)
def den (h : Fin 4) : EReal := r.e 0 h + r.e 1 h + r.e 2 h
def al (k : Fin 3) (h : Fin 4) : EReal := Ideal.div (r.e k h) (r.den h)

/-- The four pieces of the mixture, and the mixture. -/
def piece (k : Fin 4) (j : Fin 256) : EReal :=
  match k with
  | 0 => r.a j
  | 1 => r.o 0 j * r.al 0 (hd j)
  | 2 => r.o 1 j * r.al 1 (hd j)
  | 3 => r.o 2 j * r.al 2 (hd j)

def cat (j : Fin 1024) : EReal := r.piece ⟨j.val / 256, by omega⟩ ⟨j.val % 256, by omega⟩

theorem cat_eq (j : Fin 1024) (a : Fin 4) (b : Fin 256) (h : j.val = a.val * 256 + b.val) : r.piece a b = r.cat j := by
  have e : (⟨j.val / 256, by omega⟩ : Fin 4) = a := Fin.ext (by show j.val / 256 = a.val; omega)
  have f : (⟨j.val % 256, by omega⟩ : Fin 256) = b := Fin.ext (by show j.val % 256 = b.val; omega)
  unfold cat
  rw [e, f]

theorem cat_at (k : Fin 3) (j : Fin 1024) (b : Fin 256) (h : Fin 4) (e : j.val = (k.val + 1) * 256 + b.val) (e' : h.val = b.val / 64) :
    r.o k b * r.al k h = r.cat j := by
  obtain rfl : h = hd b := Fin.ext e'
  fin_cases k
  · exact r.cat_eq j 1 b e
  · exact r.cat_eq j 2 b e
  · exact r.cat_eq j 3 b e

/-- The projected mixture, and the row's result. -/
def mix (j : Fin 1024) : EReal := ∑ k, r.cat k * q.w k j
def y (j : Fin 1024) : EReal := r.x j + r.mix q j * rms (r.mix q) * q.g j

end Row

/-- The arguments of one device, for each of its rows. -/
structure Data where
  a : Fin 8192 → Fin 256 → EReal
  o : Fin 3 → Fin 8192 → Fin 256 → EReal
  l : Fin 3 → Fin 8192 → Fin 4 → EReal
  x : Fin 8192 → Fin 1024 → EReal

/-- Row `i`. -/
def row (D : Data) (i : Fin 8192) : Row := ⟨D.a i, fun k => D.o k i, fun k => D.l k i, D.x i⟩

/-- Both cases of a choice have one value. -/
theorem pick {c : Prop} [Decidable c] {a : c → EReal} {b : ¬c → EReal} {v : EReal} (h : ∀ u, a u = v) (h' : ∀ u, b u = v) : dite c a b = v := by
  split
  · exact h _
  · exact h' _

end Cert.Outp

namespace Cert.Outp.Ref

open Cert.Reference9Ideal Cert.Reference9Ideal.Gen Cert.Reference9Ideal.Read Cert.Fwd
open Idealize.ShloMosaic Idealize.ShloMosaic.TcCoe Idealize.SL.Sem Idealize.ShloMosaic.StableHlo

variable (D : Data) (q : Prm) (i : Fin 8192)

abbrev g1 : FVec Ideal S1x1024 .f32 := arr fun _ : Fin 1 => q.g

theorem v3 (k : Fin 3) (h : Fin 4) : val_main_v3 (F := Ideal) (arr (D.l 0)) (arr (D.l 1)) (arr (D.l 2)) (ix3 k i h) = D.l k i h := by
  fin_cases k <;> pointwise [val_main_v3, val_main_v2, val_main_v1, val_main_v0, arr_ix2]

theorem bot_bits : Ideal.ofBits .f32 0xFF800000#32 = (⊥ : EReal) := by
  simp [Ideal.ofBits, Ideal.ieee]

theorem fold3 (f : Fin 3 → EReal) : max (⊥ : EReal) (Finset.fold max (⊥ : EReal) f Finset.univ) = max (max (f 0) (f 1)) (f 2) := by
  have u : (Finset.univ : Finset (Fin 3)) = {0, 1, 2} := by decide
  rw [u, Finset.fold_insert (by decide), Finset.fold_insert (by decide), Finset.fold_singleton, max_eq_right bot_le, max_eq_left (bot_le (a := f 2)), max_assoc]

theorem v6 (h : Fin 4) : val_main_v6 (F := Ideal) (arr (D.l 0)) (arr (D.l 1)) (arr (D.l 2)) (ix2 i h) = (row D i).top h := by
  pointwise [val_main_v6, val_main_v5, val_main_cst_0, val_main_v4, val_main_cst, v3]
  rw [bot_bits]
  exact fold3 fun k => D.l k i h

theorem v10 (k : Fin 3) (h : Fin 4) : val_main_v10 (F := Ideal) (arr (D.l 0)) (arr (D.l 1)) (arr (D.l 2)) (ix3 k i h) = (row D i).e k h := by
  pointwise [val_main_v10, val_main_v9, val_main_v8, val_main_v7, v6, v3]
  rfl

theorem v11 (h : Fin 4) : val_main_v11 (F := Ideal) (arr (D.l 0)) (arr (D.l 1)) (arr (D.l 2)) (ix2 i h) = (row D i).den h := by
  pointwise [val_main_v11, val_main_cst_1, v10]
  rw [Fin.sum_univ_three]
  rfl

theorem v14 (k : Fin 3) (h : Fin 4) : val_main_v14 (F := Ideal) (arr (D.l 0)) (arr (D.l 1)) (arr (D.l 2)) (ix3 k i h) = (row D i).al k h := by
  pointwise [val_main_v14, val_main_v13, val_main_v12, v11, v10]
  rfl

theorem v36 (j : Fin 1024) : val_main_v36 (F := Ideal) (arr D.a) (arr (D.o 0)) (arr (D.o 1)) (arr (D.o 2)) (arr (D.l 0)) (arr (D.l 1)) (arr (D.l 2)) (ix2 i j) = (row D i).cat j := by
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v18, val_main_v17, val_main_v16, val_main_v15, v14, arr_ix2]
  exact pick (fun h => (row D i).cat_eq j 0 _ (by show j.val = 0 * 256 + j.val; omega)) fun h =>
    pick (fun h1 => (row D i).cat_at 0 j _ _ (by show j.val = (0 + 1) * 256 + ((j.val - 256) / 64 * 64 + (j.val - 256) % 64); omega)
      (by show (j.val - 256) / 64 = ((j.val - 256) / 64 * 64 + (j.val - 256) % 64) / 64; omega)) fun h1 =>
    pick (fun h2 => (row D i).cat_at 1 j _ _ (by show j.val = (1 + 1) * 256 + (((j.val - 256) / 64 - 4) * 64 + (j.val - 256) % 64); omega)
      (by show (j.val - 256) / 64 - 4 = (((j.val - 256) / 64 - 4) * 64 + (j.val - 256) % 64) / 64; omega)) fun h2 =>
    (row D i).cat_at 2 j _ _ (by show j.val = (2 + 1) * 256 + (((j.val - 256) / 64 - 4 - 4) * 64 + (j.val - 256) % 64); omega)
      (by show (j.val - 256) / 64 - 4 - 4 = (((j.val - 256) / 64 - 4 - 4) * 64 + (j.val - 256) % 64) / 64; omega)

theorem v37 (j : Fin 1024) : val_main_v37 (F := Ideal) (arr D.a) (arr (D.o 0)) (arr (D.o 1)) (arr (D.o 2)) (arr (D.l 0)) (arr (D.l 1)) (arr (D.l 2)) (arr q.w) (ix2 i j) = (row D i).mix q j := by
  pointwise [val_main_v37, v36, arr_ix2]
  rfl

theorem v45 : val_main_v45 (F := Ideal) (arr D.a) (arr (D.o 0)) (arr (D.o 1)) (arr (D.o 2)) (arr (D.l 0)) (arr (D.l 1)) (arr (D.l 2)) (arr q.w) (ix2 i 0) = rms ((row D i).mix q) := by
  pointwise [val_main_v45, val_main_v44, val_main_v43, val_main_cst_4, val_main_v42, val_main_v41, val_main_cst_3, val_main_v40, val_main_v39,
    val_main_cst_2, val_main_v38, v37]
  rfl

theorem v50 (j : Fin 1024) : val_main_v50 (F := Ideal) (arr D.a) (arr (D.o 0)) (arr (D.o 1)) (arr (D.o 2)) (arr (D.l 0)) (arr (D.l 1)) (arr (D.l 2)) (arr D.x) (arr q.w) (g1 q) (ix2 i j) = (row D i).y q j := by
  pointwise [val_main_v50, val_main_v49, val_main_v48, val_main_v47, val_main_v46, v45, v37, arr_ix2]
  rfl

theorem y : val_main_v50 (F := Ideal) (arr D.a) (arr (D.o 0)) (arr (D.o 1)) (arr (D.o 2)) (arr (D.l 0)) (arr (D.l 1)) (arr (D.l 2)) (arr D.x) (arr q.w) (g1 q) = arr fun i => (row D i).y q := by
  funext y; idx_vars y; exact v50 D q _ _

theorem cat : val_main_v51 (F := Ideal) (arr D.a) (arr (D.o 0)) (arr (D.o 1)) (arr (D.o 2)) (arr (D.l 0)) (arr (D.l 1)) (arr (D.l 2)) = arr fun i => (row D i).cat := by
  funext y; idx_vars y; pointwise [val_main_v51, v36, arr_ix2]

/-- The arguments are `D` and `q`. -/
structure Args (m : (ℓ : Loc nD τ sig) → Buf (Elt Ideal) ℓ) (c : Dev nD) (D : Data) (q : Prm) : Prop where
  a : m ((c.tc : Thread nD τ).loc main_arg0) = (arr D.a : FVec Ideal S8192x256 .bf16)
  o0 : m ((c.tc : Thread nD τ).loc main_arg1) = (arr (D.o 0) : FVec Ideal S8192x256 .f32)
  o1 : m ((c.tc : Thread nD τ).loc main_arg2) = (arr (D.o 1) : FVec Ideal S8192x256 .f32)
  o2 : m ((c.tc : Thread nD τ).loc main_arg3) = (arr (D.o 2) : FVec Ideal S8192x256 .f32)
  l0 : m ((c.tc : Thread nD τ).loc main_arg4) = (arr (D.l 0) : FVec Ideal S8192x4 .f32)
  l1 : m ((c.tc : Thread nD τ).loc main_arg5) = (arr (D.l 1) : FVec Ideal S8192x4 .f32)
  l2 : m ((c.tc : Thread nD τ).loc main_arg6) = (arr (D.l 2) : FVec Ideal S8192x4 .f32)
  x : m ((c.tc : Thread nD τ).loc main_arg7) = (arr D.x : FVec Ideal S8192x1024 .f32)
  w : m ((c.tc : Thread nD τ).loc main_arg8) = (arr q.w : FVec Ideal S1024x1024 .f32)
  g : m ((c.tc : Thread nD τ).loc main_arg9) = (arr fun _ : Fin 1 => q.g : FVec Ideal S1x1024 .f32)

/-- What the reference ends with, over its arguments. -/
theorem run_fwd (m : (ℓ : Loc nD τ sig) → Buf (Elt Ideal) ℓ) (ρ : Dev nD → PrngReg) (D : Dev nD → Data) (q : Dev nD → Prm)
    (a : ∀ c, Args m c (D c) (q c)) :
    θ_run (defs (F := Ideal)) (onTc (τ := τ) (main (F := Ideal))) ⟨m, fun _ => 0, ρ⟩ fun r => ∀ c : Dev nD,
      r.2.mem ((c.tc : Thread nD τ).loc main_v50) = (arr fun i => (row (D c) i).y (q c) : FVec Ideal S8192x1024 .f32)
      ∧ r.2.mem ((c.tc : Thread nD τ).loc main_v51) = (arr fun i => (row (D c) i).cat : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun r h c => by
    obtain ⟨h0, h1, k⟩ := h c
    have a := a c
    refine ⟨h0.trans ?_, h1.trans ?_, k⟩
    · rw [val_main_v50_eq, a.a, a.o0, a.o1, a.o2, a.l0, a.l1, a.l2, a.x, a.w, a.g]; exact y _ _
    · rw [val_main_v51_eq, a.a, a.o0, a.o1, a.o2, a.l0, a.l1, a.l2]; exact cat _)
    (Cert.Reference9Ideal.Value.run m ρ)

end Cert.Outp.Ref

end
-- ==== Proof.OutFinal.lean ====
/- The output projection's forward call: what its kernel computes from its blocks, and its results over its arguments. -/
module

public import proofs.«01_k».proof.Proof.Gen.Kernel9Ideal.Value
public import proofs.«01_k».proof.Proof.OutRef

@[expose] public section

set_option maxRecDepth 16384

noncomputable section

namespace Cert.Outp.Final

open Cert.Kernel9Ideal Cert.Kernel9Ideal.Gen Cert.Fwd
open Idealize.ShloMosaic Idealize.ShloMosaic.TcCoe Idealize.SL.Sem

section
variable (r : Fin 1024 → Row) (q : Prm) (p : Fin 1024)

/-- The blocks the body reads. -/
abbrev aB : FVec Ideal S1024x256 .bf16 := arr fun p => (r p).a
abbrev oB (k : Fin 3) : FVec Ideal S1024x256 .f32 := arr fun p => (r p).o k
abbrev lB (k : Fin 3) : FVec Ideal S1024x256 .f32 := arr fun p j => (r p).l k (hd j)
abbrev xB : FVec Ideal S1024x1024 .f32 := arr fun p => (r p).x
abbrev wB : FVec Ideal S1024x1024 .bf16 := arr q.w
abbrev gB : FVec Ideal S1x1024 .f32 := arr fun _ : Fin 1 => q.g

theorem pay2 (j : Fin 1024) : k0_pay2 (F := Ideal) (lB r 0) (lB r 1) (lB r 2) (aB r) (oB r 0) (oB r 1) (oB r 2) (ix2 p j) = (r p).cat j := by
  pointwise [k0_pay2, arr_ix2]
  exact pick (fun h0 => (r p).cat_eq j 0 _ (by show j.val = 0 * 256 + (j.val); omega)) fun h0 =>
    pick (fun h1 => (r p).cat_eq j 1 _ (by show j.val = 1 * 256 + (j.val - 256); omega)) fun h1 =>
    pick (fun h2 => (r p).cat_eq j 2 _ (by show j.val = 2 * 256 + (j.val - 256 - 256); omega)) fun h2 =>
    (r p).cat_eq j 3 _ (by show j.val = 3 * 256 + (j.val - 256 - 256 - 256); omega)

theorem pay3 (j : Fin 1024) : k0_pay3 (F := Ideal) (lB r 0) (lB r 1) (lB r 2) (aB r) (oB r 0) (oB r 1) (oB r 2) (wB q) (ix2 p j) = (r p).mix q j := by
  pointwise [k0_pay3, pay2, arr_ix2]
  rfl

theorem pay1 (j : Fin 1024) : k0_pay1 (F := Ideal) (k0_pay3 (lB r 0) (lB r 1) (lB r 2) (aB r) (oB r 0) (oB r 1) (oB r 2) (wB q)) (xB r) (k0_pay4 (lB r 0) (lB r 1) (lB r 2) (aB r) (oB r 0) (oB r 1) (oB r 2) (wB q)) (gB q) (ix2 p j) = (r p).y q j := by
  pointwise [k0_pay1, k0_pay4, pay3, arr_ix2]
  rfl

theorem at10 (y : S1024x1024.Idx) : k0_pay1 (F := Ideal) (k0_pay3 (lB r 0) (lB r 1) (lB r 2) (aB r) (oB r 0) (oB r 1) (oB r 2) (wB q)) (xB r) (k0_pay4 (lB r 0) (lB r 1) (lB r 2) (aB r) (oB r 0) (oB r 1) (oB r 2) (wB q)) (gB q) y = (r (y 0)).y q (y 1) := by
  idx_vars y
  exact pay1 r q _ _

theorem at11 (y : S1024x1024.Idx) : k0_pay2 (F := Ideal) (lB r 0) (lB r 1) (lB r 2) (aB r) (oB r 0) (oB r 1) (oB r 2) y = (r (y 0)).cat (y 1) := by
  idx_vars y
  exact pay2 r _ _

end

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![0, 0] ∧ win0_9.index t = ![0, 0] ∧ win0_10.index t = ![t.val, 0] ∧ win0_11.index t = ![t.val, 0] :=
  (by decide +kernel : ∀ t : Fin grid0.N, _)

/-- Row `p` of the block of point `t`. -/
def rowAt (t : Fin cfg0.N) (p : Fin 1024) : Fin 8192 :=
  ⟨t.val * 1024 + p.val, by have := lt_of_lt_of_eq t.isLt (show cfg0.N = 8 from N_0); have := p.isLt; omega⟩

/-- The arguments are `D` and `q`. -/
structure Args (m : (ℓ : Loc nD τ sig) → Buf (Elt Ideal) ℓ) (c : Dev nD) (D : Data) (q : Prm) : Prop where
  a : m ((c : Thread nD τ).loc main_arg0) = (arr D.a : FVec Ideal S8192x256 .bf16)
  o0 : m ((c : Thread nD τ).loc main_arg1) = (arr (D.o 0) : FVec Ideal S8192x256 .f32)
  o1 : m ((c : Thread nD τ).loc main_arg2) = (arr (D.o 1) : FVec Ideal S8192x256 .f32)
  o2 : m ((c : Thread nD τ).loc main_arg3) = (arr (D.o 2) : FVec Ideal S8192x256 .f32)
  l0 : m ((c : Thread nD τ).loc main_arg4) = (arr (D.l 0) : FVec Ideal S8192x4 .f32)
  l1 : m ((c : Thread nD τ).loc main_arg5) = (arr (D.l 1) : FVec Ideal S8192x4 .f32)
  l2 : m ((c : Thread nD τ).loc main_arg6) = (arr (D.l 2) : FVec Ideal S8192x4 .f32)
  x : m ((c : Thread nD τ).loc main_arg7) = (arr D.x : FVec Ideal S8192x1024 .f32)
  w : m ((c : Thread nD τ).loc main_arg8) = (arr q.w : FVec Ideal S1024x1024 .f32)
  g : m ((c : Thread nD τ).loc main_arg9) = (arr fun _ : Fin 1 => q.g : FVec Ideal S1x1024 .f32)

/-- A row of log-denominators repeated over each head's lanes. -/
def lanes (l : FVec Ideal S8192x4 .f32) : FVec Ideal S8192x256 .f32 :=
  shapeCast _ (broadcastInDim S8192x4x64 ![0, 1] bcast_S8192x4_S8192x4x64_0_1 l) shapeCasts_S8192x4x64_S8192x256

theorem lanes_arr (l : Fin 8192 → Fin 4 → EReal) : lanes (arr l) = arr fun i j => l i (hd j) := by
  funext y
  idx_vars y
  pointwise [lanes, arr_ix2]
  rfl

variable {m : (ℓ : Loc nD τ sig) → Buf (Elt Ideal) ℓ} {c : Dev nD} {D : Data} {q : Prm}

theorem V1 (m : (ℓ : Loc nD τ sig) → Buf (Elt Ideal) ℓ) (c : Dev nD) : V m c main_v1 = lanes (m ((c : Thread nD τ).loc main_arg4)) := by
  unfold V
  simp only [hostOps0]
  after_results_simp
  rfl

theorem V3 (m : (ℓ : Loc nD τ sig) → Buf (Elt Ideal) ℓ) (c : Dev nD) : V m c main_v3 = lanes (m ((c : Thread nD τ).loc main_arg5)) := by
  unfold V
  simp only [hostOps0]
  after_results_simp
  rfl

theorem V5 (m : (ℓ : Loc nD τ sig) → Buf (Elt Ideal) ℓ) (c : Dev nD) : V m c main_v5 = lanes (m ((c : Thread nD τ).loc main_arg6)) := by
  unfold V
  simp only [hostOps0]
  after_results_simp
  rfl

theorem V6 (m : (ℓ : Loc nD τ sig) → Buf (Elt Ideal) ℓ) (c : Dev nD) : V m c main_v6 = (m ((c : Thread nD τ).loc main_arg8) : FVec Ideal S1024x1024 .f32) := by
  unfold V
  simp only [hostOps0]
  after_results_simp
  rfl

/-- The rows of the block of point `t`. -/
abbrev rows (D : Data) (t : Fin cfg0.N) (p : Fin 1024) : Row := row D (rowAt t p)

theorem blk0 (h : Args m c D q) (t : Fin cfg0.N) : iblk m c 0 t = aB (rows D t) := by
  funext y
  have e : V m c main_arg0 = (arr D.a : FVec Ideal S8192x256 .bf16) := (V_main_arg0 m c).trans h.a
  blk_simp [iblk, idx t]
  rw [e]
  refine congrArg₂ D.a (Fin.ext ?_) (Fin.ext ?_) <;> blk_simp [idx t, rowAt]

theorem blk1 (h : Args m c D q) (t : Fin cfg0.N) : iblk m c 1 t = oB (rows D t) 0 := by
  funext y
  have e : V m c main_arg1 = (arr (D.o 0) : FVec Ideal S8192x256 .f32) := (V_main_arg1 m c).trans h.o0
  blk_simp [iblk, idx t]
  rw [e]
  refine congrArg₂ (D.o 0) (Fin.ext ?_) (Fin.ext ?_) <;> blk_simp [idx t, rowAt]

theorem blk2 (h : Args m c D q) (t : Fin cfg0.N) : iblk m c 2 t = oB (rows D t) 1 := by
  funext y
  have e : V m c main_arg2 = (arr (D.o 1) : FVec Ideal S8192x256 .f32) := (V_main_arg2 m c).trans h.o1
  blk_simp [iblk, idx t]
  rw [e]
  refine congrArg₂ (D.o 1) (Fin.ext ?_) (Fin.ext ?_) <;> blk_simp [idx t, rowAt]

theorem blk3 (h : Args m c D q) (t : Fin cfg0.N) : iblk m c 3 t = oB (rows D t) 2 := by
  funext y
  have e : V m c main_arg3 = (arr (D.o 2) : FVec Ideal S8192x256 .f32) := (V_main_arg3 m c).trans h.o2
  blk_simp [iblk, idx t]
  rw [e]
  refine congrArg₂ (D.o 2) (Fin.ext ?_) (Fin.ext ?_) <;> blk_simp [idx t, rowAt]

theorem blk4 (h : Args m c D q) (t : Fin cfg0.N) : iblk m c 4 t = lB (rows D t) 0 := by
  funext y
  have e : V m c main_v1 = (arr fun i j => D.l 0 i (hd j) : FVec Ideal S8192x256 .f32) := by rw [V1, h.l0]; exact lanes_arr _
  blk_simp [iblk, idx t]
  rw [e]
  refine congrArg₂ (fun i j => D.l 0 i (hd j)) (Fin.ext ?_) (Fin.ext ?_) <;> blk_simp [idx t, rowAt]

theorem blk5 (h : Args m c D q) (t : Fin cfg0.N) : iblk m c 5 t = lB (rows D t) 1 := by
  funext y
  have e : V m c main_v3 = (arr fun i j => D.l 1 i (hd j) : FVec Ideal S8192x256 .f32) := by rw [V3, h.l1]; exact lanes_arr _
  blk_simp [iblk, idx t]
  rw [e]
  refine congrArg₂ (fun i j => D.l 1 i (hd j)) (Fin.ext ?_) (Fin.ext ?_) <;> blk_simp [idx t, rowAt]

theorem blk6 (h : Args m c D q) (t : Fin cfg0.N) : iblk m c 6 t = lB (rows D t) 2 := by
  funext y
  have e : V m c main_v5 = (arr fun i j => D.l 2 i (hd j) : FVec Ideal S8192x256 .f32) := by rw [V5, h.l2]; exact lanes_arr _
  blk_simp [iblk, idx t]
  rw [e]
  refine congrArg₂ (fun i j => D.l 2 i (hd j)) (Fin.ext ?_) (Fin.ext ?_) <;> blk_simp [idx t, rowAt]

theorem blk7 (h : Args m c D q) (t : Fin cfg0.N) : iblk m c 7 t = xB (rows D t) := by
  funext y
  have e : V m c main_arg7 = (arr D.x : FVec Ideal S8192x1024 .f32) := (V_main_arg7 m c).trans h.x
  blk_simp [iblk, idx t]
  rw [e]
  refine congrArg₂ D.x (Fin.ext ?_) (Fin.ext ?_) <;> blk_simp [idx t, rowAt]

theorem blk8 (h : Args m c D q) (t : Fin cfg0.N) : iblk m c 8 t = wB q := by
  funext y
  have e : V m c main_v6 = (arr q.w : FVec Ideal S1024x1024 .f32) := by rw [V6, h.w]
  blk_simp [iblk, idx t]
  rw [e]
  refine congrArg₂ q.w (Fin.ext ?_) (Fin.ext ?_) <;> blk_simp [idx t]

theorem blk9 (h : Args m c D q) (t : Fin cfg0.N) : iblk m c 9 t = gB q := by
  funext y
  have e : V m c main_arg9 = gB q := (V_main_arg9 m c).trans h.g
  blk_simp [iblk, idx t]
  rw [e]
  refine congrArg q.g (Fin.ext ?_); blk_simp [idx t]

theorem final10 (h : Args m c D q) : (dats m 0 c).arrAt 10 (cfgs 0).N = (arr fun i => (row D i).y q : FVec Ideal S8192x1024 .f32) := by
  refine (dats m 0 c).arrAt_eq_of_covers 10 _ (by decide +kernel) fun t _ y => ?_
  blk_simp
  rw [after0_10]
  unfold out0_10 r0_0 r0_1 r0_2
  frame_out
  simp only [blk0 h, blk1 h, blk2 h, blk3 h, blk4 h, blk5 h, blk6 h, blk7 h, blk8 h, blk9 h]
  refine (at10 (rows D t) q y).trans (congrArg₂ (fun i => (row D i).y q) (Fin.ext ?_) (Fin.ext ?_)) <;> blk_simp [idx t, rowAt]

theorem final11 (h : Args m c D q) : (dats m 0 c).arrAt 11 (cfgs 0).N = (arr fun i => (row D i).cat : FVec Ideal S8192x1024 .bf16) := by
  refine (dats m 0 c).arrAt_eq_of_covers 11 _ (by decide +kernel) fun t _ y => ?_
  blk_simp
  rw [after0_11]
  unfold out0_11 r0_0 r0_1
  frame_out
  simp only [blk0 h, blk1 h, blk2 h, blk3 h, blk4 h, blk5 h, blk6 h, blk7 h, blk8 h, blk9 h]
  refine (at11 (rows D t) y).trans (congrArg₂ (fun i => (row D i).cat) (Fin.ext ?_) (Fin.ext ?_)) <;> blk_simp [idx t, rowAt]

end Cert.Outp.Final

end
-- ==== Proof.lean ====
module

public import proofs.«01_k».proof.Defs
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10
public import proofs.«01_k».proof.Proof.Gen.Reference10Ideal.Run
public import proofs.«01_k».proof.Proof.Gen.Reference10Ideal.Read
public import proofs.«01_k».proof.Proof.PartsFrame
public import proofs.«01_k».proof.Proof.PartsFinal
public import proofs.«01_k».proof.Proof.AdamModel
public import proofs.«01_k».proof.Proof.AdamSmall
public import proofs.«01_k».proof.Proof.AdamRows
public import proofs.«01_k».proof.Proof.AdamCols
public import proofs.«01_k».proof.Proof.AdamOut
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Finite
public import proofs.«01_k».proof.Proof.Final
public import proofs.«01_k».proof.Proof.RefRun
public import proofs.«01_k».proof.Proof.WgradRef
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.FwdFinal
public import proofs.«01_k».proof.Proof.FwdRef
public import proofs.«01_k».proof.Proof.FwdPlain
public import proofs.«01_k».proof.Proof.FwdPlainRef
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.MixFinite
public import proofs.«01_k».proof.Proof.MixFinal
public import proofs.«01_k».proof.Proof.MixRun
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.InpFinite
public import proofs.«01_k».proof.Proof.InpFinal
public import proofs.«01_k».proof.Proof.InpRef
public import proofs.«01_k».proof.Proof.WoutFinal
public import proofs.«01_k».proof.Proof.ProjFinal
public import proofs.«01_k».proof.Proof.OutRef
public import proofs.«01_k».proof.Proof.OutFinal
public import Idealize.ShloMosaic.Adequacy
public import Idealize.ShloMosaic.Init

@[expose] public section

noncomputable section

namespace Cert.Proof

open Idealize.ShloMosaic Idealize.SL.Sem Cert.Kernel

/-- Kernel and reference end with the same eight arrays of real numbers. -/
theorem algebraic_ffn : @Cert.algebraic_KernelIdeal_ReferenceIdeal_pre_finite Cert.KernelIdeal.Gen.facts
    Cert.ReferenceIdeal.Gen.facts Cert.Pre_finite.Gen.facts := by
  intro m g m' g' hpre hagree
  choose w x d e0 e1 e2 e3 e4 e5 e6 using fun c => Cert.Model.Finite.reals _ _ _ _ _ _ _ (hpre c)
  have A : ∀ c, Cert.Model.Blocks.Args m c (w c) (x c) (d c) := fun c => ⟨e0 c, e1 c, e2 c, e3 c, e4 c, e5 c, e6 c⟩
  have B : ∀ c, Cert.Model.Ref.Args (w c) (x c) (d c) m' c := fun c => by
    obtain ⟨q0, q1, q2, q3, q4, q5, q6⟩ := hagree c
    exact ⟨q0.trans (e0 c), q1.trans (e1 c), q2.trans (e2 c), q3.trans (e3 c), q4.trans (e4 c), q5.trans (e5 c), q6.trans (e6 c)⟩
  refine ⟨_, _, _, _, _, _, _, _, ?_, Cert.Model.Ref.run_real m' g' w x d B⟩
  refine (θ_run (Cert.KernelIdeal.defs (F := Ideal)) _ _).mono (fun r q c => ?_) (Cert.KernelIdeal.Value.run_blocks m g)
  obtain ⟨q0, q1, q2, q3, q4, q5, q6, q7, k⟩ := q c
  exact ⟨q0.trans (Cert.Model.Final.final10 (A c)), q1.trans (Cert.Model.Final.final11 (A c)),
    q2.trans (Cert.Model.Final.final12 (A c)), q3.trans (Cert.Model.Final.final13 (A c)),
    q4.trans (Cert.Model.Final.final14 (A c)), q5.trans (Cert.Model.Final.final15 (A c)),
    q6.trans (Cert.Model.Final.final16 (A c)), q7.trans (Cert.Model.Final.final17 (A c)), k⟩

/-- The reference leaves its arguments unchanged, and has no semaphore to leave at another value than zero. -/
theorem frame_reference : @Cert.quiescent_ReferenceIdeal Cert.ReferenceIdeal.Gen.facts := fun m g _ =>
  (θ_run (Cert.ReferenceIdeal.defs (F := Ideal)) _ _).mono
    (fun r h => ⟨fun c => (h c).2.2.2.2.2.2.2.2, Idealize.ShloMosaic.sem_eq_zero_of_no_sems (by decide) r.2⟩)
    (Cert.ReferenceIdeal.Value.run m g)

/-- The two texts of the weight gradient's kernel are the same: their bodies, -/
theorem bodies_wgrad : Cert.Kernel2.defs₀ (F := Bits) = Cert.Kernel2Ideal.defs₀ (F := Bits) := by
  unfold Cert.Kernel2.defs₀ Cert.Kernel2Ideal.defs₀
  congr 1
  funext i x
  match i, x with
  | 0, (t, s) => rfl

/-- and their tables. -/
theorem tables_wgrad : Cert.Kernel2.defs (F := Bits) = Cert.Kernel2Ideal.defs (F := Bits) := by
  unfold Cert.Kernel2.defs Cert.Kernel2Ideal.defs
  rw [bodies_wgrad]
  rfl

/-- So the frame over any values is the kernel's as it stands. -/
theorem frame_wgrad : @Cert.quiescent_Kernel2 Cert.Kernel2.Gen.facts := fun m g _ =>
  (fun D (e : D = Cert.Kernel2Ideal.defs (F := Bits)) => by rw [e]; exact Cert.Wgrad.run_frame (F := Bits) m g :
    ∀ D, D = Cert.Kernel2Ideal.defs (F := Bits) → θ_run D (onTc (τ := Cert.Kernel2Ideal.τ) (Cert.Kernel2Ideal.main (F := Bits))) ⟨m, fun _ => 0, g⟩ _)
    Cert.Kernel2.defs tables_wgrad

theorem frame_reference2 : @Cert.quiescent_Reference2Ideal Cert.Reference2Ideal.Gen.facts := fun m g _ =>
  (θ_run (Cert.Reference2Ideal.defs (F := Ideal)) _ _).mono
    (fun r h => ⟨fun c => (h c).2.2, Idealize.ShloMosaic.sem_eq_zero_of_no_sems (by decide) r.2⟩)
    (Cert.Reference2Ideal.Value.run m g)

/-- Kernel and reference end with the same weight gradient, plain and rounded. -/
theorem algebraic_wgrad : @Cert.algebraic_Kernel2Ideal_Reference2Ideal Cert.Kernel2Ideal.Gen.facts Cert.Reference2Ideal.Gen.facts := by
  intro m g m' g' _ hagree
  refine ⟨fun c => Cert.Wgrad.grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    fun c => Cert.Wgrad.grad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · refine (θ_run (Cert.Kernel2Ideal.defs (F := Ideal)) _ _).mono (fun r q c => ?_) (Cert.Wgrad.run_value m g)
    exact ⟨((q.1 c).1 2).trans (Cert.Wgrad.final2 m c), ((q.1 c).1 3).trans (Cert.Wgrad.final3 m c),
      ((q.1 c).1 0).trans ((Cert.Wgrad.dats m 0 c).arrAt_in 0 rfl _), ((q.1 c).1 1).trans ((Cert.Wgrad.dats m 0 c).arrAt_in 1 rfl _)⟩
  · refine (θ_run (Cert.Reference2Ideal.defs (F := Ideal)) _ _).mono (fun r q c => ?_) (Cert.Reference2Ideal.Value.run m' g')
    obtain ⟨q0, q1, k⟩ := q c
    have e := Cert.Wgrad.Ref.grad_eq (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
    have e' := Cert.Wgrad.Ref.grad_eq' (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
    have ha := congrArg₂ Cert.Wgrad.grad (hagree c).1 (hagree c).2
    exact ⟨q0.trans (e.trans ha), q1.trans (e'.trans ha), k⟩

theorem frame_reference3 : @Cert.quiescent_Reference3Ideal Cert.Reference3Ideal.Gen.facts := fun m g _ =>
  (θ_run (Cert.Reference3Ideal.defs (F := Ideal)) _ _).mono
    (fun r h => ⟨fun c => (h c).2.2.2.2.2, Idealize.ShloMosaic.sem_eq_zero_of_no_sems (by decide) r.2⟩)
    (Cert.Reference3Ideal.Value.run m g)

/-- Kernel and reference of the forward call with the loss end with the same gradient of the output, first and last products and loss. -/
theorem algebraic_ffn_fwd : @Cert.algebraic_Kernel3Ideal_Reference3Ideal Cert.Kernel3Ideal.Gen.facts Cert.Reference3Ideal.Gen.facts := by
  intro m g m' g' _ hagree
  let w : Dev Cert.Kernel3Ideal.nD → Cert.Fwd.Par := fun c =>
    ⟨fun k => (m ((c.tc : Thread Cert.Kernel3Ideal.nD Cert.Kernel3Ideal.τ).loc Cert.Kernel3Ideal.main_arg1) : FVec Ideal Cert.Kernel3Ideal.S1x1024 .f32) (ix2 0 k), fun k f => (m ((c.tc : Thread Cert.Kernel3Ideal.nD Cert.Kernel3Ideal.τ).loc Cert.Kernel3Ideal.main_arg2) : FVec Ideal Cert.Kernel3Ideal.S1024x2752 .f32) (ix2 k f),
      fun k f => (m ((c.tc : Thread Cert.Kernel3Ideal.nD Cert.Kernel3Ideal.τ).loc Cert.Kernel3Ideal.main_arg3) : FVec Ideal Cert.Kernel3Ideal.S1024x2752 .f32) (ix2 k f), fun f k => (m ((c.tc : Thread Cert.Kernel3Ideal.nD Cert.Kernel3Ideal.τ).loc Cert.Kernel3Ideal.main_arg4) : FVec Ideal Cert.Kernel3Ideal.S2752x1024 .f32) (ix2 f k), fun k => (m ((c.tc : Thread Cert.Kernel3Ideal.nD Cert.Kernel3Ideal.τ).loc Cert.Kernel3Ideal.main_arg5) : FVec Ideal Cert.Kernel3Ideal.S1x1024 .f32) (ix2 0 k)⟩
  let x : Dev Cert.Kernel3Ideal.nD → Fin 8192 → Fin 1024 → EReal := fun c i k => (m ((c.tc : Thread Cert.Kernel3Ideal.nD Cert.Kernel3Ideal.τ).loc Cert.Kernel3Ideal.main_arg0) : FVec Ideal Cert.Kernel3Ideal.S8192x1024 .f32) (ix2 i k)
  let d : Dev Cert.Kernel3Ideal.nD → Fin 8192 → Fin 1024 → EReal := fun c i k => (m ((c.tc : Thread Cert.Kernel3Ideal.nD Cert.Kernel3Ideal.τ).loc Cert.Kernel3Ideal.main_arg6) : FVec Ideal Cert.Kernel3Ideal.S8192x1024 .f32) (ix2 i k)
  have A : ∀ c, Cert.Fwd.Loss.Args m c (w c) (x c) (d c) := fun c => ⟨Cert.Fwd.arr_of _, Cert.Fwd.arr_row _, Cert.Fwd.arr_of _, Cert.Fwd.arr_of _, Cert.Fwd.arr_of _, Cert.Fwd.arr_row _, Cert.Fwd.arr_of _⟩
  refine ⟨_, _, _, _, _, ?_, Cert.Fwd.LossRef.run_fwd m' g' w x d
    (fun c => (hagree c).1.trans (A c).x)
    (fun c => (hagree c).2.1.trans (A c).gpre)
    (fun c => (hagree c).2.2.1.trans (A c).wg)
    (fun c => (hagree c).2.2.2.1.trans (A c).wu)
    (fun c => (hagree c).2.2.2.2.1.trans (A c).wd)
    (fun c => (hagree c).2.2.2.2.2.1.trans (A c).gpost)
    (fun c => (hagree c).2.2.2.2.2.2.trans (A c).d)⟩
  refine (θ_run (Cert.Kernel3Ideal.defs (F := Ideal)) _ _).mono (fun r q c => ?_) (Cert.Kernel3Ideal.Value.run_blocks m g)
  obtain ⟨q0, q1, q2, q3, q4, k⟩ := q c
  exact ⟨q0.trans (Cert.Fwd.Loss.final7 (A c)), q1.trans (Cert.Fwd.Loss.final8 (A c)), q2.trans (Cert.Fwd.Loss.final9 (A c)), q3.trans (Cert.Fwd.Loss.final10 (A c)), q4.trans (Cert.Fwd.Loss.final11 (A c)), k⟩

theorem frame_reference4 : @Cert.quiescent_Reference4Ideal Cert.Reference4Ideal.Gen.facts := fun m g _ =>
  (θ_run (Cert.Reference4Ideal.defs (F := Ideal)) _ _).mono
    (fun r h => ⟨fun c => (h c).2.2.2.2, Idealize.ShloMosaic.sem_eq_zero_of_no_sems (by decide) r.2⟩)
    (Cert.Reference4Ideal.Value.run m g)

/-- Kernel and reference of the forward call without the loss end with the same four arrays. -/
theorem algebraic_ffn_fwd_plain : @Cert.algebraic_Kernel4Ideal_Reference4Ideal Cert.Kernel4Ideal.Gen.facts Cert.Reference4Ideal.Gen.facts := by
  intro m g m' g' _ hagree
  let w : Dev Cert.Kernel4Ideal.nD → Cert.Fwd.Par := fun c =>
    ⟨fun k => (m ((c.tc : Thread Cert.Kernel4Ideal.nD Cert.Kernel4Ideal.τ).loc Cert.Kernel4Ideal.main_arg1) : FVec Ideal Cert.Kernel4Ideal.S1x1024 .f32) (ix2 0 k), fun k f => (m ((c.tc : Thread Cert.Kernel4Ideal.nD Cert.Kernel4Ideal.τ).loc Cert.Kernel4Ideal.main_arg2) : FVec Ideal Cert.Kernel4Ideal.S1024x2752 .f32) (ix2 k f),
      fun k f => (m ((c.tc : Thread Cert.Kernel4Ideal.nD Cert.Kernel4Ideal.τ).loc Cert.Kernel4Ideal.main_arg3) : FVec Ideal Cert.Kernel4Ideal.S1024x2752 .f32) (ix2 k f), fun f k => (m ((c.tc : Thread Cert.Kernel4Ideal.nD Cert.Kernel4Ideal.τ).loc Cert.Kernel4Ideal.main_arg4) : FVec Ideal Cert.Kernel4Ideal.S2752x1024 .f32) (ix2 f k), fun k => (m ((c.tc : Thread Cert.Kernel4Ideal.nD Cert.Kernel4Ideal.τ).loc Cert.Kernel4Ideal.main_arg5) : FVec Ideal Cert.Kernel4Ideal.S1x1024 .f32) (ix2 0 k)⟩
  let x : Dev Cert.Kernel4Ideal.nD → Fin 8192 → Fin 1024 → EReal := fun c i k => (m ((c.tc : Thread Cert.Kernel4Ideal.nD Cert.Kernel4Ideal.τ).loc Cert.Kernel4Ideal.main_arg0) : FVec Ideal Cert.Kernel4Ideal.S8192x1024 .f32) (ix2 i k)
  have A : ∀ c, Cert.Fwd.Plain.Args m c (w c) (x c) := fun c => ⟨Cert.Fwd.arr_of _, Cert.Fwd.arr_row _, Cert.Fwd.arr_of _, Cert.Fwd.arr_of _, Cert.Fwd.arr_of _, Cert.Fwd.arr_row _⟩
  refine ⟨_, _, _, _, ?_, Cert.Fwd.PlainRef.run_fwd m' g' w x
    (fun c => (hagree c).1.trans (A c).x)
    (fun c => (hagree c).2.1.trans (A c).gpre)
    (fun c => (hagree c).2.2.1.trans (A c).wg)
    (fun c => (hagree c).2.2.2.1.trans (A c).wu)
    (fun c => (hagree c).2.2.2.2.1.trans (A c).wd)
    (fun c => (hagree c).2.2.2.2.2.trans (A c).gpost)⟩
  refine (θ_run (Cert.Kernel4Ideal.defs (F := Ideal)) _ _).mono (fun r q c => ?_) (Cert.Kernel4Ideal.Value.run_blocks m g)
  obtain ⟨q0, q1, q2, q3, k⟩ := q c
  exact ⟨q0.trans (Cert.Fwd.Plain.final6 (A c)), q1.trans (Cert.Fwd.Plain.final7 (A c)), q2.trans (Cert.Fwd.Plain.final8 (A c)), q3.trans (Cert.Fwd.Plain.final9 (A c)), k⟩

theorem frame_reference5 : @Cert.quiescent_Reference5Ideal Cert.Reference5Ideal.Gen.facts := fun m g _ =>
  (θ_run (Cert.Reference5Ideal.defs (F := Ideal)) _ _).mono
    (fun r h => ⟨fun c => (h c).2.2.2.2.2.2.2.2.2, Idealize.ShloMosaic.sem_eq_zero_of_no_sems (by decide) r.2⟩)
    (Cert.Reference5Ideal.Value.run m g)

/-- Kernel and reference of the output projection's gradient end with the same nine arrays of real numbers. -/
theorem algebraic_out_bwd : @Cert.algebraic_Kernel5Ideal_Reference5Ideal_pre_finite5 Cert.Kernel5Ideal.Gen.facts
    Cert.Reference5Ideal.Gen.facts Cert.Pre_finite5.Gen.facts := by
  intro m g m' g' hpre hagree
  choose D q e0 e1 e2 e3 e4 e5 e6 e7 e8 e9 using fun c => Cert.Model.Mix.Finite.reals _ _ _ _ _ _ _ _ _ _ (hpre c)
  have A : ∀ c, Cert.Model.Mix.Blocks.Args m c (D c) (q c) := fun c => ⟨e0 c, e1 c, e2 c, e3 c, e4 c, e5 c, e6 c, e7 c, e8 c, e9 c⟩
  have B : ∀ c, Cert.Model.Mix.Ref.Args (D c) (q c) m' c := fun c => by
    obtain ⟨q0, q1, q2, q3, q4, q5, q6, q7, q8, q9⟩ := hagree c
    exact ⟨q0.trans (e0 c), q1.trans (e1 c), q2.trans (e2 c), q3.trans (e3 c), q4.trans (e4 c), q5.trans (e5 c), q6.trans (e6 c),
      q7.trans (e7 c), q8.trans (e8 c), q9.trans (e9 c)⟩
  refine ⟨_, _, _, _, _, _, _, _, _, ?_, Cert.Model.Mix.Ref.run_real m' g' D q B⟩
  refine (θ_run (Cert.Kernel5Ideal.defs (F := Ideal)) _ _).mono (fun r q c => ?_) (Cert.Kernel5Ideal.Value.run_blocks m g)
  obtain ⟨q0, q1, q2, q3, q4, q5, q6, q7, q8, k⟩ := q c
  exact ⟨q0.trans (Cert.Model.Mix.Final.final11 (A c)), q1.trans (Cert.Model.Mix.Final.final12 (A c)),
    q2.trans (Cert.Model.Mix.Final.final13 (A c)), q3.trans (Cert.Model.Mix.Final.final14 (A c)),
    q4.trans (Cert.Model.Mix.Final.final15 (A c)), q5.trans (Cert.Model.Mix.Final.final16 (A c)),
    q6.trans (Cert.Model.Mix.Final.final17 (A c)), q7.trans (Cert.Model.Mix.Final.final18 (A c)),
    q8.trans (Cert.Model.Mix.Final.final19 (A c)), k⟩

theorem frame_reference6 : @Cert.quiescent_Reference6Ideal Cert.Reference6Ideal.Gen.facts := fun m g _ =>
  (θ_run (Cert.Reference6Ideal.defs (F := Ideal)) _ _).mono
    (fun r h => ⟨fun c => (h c).2.2, Idealize.ShloMosaic.sem_eq_zero_of_no_sems (by decide) r.2⟩)
    (Cert.Reference6Ideal.Value.run m g)

/-- Kernel and reference of the input projection's gradient end with the same two arrays of real numbers. -/
theorem algebraic_in_bwd : @Cert.algebraic_Kernel6Ideal_Reference6Ideal_pre_finite6 Cert.Kernel6Ideal.Gen.facts
    Cert.Reference6Ideal.Gen.facts Cert.Pre_finite6.Gen.facts := by
  intro m g m' g' hpre hagree
  choose D q e0 e1 e2 e3 e4 e5 e6 e7 e8 e9 e10 e11 e12 e13 using fun c => Cert.Model.Inp.Finite.reals _ _ _ _ _ _ _ _ _ _ _ _ _ _ (hpre c)
  have A : ∀ c, Cert.Model.Inp.Final.Args m c (D c) (q c) := fun c => ⟨e0 c, e1 c, e2 c, e3 c, e4 c, e5 c, e6 c, e7 c, e8 c, e9 c, e10 c, e11 c, e12 c, e13 c⟩
  have B : ∀ c, Cert.Model.Inp.Ref.Args (D c) (q c) m' c := fun c => by
    obtain ⟨q0, q1, q2, q3, q4, q5, q6, q7, q8, q9, q10, q11, q12, q13⟩ := hagree c
    exact ⟨q0.trans (e0 c), q1.trans (e1 c), q2.trans (e2 c), q3.trans (e3 c), q4.trans (e4 c), q5.trans (e5 c), q6.trans (e6 c), q7.trans (e7 c), q8.trans (e8 c), q9.trans (e9 c), q10.trans (e10 c), q11.trans (e11 c), q12.trans (e12 c), q13.trans (e13 c)⟩
  refine ⟨_, _, ?_, Cert.Model.Inp.Ref.run_real m' g' D q B⟩
  refine (θ_run (Cert.Kernel6Ideal.defs (F := Ideal)) _ _).mono (fun r q c => ?_) (Cert.Kernel6Ideal.Value.run_blocks m g)
  obtain ⟨q0, q1, k⟩ := q c
  exact ⟨q0.trans (Cert.Model.Inp.Final.final14 (A c)), q1.trans (Cert.Model.Inp.Final.final15 (A c)), k⟩

theorem frame_reference7 : @Cert.quiescent_Reference7Ideal Cert.Reference7Ideal.Gen.facts := fun m g _ =>
  (θ_run (Cert.Reference7Ideal.defs (F := Ideal)) _ _).mono
    (fun r h => ⟨fun c => (h c).2.2, Idealize.ShloMosaic.sem_eq_zero_of_no_sems (by decide) r.2⟩)
    (Cert.Reference7Ideal.Value.run m g)

/-- Kernel and reference end with the same gradient of the output projection's weight, plain and rounded. -/
theorem algebraic_out_wgrad : @Cert.algebraic_Kernel7Ideal_Reference7Ideal Cert.Kernel7Ideal.Gen.facts Cert.Reference7Ideal.Gen.facts := by
  intro m g m' g' _ hagree
  let l : Dev Cert.Kernel7Ideal.nD → Fin 8192 → Fin 1024 → EReal := fun c i k => (m ((c.tc : Thread Cert.Kernel7Ideal.nD Cert.Kernel7Ideal.τ).loc Cert.Kernel7Ideal.main_arg0) : FVec Ideal Cert.Kernel7Ideal.S8192x1024 .bf16) (ix2 i k)
  let r : Dev Cert.Kernel7Ideal.nD → Fin 8192 → Fin 1024 → EReal := fun c i k => (m ((c.tc : Thread Cert.Kernel7Ideal.nD Cert.Kernel7Ideal.τ).loc Cert.Kernel7Ideal.main_arg1) : FVec Ideal Cert.Kernel7Ideal.S8192x1024 .bf16) (ix2 i k)
  have A : ∀ c, Cert.Wout.Args m c (l c) (r c) := fun c => ⟨Cert.Fwd.arr_of _, Cert.Fwd.arr_of _⟩
  refine ⟨_, _, ?_, Cert.Wout.Ref.run_grad m' g' l r (fun c => (hagree c).1.trans (A c).l) (fun c => (hagree c).2.trans (A c).r)⟩
  refine (θ_run (Cert.Kernel7Ideal.defs (F := Ideal)) _ _).mono (fun r q c => ?_) (Cert.Kernel7Ideal.Value.run_blocks m g)
  obtain ⟨q0, q1, k⟩ := q c
  exact ⟨q0.trans (Cert.Wout.final2 (A c)), q1.trans (Cert.Wout.final3 (A c)), k⟩

theorem frame_reference8 : @Cert.quiescent_Reference8Ideal Cert.Reference8Ideal.Gen.facts := fun m g _ =>
  (θ_run (Cert.Reference8Ideal.defs (F := Ideal)) _ _).mono
    (fun r h => ⟨fun c => (h c).2.2.2.2.2.2.2.2.2.2.2, Idealize.ShloMosaic.sem_eq_zero_of_no_sems (by decide) r.2⟩)
    (Cert.Reference8Ideal.Value.run m g)

/-- Kernel and reference of the input projection's forward call end with the same eleven arrays. -/
theorem algebraic_in_fwd : @Cert.algebraic_Kernel8Ideal_Reference8Ideal Cert.Kernel8Ideal.Gen.facts Cert.Reference8Ideal.Gen.facts := by
  intro m g m' g' _ hagree
  let q : Dev Cert.Kernel8Ideal.nD → Cert.Proj.Prm := fun c => ⟨fun k => (m ((c.tc : Thread Cert.Kernel8Ideal.nD Cert.Kernel8Ideal.τ).loc Cert.Kernel8Ideal.main_arg1) : FVec Ideal Cert.Kernel8Ideal.S1x1024 .f32) (ix2 0 k),
    fun k j => (m ((c.tc : Thread Cert.Kernel8Ideal.nD Cert.Kernel8Ideal.τ).loc Cert.Kernel8Ideal.main_arg2) : FVec Ideal Cert.Kernel8Ideal.S1024x2560 .f32) (ix2 k j)⟩
  let x : Dev Cert.Kernel8Ideal.nD → Fin 8192 → Fin 1024 → EReal := fun c i k => (m ((c.tc : Thread Cert.Kernel8Ideal.nD Cert.Kernel8Ideal.τ).loc Cert.Kernel8Ideal.main_arg0) : FVec Ideal Cert.Kernel8Ideal.S8192x1024 .f32) (ix2 i k)
  have A : ∀ c, Cert.Proj.Final.Args m c (q c) (x c) := fun c => ⟨Cert.Fwd.arr_of _, Cert.Fwd.arr_row _, Cert.Fwd.arr_of _⟩
  refine ⟨_, _, _, _, _, _, _, _, _, _, _, ?_, Cert.Proj.Ref.run_fwd m' g' q x (fun c => (hagree c).1.trans (A c).x)
    (fun c => (hagree c).2.1.trans (A c).g) (fun c => (hagree c).2.2.trans (A c).w)⟩
  refine (θ_run (Cert.Kernel8Ideal.defs (F := Ideal)) _ _).mono (fun r q c => ?_) (Cert.Kernel8Ideal.Value.run_blocks m g)
  obtain ⟨q0, q1, q2, q3, q4, q5, q6, q7, q8, q9, q10, k⟩ := q c
  exact ⟨q0.trans (Cert.Proj.Final.final3 (A c)), q1.trans (Cert.Proj.Final.final4 (A c)), q2.trans (Cert.Proj.Final.final5 (A c)), q3.trans (Cert.Proj.Final.final6 (A c)), q4.trans (Cert.Proj.Final.final7 (A c)), q5.trans (Cert.Proj.Final.final8 (A c)), q6.trans (Cert.Proj.Final.final9 (A c)), q7.trans (Cert.Proj.Final.final10 (A c)), q8.trans (Cert.Proj.Final.final11 (A c)), q9.trans (Cert.Proj.Final.final12 (A c)), q10.trans (Cert.Proj.Final.final13 (A c)), k⟩

theorem frame_reference9 : @Cert.quiescent_Reference9Ideal Cert.Reference9Ideal.Gen.facts := fun m g _ =>
  (θ_run (Cert.Reference9Ideal.defs (F := Ideal)) _ _).mono
    (fun r h => ⟨fun c => (h c).2.2, Idealize.ShloMosaic.sem_eq_zero_of_no_sems (by decide) r.2⟩)
    (Cert.Reference9Ideal.Value.run m g)

/-- Kernel and reference of the output projection's forward call end with the same two arrays. -/
theorem algebraic_out_fwd : @Cert.algebraic_Kernel9Ideal_Reference9Ideal Cert.Kernel9Ideal.Gen.facts Cert.Reference9Ideal.Gen.facts := by
  intro m g m' g' _ hagree
  let D : Dev Cert.Kernel9Ideal.nD → Cert.Outp.Data := fun c => ⟨fun i j => (m ((c.tc : Thread Cert.Kernel9Ideal.nD Cert.Kernel9Ideal.τ).loc Cert.Kernel9Ideal.main_arg0) : FVec Ideal Cert.Kernel9Ideal.S8192x256 .bf16) (ix2 i j),
    fun k i j => match k with
      | 0 => (m ((c.tc : Thread Cert.Kernel9Ideal.nD Cert.Kernel9Ideal.τ).loc Cert.Kernel9Ideal.main_arg1) : FVec Ideal Cert.Kernel9Ideal.S8192x256 .f32) (ix2 i j)
      | 1 => (m ((c.tc : Thread Cert.Kernel9Ideal.nD Cert.Kernel9Ideal.τ).loc Cert.Kernel9Ideal.main_arg2) : FVec Ideal Cert.Kernel9Ideal.S8192x256 .f32) (ix2 i j)
      | 2 => (m ((c.tc : Thread Cert.Kernel9Ideal.nD Cert.Kernel9Ideal.τ).loc Cert.Kernel9Ideal.main_arg3) : FVec Ideal Cert.Kernel9Ideal.S8192x256 .f32) (ix2 i j),
    fun k i h => match k with
      | 0 => (m ((c.tc : Thread Cert.Kernel9Ideal.nD Cert.Kernel9Ideal.τ).loc Cert.Kernel9Ideal.main_arg4) : FVec Ideal Cert.Kernel9Ideal.S8192x4 .f32) (ix2 i h)
      | 1 => (m ((c.tc : Thread Cert.Kernel9Ideal.nD Cert.Kernel9Ideal.τ).loc Cert.Kernel9Ideal.main_arg5) : FVec Ideal Cert.Kernel9Ideal.S8192x4 .f32) (ix2 i h)
      | 2 => (m ((c.tc : Thread Cert.Kernel9Ideal.nD Cert.Kernel9Ideal.τ).loc Cert.Kernel9Ideal.main_arg6) : FVec Ideal Cert.Kernel9Ideal.S8192x4 .f32) (ix2 i h),
    fun i j => (m ((c.tc : Thread Cert.Kernel9Ideal.nD Cert.Kernel9Ideal.τ).loc Cert.Kernel9Ideal.main_arg7) : FVec Ideal Cert.Kernel9Ideal.S8192x1024 .f32) (ix2 i j)⟩
  let q : Dev Cert.Kernel9Ideal.nD → Cert.Outp.Prm := fun c => ⟨fun k j => (m ((c.tc : Thread Cert.Kernel9Ideal.nD Cert.Kernel9Ideal.τ).loc Cert.Kernel9Ideal.main_arg8) : FVec Ideal Cert.Kernel9Ideal.S1024x1024 .f32) (ix2 k j),
    fun k => (m ((c.tc : Thread Cert.Kernel9Ideal.nD Cert.Kernel9Ideal.τ).loc Cert.Kernel9Ideal.main_arg9) : FVec Ideal Cert.Kernel9Ideal.S1x1024 .f32) (ix2 0 k)⟩
  have A : ∀ c, Cert.Outp.Final.Args m c (D c) (q c) := fun c => ⟨Cert.Fwd.arr_of _, Cert.Fwd.arr_of _, Cert.Fwd.arr_of _, Cert.Fwd.arr_of _, Cert.Fwd.arr_of _, Cert.Fwd.arr_of _, Cert.Fwd.arr_of _, Cert.Fwd.arr_of _, Cert.Fwd.arr_of _, Cert.Fwd.arr_row _⟩
  have B : ∀ c, Cert.Outp.Ref.Args m' c (D c) (q c) := fun c => by
    obtain ⟨q0, q1, q2, q3, q4, q5, q6, q7, q8, q9⟩ := hagree c
    exact ⟨q0.trans (A c).a, q1.trans (A c).o0, q2.trans (A c).o1, q3.trans (A c).o2, q4.trans (A c).l0, q5.trans (A c).l1, q6.trans (A c).l2, q7.trans (A c).x, q8.trans (A c).w, q9.trans (A c).g⟩
  refine ⟨_, _, ?_, Cert.Outp.Ref.run_fwd m' g' D q B⟩
  refine (θ_run (Cert.Kernel9Ideal.defs (F := Ideal)) _ _).mono (fun r q c => ?_) (Cert.Kernel9Ideal.Value.run_blocks m g)
  obtain ⟨q0, q1, k⟩ := q c
  exact ⟨q0.trans (Cert.Outp.Final.final10 (A c)), q1.trans (Cert.Outp.Final.final11 (A c)), k⟩

/-- The two texts of the input projection's weight gradient are the same: their bodies, -/
theorem bodies_in_wgrad : Cert.Kernel10.defs₀ (F := Bits) = Cert.Kernel10Ideal.defs₀ (F := Bits) := by
  unfold Cert.Kernel10.defs₀ Cert.Kernel10Ideal.defs₀
  congr 1
  funext i x
  match i, x with
  | 0, (t, s) => rfl

/-- and their tables. -/
theorem tables_in_wgrad : Cert.Kernel10.defs (F := Bits) = Cert.Kernel10Ideal.defs (F := Bits) := by
  unfold Cert.Kernel10.defs Cert.Kernel10Ideal.defs
  rw [bodies_in_wgrad]
  rfl

/-- So the frame over any values is the kernel's as it stands. -/
theorem frame_in_wgrad : @Cert.quiescent_Kernel10 Cert.Kernel10.Gen.facts := fun m g _ =>
  (fun D (e : D = Cert.Kernel10Ideal.defs (F := Bits)) => by rw [e]; exact Cert.Parts.run_frame (F := Bits) m g :
    ∀ D, D = Cert.Kernel10Ideal.defs (F := Bits) → θ_run D (onTc (τ := Cert.Kernel10Ideal.τ) (Cert.Kernel10Ideal.main (F := Bits))) ⟨m, fun _ => 0, g⟩ _)
    Cert.Kernel10.defs tables_in_wgrad

theorem frame_reference10 : @Cert.quiescent_Reference10Ideal Cert.Reference10Ideal.Gen.facts := fun m g _ =>
  (θ_run (Cert.Reference10Ideal.defs (F := Ideal)) _ _).mono
    (fun r h => ⟨fun c => (h c).2.2, Idealize.ShloMosaic.sem_eq_zero_of_no_sems (by decide) r.2⟩)
    (Cert.Reference10Ideal.Value.run m g)

/-- Kernel and reference end with the same gradient of the input projection's weight, plain and rounded. -/
theorem algebraic_in_wgrad : @Cert.algebraic_Kernel10Ideal_Reference10Ideal Cert.Kernel10Ideal.Gen.facts Cert.Reference10Ideal.Gen.facts := by
  intro m g m' g' _ hagree
  let p : Dev Cert.Kernel10Ideal.nD → Fin 10 → Fin 8192 → Fin 256 → EReal := fun c k s j => match k with
    | 0 => (m ((c.tc : Thread Cert.Kernel10Ideal.nD Cert.Kernel10Ideal.τ).loc Cert.Kernel10Ideal.main_arg0) : FVec Ideal Cert.Kernel10Ideal.S8192x256 .bf16) (ix2 s j)
    | 1 => (m ((c.tc : Thread Cert.Kernel10Ideal.nD Cert.Kernel10Ideal.τ).loc Cert.Kernel10Ideal.main_arg1) : FVec Ideal Cert.Kernel10Ideal.S8192x256 .bf16) (ix2 s j)
    | 2 => (m ((c.tc : Thread Cert.Kernel10Ideal.nD Cert.Kernel10Ideal.τ).loc Cert.Kernel10Ideal.main_arg2) : FVec Ideal Cert.Kernel10Ideal.S8192x256 .bf16) (ix2 s j)
    | 3 => (m ((c.tc : Thread Cert.Kernel10Ideal.nD Cert.Kernel10Ideal.τ).loc Cert.Kernel10Ideal.main_arg3) : FVec Ideal Cert.Kernel10Ideal.S8192x256 .bf16) (ix2 s j)
    | 4 => (m ((c.tc : Thread Cert.Kernel10Ideal.nD Cert.Kernel10Ideal.τ).loc Cert.Kernel10Ideal.main_arg4) : FVec Ideal Cert.Kernel10Ideal.S8192x256 .bf16) (ix2 s j)
    | 5 => (m ((c.tc : Thread Cert.Kernel10Ideal.nD Cert.Kernel10Ideal.τ).loc Cert.Kernel10Ideal.main_arg5) : FVec Ideal Cert.Kernel10Ideal.S8192x256 .bf16) (ix2 s j)
    | 6 => (m ((c.tc : Thread Cert.Kernel10Ideal.nD Cert.Kernel10Ideal.τ).loc Cert.Kernel10Ideal.main_arg6) : FVec Ideal Cert.Kernel10Ideal.S8192x256 .bf16) (ix2 s j)
    | 7 => (m ((c.tc : Thread Cert.Kernel10Ideal.nD Cert.Kernel10Ideal.τ).loc Cert.Kernel10Ideal.main_arg7) : FVec Ideal Cert.Kernel10Ideal.S8192x256 .bf16) (ix2 s j)
    | 8 => (m ((c.tc : Thread Cert.Kernel10Ideal.nD Cert.Kernel10Ideal.τ).loc Cert.Kernel10Ideal.main_arg8) : FVec Ideal Cert.Kernel10Ideal.S8192x256 .bf16) (ix2 s j)
    | 9 => (m ((c.tc : Thread Cert.Kernel10Ideal.nD Cert.Kernel10Ideal.τ).loc Cert.Kernel10Ideal.main_arg9) : FVec Ideal Cert.Kernel10Ideal.S8192x256 .bf16) (ix2 s j)
  let x : Dev Cert.Kernel10Ideal.nD → Fin 8192 → Fin 1024 → EReal := fun c i k => (m ((c.tc : Thread Cert.Kernel10Ideal.nD Cert.Kernel10Ideal.τ).loc Cert.Kernel10Ideal.main_arg10) : FVec Ideal Cert.Kernel10Ideal.S8192x1024 .bf16) (ix2 i k)
  have A : ∀ c, Cert.Parts.Args m c (p c) (x c) := fun c => ⟨Cert.Fwd.arr_of _, Cert.Fwd.arr_of _, Cert.Fwd.arr_of _, Cert.Fwd.arr_of _, Cert.Fwd.arr_of _, Cert.Fwd.arr_of _, Cert.Fwd.arr_of _, Cert.Fwd.arr_of _, Cert.Fwd.arr_of _, Cert.Fwd.arr_of _, Cert.Fwd.arr_of _⟩
  have B : ∀ c, Cert.Parts.Ref.Args m' c (p c) (x c) := fun c => by
    obtain ⟨q0, q1, q2, q3, q4, q5, q6, q7, q8, q9, q10⟩ := hagree c
    exact ⟨q0.trans (A c).p0, q1.trans (A c).p1, q2.trans (A c).p2, q3.trans (A c).p3, q4.trans (A c).p4, q5.trans (A c).p5, q6.trans (A c).p6, q7.trans (A c).p7, q8.trans (A c).p8, q9.trans (A c).p9, q10.trans (A c).x⟩
  refine ⟨_, _, ?_, Cert.Parts.Ref.run_grad m' g' p x B⟩
  exact (θ_run (Cert.Kernel10Ideal.defs (F := Ideal)) _ _).mono
    (fun r q c => ⟨((q.1 c).1 1).trans (Cert.Parts.final1 (A c)), ((q.1 c).1 2).trans (Cert.Parts.final2 (A c)), Cert.Parts.kept m q.1 c⟩)
    (Cert.Parts.run_value m g)

theorem frame_reference11 : @Cert.quiescent_Reference11Ideal Cert.Reference11Ideal.Gen.facts := fun m g _ =>
  (θ_run (Cert.Reference11Ideal.defs (F := Ideal)) _ _).mono
    (fun r h => ⟨fun c => (h c).2.2.2.2, Idealize.ShloMosaic.sem_eq_zero_of_no_sems (by decide) r.2⟩)
    (Cert.Reference11Ideal.Value.run m g)

/-- Kernel and reference end with the same gradient, step and means of a shard kept by rows. -/
theorem algebraic_adam11 : @Cert.algebraic_Kernel11Ideal_Reference11Ideal Cert.Kernel11Ideal.Gen.facts Cert.Reference11Ideal.Gen.facts := by
  intro m g m' g' _ hagree
  refine ⟨_, _, _, _, ?_, Cert.Adam.Rows.Ref.run_step m' g' (fun c => m ((c.tc : Thread Cert.Kernel11Ideal.nD Cert.Kernel11Ideal.τ).loc Cert.Kernel11Ideal.main_arg0)) (fun c => m ((c.tc : Thread Cert.Kernel11Ideal.nD Cert.Kernel11Ideal.τ).loc Cert.Kernel11Ideal.main_arg1))
    (fun c => m ((c.tc : Thread Cert.Kernel11Ideal.nD Cert.Kernel11Ideal.τ).loc Cert.Kernel11Ideal.main_arg2)) (fun c => m ((c.tc : Thread Cert.Kernel11Ideal.nD Cert.Kernel11Ideal.τ).loc Cert.Kernel11Ideal.main_arg3))
    (fun c => m ((c.tc : Thread Cert.Kernel11Ideal.nD Cert.Kernel11Ideal.τ).loc Cert.Kernel11Ideal.main_arg4)) (fun c => m ((c.tc : Thread Cert.Kernel11Ideal.nD Cert.Kernel11Ideal.τ).loc Cert.Kernel11Ideal.main_arg5)) hagree⟩
  refine (θ_run (Cert.Kernel11Ideal.defs (F := Ideal)) _ _).mono (fun r q c => ?_) (Cert.Kernel11Ideal.Value.run_blocks m g)
  obtain ⟨q1, q2, q3, q4, k⟩ := q c
  have A : Cert.Adam.Rows.Args m c _ _ _ _ _ _ := ⟨rfl, rfl, rfl, rfl, rfl, rfl⟩
  exact ⟨q1.trans (Cert.Adam.Rows.final6 A), q2.trans (Cert.Adam.Rows.final7 A), q3.trans (Cert.Adam.Rows.final8 A), q4.trans (Cert.Adam.Rows.final9 A), k⟩

theorem frame_reference12 : @Cert.quiescent_Reference12Ideal Cert.Reference12Ideal.Gen.facts := fun m g _ =>
  (θ_run (Cert.Reference12Ideal.defs (F := Ideal)) _ _).mono
    (fun r h => ⟨fun c => (h c).2.2.2.2, Idealize.ShloMosaic.sem_eq_zero_of_no_sems (by decide) r.2⟩)
    (Cert.Reference12Ideal.Value.run m g)

/-- Kernel and reference end with the same gradient, step and means of the input projection's shard, kept by columns. -/
theorem algebraic_adam12 : @Cert.algebraic_Kernel12Ideal_Reference12Ideal Cert.Kernel12Ideal.Gen.facts Cert.Reference12Ideal.Gen.facts := by
  intro m g m' g' _ hagree
  refine ⟨_, _, _, _, ?_, Cert.Adam.Cols.Ref.run_step m' g' (fun c => m ((c.tc : Thread Cert.Kernel12Ideal.nD Cert.Kernel12Ideal.τ).loc Cert.Kernel12Ideal.main_arg0)) (fun c => m ((c.tc : Thread Cert.Kernel12Ideal.nD Cert.Kernel12Ideal.τ).loc Cert.Kernel12Ideal.main_arg1))
    (fun c => m ((c.tc : Thread Cert.Kernel12Ideal.nD Cert.Kernel12Ideal.τ).loc Cert.Kernel12Ideal.main_arg2)) (fun c => m ((c.tc : Thread Cert.Kernel12Ideal.nD Cert.Kernel12Ideal.τ).loc Cert.Kernel12Ideal.main_arg3))
    (fun c => m ((c.tc : Thread Cert.Kernel12Ideal.nD Cert.Kernel12Ideal.τ).loc Cert.Kernel12Ideal.main_arg4)) (fun c => m ((c.tc : Thread Cert.Kernel12Ideal.nD Cert.Kernel12Ideal.τ).loc Cert.Kernel12Ideal.main_arg5)) hagree⟩
  refine (θ_run (Cert.Kernel12Ideal.defs (F := Ideal)) _ _).mono (fun r q c => ?_) (Cert.Kernel12Ideal.Value.run_blocks m g)
  obtain ⟨q1, q2, q3, q4, k⟩ := q c
  have A : Cert.Adam.Cols.Args m c _ _ _ _ _ _ := ⟨rfl, rfl, rfl, rfl, rfl, rfl⟩
  exact ⟨q1.trans (Cert.Adam.Cols.final6 A), q2.trans (Cert.Adam.Cols.final7 A), q3.trans (Cert.Adam.Cols.final8 A), q4.trans (Cert.Adam.Cols.final9 A), k⟩

theorem frame_reference13 : @Cert.quiescent_Reference13Ideal Cert.Reference13Ideal.Gen.facts := fun m g _ =>
  (θ_run (Cert.Reference13Ideal.defs (F := Ideal)) _ _).mono
    (fun r h => ⟨fun c => (h c).2.2.2.2, Idealize.ShloMosaic.sem_eq_zero_of_no_sems (by decide) r.2⟩)
    (Cert.Reference13Ideal.Value.run m g)

/-- Kernel and reference end with the same summed gradient, step and means of the small parameters. -/
theorem algebraic_adam13 : @Cert.algebraic_Kernel13Ideal_Reference13Ideal Cert.Kernel13Ideal.Gen.facts Cert.Reference13Ideal.Gen.facts := by
  intro m g m' g' _ hagree
  refine ⟨_, _, _, _, ?_, Cert.Reference13Ideal.Value.run m' g'⟩
  refine (θ_run (Cert.Kernel13Ideal.defs (F := Ideal)) _ _).mono (fun r q c => ?_) (Cert.Kernel13Ideal.Value.run m g)
  obtain ⟨q1, q2, q3, q4, k⟩ := q c
  obtain ⟨h0, h1, h2, h3⟩ := hagree c
  refine ⟨q1.trans ?_, q2.trans ?_, q3.trans ?_, q4.trans ?_, k⟩
  · rw [Cert.Reference13Ideal.Read.val_main_v0_eq, h0]; exact Cert.Adam.Small.eq_grad _ _ _ _
  · rw [Cert.Reference13Ideal.Read.val_main_v24_eq, h0, h1, h2, h3]; exact Cert.Adam.Small.eq_delta _ _ _ _
  · rw [Cert.Reference13Ideal.Read.val_main_v5_eq, h0, h2]; exact Cert.Adam.Small.eq_mean _ _ _ _
  · rw [Cert.Reference13Ideal.Read.val_main_v11_eq, h0, h3]; exact Cert.Adam.Small.eq_var _ _ _ _

theorem frame_reference14 : @Cert.quiescent_Reference14Ideal Cert.Reference14Ideal.Gen.facts := fun m g _ =>
  (θ_run (Cert.Reference14Ideal.defs (F := Ideal)) _ _).mono
    (fun r h => ⟨fun c => (h c).2.2.2.2, Idealize.ShloMosaic.sem_eq_zero_of_no_sems (by decide) r.2⟩)
    (Cert.Reference14Ideal.Value.run m g)

/-- Kernel and reference end with the same gradient, step and means of the output projection's shard. -/
theorem algebraic_adam14 : @Cert.algebraic_Kernel14Ideal_Reference14Ideal Cert.Kernel14Ideal.Gen.facts Cert.Reference14Ideal.Gen.facts := by
  intro m g m' g' _ hagree
  refine ⟨_, _, _, _, ?_, Cert.Adam.Out.Ref.run_step m' g' (fun c => m ((c.tc : Thread Cert.Kernel14Ideal.nD Cert.Kernel14Ideal.τ).loc Cert.Kernel14Ideal.main_arg0)) (fun c => m ((c.tc : Thread Cert.Kernel14Ideal.nD Cert.Kernel14Ideal.τ).loc Cert.Kernel14Ideal.main_arg1))
    (fun c => m ((c.tc : Thread Cert.Kernel14Ideal.nD Cert.Kernel14Ideal.τ).loc Cert.Kernel14Ideal.main_arg2)) (fun c => m ((c.tc : Thread Cert.Kernel14Ideal.nD Cert.Kernel14Ideal.τ).loc Cert.Kernel14Ideal.main_arg3))
    (fun c => m ((c.tc : Thread Cert.Kernel14Ideal.nD Cert.Kernel14Ideal.τ).loc Cert.Kernel14Ideal.main_arg4)) (fun c => m ((c.tc : Thread Cert.Kernel14Ideal.nD Cert.Kernel14Ideal.τ).loc Cert.Kernel14Ideal.main_arg5)) hagree⟩
  refine (θ_run (Cert.Kernel14Ideal.defs (F := Ideal)) _ _).mono (fun r q c => ?_) (Cert.Kernel14Ideal.Value.run_blocks m g)
  obtain ⟨q1, q2, q3, q4, k⟩ := q c
  have A : Cert.Adam.Out.Args m c _ _ _ _ _ _ := ⟨rfl, rfl, rfl, rfl, rfl, rfl⟩
  exact ⟨q1.trans (Cert.Adam.Out.final6 A), q2.trans (Cert.Adam.Out.final7 A), q3.trans (Cert.Adam.Out.final8 A), q4.trans (Cert.Adam.Out.final9 A), k⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Pre_finite.Gen.facts, Cert.Pre_finite5.Gen.facts, Cert.Pre_finite6.Gen.facts,
    fun m g _ => Cert.Kernel.Gen.frame m g, fun m g _ => Cert.KernelIdeal.Gen.frame m g,
    fun m g _ => Cert.KernelIdeal.Gen.frame m g, frame_reference, fun m g _ => frame_reference m g trivial,
    frame_wgrad, fun m g _ => Cert.Wgrad.run_frame m g, frame_reference2,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g,
    fun m g _ => Cert.Kernel5Ideal.Gen.frame m g, frame_reference5, fun m g _ => frame_reference5 m g trivial,
    fun m g _ => Cert.Kernel6.Gen.frame m g, fun m g _ => Cert.Kernel6Ideal.Gen.frame m g,
    fun m g _ => Cert.Kernel6Ideal.Gen.frame m g, frame_reference6, fun m g _ => frame_reference6 m g trivial,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    frame_in_wgrad, fun m g _ => Cert.Parts.run_frame m g, frame_reference10,
    fun m g _ => Cert.Kernel11.Gen.frame m g, fun m g _ => Cert.Kernel11Ideal.Gen.frame m g, frame_reference11,
    fun m g _ => Cert.Kernel12.Gen.frame m g, fun m g _ => Cert.Kernel12Ideal.Gen.frame m g, frame_reference12,
    fun m g _ => Cert.Kernel13.Gen.frame m g, fun m g _ => Cert.Kernel13Ideal.Gen.frame m g, frame_reference13,
    fun m g _ => Cert.Kernel14.Gen.frame m g, fun m g _ => Cert.Kernel14Ideal.Gen.frame m g, frame_reference14,
    trivial, algebraic_ffn, trivial, algebraic_wgrad, trivial, algebraic_ffn_fwd, trivial, algebraic_ffn_fwd_plain,
    trivial, algebraic_out_bwd, trivial, algebraic_in_bwd, trivial, algebraic_out_wgrad, trivial, algebraic_in_fwd, trivial, algebraic_out_fwd,
    trivial, algebraic_in_wgrad,
    trivial, algebraic_adam11, trivial, algebraic_adam12, trivial, algebraic_adam13, trivial, algebraic_adam14⟩

end Cert.Proof

end
